-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4, 1024]⟩ ⟨2, ![64, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S4x1024 : Shape := ⟨2, ![4, 1024]⟩
abbrev S2x1024x2048 : Shape := ⟨3, ![2, 1024, 2048]⟩
abbrev S2x2048x1024 : Shape := ⟨3, ![2, 2048, 1024]⟩
abbrev S16x4x1024 : Shape := ⟨3, ![16, 4, 1024]⟩
abbrev S2 : Shape := ⟨1, ![2]⟩
abbrev S4 : Shape := ⟨1, ![4]⟩
abbrev S2x16 : Shape := ⟨2, ![2, 16]⟩
abbrev S1 : Shape := ⟨1, ![1]⟩
abbrev S_ : Shape := ⟨0, ![]⟩
abbrev S1x1024x2048 : Shape := ⟨3, ![1, 1024, 2048]⟩
abbrev S1x2048x1024 : Shape := ⟨3, ![1, 2048, 1024]⟩
abbrev S64x2048 : Shape := ⟨2, ![64, 2048]⟩
abbrev S1x2048x512 : Shape := ⟨3, ![1, 2048, 512]⟩
abbrev S2048x512 : Shape := ⟨2, ![2048, 512]⟩
abbrev S64x512 : Shape := ⟨2, ![64, 512]⟩
abbrev S4x512 : Shape := ⟨2, ![4, 512]⟩
abbrev S1x4x512 : Shape := ⟨3, ![1, 4, 512]⟩
abbrev S1x1 : Shape := ⟨2, ![1, 1]⟩
abbrev S1x512x2048 : Shape := ⟨3, ![1, 512, 2048]⟩
abbrev S512x2048 : Shape := ⟨2, ![512, 2048]⟩

abbrev nBuf : Space → Nat
  | .hbm => 8
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S4x1024, .f32⟩
  | .local _ .vmem, ⟨0, _⟩ => ⟨S64x1024, .f32⟩
  | .local _ .vmem, ⟨1, _⟩ => ⟨S4x1024, .f32⟩
  | .local _ .vmem, ⟨2, _⟩ => ⟨S2x1024x2048, .f32⟩
  | .local _ .vmem, ⟨3, _⟩ => ⟨S2x2048x1024, .f32⟩
  | .local _ .vmem, ⟨4, _⟩ => ⟨S16x4x1024, .f32⟩
  | .local _ .vmem, ⟨5, _⟩ => ⟨S16x4x1024, .f32⟩
  | .local _ .vmem, ⟨6, _⟩ => ⟨S4x1024, .f32⟩
  | .local _ .vmem, ⟨7, _⟩ => ⟨S16x4x1024, .f32⟩
  | _, _ => ⟨S64x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 138 → Bool
  | ⟨i, _⟩ => dmaSemScopedAt i

abbrev sig : RefSig :=
  (ofTc nBuf bufTy 1 138 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v12 : BitVec 32 := Scalar.addi v2 c1_i32_7
  let c16_i32_8 : BitVec 32 := 16#32
  let c0_i32_9 : BitVec 32 := 0#32
  let v13 : BitVec 1 := Scalar.cmpi .eq c16_i32_8 c0_i32_9
  let c1_i32_10 : BitVec 32 := 1#32
  let v14 : BitVec 32 := Scalar.select v13 c1_i32_10 c16_i32_8
  let v15 : BitVec 32 := Scalar.remsi v12 v14
  let c0_i32_12 : BitVec 32 := 0#32
  let v17 : BitVec 1 := Scalar.cmpi .slt v15 c0_i32_12
  let c0_i32_13 : BitVec 32 := 0#32
  let v18 : BitVec 1 := Scalar.cmpi .slt v14 c0_i32_13
  let v19 : BitVec 1 := Scalar.xori v17 v18
  let c0_i32_11 : BitVec 32 := 0#32
  let v16 : BitVec 1 := Scalar.cmpi .ne v15 c0_i32_11
  let v20 : BitVec 1 := Scalar.andi v19 v16
  let v21 : BitVec 32 := Scalar.addi v15 v14
  let v22 : BitVec 32 := Scalar.select v20 v21 v15
  let c1_i32_15 : BitVec 32 := 1#32
  let v23 : BitVec 32 := Scalar.muli v22 c1_i32_15
  let v24 : BitVec 32 := Scalar.addi c0_i32_16 v23
  v24.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v25 : BitVec 32 := Scalar.addi v2 c2_i32
  let c16_i32_17 : BitVec 32 := 16#32
  let c0_i32_18 : BitVec 32 := 0#32
  let v26 : BitVec 1 := Scalar.cmpi .eq c16_i32_17 c0_i32_18
  let c1_i32_19 : BitVec 32 := 1#32
  let v27 : BitVec 32 := Scalar.select v26 c1_i32_19 c16_i32_17
  let v28 : BitVec 32 := Scalar.remsi v25 v27
  let c0_i32_21 : BitVec 32 := 0#32
  let v30 : BitVec 1 := Scalar.cmpi .slt v28 c0_i32_21
  let c0_i32_22 : BitVec 32 := 0#32
  let v31 : BitVec 1 := Scalar.cmpi .slt v27 c0_i32_22
  let v32 : BitVec 1 := Scalar.xori v30 v31
  let c0_i32_20 : BitVec 32 := 0#32
  let v29 : BitVec 1 := Scalar.cmpi .ne v28 c0_i32_20
  let v33 : BitVec 1 := Scalar.andi v32 v29
  let v34 : BitVec 32 := Scalar.addi v28 v27
  let v35 : BitVec 32 := Scalar.select v33 v34 v28
  let c1_i32_24 : BitVec 32 := 1#32
  let v36 : BitVec 32 := Scalar.muli v35 c1_i32_24
  let v37 : BitVec 32 := Scalar.addi c0_i32_25 v36
  v37.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v38 : BitVec 32 := Scalar.addi v2 c3_i32
  let c16_i32_26 : BitVec 32 := 16#32
  let c0_i32_27 : BitVec 32 := 0#32
  let v39 : BitVec 1 := Scalar.cmpi .eq c16_i32_26 c0_i32_27
  let c1_i32_28 : BitVec 32 := 1#32
  let v40 : BitVec 32 := Scalar.select v39 c1_i32_28 c16_i32_26
  let v41 : BitVec 32 := Scalar.remsi v38 v40
  let c0_i32_30 : BitVec 32 := 0#32
  let v43 : BitVec 1 := Scalar.cmpi .slt v41 c0_i32_30
  let c0_i32_31 : BitVec 32 := 0#32
  let v44 : BitVec 1 := Scalar.cmpi .slt v40 c0_i32_31
  let v45 : BitVec 1 := Scalar.xori v43 v44
  let c0_i32_29 : BitVec 32 := 0#32
  let v42 : BitVec 1 := Scalar.cmpi .ne v41 c0_i32_29
  let v46 : BitVec 1 := Scalar.andi v45 v42
  let v47 : BitVec 32 := Scalar.addi v41 v40
  let v48 : BitVec 32 := Scalar.select v46 v47 v41
  let c1_i32_33 : BitVec 32 := 1#32
  let v49 : BitVec 32 := Scalar.muli v48 c1_i32_33
  let v50 : BitVec 32 := Scalar.addi c0_i32_34 v49
  v50.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v51 : BitVec 32 := Scalar.addi v2 c4_i32
  let c16_i32_35 : BitVec 32 := 16#32
  let c0_i32_36 : BitVec 32 := 0#32
  let v52 : BitVec 1 := Scalar.cmpi .eq c16_i32_35 c0_i32_36
  let c1_i32_37 : BitVec 32 := 1#32
  let v53 : BitVec 32 := Scalar.select v52 c1_i32_37 c16_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c1_i32_42 : BitVec 32 := 1#32
  let v62 : BitVec 32 := Scalar.muli v61 c1_i32_42
  let v63 : BitVec 32 := Scalar.addi c0_i32_43 v62
  v63.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v64 : BitVec 32 := Scalar.addi v2 c5_i32
  let c16_i32_44 : BitVec 32 := 16#32
  let c0_i32_45 : BitVec 32 := 0#32
  let v65 : BitVec 1 := Scalar.cmpi .eq c16_i32_44 c0_i32_45
  let c1_i32_46 : BitVec 32 := 1#32
  let v66 : BitVec 32 := Scalar.select v65 c1_i32_46 c16_i32_44
  let v67 : BitVec 32 := Scalar.remsi v64 v66
  let c0_i32_48 : BitVec 32 := 0#32
  let v69 : BitVec 1 := Scalar.cmpi .slt v67 c0_i32_48
  let c0_i32_49 : BitVec 32 := 0#32
  let v70 : BitVec 1 := Scalar.cmpi .slt v66 c0_i32_49
  let v71 : BitVec 1 := Scalar.xori v69 v70
  let c0_i32_47 : BitVec 32 := 0#32
  let v68 : BitVec 1 := Scalar.cmpi .ne v67 c0_i32_47
  let v72 : BitVec 1 := Scalar.andi v71 v68
  let v73 : BitVec 32 := Scalar.addi v67 v66
  let v74 : BitVec 32 := Scalar.select v72 v73 v67
  let c1_i32_51 : BitVec 32 := 1#32
  let v75 : BitVec 32 := Scalar.muli v74 c1_i32_51
  let v76 : BitVec 32 := Scalar.addi c0_i32_52 v75
  v76.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v77 : BitVec 32 := Scalar.addi v2 c6_i32
  let c16_i32_53 : BitVec 32 := 16#32
  let c0_i32_54 : BitVec 32 := 0#32
  let v78 : BitVec 1 := Scalar.cmpi .eq c16_i32_53 c0_i32_54
  let c1_i32_55 : BitVec 32 := 1#32
  let v79 : BitVec 32 := Scalar.select v78 c1_i32_55 c16_i32_53
  let v80 : BitVec 32 := Scalar.remsi v77 v79
  let c0_i32_57 : BitVec 32 := 0#32
  let v82 : BitVec 1 := Scalar.cmpi .slt v80 c0_i32_57
  let c0_i32_58 : BitVec 32 := 0#32
  let v83 : BitVec 1 := Scalar.cmpi .slt v79 c0_i32_58
  let v84 : BitVec 1 := Scalar.xori v82 v83
  let c0_i32_56 : BitVec 32 := 0#32
  let v81 : BitVec 1 := Scalar.cmpi .ne v80 c0_i32_56
  let v85 : BitVec 1 := Scalar.andi v84 v81
  let v86 : BitVec 32 := Scalar.addi v80 v79
  let v87 : BitVec 32 := Scalar.select v85 v86 v80
  let c1_i32_60 : BitVec 32 := 1#32
  let v88 : BitVec 32 := Scalar.muli v87 c1_i32_60
  let v89 : BitVec 32 := Scalar.addi c0_i32_61 v88
  v89.toNat
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v90 : BitVec 32 := Scalar.addi v2 c7_i32
  let c16_i32_62 : BitVec 32 := 16#32
  let c0_i32_63 : BitVec 32 := 0#32
  let v91 : BitVec 1 := Scalar.cmpi .eq c16_i32_62 c0_i32_63
  let c1_i32_64 : BitVec 32 := 1#32
  let v92 : BitVec 32 := Scalar.select v91 c1_i32_64 c16_i32_62
  let v93 : BitVec 32 := Scalar.remsi v90 v92
  let c0_i32_66 : BitVec 32 := 0#32
  let v95 : BitVec 1 := Scalar.cmpi .slt v93 c0_i32_66
  let c0_i32_67 : BitVec 32 := 0#32
  let v96 : BitVec 1 := Scalar.cmpi .slt v92 c0_i32_67
  let v97 : BitVec 1 := Scalar.xori v95 v96
  let c0_i32_65 : BitVec 32 := 0#32
  let v94 : BitVec 1 := Scalar.cmpi .ne v93 c0_i32_65
  let v98 : BitVec 1 := Scalar.andi v97 v94
  let v99 : BitVec 32 := Scalar.addi v93 v92
  let v100 : BitVec 32 := Scalar.select v98 v99 v93
  let c1_i32_69 : BitVec 32 := 1#32
  let v101 : BitVec 32 := Scalar.muli v100 c1_i32_69
  let v102 : BitVec 32 := Scalar.addi c0_i32_70 v101
  v102.toNat
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v103 : BitVec 32 := Scalar.addi v2 c8_i32
  let c16_i32_71 : BitVec 32 := 16#32
  let c0_i32_72 : BitVec 32 := 0#32
  let v104 : BitVec 1 := Scalar.cmpi .eq c16_i32_71 c0_i32_72
  let c1_i32_73 : BitVec 32 := 1#32
  let v105 : BitVec 32 := Scalar.select v104 c1_i32_73 c16_i32_71
  let v106 : BitVec 32 := Scalar.remsi v103 v105
  let c0_i32_75 : BitVec 32 := 0#32
  let v108 : BitVec 1 := Scalar.cmpi .slt v106 c0_i32_75
  let c0_i32_76 : BitVec 32 := 0#32
  let v109 : BitVec 1 := Scalar.cmpi .slt v105 c0_i32_76
  let v110 : BitVec 1 := Scalar.xori v108 v109
  let c0_i32_74 : BitVec 32 := 0#32
  let v107 : BitVec 1 := Scalar.cmpi .ne v106 c0_i32_74
  let v111 : BitVec 1 := Scalar.andi v110 v107
  let v112 : BitVec 32 := Scalar.addi v106 v105
  let v113 : BitVec 32 := Scalar.select v111 v112 v106
  let c1_i32_78 : BitVec 32 := 1#32
  let v114 : BitVec 32 := Scalar.muli v113 c1_i32_78
  let v115 : BitVec 32 := Scalar.addi c0_i32_79 v114
  v115.toNat
def k0_dev9 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v116 : BitVec 32 := Scalar.addi v2 c9_i32
  let c16_i32_80 : BitVec 32 := 16#32
  let c0_i32_81 : BitVec 32 := 0#32
  let v117 : BitVec 1 := Scalar.cmpi .eq c16_i32_80 c0_i32_81
  let c1_i32_82 : BitVec 32 := 1#32
  let v118 : BitVec 32 := Scalar.select v117 c1_i32_82 c16_i32_80
  let v119 : BitVec 32 := Scalar.remsi v116 v118
  let c0_i32_84 : BitVec 32 := 0#32
  let v121 : BitVec 1 := Scalar.cmpi .slt v119 c0_i32_84
  let c0_i32_85 : BitVec 32 := 0#32
  let v122 : BitVec 1 := Scalar.cmpi .slt v118 c0_i32_85
  let v123 : BitVec 1 := Scalar.xori v121 v122
  let c0_i32_83 : BitVec 32 := 0#32
  let v120 : BitVec 1 := Scalar.cmpi .ne v119 c0_i32_83
  let v124 : BitVec 1 := Scalar.andi v123 v120
  let v125 : BitVec 32 := Scalar.addi v119 v118
  let v126 : BitVec 32 := Scalar.select v124 v125 v119
  let c1_i32_87 : BitVec 32 := 1#32
  let v127 : BitVec 32 := Scalar.muli v126 c1_i32_87
  let v128 : BitVec 32 := Scalar.addi c0_i32_88 v127
  v128.toNat
def k0_dev10 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v129 : BitVec 32 := Scalar.addi v2 c10_i32
  let c16_i32_89 : BitVec 32 := 16#32
  let c0_i32_90 : BitVec 32 := 0#32
  let v130 : BitVec 1 := Scalar.cmpi .eq c16_i32_89 c0_i32_90
  let c1_i32_91 : BitVec 32 := 1#32
  let v131 : BitVec 32 := Scalar.select v130 c1_i32_91 c16_i32_89
  let v132 : BitVec 32 := Scalar.remsi v129 v131
  let c0_i32_93 : BitVec 32 := 0#32
  let v134 : BitVec 1 := Scalar.cmpi .slt v132 c0_i32_93
  let c0_i32_94 : BitVec 32 := 0#32
  let v135 : BitVec 1 := Scalar.cmpi .slt v131 c0_i32_94
  let v136 : BitVec 1 := Scalar.xori v134 v135
  let c0_i32_92 : BitVec 32 := 0#32
  let v133 : BitVec 1 := Scalar.cmpi .ne v132 c0_i32_92
  let v137 : BitVec 1 := Scalar.andi v136 v133
  let v138 : BitVec 32 := Scalar.addi v132 v131
  let v139 : BitVec 32 := Scalar.select v137 v138 v132
  let c1_i32_96 : BitVec 32 := 1#32
  let v140 : BitVec 32 := Scalar.muli v139 c1_i32_96
  let v141 : BitVec 32 := Scalar.addi c0_i32_97 v140
  v141.toNat
def k0_dev11 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v142 : BitVec 32 := Scalar.addi v2 c11_i32
  let c16_i32_98 : BitVec 32 := 16#32
  let c0_i32_99 : BitVec 32 := 0#32
  let v143 : BitVec 1 := Scalar.cmpi .eq c16_i32_98 c0_i32_99
  let c1_i32_100 : BitVec 32 := 1#32
  let v144 : BitVec 32 := Scalar.select v143 c1_i32_100 c16_i32_98
  let v145 : BitVec 32 := Scalar.remsi v142 v144
  let c0_i32_102 : BitVec 32 := 0#32
  let v147 : BitVec 1 := Scalar.cmpi .slt v145 c0_i32_102
  let c0_i32_103 : BitVec 32 := 0#32
  let v148 : BitVec 1 := Scalar.cmpi .slt v144 c0_i32_103
  let v149 : BitVec 1 := Scalar.xori v147 v148
  let c0_i32_101 : BitVec 32 := 0#32
  let v146 : BitVec 1 := Scalar.cmpi .ne v145 c0_i32_101
  let v150 : BitVec 1 := Scalar.andi v149 v146
  let v151 : BitVec 32 := Scalar.addi v145 v144
  let v152 : BitVec 32 := Scalar.select v150 v151 v145
  let c1_i32_105 : BitVec 32 := 1#32
  let v153 : BitVec 32 := Scalar.muli v152 c1_i32_105
  let v154 : BitVec 32 := Scalar.addi c0_i32_106 v153
  v154.toNat
def k0_dev12 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v155 : BitVec 32 := Scalar.addi v2 c12_i32
  let c16_i32_107 : BitVec 32 := 16#32
  let c0_i32_108 : BitVec 32 := 0#32
  let v156 : BitVec 1 := Scalar.cmpi .eq c16_i32_107 c0_i32_108
  let c1_i32_109 : BitVec 32 := 1#32
  let v157 : BitVec 32 := Scalar.select v156 c1_i32_109 c16_i32_107
  let v158 : BitVec 32 := Scalar.remsi v155 v157
  let c0_i32_111 : BitVec 32 := 0#32
  let v160 : BitVec 1 := Scalar.cmpi .slt v158 c0_i32_111
  let c0_i32_112 : BitVec 32 := 0#32
  let v161 : BitVec 1 := Scalar.cmpi .slt v157 c0_i32_112
  let v162 : BitVec 1 := Scalar.xori v160 v161
  let c0_i32_110 : BitVec 32 := 0#32
  let v159 : BitVec 1 := Scalar.cmpi .ne v158 c0_i32_110
  let v163 : BitVec 1 := Scalar.andi v162 v159
  let v164 : BitVec 32 := Scalar.addi v158 v157
  let v165 : BitVec 32 := Scalar.select v163 v164 v158
  let c1_i32_114 : BitVec 32 := 1#32
  let v166 : BitVec 32 := Scalar.muli v165 c1_i32_114
  let v167 : BitVec 32 := Scalar.addi c0_i32_115 v166
  v167.toNat
def k0_dev13 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v168 : BitVec 32 := Scalar.addi v2 c13_i32
  let c16_i32_116 : BitVec 32 := 16#32
  let c0_i32_117 : BitVec 32 := 0#32
  let v169 : BitVec 1 := Scalar.cmpi .eq c16_i32_116 c0_i32_117
  let c1_i32_118 : BitVec 32 := 1#32
  let v170 : BitVec 32 := Scalar.select v169 c1_i32_118 c16_i32_116
  let v171 : BitVec 32 := Scalar.remsi v168 v170
  let c0_i32_120 : BitVec 32 := 0#32
  let v173 : BitVec 1 := Scalar.cmpi .slt v171 c0_i32_120
  let c0_i32_121 : BitVec 32 := 0#32
  let v174 : BitVec 1 := Scalar.cmpi .slt v170 c0_i32_121
  let v175 : BitVec 1 := Scalar.xori v173 v174
  let c0_i32_119 : BitVec 32 := 0#32
  let v172 : BitVec 1 := Scalar.cmpi .ne v171 c0_i32_119
  let v176 : BitVec 1 := Scalar.andi v175 v172
  let v177 : BitVec 32 := Scalar.addi v171 v170
  let v178 : BitVec 32 := Scalar.select v176 v177 v171
  let c1_i32_123 : BitVec 32 := 1#32
  let v179 : BitVec 32 := Scalar.muli v178 c1_i32_123
  let v180 : BitVec 32 := Scalar.addi c0_i32_124 v179
  v180.toNat
def k0_dev14 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v181 : BitVec 32 := Scalar.addi v2 c14_i32
  let c16_i32_125 : BitVec 32 := 16#32
  let c0_i32_126 : BitVec 32 := 0#32
  let v182 : BitVec 1 := Scalar.cmpi .eq c16_i32_125 c0_i32_126
  let c1_i32_127 : BitVec 32 := 1#32
  let v183 : BitVec 32 := Scalar.select v182 c1_i32_127 c16_i32_125
  let v184 : BitVec 32 := Scalar.remsi v181 v183
  let c0_i32_129 : BitVec 32 := 0#32
  let v186 : BitVec 1 := Scalar.cmpi .slt v184 c0_i32_129
  let c0_i32_130 : BitVec 32 := 0#32
  let v187 : BitVec 1 := Scalar.cmpi .slt v183 c0_i32_130
  let v188 : BitVec 1 := Scalar.xori v186 v187
  let c0_i32_128 : BitVec 32 := 0#32
  let v185 : BitVec 1 := Scalar.cmpi .ne v184 c0_i32_128
  let v189 : BitVec 1 := Scalar.andi v188 v185
  let v190 : BitVec 32 := Scalar.addi v184 v183
  let v191 : BitVec 32 := Scalar.select v189 v190 v184
  let c1_i32_132 : BitVec 32 := 1#32
  let v192 : BitVec 32 := Scalar.muli v191 c1_i32_132
  let v193 : BitVec 32 := Scalar.addi c0_i32_133 v192
  v193.toNat
def k0_dev15 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v194 : BitVec 32 := Scalar.addi v2 c15_i32
  let c16_i32_134 : BitVec 32 := 16#32
  let c0_i32_135 : BitVec 32 := 0#32
  let v195 : BitVec 1 := Scalar.cmpi .eq c16_i32_134 c0_i32_135
  let c1_i32_136 : BitVec 32 := 1#32
  let v196 : BitVec 32 := Scalar.select v195 c1_i32_136 c16_i32_134
  let v197 : BitVec 32 := Scalar.remsi v194 v196
  let c0_i32_138 : BitVec 32 := 0#32
  let v199 : BitVec 1 := Scalar.cmpi .slt v197 c0_i32_138
  let c0_i32_139 : BitVec 32 := 0#32
  let v200 : BitVec 1 := Scalar.cmpi .slt v196 c0_i32_139
  let v201 : BitVec 1 := Scalar.xori v199 v200
  let c0_i32_137 : BitVec 32 := 0#32
  let v198 : BitVec 1 := Scalar.cmpi .ne v197 c0_i32_137
  let v202 : BitVec 1 := Scalar.andi v201 v198
  let v203 : BitVec 32 := Scalar.addi v197 v196
  let v204 : BitVec 32 := Scalar.select v202 v203 v197
  let c1_i32_141 : BitVec 32 := 1#32
  let v205 : BitVec 32 := Scalar.muli v204 c1_i32_141
  let v206 : BitVec 32 := Scalar.addi c0_i32_142 v205
  v206.toNat
def k0_off1 (d0 : Dev nD) (c1_i32_206 : BitVec 32) : Fin 2 → Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v301 : BitVec 32 := Scalar.addi v2 c1_i32_206
  let c16_i32_207 : BitVec 32 := 16#32
  let c0_i32_208 : BitVec 32 := 0#32
  let v302 : BitVec 1 := Scalar.cmpi .eq c16_i32_207 c0_i32_208
  let c1_i32_209 : BitVec 32 := 1#32
  let v303 : BitVec 32 := Scalar.select v302 c1_i32_209 c16_i32_207
  let v304 : BitVec 32 := Scalar.remsi v301 v303
  let c0_i32_211 : BitVec 32 := 0#32
  let v306 : BitVec 1 := Scalar.cmpi .slt v304 c0_i32_211
  let c0_i32_212 : BitVec 32 := 0#32
  let v307 : BitVec 1 := Scalar.cmpi .slt v303 c0_i32_212
  let v308 : BitVec 1 := Scalar.xori v306 v307
  let c0_i32_210 : BitVec 32 := 0#32
  let v305 : BitVec 1 := Scalar.cmpi .ne v304 c0_i32_210
  let v309 : BitVec 1 := Scalar.andi v308 v305
  let v310 : BitVec 32 := Scalar.addi v304 v303
  let v311 : BitVec 32 := Scalar.select v309 v310 v304
  ![0, v311.toNat]
def k0_off2 (d0 : Dev nD) : Fin 2 → Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_217 : BitVec 32 := 0#32
  let c0_i32_218 : BitVec 32 := 0#32
  ![v2.toNat, 0, 0]
def k0_off4 (d0 : Dev nD) (c1_i32_206 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v301 : BitVec 32 := Scalar.addi v2 c1_i32_206
  let c16_i32_207 : BitVec 32 := 16#32
  let c0_i32_208 : BitVec 32 := 0#32
  let v302 : BitVec 1 := Scalar.cmpi .eq c16_i32_207 c0_i32_208
  let c1_i32_209 : BitVec 32 := 1#32
  let v303 : BitVec 32 := Scalar.select v302 c1_i32_209 c16_i32_207
  let v304 : BitVec 32 := Scalar.remsi v301 v303
  let c0_i32_211 : BitVec 32 := 0#32
  let v306 : BitVec 1 := Scalar.cmpi .slt v304 c0_i32_211
  let c0_i32_212 : BitVec 32 := 0#32
  let v307 : BitVec 1 := Scalar.cmpi .slt v303 c0_i32_212
  let v308 : BitVec 1 := Scalar.xori v306 v307
  let c0_i32_210 : BitVec 32 := 0#32
  let v305 : BitVec 1 := Scalar.cmpi .ne v304 c0_i32_210
  let v309 : BitVec 1 := Scalar.andi v308 v305
  let v310 : BitVec 32 := Scalar.addi v304 v303
  let v311 : BitVec 32 := Scalar.select v309 v310 v304
  let c0_i32_219 : BitVec 32 := 0#32
  let c0_i32_220 : BitVec 32 := 0#32
  ![v311.toNat, 0, 0]
def k0_dev16 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_206 : BitVec 32 := 1#32
  let v301 : BitVec 32 := Scalar.addi v2 c1_i32_206
  let c16_i32_207 : BitVec 32 := 16#32
  let c0_i32_208 : BitVec 32 := 0#32
  let v302 : BitVec 1 := Scalar.cmpi .eq c16_i32_207 c0_i32_208
  let c1_i32_209 : BitVec 32 := 1#32
  let v303 : BitVec 32 := Scalar.select v302 c1_i32_209 c16_i32_207
  let v304 : BitVec 32 := Scalar.remsi v301 v303
  let c0_i32_211 : BitVec 32 := 0#32
  let v306 : BitVec 1 := Scalar.cmpi .slt v304 c0_i32_211
  let c0_i32_212 : BitVec 32 := 0#32
  let v307 : BitVec 1 := Scalar.cmpi .slt v303 c0_i32_212
  let v308 : BitVec 1 := Scalar.xori v306 v307
  let c0_i32_210 : BitVec 32 := 0#32
  let v305 : BitVec 1 := Scalar.cmpi .ne v304 c0_i32_210
  let v309 : BitVec 1 := Scalar.andi v308 v305
  let v310 : BitVec 32 := Scalar.addi v304 v303
  let v311 : BitVec 32 := Scalar.select v309 v310 v304
  let c1_i32_215 : BitVec 32 := 1#32
  let v312 : BitVec 32 := Scalar.muli v311 c1_i32_215
  let v313 : BitVec 32 := Scalar.addi c0_i32_216 v312
  v313.toNat
def k0_dev17 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_221 : BitVec 32 := 2#32
  let v322 : BitVec 32 := Scalar.addi v2 c2_i32_221
  let c16_i32_222 : BitVec 32 := 16#32
  let c0_i32_223 : BitVec 32 := 0#32
  let v323 : BitVec 1 := Scalar.cmpi .eq c16_i32_222 c0_i32_223
  let c1_i32_224 : BitVec 32 := 1#32
  let v324 : BitVec 32 := Scalar.select v323 c1_i32_224 c16_i32_222
  let v325 : BitVec 32 := Scalar.remsi v322 v324
  let c0_i32_226 : BitVec 32 := 0#32
  let v327 : BitVec 1 := Scalar.cmpi .slt v325 c0_i32_226
  let c0_i32_227 : BitVec 32 := 0#32
  let v328 : BitVec 1 := Scalar.cmpi .slt v324 c0_i32_227
  let v329 : BitVec 1 := Scalar.xori v327 v328
  let c0_i32_225 : BitVec 32 := 0#32
  let v326 : BitVec 1 := Scalar.cmpi .ne v325 c0_i32_225
  let v330 : BitVec 1 := Scalar.andi v329 v326
  let v331 : BitVec 32 := Scalar.addi v325 v324
  let v332 : BitVec 32 := Scalar.select v330 v331 v325
  let c1_i32_230 : BitVec 32 := 1#32
  let v333 : BitVec 32 := Scalar.muli v332 c1_i32_230
  let v334 : BitVec 32 := Scalar.addi c0_i32_231 v333
  v334.toNat
def k0_dev18 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_236 : BitVec 32 := 3#32
  let v343 : BitVec 32 := Scalar.addi v2 c3_i32_236
  let c16_i32_237 : BitVec 32 := 16#32
  let c0_i32_238 : BitVec 32 := 0#32
  let v344 : BitVec 1 := Scalar.cmpi .eq c16_i32_237 c0_i32_238
  let c1_i32_239 : BitVec 32 := 1#32
  let v345 : BitVec 32 := Scalar.select v344 c1_i32_239 c16_i32_237
  let v346 : BitVec 32 := Scalar.remsi v343 v345
  let c0_i32_241 : BitVec 32 := 0#32
  let v348 : BitVec 1 := Scalar.cmpi .slt v346 c0_i32_241
  let c0_i32_242 : BitVec 32 := 0#32
  let v349 : BitVec 1 := Scalar.cmpi .slt v345 c0_i32_242
  let v350 : BitVec 1 := Scalar.xori v348 v349
  let c0_i32_240 : BitVec 32 := 0#32
  let v347 : BitVec 1 := Scalar.cmpi .ne v346 c0_i32_240
  let v351 : BitVec 1 := Scalar.andi v350 v347
  let v352 : BitVec 32 := Scalar.addi v346 v345
  let v353 : BitVec 32 := Scalar.select v351 v352 v346
  let c1_i32_245 : BitVec 32 := 1#32
  let v354 : BitVec 32 := Scalar.muli v353 c1_i32_245
  let v355 : BitVec 32 := Scalar.addi c0_i32_246 v354
  v355.toNat
def k0_dev19 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_251 : BitVec 32 := 4#32
  let v364 : BitVec 32 := Scalar.addi v2 c4_i32_251
  let c16_i32_252 : BitVec 32 := 16#32
  let c0_i32_253 : BitVec 32 := 0#32
  let v365 : BitVec 1 := Scalar.cmpi .eq c16_i32_252 c0_i32_253
  let c1_i32_254 : BitVec 32 := 1#32
  let v366 : BitVec 32 := Scalar.select v365 c1_i32_254 c16_i32_252
  let v367 : BitVec 32 := Scalar.remsi v364 v366
  let c0_i32_256 : BitVec 32 := 0#32
  let v369 : BitVec 1 := Scalar.cmpi .slt v367 c0_i32_256
  let c0_i32_257 : BitVec 32 := 0#32
  let v370 : BitVec 1 := Scalar.cmpi .slt v366 c0_i32_257
  let v371 : BitVec 1 := Scalar.xori v369 v370
  let c0_i32_255 : BitVec 32 := 0#32
  let v368 : BitVec 1 := Scalar.cmpi .ne v367 c0_i32_255
  let v372 : BitVec 1 := Scalar.andi v371 v368
  let v373 : BitVec 32 := Scalar.addi v367 v366
  let v374 : BitVec 32 := Scalar.select v372 v373 v367
  let c1_i32_260 : BitVec 32 := 1#32
  let v375 : BitVec 32 := Scalar.muli v374 c1_i32_260
  let v376 : BitVec 32 := Scalar.addi c0_i32_261 v375
  v376.toNat
def k0_dev20 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_266 : BitVec 32 := 5#32
  let v385 : BitVec 32 := Scalar.addi v2 c5_i32_266
  let c16_i32_267 : BitVec 32 := 16#32
  let c0_i32_268 : BitVec 32 := 0#32
  let v386 : BitVec 1 := Scalar.cmpi .eq c16_i32_267 c0_i32_268
  let c1_i32_269 : BitVec 32 := 1#32
  let v387 : BitVec 32 := Scalar.select v386 c1_i32_269 c16_i32_267
  let v388 : BitVec 32 := Scalar.remsi v385 v387
  let c0_i32_271 : BitVec 32 := 0#32
  let v390 : BitVec 1 := Scalar.cmpi .slt v388 c0_i32_271
  let c0_i32_272 : BitVec 32 := 0#32
  let v391 : BitVec 1 := Scalar.cmpi .slt v387 c0_i32_272
  let v392 : BitVec 1 := Scalar.xori v390 v391
  let c0_i32_270 : BitVec 32 := 0#32
  let v389 : BitVec 1 := Scalar.cmpi .ne v388 c0_i32_270
  let v393 : BitVec 1 := Scalar.andi v392 v389
  let v394 : BitVec 32 := Scalar.addi v388 v387
  let v395 : BitVec 32 := Scalar.select v393 v394 v388
  let c1_i32_275 : BitVec 32 := 1#32
  let v396 : BitVec 32 := Scalar.muli v395 c1_i32_275
  let v397 : BitVec 32 := Scalar.addi c0_i32_276 v396
  v397.toNat
def k0_dev21 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_281 : BitVec 32 := 6#32
  let v406 : BitVec 32 := Scalar.addi v2 c6_i32_281
  let c16_i32_282 : BitVec 32 := 16#32
  let c0_i32_283 : BitVec 32 := 0#32
  let v407 : BitVec 1 := Scalar.cmpi .eq c16_i32_282 c0_i32_283
  let c1_i32_284 : BitVec 32 := 1#32
  let v408 : BitVec 32 := Scalar.select v407 c1_i32_284 c16_i32_282
  let v409 : BitVec 32 := Scalar.remsi v406 v408
  let c0_i32_286 : BitVec 32 := 0#32
  let v411 : BitVec 1 := Scalar.cmpi .slt v409 c0_i32_286
  let c0_i32_287 : BitVec 32 := 0#32
  let v412 : BitVec 1 := Scalar.cmpi .slt v408 c0_i32_287
  let v413 : BitVec 1 := Scalar.xori v411 v412
  let c0_i32_285 : BitVec 32 := 0#32
  let v410 : BitVec 1 := Scalar.cmpi .ne v409 c0_i32_285
  let v414 : BitVec 1 := Scalar.andi v413 v410
  let v415 : BitVec 32 := Scalar.addi v409 v408
  let v416 : BitVec 32 := Scalar.select v414 v415 v409
  let c1_i32_290 : BitVec 32 := 1#32
  let v417 : BitVec 32 := Scalar.muli v416 c1_i32_290
  let v418 : BitVec 32 := Scalar.addi c0_i32_291 v417
  v418.toNat
def k0_dev22 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_296 : BitVec 32 := 7#32
  let v427 : BitVec 32 := Scalar.addi v2 c7_i32_296
  let c16_i32_297 : BitVec 32 := 16#32
  let c0_i32_298 : BitVec 32 := 0#32
  let v428 : BitVec 1 := Scalar.cmpi .eq c16_i32_297 c0_i32_298
  let c1_i32_299 : BitVec 32 := 1#32
  let v429 : BitVec 32 := Scalar.select v428 c1_i32_299 c16_i32_297
  let v430 : BitVec 32 := Scalar.remsi v427 v429
  let c0_i32_301 : BitVec 32 := 0#32
  let v432 : BitVec 1 := Scalar.cmpi .slt v430 c0_i32_301
  let c0_i32_302 : BitVec 32 := 0#32
  let v433 : BitVec 1 := Scalar.cmpi .slt v429 c0_i32_302
  let v434 : BitVec 1 := Scalar.xori v432 v433
  let c0_i32_300 : BitVec 32 := 0#32
  let v431 : BitVec 1 := Scalar.cmpi .ne v430 c0_i32_300
  let v435 : BitVec 1 := Scalar.andi v434 v431
  let v436 : BitVec 32 := Scalar.addi v430 v429
  let v437 : BitVec 32 := Scalar.select v435 v436 v430
  let c1_i32_305 : BitVec 32 := 1#32
  let v438 : BitVec 32 := Scalar.muli v437 c1_i32_305
  let v439 : BitVec 32 := Scalar.addi c0_i32_306 v438
  v439.toNat
def k0_dev23 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_311 : BitVec 32 := 8#32
  let v448 : BitVec 32 := Scalar.addi v2 c8_i32_311
  let c16_i32_312 : BitVec 32 := 16#32
  let c0_i32_313 : BitVec 32 := 0#32
  let v449 : BitVec 1 := Scalar.cmpi .eq c16_i32_312 c0_i32_313
  let c1_i32_314 : BitVec 32 := 1#32
  let v450 : BitVec 32 := Scalar.select v449 c1_i32_314 c16_i32_312
  let v451 : BitVec 32 := Scalar.remsi v448 v450
  let c0_i32_316 : BitVec 32 := 0#32
  let v453 : BitVec 1 := Scalar.cmpi .slt v451 c0_i32_316
  let c0_i32_317 : BitVec 32 := 0#32
  let v454 : BitVec 1 := Scalar.cmpi .slt v450 c0_i32_317
  let v455 : BitVec 1 := Scalar.xori v453 v454
  let c0_i32_315 : BitVec 32 := 0#32
  let v452 : BitVec 1 := Scalar.cmpi .ne v451 c0_i32_315
  let v456 : BitVec 1 := Scalar.andi v455 v452
  let v457 : BitVec 32 := Scalar.addi v451 v450
  let v458 : BitVec 32 := Scalar.select v456 v457 v451
  let c1_i32_320 : BitVec 32 := 1#32
  let v459 : BitVec 32 := Scalar.muli v458 c1_i32_320
  let v460 : BitVec 32 := Scalar.addi c0_i32_321 v459
  v460.toNat
def k0_dev24 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_326 : BitVec 32 := 9#32
  let v469 : BitVec 32 := Scalar.addi v2 c9_i32_326
  let c16_i32_327 : BitVec 32 := 16#32
  let c0_i32_328 : BitVec 32 := 0#32
  let v470 : BitVec 1 := Scalar.cmpi .eq c16_i32_327 c0_i32_328
  let c1_i32_329 : BitVec 32 := 1#32
  let v471 : BitVec 32 := Scalar.select v470 c1_i32_329 c16_i32_327
  let v472 : BitVec 32 := Scalar.remsi v469 v471
  let c0_i32_331 : BitVec 32 := 0#32
  let v474 : BitVec 1 := Scalar.cmpi .slt v472 c0_i32_331
  let c0_i32_332 : BitVec 32 := 0#32
  let v475 : BitVec 1 := Scalar.cmpi .slt v471 c0_i32_332
  let v476 : BitVec 1 := Scalar.xori v474 v475
  let c0_i32_330 : BitVec 32 := 0#32
  let v473 : BitVec 1 := Scalar.cmpi .ne v472 c0_i32_330
  let v477 : BitVec 1 := Scalar.andi v476 v473
  let v478 : BitVec 32 := Scalar.addi v472 v471
  let v479 : BitVec 32 := Scalar.select v477 v478 v472
  let c1_i32_335 : BitVec 32 := 1#32
  let v480 : BitVec 32 := Scalar.muli v479 c1_i32_335
  let v481 : BitVec 32 := Scalar.addi c0_i32_336 v480
  v481.toNat
def k0_dev25 (d0 : Dev nD) : Nat :=
  let c0_i32_351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_341 : BitVec 32 := 10#32
  let v490 : BitVec 32 := Scalar.addi v2 c10_i32_341
  let c16_i32_342 : BitVec 32 := 16#32
  let c0_i32_343 : BitVec 32 := 0#32
  let v491 : BitVec 1 := Scalar.cmpi .eq c16_i32_342 c0_i32_343
  let c1_i32_344 : BitVec 32 := 1#32
  let v492 : BitVec 32 := Scalar.select v491 c1_i32_344 c16_i32_342
  let v493 : BitVec 32 := Scalar.remsi v490 v492
  let c0_i32_346 : BitVec 32 := 0#32
  let v495 : BitVec 1 := Scalar.cmpi .slt v493 c0_i32_346
  let c0_i32_347 : BitVec 32 := 0#32
  let v496 : BitVec 1 := Scalar.cmpi .slt v492 c0_i32_347
  let v497 : BitVec 1 := Scalar.xori v495 v496
  let c0_i32_345 : BitVec 32 := 0#32
  let v494 : BitVec 1 := Scalar.cmpi .ne v493 c0_i32_345
  let v498 : BitVec 1 := Scalar.andi v497 v494
  let v499 : BitVec 32 := Scalar.addi v493 v492
  let v500 : BitVec 32 := Scalar.select v498 v499 v493
  let c1_i32_350 : BitVec 32 := 1#32
  let v501 : BitVec 32 := Scalar.muli v500 c1_i32_350
  let v502 : BitVec 32 := Scalar.addi c0_i32_351 v501
  v502.toNat
def k0_dev26 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_356 : BitVec 32 := 11#32
  let v511 : BitVec 32 := Scalar.addi v2 c11_i32_356
  let c16_i32_357 : BitVec 32 := 16#32
  let c0_i32_358 : BitVec 32 := 0#32
  let v512 : BitVec 1 := Scalar.cmpi .eq c16_i32_357 c0_i32_358
  let c1_i32_359 : BitVec 32 := 1#32
  let v513 : BitVec 32 := Scalar.select v512 c1_i32_359 c16_i32_357
  let v514 : BitVec 32 := Scalar.remsi v511 v513
  let c0_i32_361 : BitVec 32 := 0#32
  let v516 : BitVec 1 := Scalar.cmpi .slt v514 c0_i32_361
  let c0_i32_362 : BitVec 32 := 0#32
  let v517 : BitVec 1 := Scalar.cmpi .slt v513 c0_i32_362
  let v518 : BitVec 1 := Scalar.xori v516 v517
  let c0_i32_360 : BitVec 32 := 0#32
  let v515 : BitVec 1 := Scalar.cmpi .ne v514 c0_i32_360
  let v519 : BitVec 1 := Scalar.andi v518 v515
  let v520 : BitVec 32 := Scalar.addi v514 v513
  let v521 : BitVec 32 := Scalar.select v519 v520 v514
  let c1_i32_365 : BitVec 32 := 1#32
  let v522 : BitVec 32 := Scalar.muli v521 c1_i32_365
  let v523 : BitVec 32 := Scalar.addi c0_i32_366 v522
  v523.toNat
def k0_dev27 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_371 : BitVec 32 := 12#32
  let v532 : BitVec 32 := Scalar.addi v2 c12_i32_371
  let c16_i32_372 : BitVec 32 := 16#32
  let c0_i32_373 : BitVec 32 := 0#32
  let v533 : BitVec 1 := Scalar.cmpi .eq c16_i32_372 c0_i32_373
  let c1_i32_374 : BitVec 32 := 1#32
  let v534 : BitVec 32 := Scalar.select v533 c1_i32_374 c16_i32_372
  let v535 : BitVec 32 := Scalar.remsi v532 v534
  let c0_i32_376 : BitVec 32 := 0#32
  let v537 : BitVec 1 := Scalar.cmpi .slt v535 c0_i32_376
  let c0_i32_377 : BitVec 32 := 0#32
  let v538 : BitVec 1 := Scalar.cmpi .slt v534 c0_i32_377
  let v539 : BitVec 1 := Scalar.xori v537 v538
  let c0_i32_375 : BitVec 32 := 0#32
  let v536 : BitVec 1 := Scalar.cmpi .ne v535 c0_i32_375
  let v540 : BitVec 1 := Scalar.andi v539 v536
  let v541 : BitVec 32 := Scalar.addi v535 v534
  let v542 : BitVec 32 := Scalar.select v540 v541 v535
  let c1_i32_380 : BitVec 32 := 1#32
  let v543 : BitVec 32 := Scalar.muli v542 c1_i32_380
  let v544 : BitVec 32 := Scalar.addi c0_i32_381 v543
  v544.toNat
def k0_dev28 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_386 : BitVec 32 := 13#32
  let v553 : BitVec 32 := Scalar.addi v2 c13_i32_386
  let c16_i32_387 : BitVec 32 := 16#32
  let c0_i32_388 : BitVec 32 := 0#32
  let v554 : BitVec 1 := Scalar.cmpi .eq c16_i32_387 c0_i32_388
  let c1_i32_389 : BitVec 32 := 1#32
  let v555 : BitVec 32 := Scalar.select v554 c1_i32_389 c16_i32_387
  let v556 : BitVec 32 := Scalar.remsi v553 v555
  let c0_i32_391 : BitVec 32 := 0#32
  let v558 : BitVec 1 := Scalar.cmpi .slt v556 c0_i32_391
  let c0_i32_392 : BitVec 32 := 0#32
  let v559 : BitVec 1 := Scalar.cmpi .slt v555 c0_i32_392
  let v560 : BitVec 1 := Scalar.xori v558 v559
  let c0_i32_390 : BitVec 32 := 0#32
  let v557 : BitVec 1 := Scalar.cmpi .ne v556 c0_i32_390
  let v561 : BitVec 1 := Scalar.andi v560 v557
  let v562 : BitVec 32 := Scalar.addi v556 v555
  let v563 : BitVec 32 := Scalar.select v561 v562 v556
  let c1_i32_395 : BitVec 32 := 1#32
  let v564 : BitVec 32 := Scalar.muli v563 c1_i32_395
  let v565 : BitVec 32 := Scalar.addi c0_i32_396 v564
  v565.toNat
def k0_dev29 (d0 : Dev nD) : Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_401 : BitVec 32 := 14#32
  let v574 : BitVec 32 := Scalar.addi v2 c14_i32_401
  let c16_i32_402 : BitVec 32 := 16#32
  let c0_i32_403 : BitVec 32 := 0#32
  let v575 : BitVec 1 := Scalar.cmpi .eq c16_i32_402 c0_i32_403
  let c1_i32_404 : BitVec 32 := 1#32
  let v576 : BitVec 32 := Scalar.select v575 c1_i32_404 c16_i32_402
  let v577 : BitVec 32 := Scalar.remsi v574 v576
  let c0_i32_406 : BitVec 32 := 0#32
  let v579 : BitVec 1 := Scalar.cmpi .slt v577 c0_i32_406
  let c0_i32_407 : BitVec 32 := 0#32
  let v580 : BitVec 1 := Scalar.cmpi .slt v576 c0_i32_407
  let v581 : BitVec 1 := Scalar.xori v579 v580
  let c0_i32_405 : BitVec 32 := 0#32
  let v578 : BitVec 1 := Scalar.cmpi .ne v577 c0_i32_405
  let v582 : BitVec 1 := Scalar.andi v581 v578
  let v583 : BitVec 32 := Scalar.addi v577 v576
  let v584 : BitVec 32 := Scalar.select v582 v583 v577
  let c1_i32_410 : BitVec 32 := 1#32
  let v585 : BitVec 32 := Scalar.muli v584 c1_i32_410
  let v586 : BitVec 32 := Scalar.addi c0_i32_411 v585
  v586.toNat
def k0_dev30 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_416 : BitVec 32 := 15#32
  let v595 : BitVec 32 := Scalar.addi v2 c15_i32_416
  let c16_i32_417 : BitVec 32 := 16#32
  let c0_i32_418 : BitVec 32 := 0#32
  let v596 : BitVec 1 := Scalar.cmpi .eq c16_i32_417 c0_i32_418
  let c1_i32_419 : BitVec 32 := 1#32
  let v597 : BitVec 32 := Scalar.select v596 c1_i32_419 c16_i32_417
  let v598 : BitVec 32 := Scalar.remsi v595 v597
  let c0_i32_421 : BitVec 32 := 0#32
  let v600 : BitVec 1 := Scalar.cmpi .slt v598 c0_i32_421
  let c0_i32_422 : BitVec 32 := 0#32
  let v601 : BitVec 1 := Scalar.cmpi .slt v597 c0_i32_422
  let v602 : BitVec 1 := Scalar.xori v600 v601
  let c0_i32_420 : BitVec 32 := 0#32
  let v599 : BitVec 1 := Scalar.cmpi .ne v598 c0_i32_420
  let v603 : BitVec 1 := Scalar.andi v602 v599
  let v604 : BitVec 32 := Scalar.addi v598 v597
  let v605 : BitVec 32 := Scalar.select v603 v604 v598
  let c1_i32_425 : BitVec 32 := 1#32
  let v606 : BitVec 32 := Scalar.muli v605 c1_i32_425
  let v607 : BitVec 32 := Scalar.addi c0_i32_426 v606
  v607.toNat
def k0_off5 (d0 : Dev nD) (c1_i32_487 : BitVec 32) : Fin 2 → Nat :=
  let c1_i32_495 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v689 : BitVec 32 := Scalar.addi v2 c1_i32_487
  let c16_i32_488 : BitVec 32 := 16#32
  let c0_i32_489 : BitVec 32 := 0#32
  let v690 : BitVec 1 := Scalar.cmpi .eq c16_i32_488 c0_i32_489
  let c1_i32_490 : BitVec 32 := 1#32
  let v691 : BitVec 32 := Scalar.select v690 c1_i32_490 c16_i32_488
  let v692 : BitVec 32 := Scalar.remsi v689 v691
  let c0_i32_492 : BitVec 32 := 0#32
  let v694 : BitVec 1 := Scalar.cmpi .slt v692 c0_i32_492
  let c0_i32_493 : BitVec 32 := 0#32
  let v695 : BitVec 1 := Scalar.cmpi .slt v691 c0_i32_493
  let v696 : BitVec 1 := Scalar.xori v694 v695
  let c0_i32_491 : BitVec 32 := 0#32
  let v693 : BitVec 1 := Scalar.cmpi .ne v692 c0_i32_491
  let v697 : BitVec 1 := Scalar.andi v696 v693
  let v698 : BitVec 32 := Scalar.addi v692 v691
  let v699 : BitVec 32 := Scalar.select v697 v698 v692
  ![1, v699.toNat]
def k0_off6 (d0 : Dev nD) : Fin 2 → Nat :=
  let c1_i32_494 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_498 : BitVec 32 := 0#32
  let c512_i32 : BitVec 32 := 512#32
  ![v2.toNat, 0, 512]
def k0_off8 (d0 : Dev nD) (c1_i32_487 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v689 : BitVec 32 := Scalar.addi v2 c1_i32_487
  let c16_i32_488 : BitVec 32 := 16#32
  let c0_i32_489 : BitVec 32 := 0#32
  let v690 : BitVec 1 := Scalar.cmpi .eq c16_i32_488 c0_i32_489
  let c1_i32_490 : BitVec 32 := 1#32
  let v691 : BitVec 32 := Scalar.select v690 c1_i32_490 c16_i32_488
  let v692 : BitVec 32 := Scalar.remsi v689 v691
  let c0_i32_492 : BitVec 32 := 0#32
  let v694 : BitVec 1 := Scalar.cmpi .slt v692 c0_i32_492
  let c0_i32_493 : BitVec 32 := 0#32
  let v695 : BitVec 1 := Scalar.cmpi .slt v691 c0_i32_493
  let v696 : BitVec 1 := Scalar.xori v694 v695
  let c0_i32_491 : BitVec 32 := 0#32
  let v693 : BitVec 1 := Scalar.cmpi .ne v692 c0_i32_491
  let v697 : BitVec 1 := Scalar.andi v696 v693
  let v698 : BitVec 32 := Scalar.addi v692 v691
  let v699 : BitVec 32 := Scalar.select v697 v698 v692
  let c0_i32_499 : BitVec 32 := 0#32
  let c512_i32_500 : BitVec 32 := 512#32
  ![v699.toNat, 0, 512]
def k0_dev31 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_487 : BitVec 32 := 1#32
  let v689 : BitVec 32 := Scalar.addi v2 c1_i32_487
  let c16_i32_488 : BitVec 32 := 16#32
  let c0_i32_489 : BitVec 32 := 0#32
  let v690 : BitVec 1 := Scalar.cmpi .eq c16_i32_488 c0_i32_489
  let c1_i32_490 : BitVec 32 := 1#32
  let v691 : BitVec 32 := Scalar.select v690 c1_i32_490 c16_i32_488
  let v692 : BitVec 32 := Scalar.remsi v689 v691
  let c0_i32_492 : BitVec 32 := 0#32
  let v694 : BitVec 1 := Scalar.cmpi .slt v692 c0_i32_492
  let c0_i32_493 : BitVec 32 := 0#32
  let v695 : BitVec 1 := Scalar.cmpi .slt v691 c0_i32_493
  let v696 : BitVec 1 := Scalar.xori v694 v695
  let c0_i32_491 : BitVec 32 := 0#32
  let v693 : BitVec 1 := Scalar.cmpi .ne v692 c0_i32_491
  let v697 : BitVec 1 := Scalar.andi v696 v693
  let v698 : BitVec 32 := Scalar.addi v692 v691
  let v699 : BitVec 32 := Scalar.select v697 v698 v692
  let c1_i32_496 : BitVec 32 := 1#32
  let v700 : BitVec 32 := Scalar.muli v699 c1_i32_496
  let v701 : BitVec 32 := Scalar.addi c0_i32_497 v700
  v701.toNat
def k0_dev32 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_501 : BitVec 32 := 2#32
  let v710 : BitVec 32 := Scalar.addi v2 c2_i32_501
  let c16_i32_502 : BitVec 32 := 16#32
  let c0_i32_503 : BitVec 32 := 0#32
  let v711 : BitVec 1 := Scalar.cmpi .eq c16_i32_502 c0_i32_503
  let c1_i32_504 : BitVec 32 := 1#32
  let v712 : BitVec 32 := Scalar.select v711 c1_i32_504 c16_i32_502
  let v713 : BitVec 32 := Scalar.remsi v710 v712
  let c0_i32_506 : BitVec 32 := 0#32
  let v715 : BitVec 1 := Scalar.cmpi .slt v713 c0_i32_506
  let c0_i32_507 : BitVec 32 := 0#32
  let v716 : BitVec 1 := Scalar.cmpi .slt v712 c0_i32_507
  let v717 : BitVec 1 := Scalar.xori v715 v716
  let c0_i32_505 : BitVec 32 := 0#32
  let v714 : BitVec 1 := Scalar.cmpi .ne v713 c0_i32_505
  let v718 : BitVec 1 := Scalar.andi v717 v714
  let v719 : BitVec 32 := Scalar.addi v713 v712
  let v720 : BitVec 32 := Scalar.select v718 v719 v713
  let c1_i32_510 : BitVec 32 := 1#32
  let v721 : BitVec 32 := Scalar.muli v720 c1_i32_510
  let v722 : BitVec 32 := Scalar.addi c0_i32_511 v721
  v722.toNat
def k0_dev33 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_516 : BitVec 32 := 3#32
  let v731 : BitVec 32 := Scalar.addi v2 c3_i32_516
  let c16_i32_517 : BitVec 32 := 16#32
  let c0_i32_518 : BitVec 32 := 0#32
  let v732 : BitVec 1 := Scalar.cmpi .eq c16_i32_517 c0_i32_518
  let c1_i32_519 : BitVec 32 := 1#32
  let v733 : BitVec 32 := Scalar.select v732 c1_i32_519 c16_i32_517
  let v734 : BitVec 32 := Scalar.remsi v731 v733
  let c0_i32_521 : BitVec 32 := 0#32
  let v736 : BitVec 1 := Scalar.cmpi .slt v734 c0_i32_521
  let c0_i32_522 : BitVec 32 := 0#32
  let v737 : BitVec 1 := Scalar.cmpi .slt v733 c0_i32_522
  let v738 : BitVec 1 := Scalar.xori v736 v737
  let c0_i32_520 : BitVec 32 := 0#32
  let v735 : BitVec 1 := Scalar.cmpi .ne v734 c0_i32_520
  let v739 : BitVec 1 := Scalar.andi v738 v735
  let v740 : BitVec 32 := Scalar.addi v734 v733
  let v741 : BitVec 32 := Scalar.select v739 v740 v734
  let c1_i32_525 : BitVec 32 := 1#32
  let v742 : BitVec 32 := Scalar.muli v741 c1_i32_525
  let v743 : BitVec 32 := Scalar.addi c0_i32_526 v742
  v743.toNat
def k0_dev34 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_531 : BitVec 32 := 4#32
  let v752 : BitVec 32 := Scalar.addi v2 c4_i32_531
  let c16_i32_532 : BitVec 32 := 16#32
  let c0_i32_533 : BitVec 32 := 0#32
  let v753 : BitVec 1 := Scalar.cmpi .eq c16_i32_532 c0_i32_533
  let c1_i32_534 : BitVec 32 := 1#32
  let v754 : BitVec 32 := Scalar.select v753 c1_i32_534 c16_i32_532
  let v755 : BitVec 32 := Scalar.remsi v752 v754
  let c0_i32_536 : BitVec 32 := 0#32
  let v757 : BitVec 1 := Scalar.cmpi .slt v755 c0_i32_536
  let c0_i32_537 : BitVec 32 := 0#32
  let v758 : BitVec 1 := Scalar.cmpi .slt v754 c0_i32_537
  let v759 : BitVec 1 := Scalar.xori v757 v758
  let c0_i32_535 : BitVec 32 := 0#32
  let v756 : BitVec 1 := Scalar.cmpi .ne v755 c0_i32_535
  let v760 : BitVec 1 := Scalar.andi v759 v756
  let v761 : BitVec 32 := Scalar.addi v755 v754
  let v762 : BitVec 32 := Scalar.select v760 v761 v755
  let c1_i32_540 : BitVec 32 := 1#32
  let v763 : BitVec 32 := Scalar.muli v762 c1_i32_540
  let v764 : BitVec 32 := Scalar.addi c0_i32_541 v763
  v764.toNat
def k0_dev35 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_546 : BitVec 32 := 5#32
  let v773 : BitVec 32 := Scalar.addi v2 c5_i32_546
  let c16_i32_547 : BitVec 32 := 16#32
  let c0_i32_548 : BitVec 32 := 0#32
  let v774 : BitVec 1 := Scalar.cmpi .eq c16_i32_547 c0_i32_548
  let c1_i32_549 : BitVec 32 := 1#32
  let v775 : BitVec 32 := Scalar.select v774 c1_i32_549 c16_i32_547
  let v776 : BitVec 32 := Scalar.remsi v773 v775
  let c0_i32_551 : BitVec 32 := 0#32
  let v778 : BitVec 1 := Scalar.cmpi .slt v776 c0_i32_551
  let c0_i32_552 : BitVec 32 := 0#32
  let v779 : BitVec 1 := Scalar.cmpi .slt v775 c0_i32_552
  let v780 : BitVec 1 := Scalar.xori v778 v779
  let c0_i32_550 : BitVec 32 := 0#32
  let v777 : BitVec 1 := Scalar.cmpi .ne v776 c0_i32_550
  let v781 : BitVec 1 := Scalar.andi v780 v777
  let v782 : BitVec 32 := Scalar.addi v776 v775
  let v783 : BitVec 32 := Scalar.select v781 v782 v776
  let c1_i32_555 : BitVec 32 := 1#32
  let v784 : BitVec 32 := Scalar.muli v783 c1_i32_555
  let v785 : BitVec 32 := Scalar.addi c0_i32_556 v784
  v785.toNat
def k0_dev36 (d0 : Dev nD) : Nat :=
  let c0_i32_571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_561 : BitVec 32 := 6#32
  let v794 : BitVec 32 := Scalar.addi v2 c6_i32_561
  let c16_i32_562 : BitVec 32 := 16#32
  let c0_i32_563 : BitVec 32 := 0#32
  let v795 : BitVec 1 := Scalar.cmpi .eq c16_i32_562 c0_i32_563
  let c1_i32_564 : BitVec 32 := 1#32
  let v796 : BitVec 32 := Scalar.select v795 c1_i32_564 c16_i32_562
  let v797 : BitVec 32 := Scalar.remsi v794 v796
  let c0_i32_566 : BitVec 32 := 0#32
  let v799 : BitVec 1 := Scalar.cmpi .slt v797 c0_i32_566
  let c0_i32_567 : BitVec 32 := 0#32
  let v800 : BitVec 1 := Scalar.cmpi .slt v796 c0_i32_567
  let v801 : BitVec 1 := Scalar.xori v799 v800
  let c0_i32_565 : BitVec 32 := 0#32
  let v798 : BitVec 1 := Scalar.cmpi .ne v797 c0_i32_565
  let v802 : BitVec 1 := Scalar.andi v801 v798
  let v803 : BitVec 32 := Scalar.addi v797 v796
  let v804 : BitVec 32 := Scalar.select v802 v803 v797
  let c1_i32_570 : BitVec 32 := 1#32
  let v805 : BitVec 32 := Scalar.muli v804 c1_i32_570
  let v806 : BitVec 32 := Scalar.addi c0_i32_571 v805
  v806.toNat
def k0_dev37 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_576 : BitVec 32 := 7#32
  let v815 : BitVec 32 := Scalar.addi v2 c7_i32_576
  let c16_i32_577 : BitVec 32 := 16#32
  let c0_i32_578 : BitVec 32 := 0#32
  let v816 : BitVec 1 := Scalar.cmpi .eq c16_i32_577 c0_i32_578
  let c1_i32_579 : BitVec 32 := 1#32
  let v817 : BitVec 32 := Scalar.select v816 c1_i32_579 c16_i32_577
  let v818 : BitVec 32 := Scalar.remsi v815 v817
  let c0_i32_581 : BitVec 32 := 0#32
  let v820 : BitVec 1 := Scalar.cmpi .slt v818 c0_i32_581
  let c0_i32_582 : BitVec 32 := 0#32
  let v821 : BitVec 1 := Scalar.cmpi .slt v817 c0_i32_582
  let v822 : BitVec 1 := Scalar.xori v820 v821
  let c0_i32_580 : BitVec 32 := 0#32
  let v819 : BitVec 1 := Scalar.cmpi .ne v818 c0_i32_580
  let v823 : BitVec 1 := Scalar.andi v822 v819
  let v824 : BitVec 32 := Scalar.addi v818 v817
  let v825 : BitVec 32 := Scalar.select v823 v824 v818
  let c1_i32_585 : BitVec 32 := 1#32
  let v826 : BitVec 32 := Scalar.muli v825 c1_i32_585
  let v827 : BitVec 32 := Scalar.addi c0_i32_586 v826
  v827.toNat
def k0_dev38 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_591 : BitVec 32 := 8#32
  let v836 : BitVec 32 := Scalar.addi v2 c8_i32_591
  let c16_i32_592 : BitVec 32 := 16#32
  let c0_i32_593 : BitVec 32 := 0#32
  let v837 : BitVec 1 := Scalar.cmpi .eq c16_i32_592 c0_i32_593
  let c1_i32_594 : BitVec 32 := 1#32
  let v838 : BitVec 32 := Scalar.select v837 c1_i32_594 c16_i32_592
  let v839 : BitVec 32 := Scalar.remsi v836 v838
  let c0_i32_596 : BitVec 32 := 0#32
  let v841 : BitVec 1 := Scalar.cmpi .slt v839 c0_i32_596
  let c0_i32_597 : BitVec 32 := 0#32
  let v842 : BitVec 1 := Scalar.cmpi .slt v838 c0_i32_597
  let v843 : BitVec 1 := Scalar.xori v841 v842
  let c0_i32_595 : BitVec 32 := 0#32
  let v840 : BitVec 1 := Scalar.cmpi .ne v839 c0_i32_595
  let v844 : BitVec 1 := Scalar.andi v843 v840
  let v845 : BitVec 32 := Scalar.addi v839 v838
  let v846 : BitVec 32 := Scalar.select v844 v845 v839
  let c1_i32_600 : BitVec 32 := 1#32
  let v847 : BitVec 32 := Scalar.muli v846 c1_i32_600
  let v848 : BitVec 32 := Scalar.addi c0_i32_601 v847
  v848.toNat
def k0_dev39 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_606 : BitVec 32 := 9#32
  let v857 : BitVec 32 := Scalar.addi v2 c9_i32_606
  let c16_i32_607 : BitVec 32 := 16#32
  let c0_i32_608 : BitVec 32 := 0#32
  let v858 : BitVec 1 := Scalar.cmpi .eq c16_i32_607 c0_i32_608
  let c1_i32_609 : BitVec 32 := 1#32
  let v859 : BitVec 32 := Scalar.select v858 c1_i32_609 c16_i32_607
  let v860 : BitVec 32 := Scalar.remsi v857 v859
  let c0_i32_611 : BitVec 32 := 0#32
  let v862 : BitVec 1 := Scalar.cmpi .slt v860 c0_i32_611
  let c0_i32_612 : BitVec 32 := 0#32
  let v863 : BitVec 1 := Scalar.cmpi .slt v859 c0_i32_612
  let v864 : BitVec 1 := Scalar.xori v862 v863
  let c0_i32_610 : BitVec 32 := 0#32
  let v861 : BitVec 1 := Scalar.cmpi .ne v860 c0_i32_610
  let v865 : BitVec 1 := Scalar.andi v864 v861
  let v866 : BitVec 32 := Scalar.addi v860 v859
  let v867 : BitVec 32 := Scalar.select v865 v866 v860
  let c1_i32_615 : BitVec 32 := 1#32
  let v868 : BitVec 32 := Scalar.muli v867 c1_i32_615
  let v869 : BitVec 32 := Scalar.addi c0_i32_616 v868
  v869.toNat
def k0_dev40 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_621 : BitVec 32 := 10#32
  let v878 : BitVec 32 := Scalar.addi v2 c10_i32_621
  let c16_i32_622 : BitVec 32 := 16#32
  let c0_i32_623 : BitVec 32 := 0#32
  let v879 : BitVec 1 := Scalar.cmpi .eq c16_i32_622 c0_i32_623
  let c1_i32_624 : BitVec 32 := 1#32
  let v880 : BitVec 32 := Scalar.select v879 c1_i32_624 c16_i32_622
  let v881 : BitVec 32 := Scalar.remsi v878 v880
  let c0_i32_626 : BitVec 32 := 0#32
  let v883 : BitVec 1 := Scalar.cmpi .slt v881 c0_i32_626
  let c0_i32_627 : BitVec 32 := 0#32
  let v884 : BitVec 1 := Scalar.cmpi .slt v880 c0_i32_627
  let v885 : BitVec 1 := Scalar.xori v883 v884
  let c0_i32_625 : BitVec 32 := 0#32
  let v882 : BitVec 1 := Scalar.cmpi .ne v881 c0_i32_625
  let v886 : BitVec 1 := Scalar.andi v885 v882
  let v887 : BitVec 32 := Scalar.addi v881 v880
  let v888 : BitVec 32 := Scalar.select v886 v887 v881
  let c1_i32_630 : BitVec 32 := 1#32
  let v889 : BitVec 32 := Scalar.muli v888 c1_i32_630
  let v890 : BitVec 32 := Scalar.addi c0_i32_631 v889
  v890.toNat
def k0_dev41 (d0 : Dev nD) : Nat :=
  let c0_i32_646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_636 : BitVec 32 := 11#32
  let v899 : BitVec 32 := Scalar.addi v2 c11_i32_636
  let c16_i32_637 : BitVec 32 := 16#32
  let c0_i32_638 : BitVec 32 := 0#32
  let v900 : BitVec 1 := Scalar.cmpi .eq c16_i32_637 c0_i32_638
  let c1_i32_639 : BitVec 32 := 1#32
  let v901 : BitVec 32 := Scalar.select v900 c1_i32_639 c16_i32_637
  let v902 : BitVec 32 := Scalar.remsi v899 v901
  let c0_i32_641 : BitVec 32 := 0#32
  let v904 : BitVec 1 := Scalar.cmpi .slt v902 c0_i32_641
  let c0_i32_642 : BitVec 32 := 0#32
  let v905 : BitVec 1 := Scalar.cmpi .slt v901 c0_i32_642
  let v906 : BitVec 1 := Scalar.xori v904 v905
  let c0_i32_640 : BitVec 32 := 0#32
  let v903 : BitVec 1 := Scalar.cmpi .ne v902 c0_i32_640
  let v907 : BitVec 1 := Scalar.andi v906 v903
  let v908 : BitVec 32 := Scalar.addi v902 v901
  let v909 : BitVec 32 := Scalar.select v907 v908 v902
  let c1_i32_645 : BitVec 32 := 1#32
  let v910 : BitVec 32 := Scalar.muli v909 c1_i32_645
  let v911 : BitVec 32 := Scalar.addi c0_i32_646 v910
  v911.toNat
def k0_dev42 (d0 : Dev nD) : Nat :=
  let c0_i32_661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_651 : BitVec 32 := 12#32
  let v920 : BitVec 32 := Scalar.addi v2 c12_i32_651
  let c16_i32_652 : BitVec 32 := 16#32
  let c0_i32_653 : BitVec 32 := 0#32
  let v921 : BitVec 1 := Scalar.cmpi .eq c16_i32_652 c0_i32_653
  let c1_i32_654 : BitVec 32 := 1#32
  let v922 : BitVec 32 := Scalar.select v921 c1_i32_654 c16_i32_652
  let v923 : BitVec 32 := Scalar.remsi v920 v922
  let c0_i32_656 : BitVec 32 := 0#32
  let v925 : BitVec 1 := Scalar.cmpi .slt v923 c0_i32_656
  let c0_i32_657 : BitVec 32 := 0#32
  let v926 : BitVec 1 := Scalar.cmpi .slt v922 c0_i32_657
  let v927 : BitVec 1 := Scalar.xori v925 v926
  let c0_i32_655 : BitVec 32 := 0#32
  let v924 : BitVec 1 := Scalar.cmpi .ne v923 c0_i32_655
  let v928 : BitVec 1 := Scalar.andi v927 v924
  let v929 : BitVec 32 := Scalar.addi v923 v922
  let v930 : BitVec 32 := Scalar.select v928 v929 v923
  let c1_i32_660 : BitVec 32 := 1#32
  let v931 : BitVec 32 := Scalar.muli v930 c1_i32_660
  let v932 : BitVec 32 := Scalar.addi c0_i32_661 v931
  v932.toNat
def k0_dev43 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_666 : BitVec 32 := 13#32
  let v941 : BitVec 32 := Scalar.addi v2 c13_i32_666
  let c16_i32_667 : BitVec 32 := 16#32
  let c0_i32_668 : BitVec 32 := 0#32
  let v942 : BitVec 1 := Scalar.cmpi .eq c16_i32_667 c0_i32_668
  let c1_i32_669 : BitVec 32 := 1#32
  let v943 : BitVec 32 := Scalar.select v942 c1_i32_669 c16_i32_667
  let v944 : BitVec 32 := Scalar.remsi v941 v943
  let c0_i32_671 : BitVec 32 := 0#32
  let v946 : BitVec 1 := Scalar.cmpi .slt v944 c0_i32_671
  let c0_i32_672 : BitVec 32 := 0#32
  let v947 : BitVec 1 := Scalar.cmpi .slt v943 c0_i32_672
  let v948 : BitVec 1 := Scalar.xori v946 v947
  let c0_i32_670 : BitVec 32 := 0#32
  let v945 : BitVec 1 := Scalar.cmpi .ne v944 c0_i32_670
  let v949 : BitVec 1 := Scalar.andi v948 v945
  let v950 : BitVec 32 := Scalar.addi v944 v943
  let v951 : BitVec 32 := Scalar.select v949 v950 v944
  let c1_i32_675 : BitVec 32 := 1#32
  let v952 : BitVec 32 := Scalar.muli v951 c1_i32_675
  let v953 : BitVec 32 := Scalar.addi c0_i32_676 v952
  v953.toNat
def k0_dev44 (d0 : Dev nD) : Nat :=
  let c0_i32_691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_681 : BitVec 32 := 14#32
  let v962 : BitVec 32 := Scalar.addi v2 c14_i32_681
  let c16_i32_682 : BitVec 32 := 16#32
  let c0_i32_683 : BitVec 32 := 0#32
  let v963 : BitVec 1 := Scalar.cmpi .eq c16_i32_682 c0_i32_683
  let c1_i32_684 : BitVec 32 := 1#32
  let v964 : BitVec 32 := Scalar.select v963 c1_i32_684 c16_i32_682
  let v965 : BitVec 32 := Scalar.remsi v962 v964
  let c0_i32_686 : BitVec 32 := 0#32
  let v967 : BitVec 1 := Scalar.cmpi .slt v965 c0_i32_686
  let c0_i32_687 : BitVec 32 := 0#32
  let v968 : BitVec 1 := Scalar.cmpi .slt v964 c0_i32_687
  let v969 : BitVec 1 := Scalar.xori v967 v968
  let c0_i32_685 : BitVec 32 := 0#32
  let v966 : BitVec 1 := Scalar.cmpi .ne v965 c0_i32_685
  let v970 : BitVec 1 := Scalar.andi v969 v966
  let v971 : BitVec 32 := Scalar.addi v965 v964
  let v972 : BitVec 32 := Scalar.select v970 v971 v965
  let c1_i32_690 : BitVec 32 := 1#32
  let v973 : BitVec 32 := Scalar.muli v972 c1_i32_690
  let v974 : BitVec 32 := Scalar.addi c0_i32_691 v973
  v974.toNat
def k0_dev45 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_696 : BitVec 32 := 15#32
  let v983 : BitVec 32 := Scalar.addi v2 c15_i32_696
  let c16_i32_697 : BitVec 32 := 16#32
  let c0_i32_698 : BitVec 32 := 0#32
  let v984 : BitVec 1 := Scalar.cmpi .eq c16_i32_697 c0_i32_698
  let c1_i32_699 : BitVec 32 := 1#32
  let v985 : BitVec 32 := Scalar.select v984 c1_i32_699 c16_i32_697
  let v986 : BitVec 32 := Scalar.remsi v983 v985
  let c0_i32_701 : BitVec 32 := 0#32
  let v988 : BitVec 1 := Scalar.cmpi .slt v986 c0_i32_701
  let c0_i32_702 : BitVec 32 := 0#32
  let v989 : BitVec 1 := Scalar.cmpi .slt v985 c0_i32_702
  let v990 : BitVec 1 := Scalar.xori v988 v989
  let c0_i32_700 : BitVec 32 := 0#32
  let v987 : BitVec 1 := Scalar.cmpi .ne v986 c0_i32_700
  let v991 : BitVec 1 := Scalar.andi v990 v987
  let v992 : BitVec 32 := Scalar.addi v986 v985
  let v993 : BitVec 32 := Scalar.select v991 v992 v986
  let c1_i32_705 : BitVec 32 := 1#32
  let v994 : BitVec 32 := Scalar.muli v993 c1_i32_705
  let v995 : BitVec 32 := Scalar.addi c0_i32_706 v994
  v995.toNat
def k0_dev46 (d0 : Dev nD) : Nat :=
  let c0_i32_1025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1015 : BitVec 32 := 1#32
  let v1355 : BitVec 32 := Scalar.addi v2 c1_i32_1015
  let c16_i32_1016 : BitVec 32 := 16#32
  let c0_i32_1017 : BitVec 32 := 0#32
  let v1356 : BitVec 1 := Scalar.cmpi .eq c16_i32_1016 c0_i32_1017
  let c1_i32_1018 : BitVec 32 := 1#32
  let v1357 : BitVec 32 := Scalar.select v1356 c1_i32_1018 c16_i32_1016
  let v1358 : BitVec 32 := Scalar.remsi v1355 v1357
  let c0_i32_1020 : BitVec 32 := 0#32
  let v1360 : BitVec 1 := Scalar.cmpi .slt v1358 c0_i32_1020
  let c0_i32_1021 : BitVec 32 := 0#32
  let v1361 : BitVec 1 := Scalar.cmpi .slt v1357 c0_i32_1021
  let v1362 : BitVec 1 := Scalar.xori v1360 v1361
  let c0_i32_1019 : BitVec 32 := 0#32
  let v1359 : BitVec 1 := Scalar.cmpi .ne v1358 c0_i32_1019
  let v1363 : BitVec 1 := Scalar.andi v1362 v1359
  let v1364 : BitVec 32 := Scalar.addi v1358 v1357
  let v1365 : BitVec 32 := Scalar.select v1363 v1364 v1358
  let c1_i32_1024 : BitVec 32 := 1#32
  let v1366 : BitVec 32 := Scalar.muli v1365 c1_i32_1024
  let v1367 : BitVec 32 := Scalar.addi c0_i32_1025 v1366
  v1367.toNat
def k0_dev47 (d0 : Dev nD) : Nat :=
  let c0_i32_1040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1030 : BitVec 32 := 2#32
  let v1375 : BitVec 32 := Scalar.addi v2 c2_i32_1030
  let c16_i32_1031 : BitVec 32 := 16#32
  let c0_i32_1032 : BitVec 32 := 0#32
  let v1376 : BitVec 1 := Scalar.cmpi .eq c16_i32_1031 c0_i32_1032
  let c1_i32_1033 : BitVec 32 := 1#32
  let v1377 : BitVec 32 := Scalar.select v1376 c1_i32_1033 c16_i32_1031
  let v1378 : BitVec 32 := Scalar.remsi v1375 v1377
  let c0_i32_1035 : BitVec 32 := 0#32
  let v1380 : BitVec 1 := Scalar.cmpi .slt v1378 c0_i32_1035
  let c0_i32_1036 : BitVec 32 := 0#32
  let v1381 : BitVec 1 := Scalar.cmpi .slt v1377 c0_i32_1036
  let v1382 : BitVec 1 := Scalar.xori v1380 v1381
  let c0_i32_1034 : BitVec 32 := 0#32
  let v1379 : BitVec 1 := Scalar.cmpi .ne v1378 c0_i32_1034
  let v1383 : BitVec 1 := Scalar.andi v1382 v1379
  let v1384 : BitVec 32 := Scalar.addi v1378 v1377
  let v1385 : BitVec 32 := Scalar.select v1383 v1384 v1378
  let c1_i32_1039 : BitVec 32 := 1#32
  let v1386 : BitVec 32 := Scalar.muli v1385 c1_i32_1039
  let v1387 : BitVec 32 := Scalar.addi c0_i32_1040 v1386
  v1387.toNat
def k0_dev48 (d0 : Dev nD) : Nat :=
  let c0_i32_1055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1045 : BitVec 32 := 3#32
  let v1395 : BitVec 32 := Scalar.addi v2 c3_i32_1045
  let c16_i32_1046 : BitVec 32 := 16#32
  let c0_i32_1047 : BitVec 32 := 0#32
  let v1396 : BitVec 1 := Scalar.cmpi .eq c16_i32_1046 c0_i32_1047
  let c1_i32_1048 : BitVec 32 := 1#32
  let v1397 : BitVec 32 := Scalar.select v1396 c1_i32_1048 c16_i32_1046
  let v1398 : BitVec 32 := Scalar.remsi v1395 v1397
  let c0_i32_1050 : BitVec 32 := 0#32
  let v1400 : BitVec 1 := Scalar.cmpi .slt v1398 c0_i32_1050
  let c0_i32_1051 : BitVec 32 := 0#32
  let v1401 : BitVec 1 := Scalar.cmpi .slt v1397 c0_i32_1051
  let v1402 : BitVec 1 := Scalar.xori v1400 v1401
  let c0_i32_1049 : BitVec 32 := 0#32
  let v1399 : BitVec 1 := Scalar.cmpi .ne v1398 c0_i32_1049
  let v1403 : BitVec 1 := Scalar.andi v1402 v1399
  let v1404 : BitVec 32 := Scalar.addi v1398 v1397
  let v1405 : BitVec 32 := Scalar.select v1403 v1404 v1398
  let c1_i32_1054 : BitVec 32 := 1#32
  let v1406 : BitVec 32 := Scalar.muli v1405 c1_i32_1054
  let v1407 : BitVec 32 := Scalar.addi c0_i32_1055 v1406
  v1407.toNat
def k0_dev49 (d0 : Dev nD) : Nat :=
  let c0_i32_1070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1060 : BitVec 32 := 4#32
  let v1415 : BitVec 32 := Scalar.addi v2 c4_i32_1060
  let c16_i32_1061 : BitVec 32 := 16#32
  let c0_i32_1062 : BitVec 32 := 0#32
  let v1416 : BitVec 1 := Scalar.cmpi .eq c16_i32_1061 c0_i32_1062
  let c1_i32_1063 : BitVec 32 := 1#32
  let v1417 : BitVec 32 := Scalar.select v1416 c1_i32_1063 c16_i32_1061
  let v1418 : BitVec 32 := Scalar.remsi v1415 v1417
  let c0_i32_1065 : BitVec 32 := 0#32
  let v1420 : BitVec 1 := Scalar.cmpi .slt v1418 c0_i32_1065
  let c0_i32_1066 : BitVec 32 := 0#32
  let v1421 : BitVec 1 := Scalar.cmpi .slt v1417 c0_i32_1066
  let v1422 : BitVec 1 := Scalar.xori v1420 v1421
  let c0_i32_1064 : BitVec 32 := 0#32
  let v1419 : BitVec 1 := Scalar.cmpi .ne v1418 c0_i32_1064
  let v1423 : BitVec 1 := Scalar.andi v1422 v1419
  let v1424 : BitVec 32 := Scalar.addi v1418 v1417
  let v1425 : BitVec 32 := Scalar.select v1423 v1424 v1418
  let c1_i32_1069 : BitVec 32 := 1#32
  let v1426 : BitVec 32 := Scalar.muli v1425 c1_i32_1069
  let v1427 : BitVec 32 := Scalar.addi c0_i32_1070 v1426
  v1427.toNat
def k0_dev50 (d0 : Dev nD) : Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1075 : BitVec 32 := 5#32
  let v1435 : BitVec 32 := Scalar.addi v2 c5_i32_1075
  let c16_i32_1076 : BitVec 32 := 16#32
  let c0_i32_1077 : BitVec 32 := 0#32
  let v1436 : BitVec 1 := Scalar.cmpi .eq c16_i32_1076 c0_i32_1077
  let c1_i32_1078 : BitVec 32 := 1#32
  let v1437 : BitVec 32 := Scalar.select v1436 c1_i32_1078 c16_i32_1076
  let v1438 : BitVec 32 := Scalar.remsi v1435 v1437
  let c0_i32_1080 : BitVec 32 := 0#32
  let v1440 : BitVec 1 := Scalar.cmpi .slt v1438 c0_i32_1080
  let c0_i32_1081 : BitVec 32 := 0#32
  let v1441 : BitVec 1 := Scalar.cmpi .slt v1437 c0_i32_1081
  let v1442 : BitVec 1 := Scalar.xori v1440 v1441
  let c0_i32_1079 : BitVec 32 := 0#32
  let v1439 : BitVec 1 := Scalar.cmpi .ne v1438 c0_i32_1079
  let v1443 : BitVec 1 := Scalar.andi v1442 v1439
  let v1444 : BitVec 32 := Scalar.addi v1438 v1437
  let v1445 : BitVec 32 := Scalar.select v1443 v1444 v1438
  let c1_i32_1084 : BitVec 32 := 1#32
  let v1446 : BitVec 32 := Scalar.muli v1445 c1_i32_1084
  let v1447 : BitVec 32 := Scalar.addi c0_i32_1085 v1446
  v1447.toNat
def k0_dev51 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1090 : BitVec 32 := 6#32
  let v1455 : BitVec 32 := Scalar.addi v2 c6_i32_1090
  let c16_i32_1091 : BitVec 32 := 16#32
  let c0_i32_1092 : BitVec 32 := 0#32
  let v1456 : BitVec 1 := Scalar.cmpi .eq c16_i32_1091 c0_i32_1092
  let c1_i32_1093 : BitVec 32 := 1#32
  let v1457 : BitVec 32 := Scalar.select v1456 c1_i32_1093 c16_i32_1091
  let v1458 : BitVec 32 := Scalar.remsi v1455 v1457
  let c0_i32_1095 : BitVec 32 := 0#32
  let v1460 : BitVec 1 := Scalar.cmpi .slt v1458 c0_i32_1095
  let c0_i32_1096 : BitVec 32 := 0#32
  let v1461 : BitVec 1 := Scalar.cmpi .slt v1457 c0_i32_1096
  let v1462 : BitVec 1 := Scalar.xori v1460 v1461
  let c0_i32_1094 : BitVec 32 := 0#32
  let v1459 : BitVec 1 := Scalar.cmpi .ne v1458 c0_i32_1094
  let v1463 : BitVec 1 := Scalar.andi v1462 v1459
  let v1464 : BitVec 32 := Scalar.addi v1458 v1457
  let v1465 : BitVec 32 := Scalar.select v1463 v1464 v1458
  let c1_i32_1099 : BitVec 32 := 1#32
  let v1466 : BitVec 32 := Scalar.muli v1465 c1_i32_1099
  let v1467 : BitVec 32 := Scalar.addi c0_i32_1100 v1466
  v1467.toNat
def k0_dev52 (d0 : Dev nD) : Nat :=
  let c0_i32_1115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1105 : BitVec 32 := 7#32
  let v1475 : BitVec 32 := Scalar.addi v2 c7_i32_1105
  let c16_i32_1106 : BitVec 32 := 16#32
  let c0_i32_1107 : BitVec 32 := 0#32
  let v1476 : BitVec 1 := Scalar.cmpi .eq c16_i32_1106 c0_i32_1107
  let c1_i32_1108 : BitVec 32 := 1#32
  let v1477 : BitVec 32 := Scalar.select v1476 c1_i32_1108 c16_i32_1106
  let v1478 : BitVec 32 := Scalar.remsi v1475 v1477
  let c0_i32_1110 : BitVec 32 := 0#32
  let v1480 : BitVec 1 := Scalar.cmpi .slt v1478 c0_i32_1110
  let c0_i32_1111 : BitVec 32 := 0#32
  let v1481 : BitVec 1 := Scalar.cmpi .slt v1477 c0_i32_1111
  let v1482 : BitVec 1 := Scalar.xori v1480 v1481
  let c0_i32_1109 : BitVec 32 := 0#32
  let v1479 : BitVec 1 := Scalar.cmpi .ne v1478 c0_i32_1109
  let v1483 : BitVec 1 := Scalar.andi v1482 v1479
  let v1484 : BitVec 32 := Scalar.addi v1478 v1477
  let v1485 : BitVec 32 := Scalar.select v1483 v1484 v1478
  let c1_i32_1114 : BitVec 32 := 1#32
  let v1486 : BitVec 32 := Scalar.muli v1485 c1_i32_1114
  let v1487 : BitVec 32 := Scalar.addi c0_i32_1115 v1486
  v1487.toNat
def k0_dev53 (d0 : Dev nD) : Nat :=
  let c0_i32_1130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1120 : BitVec 32 := 8#32
  let v1495 : BitVec 32 := Scalar.addi v2 c8_i32_1120
  let c16_i32_1121 : BitVec 32 := 16#32
  let c0_i32_1122 : BitVec 32 := 0#32
  let v1496 : BitVec 1 := Scalar.cmpi .eq c16_i32_1121 c0_i32_1122
  let c1_i32_1123 : BitVec 32 := 1#32
  let v1497 : BitVec 32 := Scalar.select v1496 c1_i32_1123 c16_i32_1121
  let v1498 : BitVec 32 := Scalar.remsi v1495 v1497
  let c0_i32_1125 : BitVec 32 := 0#32
  let v1500 : BitVec 1 := Scalar.cmpi .slt v1498 c0_i32_1125
  let c0_i32_1126 : BitVec 32 := 0#32
  let v1501 : BitVec 1 := Scalar.cmpi .slt v1497 c0_i32_1126
  let v1502 : BitVec 1 := Scalar.xori v1500 v1501
  let c0_i32_1124 : BitVec 32 := 0#32
  let v1499 : BitVec 1 := Scalar.cmpi .ne v1498 c0_i32_1124
  let v1503 : BitVec 1 := Scalar.andi v1502 v1499
  let v1504 : BitVec 32 := Scalar.addi v1498 v1497
  let v1505 : BitVec 32 := Scalar.select v1503 v1504 v1498
  let c1_i32_1129 : BitVec 32 := 1#32
  let v1506 : BitVec 32 := Scalar.muli v1505 c1_i32_1129
  let v1507 : BitVec 32 := Scalar.addi c0_i32_1130 v1506
  v1507.toNat
def k0_dev54 (d0 : Dev nD) : Nat :=
  let c0_i32_1145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1135 : BitVec 32 := 9#32
  let v1515 : BitVec 32 := Scalar.addi v2 c9_i32_1135
  let c16_i32_1136 : BitVec 32 := 16#32
  let c0_i32_1137 : BitVec 32 := 0#32
  let v1516 : BitVec 1 := Scalar.cmpi .eq c16_i32_1136 c0_i32_1137
  let c1_i32_1138 : BitVec 32 := 1#32
  let v1517 : BitVec 32 := Scalar.select v1516 c1_i32_1138 c16_i32_1136
  let v1518 : BitVec 32 := Scalar.remsi v1515 v1517
  let c0_i32_1140 : BitVec 32 := 0#32
  let v1520 : BitVec 1 := Scalar.cmpi .slt v1518 c0_i32_1140
  let c0_i32_1141 : BitVec 32 := 0#32
  let v1521 : BitVec 1 := Scalar.cmpi .slt v1517 c0_i32_1141
  let v1522 : BitVec 1 := Scalar.xori v1520 v1521
  let c0_i32_1139 : BitVec 32 := 0#32
  let v1519 : BitVec 1 := Scalar.cmpi .ne v1518 c0_i32_1139
  let v1523 : BitVec 1 := Scalar.andi v1522 v1519
  let v1524 : BitVec 32 := Scalar.addi v1518 v1517
  let v1525 : BitVec 32 := Scalar.select v1523 v1524 v1518
  let c1_i32_1144 : BitVec 32 := 1#32
  let v1526 : BitVec 32 := Scalar.muli v1525 c1_i32_1144
  let v1527 : BitVec 32 := Scalar.addi c0_i32_1145 v1526
  v1527.toNat
def k0_dev55 (d0 : Dev nD) : Nat :=
  let c0_i32_1160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1150 : BitVec 32 := 10#32
  let v1535 : BitVec 32 := Scalar.addi v2 c10_i32_1150
  let c16_i32_1151 : BitVec 32 := 16#32
  let c0_i32_1152 : BitVec 32 := 0#32
  let v1536 : BitVec 1 := Scalar.cmpi .eq c16_i32_1151 c0_i32_1152
  let c1_i32_1153 : BitVec 32 := 1#32
  let v1537 : BitVec 32 := Scalar.select v1536 c1_i32_1153 c16_i32_1151
  let v1538 : BitVec 32 := Scalar.remsi v1535 v1537
  let c0_i32_1155 : BitVec 32 := 0#32
  let v1540 : BitVec 1 := Scalar.cmpi .slt v1538 c0_i32_1155
  let c0_i32_1156 : BitVec 32 := 0#32
  let v1541 : BitVec 1 := Scalar.cmpi .slt v1537 c0_i32_1156
  let v1542 : BitVec 1 := Scalar.xori v1540 v1541
  let c0_i32_1154 : BitVec 32 := 0#32
  let v1539 : BitVec 1 := Scalar.cmpi .ne v1538 c0_i32_1154
  let v1543 : BitVec 1 := Scalar.andi v1542 v1539
  let v1544 : BitVec 32 := Scalar.addi v1538 v1537
  let v1545 : BitVec 32 := Scalar.select v1543 v1544 v1538
  let c1_i32_1159 : BitVec 32 := 1#32
  let v1546 : BitVec 32 := Scalar.muli v1545 c1_i32_1159
  let v1547 : BitVec 32 := Scalar.addi c0_i32_1160 v1546
  v1547.toNat
def k0_dev56 (d0 : Dev nD) : Nat :=
  let c0_i32_1175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1165 : BitVec 32 := 11#32
  let v1555 : BitVec 32 := Scalar.addi v2 c11_i32_1165
  let c16_i32_1166 : BitVec 32 := 16#32
  let c0_i32_1167 : BitVec 32 := 0#32
  let v1556 : BitVec 1 := Scalar.cmpi .eq c16_i32_1166 c0_i32_1167
  let c1_i32_1168 : BitVec 32 := 1#32
  let v1557 : BitVec 32 := Scalar.select v1556 c1_i32_1168 c16_i32_1166
  let v1558 : BitVec 32 := Scalar.remsi v1555 v1557
  let c0_i32_1170 : BitVec 32 := 0#32
  let v1560 : BitVec 1 := Scalar.cmpi .slt v1558 c0_i32_1170
  let c0_i32_1171 : BitVec 32 := 0#32
  let v1561 : BitVec 1 := Scalar.cmpi .slt v1557 c0_i32_1171
  let v1562 : BitVec 1 := Scalar.xori v1560 v1561
  let c0_i32_1169 : BitVec 32 := 0#32
  let v1559 : BitVec 1 := Scalar.cmpi .ne v1558 c0_i32_1169
  let v1563 : BitVec 1 := Scalar.andi v1562 v1559
  let v1564 : BitVec 32 := Scalar.addi v1558 v1557
  let v1565 : BitVec 32 := Scalar.select v1563 v1564 v1558
  let c1_i32_1174 : BitVec 32 := 1#32
  let v1566 : BitVec 32 := Scalar.muli v1565 c1_i32_1174
  let v1567 : BitVec 32 := Scalar.addi c0_i32_1175 v1566
  v1567.toNat
def k0_dev57 (d0 : Dev nD) : Nat :=
  let c0_i32_1190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1180 : BitVec 32 := 12#32
  let v1575 : BitVec 32 := Scalar.addi v2 c12_i32_1180
  let c16_i32_1181 : BitVec 32 := 16#32
  let c0_i32_1182 : BitVec 32 := 0#32
  let v1576 : BitVec 1 := Scalar.cmpi .eq c16_i32_1181 c0_i32_1182
  let c1_i32_1183 : BitVec 32 := 1#32
  let v1577 : BitVec 32 := Scalar.select v1576 c1_i32_1183 c16_i32_1181
  let v1578 : BitVec 32 := Scalar.remsi v1575 v1577
  let c0_i32_1185 : BitVec 32 := 0#32
  let v1580 : BitVec 1 := Scalar.cmpi .slt v1578 c0_i32_1185
  let c0_i32_1186 : BitVec 32 := 0#32
  let v1581 : BitVec 1 := Scalar.cmpi .slt v1577 c0_i32_1186
  let v1582 : BitVec 1 := Scalar.xori v1580 v1581
  let c0_i32_1184 : BitVec 32 := 0#32
  let v1579 : BitVec 1 := Scalar.cmpi .ne v1578 c0_i32_1184
  let v1583 : BitVec 1 := Scalar.andi v1582 v1579
  let v1584 : BitVec 32 := Scalar.addi v1578 v1577
  let v1585 : BitVec 32 := Scalar.select v1583 v1584 v1578
  let c1_i32_1189 : BitVec 32 := 1#32
  let v1586 : BitVec 32 := Scalar.muli v1585 c1_i32_1189
  let v1587 : BitVec 32 := Scalar.addi c0_i32_1190 v1586
  v1587.toNat
def k0_dev58 (d0 : Dev nD) : Nat :=
  let c0_i32_1205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1195 : BitVec 32 := 13#32
  let v1595 : BitVec 32 := Scalar.addi v2 c13_i32_1195
  let c16_i32_1196 : BitVec 32 := 16#32
  let c0_i32_1197 : BitVec 32 := 0#32
  let v1596 : BitVec 1 := Scalar.cmpi .eq c16_i32_1196 c0_i32_1197
  let c1_i32_1198 : BitVec 32 := 1#32
  let v1597 : BitVec 32 := Scalar.select v1596 c1_i32_1198 c16_i32_1196
  let v1598 : BitVec 32 := Scalar.remsi v1595 v1597
  let c0_i32_1200 : BitVec 32 := 0#32
  let v1600 : BitVec 1 := Scalar.cmpi .slt v1598 c0_i32_1200
  let c0_i32_1201 : BitVec 32 := 0#32
  let v1601 : BitVec 1 := Scalar.cmpi .slt v1597 c0_i32_1201
  let v1602 : BitVec 1 := Scalar.xori v1600 v1601
  let c0_i32_1199 : BitVec 32 := 0#32
  let v1599 : BitVec 1 := Scalar.cmpi .ne v1598 c0_i32_1199
  let v1603 : BitVec 1 := Scalar.andi v1602 v1599
  let v1604 : BitVec 32 := Scalar.addi v1598 v1597
  let v1605 : BitVec 32 := Scalar.select v1603 v1604 v1598
  let c1_i32_1204 : BitVec 32 := 1#32
  let v1606 : BitVec 32 := Scalar.muli v1605 c1_i32_1204
  let v1607 : BitVec 32 := Scalar.addi c0_i32_1205 v1606
  v1607.toNat
def k0_dev59 (d0 : Dev nD) : Nat :=
  let c0_i32_1220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1210 : BitVec 32 := 14#32
  let v1615 : BitVec 32 := Scalar.addi v2 c14_i32_1210
  let c16_i32_1211 : BitVec 32 := 16#32
  let c0_i32_1212 : BitVec 32 := 0#32
  let v1616 : BitVec 1 := Scalar.cmpi .eq c16_i32_1211 c0_i32_1212
  let c1_i32_1213 : BitVec 32 := 1#32
  let v1617 : BitVec 32 := Scalar.select v1616 c1_i32_1213 c16_i32_1211
  let v1618 : BitVec 32 := Scalar.remsi v1615 v1617
  let c0_i32_1215 : BitVec 32 := 0#32
  let v1620 : BitVec 1 := Scalar.cmpi .slt v1618 c0_i32_1215
  let c0_i32_1216 : BitVec 32 := 0#32
  let v1621 : BitVec 1 := Scalar.cmpi .slt v1617 c0_i32_1216
  let v1622 : BitVec 1 := Scalar.xori v1620 v1621
  let c0_i32_1214 : BitVec 32 := 0#32
  let v1619 : BitVec 1 := Scalar.cmpi .ne v1618 c0_i32_1214
  let v1623 : BitVec 1 := Scalar.andi v1622 v1619
  let v1624 : BitVec 32 := Scalar.addi v1618 v1617
  let v1625 : BitVec 32 := Scalar.select v1623 v1624 v1618
  let c1_i32_1219 : BitVec 32 := 1#32
  let v1626 : BitVec 32 := Scalar.muli v1625 c1_i32_1219
  let v1627 : BitVec 32 := Scalar.addi c0_i32_1220 v1626
  v1627.toNat
def k0_dev60 (d0 : Dev nD) : Nat :=
  let c0_i32_1235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1225 : BitVec 32 := 15#32
  let v1635 : BitVec 32 := Scalar.addi v2 c15_i32_1225
  let c16_i32_1226 : BitVec 32 := 16#32
  let c0_i32_1227 : BitVec 32 := 0#32
  let v1636 : BitVec 1 := Scalar.cmpi .eq c16_i32_1226 c0_i32_1227
  let c1_i32_1228 : BitVec 32 := 1#32
  let v1637 : BitVec 32 := Scalar.select v1636 c1_i32_1228 c16_i32_1226
  let v1638 : BitVec 32 := Scalar.remsi v1635 v1637
  let c0_i32_1230 : BitVec 32 := 0#32
  let v1640 : BitVec 1 := Scalar.cmpi .slt v1638 c0_i32_1230
  let c0_i32_1231 : BitVec 32 := 0#32
  let v1641 : BitVec 1 := Scalar.cmpi .slt v1637 c0_i32_1231
  let v1642 : BitVec 1 := Scalar.xori v1640 v1641
  let c0_i32_1229 : BitVec 32 := 0#32
  let v1639 : BitVec 1 := Scalar.cmpi .ne v1638 c0_i32_1229
  let v1643 : BitVec 1 := Scalar.andi v1642 v1639
  let v1644 : BitVec 32 := Scalar.addi v1638 v1637
  let v1645 : BitVec 32 := Scalar.select v1643 v1644 v1638
  let c1_i32_1234 : BitVec 32 := 1#32
  let v1646 : BitVec 32 := Scalar.muli v1645 c1_i32_1234
  let v1647 : BitVec 32 := Scalar.addi c0_i32_1235 v1646
  v1647.toNat
def k0_dev61 (d0 : Dev nD) : Nat :=
  let c0_i32_1550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1540 : BitVec 32 := 1#32
  let v2001 : BitVec 32 := Scalar.addi v2 c1_i32_1540
  let c16_i32_1541 : BitVec 32 := 16#32
  let c0_i32_1542 : BitVec 32 := 0#32
  let v2002 : BitVec 1 := Scalar.cmpi .eq c16_i32_1541 c0_i32_1542
  let c1_i32_1543 : BitVec 32 := 1#32
  let v2003 : BitVec 32 := Scalar.select v2002 c1_i32_1543 c16_i32_1541
  let v2004 : BitVec 32 := Scalar.remsi v2001 v2003
  let c0_i32_1545 : BitVec 32 := 0#32
  let v2006 : BitVec 1 := Scalar.cmpi .slt v2004 c0_i32_1545
  let c0_i32_1546 : BitVec 32 := 0#32
  let v2007 : BitVec 1 := Scalar.cmpi .slt v2003 c0_i32_1546
  let v2008 : BitVec 1 := Scalar.xori v2006 v2007
  let c0_i32_1544 : BitVec 32 := 0#32
  let v2005 : BitVec 1 := Scalar.cmpi .ne v2004 c0_i32_1544
  let v2009 : BitVec 1 := Scalar.andi v2008 v2005
  let v2010 : BitVec 32 := Scalar.addi v2004 v2003
  let v2011 : BitVec 32 := Scalar.select v2009 v2010 v2004
  let c1_i32_1549 : BitVec 32 := 1#32
  let v2012 : BitVec 32 := Scalar.muli v2011 c1_i32_1549
  let v2013 : BitVec 32 := Scalar.addi c0_i32_1550 v2012
  v2013.toNat
def k0_dev62 (d0 : Dev nD) : Nat :=
  let c0_i32_1565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1555 : BitVec 32 := 2#32
  let v2021 : BitVec 32 := Scalar.addi v2 c2_i32_1555
  let c16_i32_1556 : BitVec 32 := 16#32
  let c0_i32_1557 : BitVec 32 := 0#32
  let v2022 : BitVec 1 := Scalar.cmpi .eq c16_i32_1556 c0_i32_1557
  let c1_i32_1558 : BitVec 32 := 1#32
  let v2023 : BitVec 32 := Scalar.select v2022 c1_i32_1558 c16_i32_1556
  let v2024 : BitVec 32 := Scalar.remsi v2021 v2023
  let c0_i32_1560 : BitVec 32 := 0#32
  let v2026 : BitVec 1 := Scalar.cmpi .slt v2024 c0_i32_1560
  let c0_i32_1561 : BitVec 32 := 0#32
  let v2027 : BitVec 1 := Scalar.cmpi .slt v2023 c0_i32_1561
  let v2028 : BitVec 1 := Scalar.xori v2026 v2027
  let c0_i32_1559 : BitVec 32 := 0#32
  let v2025 : BitVec 1 := Scalar.cmpi .ne v2024 c0_i32_1559
  let v2029 : BitVec 1 := Scalar.andi v2028 v2025
  let v2030 : BitVec 32 := Scalar.addi v2024 v2023
  let v2031 : BitVec 32 := Scalar.select v2029 v2030 v2024
  let c1_i32_1564 : BitVec 32 := 1#32
  let v2032 : BitVec 32 := Scalar.muli v2031 c1_i32_1564
  let v2033 : BitVec 32 := Scalar.addi c0_i32_1565 v2032
  v2033.toNat
def k0_dev63 (d0 : Dev nD) : Nat :=
  let c0_i32_1580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1570 : BitVec 32 := 3#32
  let v2041 : BitVec 32 := Scalar.addi v2 c3_i32_1570
  let c16_i32_1571 : BitVec 32 := 16#32
  let c0_i32_1572 : BitVec 32 := 0#32
  let v2042 : BitVec 1 := Scalar.cmpi .eq c16_i32_1571 c0_i32_1572
  let c1_i32_1573 : BitVec 32 := 1#32
  let v2043 : BitVec 32 := Scalar.select v2042 c1_i32_1573 c16_i32_1571
  let v2044 : BitVec 32 := Scalar.remsi v2041 v2043
  let c0_i32_1575 : BitVec 32 := 0#32
  let v2046 : BitVec 1 := Scalar.cmpi .slt v2044 c0_i32_1575
  let c0_i32_1576 : BitVec 32 := 0#32
  let v2047 : BitVec 1 := Scalar.cmpi .slt v2043 c0_i32_1576
  let v2048 : BitVec 1 := Scalar.xori v2046 v2047
  let c0_i32_1574 : BitVec 32 := 0#32
  let v2045 : BitVec 1 := Scalar.cmpi .ne v2044 c0_i32_1574
  let v2049 : BitVec 1 := Scalar.andi v2048 v2045
  let v2050 : BitVec 32 := Scalar.addi v2044 v2043
  let v2051 : BitVec 32 := Scalar.select v2049 v2050 v2044
  let c1_i32_1579 : BitVec 32 := 1#32
  let v2052 : BitVec 32 := Scalar.muli v2051 c1_i32_1579
  let v2053 : BitVec 32 := Scalar.addi c0_i32_1580 v2052
  v2053.toNat
def k0_dev64 (d0 : Dev nD) : Nat :=
  let c0_i32_1595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1585 : BitVec 32 := 4#32
  let v2061 : BitVec 32 := Scalar.addi v2 c4_i32_1585
  let c16_i32_1586 : BitVec 32 := 16#32
  let c0_i32_1587 : BitVec 32 := 0#32
  let v2062 : BitVec 1 := Scalar.cmpi .eq c16_i32_1586 c0_i32_1587
  let c1_i32_1588 : BitVec 32 := 1#32
  let v2063 : BitVec 32 := Scalar.select v2062 c1_i32_1588 c16_i32_1586
  let v2064 : BitVec 32 := Scalar.remsi v2061 v2063
  let c0_i32_1590 : BitVec 32 := 0#32
  let v2066 : BitVec 1 := Scalar.cmpi .slt v2064 c0_i32_1590
  let c0_i32_1591 : BitVec 32 := 0#32
  let v2067 : BitVec 1 := Scalar.cmpi .slt v2063 c0_i32_1591
  let v2068 : BitVec 1 := Scalar.xori v2066 v2067
  let c0_i32_1589 : BitVec 32 := 0#32
  let v2065 : BitVec 1 := Scalar.cmpi .ne v2064 c0_i32_1589
  let v2069 : BitVec 1 := Scalar.andi v2068 v2065
  let v2070 : BitVec 32 := Scalar.addi v2064 v2063
  let v2071 : BitVec 32 := Scalar.select v2069 v2070 v2064
  let c1_i32_1594 : BitVec 32 := 1#32
  let v2072 : BitVec 32 := Scalar.muli v2071 c1_i32_1594
  let v2073 : BitVec 32 := Scalar.addi c0_i32_1595 v2072
  v2073.toNat
def k0_dev65 (d0 : Dev nD) : Nat :=
  let c0_i32_1610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1600 : BitVec 32 := 5#32
  let v2081 : BitVec 32 := Scalar.addi v2 c5_i32_1600
  let c16_i32_1601 : BitVec 32 := 16#32
  let c0_i32_1602 : BitVec 32 := 0#32
  let v2082 : BitVec 1 := Scalar.cmpi .eq c16_i32_1601 c0_i32_1602
  let c1_i32_1603 : BitVec 32 := 1#32
  let v2083 : BitVec 32 := Scalar.select v2082 c1_i32_1603 c16_i32_1601
  let v2084 : BitVec 32 := Scalar.remsi v2081 v2083
  let c0_i32_1605 : BitVec 32 := 0#32
  let v2086 : BitVec 1 := Scalar.cmpi .slt v2084 c0_i32_1605
  let c0_i32_1606 : BitVec 32 := 0#32
  let v2087 : BitVec 1 := Scalar.cmpi .slt v2083 c0_i32_1606
  let v2088 : BitVec 1 := Scalar.xori v2086 v2087
  let c0_i32_1604 : BitVec 32 := 0#32
  let v2085 : BitVec 1 := Scalar.cmpi .ne v2084 c0_i32_1604
  let v2089 : BitVec 1 := Scalar.andi v2088 v2085
  let v2090 : BitVec 32 := Scalar.addi v2084 v2083
  let v2091 : BitVec 32 := Scalar.select v2089 v2090 v2084
  let c1_i32_1609 : BitVec 32 := 1#32
  let v2092 : BitVec 32 := Scalar.muli v2091 c1_i32_1609
  let v2093 : BitVec 32 := Scalar.addi c0_i32_1610 v2092
  v2093.toNat
def k0_dev66 (d0 : Dev nD) : Nat :=
  let c0_i32_1625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1615 : BitVec 32 := 6#32
  let v2101 : BitVec 32 := Scalar.addi v2 c6_i32_1615
  let c16_i32_1616 : BitVec 32 := 16#32
  let c0_i32_1617 : BitVec 32 := 0#32
  let v2102 : BitVec 1 := Scalar.cmpi .eq c16_i32_1616 c0_i32_1617
  let c1_i32_1618 : BitVec 32 := 1#32
  let v2103 : BitVec 32 := Scalar.select v2102 c1_i32_1618 c16_i32_1616
  let v2104 : BitVec 32 := Scalar.remsi v2101 v2103
  let c0_i32_1620 : BitVec 32 := 0#32
  let v2106 : BitVec 1 := Scalar.cmpi .slt v2104 c0_i32_1620
  let c0_i32_1621 : BitVec 32 := 0#32
  let v2107 : BitVec 1 := Scalar.cmpi .slt v2103 c0_i32_1621
  let v2108 : BitVec 1 := Scalar.xori v2106 v2107
  let c0_i32_1619 : BitVec 32 := 0#32
  let v2105 : BitVec 1 := Scalar.cmpi .ne v2104 c0_i32_1619
  let v2109 : BitVec 1 := Scalar.andi v2108 v2105
  let v2110 : BitVec 32 := Scalar.addi v2104 v2103
  let v2111 : BitVec 32 := Scalar.select v2109 v2110 v2104
  let c1_i32_1624 : BitVec 32 := 1#32
  let v2112 : BitVec 32 := Scalar.muli v2111 c1_i32_1624
  let v2113 : BitVec 32 := Scalar.addi c0_i32_1625 v2112
  v2113.toNat
def k0_dev67 (d0 : Dev nD) : Nat :=
  let c0_i32_1640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1630 : BitVec 32 := 7#32
  let v2121 : BitVec 32 := Scalar.addi v2 c7_i32_1630
  let c16_i32_1631 : BitVec 32 := 16#32
  let c0_i32_1632 : BitVec 32 := 0#32
  let v2122 : BitVec 1 := Scalar.cmpi .eq c16_i32_1631 c0_i32_1632
  let c1_i32_1633 : BitVec 32 := 1#32
  let v2123 : BitVec 32 := Scalar.select v2122 c1_i32_1633 c16_i32_1631
  let v2124 : BitVec 32 := Scalar.remsi v2121 v2123
  let c0_i32_1635 : BitVec 32 := 0#32
  let v2126 : BitVec 1 := Scalar.cmpi .slt v2124 c0_i32_1635
  let c0_i32_1636 : BitVec 32 := 0#32
  let v2127 : BitVec 1 := Scalar.cmpi .slt v2123 c0_i32_1636
  let v2128 : BitVec 1 := Scalar.xori v2126 v2127
  let c0_i32_1634 : BitVec 32 := 0#32
  let v2125 : BitVec 1 := Scalar.cmpi .ne v2124 c0_i32_1634
  let v2129 : BitVec 1 := Scalar.andi v2128 v2125
  let v2130 : BitVec 32 := Scalar.addi v2124 v2123
  let v2131 : BitVec 32 := Scalar.select v2129 v2130 v2124
  let c1_i32_1639 : BitVec 32 := 1#32
  let v2132 : BitVec 32 := Scalar.muli v2131 c1_i32_1639
  let v2133 : BitVec 32 := Scalar.addi c0_i32_1640 v2132
  v2133.toNat
def k0_dev68 (d0 : Dev nD) : Nat :=
  let c0_i32_1655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1645 : BitVec 32 := 8#32
  let v2141 : BitVec 32 := Scalar.addi v2 c8_i32_1645
  let c16_i32_1646 : BitVec 32 := 16#32
  let c0_i32_1647 : BitVec 32 := 0#32
  let v2142 : BitVec 1 := Scalar.cmpi .eq c16_i32_1646 c0_i32_1647
  let c1_i32_1648 : BitVec 32 := 1#32
  let v2143 : BitVec 32 := Scalar.select v2142 c1_i32_1648 c16_i32_1646
  let v2144 : BitVec 32 := Scalar.remsi v2141 v2143
  let c0_i32_1650 : BitVec 32 := 0#32
  let v2146 : BitVec 1 := Scalar.cmpi .slt v2144 c0_i32_1650
  let c0_i32_1651 : BitVec 32 := 0#32
  let v2147 : BitVec 1 := Scalar.cmpi .slt v2143 c0_i32_1651
  let v2148 : BitVec 1 := Scalar.xori v2146 v2147
  let c0_i32_1649 : BitVec 32 := 0#32
  let v2145 : BitVec 1 := Scalar.cmpi .ne v2144 c0_i32_1649
  let v2149 : BitVec 1 := Scalar.andi v2148 v2145
  let v2150 : BitVec 32 := Scalar.addi v2144 v2143
  let v2151 : BitVec 32 := Scalar.select v2149 v2150 v2144
  let c1_i32_1654 : BitVec 32 := 1#32
  let v2152 : BitVec 32 := Scalar.muli v2151 c1_i32_1654
  let v2153 : BitVec 32 := Scalar.addi c0_i32_1655 v2152
  v2153.toNat
def k0_dev69 (d0 : Dev nD) : Nat :=
  let c0_i32_1670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1660 : BitVec 32 := 9#32
  let v2161 : BitVec 32 := Scalar.addi v2 c9_i32_1660
  let c16_i32_1661 : BitVec 32 := 16#32
  let c0_i32_1662 : BitVec 32 := 0#32
  let v2162 : BitVec 1 := Scalar.cmpi .eq c16_i32_1661 c0_i32_1662
  let c1_i32_1663 : BitVec 32 := 1#32
  let v2163 : BitVec 32 := Scalar.select v2162 c1_i32_1663 c16_i32_1661
  let v2164 : BitVec 32 := Scalar.remsi v2161 v2163
  let c0_i32_1665 : BitVec 32 := 0#32
  let v2166 : BitVec 1 := Scalar.cmpi .slt v2164 c0_i32_1665
  let c0_i32_1666 : BitVec 32 := 0#32
  let v2167 : BitVec 1 := Scalar.cmpi .slt v2163 c0_i32_1666
  let v2168 : BitVec 1 := Scalar.xori v2166 v2167
  let c0_i32_1664 : BitVec 32 := 0#32
  let v2165 : BitVec 1 := Scalar.cmpi .ne v2164 c0_i32_1664
  let v2169 : BitVec 1 := Scalar.andi v2168 v2165
  let v2170 : BitVec 32 := Scalar.addi v2164 v2163
  let v2171 : BitVec 32 := Scalar.select v2169 v2170 v2164
  let c1_i32_1669 : BitVec 32 := 1#32
  let v2172 : BitVec 32 := Scalar.muli v2171 c1_i32_1669
  let v2173 : BitVec 32 := Scalar.addi c0_i32_1670 v2172
  v2173.toNat
def k0_dev70 (d0 : Dev nD) : Nat :=
  let c0_i32_1685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1675 : BitVec 32 := 10#32
  let v2181 : BitVec 32 := Scalar.addi v2 c10_i32_1675
  let c16_i32_1676 : BitVec 32 := 16#32
  let c0_i32_1677 : BitVec 32 := 0#32
  let v2182 : BitVec 1 := Scalar.cmpi .eq c16_i32_1676 c0_i32_1677
  let c1_i32_1678 : BitVec 32 := 1#32
  let v2183 : BitVec 32 := Scalar.select v2182 c1_i32_1678 c16_i32_1676
  let v2184 : BitVec 32 := Scalar.remsi v2181 v2183
  let c0_i32_1680 : BitVec 32 := 0#32
  let v2186 : BitVec 1 := Scalar.cmpi .slt v2184 c0_i32_1680
  let c0_i32_1681 : BitVec 32 := 0#32
  let v2187 : BitVec 1 := Scalar.cmpi .slt v2183 c0_i32_1681
  let v2188 : BitVec 1 := Scalar.xori v2186 v2187
  let c0_i32_1679 : BitVec 32 := 0#32
  let v2185 : BitVec 1 := Scalar.cmpi .ne v2184 c0_i32_1679
  let v2189 : BitVec 1 := Scalar.andi v2188 v2185
  let v2190 : BitVec 32 := Scalar.addi v2184 v2183
  let v2191 : BitVec 32 := Scalar.select v2189 v2190 v2184
  let c1_i32_1684 : BitVec 32 := 1#32
  let v2192 : BitVec 32 := Scalar.muli v2191 c1_i32_1684
  let v2193 : BitVec 32 := Scalar.addi c0_i32_1685 v2192
  v2193.toNat
def k0_dev71 (d0 : Dev nD) : Nat :=
  let c0_i32_1700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1690 : BitVec 32 := 11#32
  let v2201 : BitVec 32 := Scalar.addi v2 c11_i32_1690
  let c16_i32_1691 : BitVec 32 := 16#32
  let c0_i32_1692 : BitVec 32 := 0#32
  let v2202 : BitVec 1 := Scalar.cmpi .eq c16_i32_1691 c0_i32_1692
  let c1_i32_1693 : BitVec 32 := 1#32
  let v2203 : BitVec 32 := Scalar.select v2202 c1_i32_1693 c16_i32_1691
  let v2204 : BitVec 32 := Scalar.remsi v2201 v2203
  let c0_i32_1695 : BitVec 32 := 0#32
  let v2206 : BitVec 1 := Scalar.cmpi .slt v2204 c0_i32_1695
  let c0_i32_1696 : BitVec 32 := 0#32
  let v2207 : BitVec 1 := Scalar.cmpi .slt v2203 c0_i32_1696
  let v2208 : BitVec 1 := Scalar.xori v2206 v2207
  let c0_i32_1694 : BitVec 32 := 0#32
  let v2205 : BitVec 1 := Scalar.cmpi .ne v2204 c0_i32_1694
  let v2209 : BitVec 1 := Scalar.andi v2208 v2205
  let v2210 : BitVec 32 := Scalar.addi v2204 v2203
  let v2211 : BitVec 32 := Scalar.select v2209 v2210 v2204
  let c1_i32_1699 : BitVec 32 := 1#32
  let v2212 : BitVec 32 := Scalar.muli v2211 c1_i32_1699
  let v2213 : BitVec 32 := Scalar.addi c0_i32_1700 v2212
  v2213.toNat
def k0_dev72 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1705 : BitVec 32 := 12#32
  let v2221 : BitVec 32 := Scalar.addi v2 c12_i32_1705
  let c16_i32_1706 : BitVec 32 := 16#32
  let c0_i32_1707 : BitVec 32 := 0#32
  let v2222 : BitVec 1 := Scalar.cmpi .eq c16_i32_1706 c0_i32_1707
  let c1_i32_1708 : BitVec 32 := 1#32
  let v2223 : BitVec 32 := Scalar.select v2222 c1_i32_1708 c16_i32_1706
  let v2224 : BitVec 32 := Scalar.remsi v2221 v2223
  let c0_i32_1710 : BitVec 32 := 0#32
  let v2226 : BitVec 1 := Scalar.cmpi .slt v2224 c0_i32_1710
  let c0_i32_1711 : BitVec 32 := 0#32
  let v2227 : BitVec 1 := Scalar.cmpi .slt v2223 c0_i32_1711
  let v2228 : BitVec 1 := Scalar.xori v2226 v2227
  let c0_i32_1709 : BitVec 32 := 0#32
  let v2225 : BitVec 1 := Scalar.cmpi .ne v2224 c0_i32_1709
  let v2229 : BitVec 1 := Scalar.andi v2228 v2225
  let v2230 : BitVec 32 := Scalar.addi v2224 v2223
  let v2231 : BitVec 32 := Scalar.select v2229 v2230 v2224
  let c1_i32_1714 : BitVec 32 := 1#32
  let v2232 : BitVec 32 := Scalar.muli v2231 c1_i32_1714
  let v2233 : BitVec 32 := Scalar.addi c0_i32_1715 v2232
  v2233.toNat
def k0_dev73 (d0 : Dev nD) : Nat :=
  let c0_i32_1730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1720 : BitVec 32 := 13#32
  let v2241 : BitVec 32 := Scalar.addi v2 c13_i32_1720
  let c16_i32_1721 : BitVec 32 := 16#32
  let c0_i32_1722 : BitVec 32 := 0#32
  let v2242 : BitVec 1 := Scalar.cmpi .eq c16_i32_1721 c0_i32_1722
  let c1_i32_1723 : BitVec 32 := 1#32
  let v2243 : BitVec 32 := Scalar.select v2242 c1_i32_1723 c16_i32_1721
  let v2244 : BitVec 32 := Scalar.remsi v2241 v2243
  let c0_i32_1725 : BitVec 32 := 0#32
  let v2246 : BitVec 1 := Scalar.cmpi .slt v2244 c0_i32_1725
  let c0_i32_1726 : BitVec 32 := 0#32
  let v2247 : BitVec 1 := Scalar.cmpi .slt v2243 c0_i32_1726
  let v2248 : BitVec 1 := Scalar.xori v2246 v2247
  let c0_i32_1724 : BitVec 32 := 0#32
  let v2245 : BitVec 1 := Scalar.cmpi .ne v2244 c0_i32_1724
  let v2249 : BitVec 1 := Scalar.andi v2248 v2245
  let v2250 : BitVec 32 := Scalar.addi v2244 v2243
  let v2251 : BitVec 32 := Scalar.select v2249 v2250 v2244
  let c1_i32_1729 : BitVec 32 := 1#32
  let v2252 : BitVec 32 := Scalar.muli v2251 c1_i32_1729
  let v2253 : BitVec 32 := Scalar.addi c0_i32_1730 v2252
  v2253.toNat
def k0_dev74 (d0 : Dev nD) : Nat :=
  let c0_i32_1745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1735 : BitVec 32 := 14#32
  let v2261 : BitVec 32 := Scalar.addi v2 c14_i32_1735
  let c16_i32_1736 : BitVec 32 := 16#32
  let c0_i32_1737 : BitVec 32 := 0#32
  let v2262 : BitVec 1 := Scalar.cmpi .eq c16_i32_1736 c0_i32_1737
  let c1_i32_1738 : BitVec 32 := 1#32
  let v2263 : BitVec 32 := Scalar.select v2262 c1_i32_1738 c16_i32_1736
  let v2264 : BitVec 32 := Scalar.remsi v2261 v2263
  let c0_i32_1740 : BitVec 32 := 0#32
  let v2266 : BitVec 1 := Scalar.cmpi .slt v2264 c0_i32_1740
  let c0_i32_1741 : BitVec 32 := 0#32
  let v2267 : BitVec 1 := Scalar.cmpi .slt v2263 c0_i32_1741
  let v2268 : BitVec 1 := Scalar.xori v2266 v2267
  let c0_i32_1739 : BitVec 32 := 0#32
  let v2265 : BitVec 1 := Scalar.cmpi .ne v2264 c0_i32_1739
  let v2269 : BitVec 1 := Scalar.andi v2268 v2265
  let v2270 : BitVec 32 := Scalar.addi v2264 v2263
  let v2271 : BitVec 32 := Scalar.select v2269 v2270 v2264
  let c1_i32_1744 : BitVec 32 := 1#32
  let v2272 : BitVec 32 := Scalar.muli v2271 c1_i32_1744
  let v2273 : BitVec 32 := Scalar.addi c0_i32_1745 v2272
  v2273.toNat
def k0_dev75 (d0 : Dev nD) : Nat :=
  let c0_i32_1760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1750 : BitVec 32 := 15#32
  let v2281 : BitVec 32 := Scalar.addi v2 c15_i32_1750
  let c16_i32_1751 : BitVec 32 := 16#32
  let c0_i32_1752 : BitVec 32 := 0#32
  let v2282 : BitVec 1 := Scalar.cmpi .eq c16_i32_1751 c0_i32_1752
  let c1_i32_1753 : BitVec 32 := 1#32
  let v2283 : BitVec 32 := Scalar.select v2282 c1_i32_1753 c16_i32_1751
  let v2284 : BitVec 32 := Scalar.remsi v2281 v2283
  let c0_i32_1755 : BitVec 32 := 0#32
  let v2286 : BitVec 1 := Scalar.cmpi .slt v2284 c0_i32_1755
  let c0_i32_1756 : BitVec 32 := 0#32
  let v2287 : BitVec 1 := Scalar.cmpi .slt v2283 c0_i32_1756
  let v2288 : BitVec 1 := Scalar.xori v2286 v2287
  let c0_i32_1754 : BitVec 32 := 0#32
  let v2285 : BitVec 1 := Scalar.cmpi .ne v2284 c0_i32_1754
  let v2289 : BitVec 1 := Scalar.andi v2288 v2285
  let v2290 : BitVec 32 := Scalar.addi v2284 v2283
  let v2291 : BitVec 32 := Scalar.select v2289 v2290 v2284
  let c1_i32_1759 : BitVec 32 := 1#32
  let v2292 : BitVec 32 := Scalar.muli v2291 c1_i32_1759
  let v2293 : BitVec 32 := Scalar.addi c0_i32_1760 v2292
  v2293.toNat
def k0_dev76 (d0 : Dev nD) : Nat :=
  let c0_i32_2825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2815 : BitVec 32 := 1#32
  let v3336 : BitVec 32 := Scalar.addi v2 c1_i32_2815
  let c16_i32_2816 : BitVec 32 := 16#32
  let c0_i32_2817 : BitVec 32 := 0#32
  let v3337 : BitVec 1 := Scalar.cmpi .eq c16_i32_2816 c0_i32_2817
  let c1_i32_2818 : BitVec 32 := 1#32
  let v3338 : BitVec 32 := Scalar.select v3337 c1_i32_2818 c16_i32_2816
  let v3339 : BitVec 32 := Scalar.remsi v3336 v3338
  let c0_i32_2820 : BitVec 32 := 0#32
  let v3341 : BitVec 1 := Scalar.cmpi .slt v3339 c0_i32_2820
  let c0_i32_2821 : BitVec 32 := 0#32
  let v3342 : BitVec 1 := Scalar.cmpi .slt v3338 c0_i32_2821
  let v3343 : BitVec 1 := Scalar.xori v3341 v3342
  let c0_i32_2819 : BitVec 32 := 0#32
  let v3340 : BitVec 1 := Scalar.cmpi .ne v3339 c0_i32_2819
  let v3344 : BitVec 1 := Scalar.andi v3343 v3340
  let v3345 : BitVec 32 := Scalar.addi v3339 v3338
  let v3346 : BitVec 32 := Scalar.select v3344 v3345 v3339
  let c1_i32_2824 : BitVec 32 := 1#32
  let v3347 : BitVec 32 := Scalar.muli v3346 c1_i32_2824
  let v3348 : BitVec 32 := Scalar.addi c0_i32_2825 v3347
  v3348.toNat
def k0_dev77 (d0 : Dev nD) : Nat :=
  let c0_i32_2840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2830 : BitVec 32 := 2#32
  let v3357 : BitVec 32 := Scalar.addi v2 c2_i32_2830
  let c16_i32_2831 : BitVec 32 := 16#32
  let c0_i32_2832 : BitVec 32 := 0#32
  let v3358 : BitVec 1 := Scalar.cmpi .eq c16_i32_2831 c0_i32_2832
  let c1_i32_2833 : BitVec 32 := 1#32
  let v3359 : BitVec 32 := Scalar.select v3358 c1_i32_2833 c16_i32_2831
  let v3360 : BitVec 32 := Scalar.remsi v3357 v3359
  let c0_i32_2835 : BitVec 32 := 0#32
  let v3362 : BitVec 1 := Scalar.cmpi .slt v3360 c0_i32_2835
  let c0_i32_2836 : BitVec 32 := 0#32
  let v3363 : BitVec 1 := Scalar.cmpi .slt v3359 c0_i32_2836
  let v3364 : BitVec 1 := Scalar.xori v3362 v3363
  let c0_i32_2834 : BitVec 32 := 0#32
  let v3361 : BitVec 1 := Scalar.cmpi .ne v3360 c0_i32_2834
  let v3365 : BitVec 1 := Scalar.andi v3364 v3361
  let v3366 : BitVec 32 := Scalar.addi v3360 v3359
  let v3367 : BitVec 32 := Scalar.select v3365 v3366 v3360
  let c1_i32_2839 : BitVec 32 := 1#32
  let v3368 : BitVec 32 := Scalar.muli v3367 c1_i32_2839
  let v3369 : BitVec 32 := Scalar.addi c0_i32_2840 v3368
  v3369.toNat
def k0_dev78 (d0 : Dev nD) : Nat :=
  let c0_i32_2855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2845 : BitVec 32 := 3#32
  let v3378 : BitVec 32 := Scalar.addi v2 c3_i32_2845
  let c16_i32_2846 : BitVec 32 := 16#32
  let c0_i32_2847 : BitVec 32 := 0#32
  let v3379 : BitVec 1 := Scalar.cmpi .eq c16_i32_2846 c0_i32_2847
  let c1_i32_2848 : BitVec 32 := 1#32
  let v3380 : BitVec 32 := Scalar.select v3379 c1_i32_2848 c16_i32_2846
  let v3381 : BitVec 32 := Scalar.remsi v3378 v3380
  let c0_i32_2850 : BitVec 32 := 0#32
  let v3383 : BitVec 1 := Scalar.cmpi .slt v3381 c0_i32_2850
  let c0_i32_2851 : BitVec 32 := 0#32
  let v3384 : BitVec 1 := Scalar.cmpi .slt v3380 c0_i32_2851
  let v3385 : BitVec 1 := Scalar.xori v3383 v3384
  let c0_i32_2849 : BitVec 32 := 0#32
  let v3382 : BitVec 1 := Scalar.cmpi .ne v3381 c0_i32_2849
  let v3386 : BitVec 1 := Scalar.andi v3385 v3382
  let v3387 : BitVec 32 := Scalar.addi v3381 v3380
  let v3388 : BitVec 32 := Scalar.select v3386 v3387 v3381
  let c1_i32_2854 : BitVec 32 := 1#32
  let v3389 : BitVec 32 := Scalar.muli v3388 c1_i32_2854
  let v3390 : BitVec 32 := Scalar.addi c0_i32_2855 v3389
  v3390.toNat
def k0_dev79 (d0 : Dev nD) : Nat :=
  let c0_i32_2870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2860 : BitVec 32 := 4#32
  let v3399 : BitVec 32 := Scalar.addi v2 c4_i32_2860
  let c16_i32_2861 : BitVec 32 := 16#32
  let c0_i32_2862 : BitVec 32 := 0#32
  let v3400 : BitVec 1 := Scalar.cmpi .eq c16_i32_2861 c0_i32_2862
  let c1_i32_2863 : BitVec 32 := 1#32
  let v3401 : BitVec 32 := Scalar.select v3400 c1_i32_2863 c16_i32_2861
  let v3402 : BitVec 32 := Scalar.remsi v3399 v3401
  let c0_i32_2865 : BitVec 32 := 0#32
  let v3404 : BitVec 1 := Scalar.cmpi .slt v3402 c0_i32_2865
  let c0_i32_2866 : BitVec 32 := 0#32
  let v3405 : BitVec 1 := Scalar.cmpi .slt v3401 c0_i32_2866
  let v3406 : BitVec 1 := Scalar.xori v3404 v3405
  let c0_i32_2864 : BitVec 32 := 0#32
  let v3403 : BitVec 1 := Scalar.cmpi .ne v3402 c0_i32_2864
  let v3407 : BitVec 1 := Scalar.andi v3406 v3403
  let v3408 : BitVec 32 := Scalar.addi v3402 v3401
  let v3409 : BitVec 32 := Scalar.select v3407 v3408 v3402
  let c1_i32_2869 : BitVec 32 := 1#32
  let v3410 : BitVec 32 := Scalar.muli v3409 c1_i32_2869
  let v3411 : BitVec 32 := Scalar.addi c0_i32_2870 v3410
  v3411.toNat
def k0_dev80 (d0 : Dev nD) : Nat :=
  let c0_i32_2885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2875 : BitVec 32 := 5#32
  let v3420 : BitVec 32 := Scalar.addi v2 c5_i32_2875
  let c16_i32_2876 : BitVec 32 := 16#32
  let c0_i32_2877 : BitVec 32 := 0#32
  let v3421 : BitVec 1 := Scalar.cmpi .eq c16_i32_2876 c0_i32_2877
  let c1_i32_2878 : BitVec 32 := 1#32
  let v3422 : BitVec 32 := Scalar.select v3421 c1_i32_2878 c16_i32_2876
  let v3423 : BitVec 32 := Scalar.remsi v3420 v3422
  let c0_i32_2880 : BitVec 32 := 0#32
  let v3425 : BitVec 1 := Scalar.cmpi .slt v3423 c0_i32_2880
  let c0_i32_2881 : BitVec 32 := 0#32
  let v3426 : BitVec 1 := Scalar.cmpi .slt v3422 c0_i32_2881
  let v3427 : BitVec 1 := Scalar.xori v3425 v3426
  let c0_i32_2879 : BitVec 32 := 0#32
  let v3424 : BitVec 1 := Scalar.cmpi .ne v3423 c0_i32_2879
  let v3428 : BitVec 1 := Scalar.andi v3427 v3424
  let v3429 : BitVec 32 := Scalar.addi v3423 v3422
  let v3430 : BitVec 32 := Scalar.select v3428 v3429 v3423
  let c1_i32_2884 : BitVec 32 := 1#32
  let v3431 : BitVec 32 := Scalar.muli v3430 c1_i32_2884
  let v3432 : BitVec 32 := Scalar.addi c0_i32_2885 v3431
  v3432.toNat
def k0_dev81 (d0 : Dev nD) : Nat :=
  let c0_i32_2900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2890 : BitVec 32 := 6#32
  let v3441 : BitVec 32 := Scalar.addi v2 c6_i32_2890
  let c16_i32_2891 : BitVec 32 := 16#32
  let c0_i32_2892 : BitVec 32 := 0#32
  let v3442 : BitVec 1 := Scalar.cmpi .eq c16_i32_2891 c0_i32_2892
  let c1_i32_2893 : BitVec 32 := 1#32
  let v3443 : BitVec 32 := Scalar.select v3442 c1_i32_2893 c16_i32_2891
  let v3444 : BitVec 32 := Scalar.remsi v3441 v3443
  let c0_i32_2895 : BitVec 32 := 0#32
  let v3446 : BitVec 1 := Scalar.cmpi .slt v3444 c0_i32_2895
  let c0_i32_2896 : BitVec 32 := 0#32
  let v3447 : BitVec 1 := Scalar.cmpi .slt v3443 c0_i32_2896
  let v3448 : BitVec 1 := Scalar.xori v3446 v3447
  let c0_i32_2894 : BitVec 32 := 0#32
  let v3445 : BitVec 1 := Scalar.cmpi .ne v3444 c0_i32_2894
  let v3449 : BitVec 1 := Scalar.andi v3448 v3445
  let v3450 : BitVec 32 := Scalar.addi v3444 v3443
  let v3451 : BitVec 32 := Scalar.select v3449 v3450 v3444
  let c1_i32_2899 : BitVec 32 := 1#32
  let v3452 : BitVec 32 := Scalar.muli v3451 c1_i32_2899
  let v3453 : BitVec 32 := Scalar.addi c0_i32_2900 v3452
  v3453.toNat
def k0_dev82 (d0 : Dev nD) : Nat :=
  let c0_i32_2915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2905 : BitVec 32 := 7#32
  let v3462 : BitVec 32 := Scalar.addi v2 c7_i32_2905
  let c16_i32_2906 : BitVec 32 := 16#32
  let c0_i32_2907 : BitVec 32 := 0#32
  let v3463 : BitVec 1 := Scalar.cmpi .eq c16_i32_2906 c0_i32_2907
  let c1_i32_2908 : BitVec 32 := 1#32
  let v3464 : BitVec 32 := Scalar.select v3463 c1_i32_2908 c16_i32_2906
  let v3465 : BitVec 32 := Scalar.remsi v3462 v3464
  let c0_i32_2910 : BitVec 32 := 0#32
  let v3467 : BitVec 1 := Scalar.cmpi .slt v3465 c0_i32_2910
  let c0_i32_2911 : BitVec 32 := 0#32
  let v3468 : BitVec 1 := Scalar.cmpi .slt v3464 c0_i32_2911
  let v3469 : BitVec 1 := Scalar.xori v3467 v3468
  let c0_i32_2909 : BitVec 32 := 0#32
  let v3466 : BitVec 1 := Scalar.cmpi .ne v3465 c0_i32_2909
  let v3470 : BitVec 1 := Scalar.andi v3469 v3466
  let v3471 : BitVec 32 := Scalar.addi v3465 v3464
  let v3472 : BitVec 32 := Scalar.select v3470 v3471 v3465
  let c1_i32_2914 : BitVec 32 := 1#32
  let v3473 : BitVec 32 := Scalar.muli v3472 c1_i32_2914
  let v3474 : BitVec 32 := Scalar.addi c0_i32_2915 v3473
  v3474.toNat
def k0_dev83 (d0 : Dev nD) : Nat :=
  let c0_i32_2930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2920 : BitVec 32 := 8#32
  let v3483 : BitVec 32 := Scalar.addi v2 c8_i32_2920
  let c16_i32_2921 : BitVec 32 := 16#32
  let c0_i32_2922 : BitVec 32 := 0#32
  let v3484 : BitVec 1 := Scalar.cmpi .eq c16_i32_2921 c0_i32_2922
  let c1_i32_2923 : BitVec 32 := 1#32
  let v3485 : BitVec 32 := Scalar.select v3484 c1_i32_2923 c16_i32_2921
  let v3486 : BitVec 32 := Scalar.remsi v3483 v3485
  let c0_i32_2925 : BitVec 32 := 0#32
  let v3488 : BitVec 1 := Scalar.cmpi .slt v3486 c0_i32_2925
  let c0_i32_2926 : BitVec 32 := 0#32
  let v3489 : BitVec 1 := Scalar.cmpi .slt v3485 c0_i32_2926
  let v3490 : BitVec 1 := Scalar.xori v3488 v3489
  let c0_i32_2924 : BitVec 32 := 0#32
  let v3487 : BitVec 1 := Scalar.cmpi .ne v3486 c0_i32_2924
  let v3491 : BitVec 1 := Scalar.andi v3490 v3487
  let v3492 : BitVec 32 := Scalar.addi v3486 v3485
  let v3493 : BitVec 32 := Scalar.select v3491 v3492 v3486
  let c1_i32_2929 : BitVec 32 := 1#32
  let v3494 : BitVec 32 := Scalar.muli v3493 c1_i32_2929
  let v3495 : BitVec 32 := Scalar.addi c0_i32_2930 v3494
  v3495.toNat
def k0_dev84 (d0 : Dev nD) : Nat :=
  let c0_i32_2945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2935 : BitVec 32 := 9#32
  let v3504 : BitVec 32 := Scalar.addi v2 c9_i32_2935
  let c16_i32_2936 : BitVec 32 := 16#32
  let c0_i32_2937 : BitVec 32 := 0#32
  let v3505 : BitVec 1 := Scalar.cmpi .eq c16_i32_2936 c0_i32_2937
  let c1_i32_2938 : BitVec 32 := 1#32
  let v3506 : BitVec 32 := Scalar.select v3505 c1_i32_2938 c16_i32_2936
  let v3507 : BitVec 32 := Scalar.remsi v3504 v3506
  let c0_i32_2940 : BitVec 32 := 0#32
  let v3509 : BitVec 1 := Scalar.cmpi .slt v3507 c0_i32_2940
  let c0_i32_2941 : BitVec 32 := 0#32
  let v3510 : BitVec 1 := Scalar.cmpi .slt v3506 c0_i32_2941
  let v3511 : BitVec 1 := Scalar.xori v3509 v3510
  let c0_i32_2939 : BitVec 32 := 0#32
  let v3508 : BitVec 1 := Scalar.cmpi .ne v3507 c0_i32_2939
  let v3512 : BitVec 1 := Scalar.andi v3511 v3508
  let v3513 : BitVec 32 := Scalar.addi v3507 v3506
  let v3514 : BitVec 32 := Scalar.select v3512 v3513 v3507
  let c1_i32_2944 : BitVec 32 := 1#32
  let v3515 : BitVec 32 := Scalar.muli v3514 c1_i32_2944
  let v3516 : BitVec 32 := Scalar.addi c0_i32_2945 v3515
  v3516.toNat
def k0_dev85 (d0 : Dev nD) : Nat :=
  let c0_i32_2960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2950 : BitVec 32 := 10#32
  let v3525 : BitVec 32 := Scalar.addi v2 c10_i32_2950
  let c16_i32_2951 : BitVec 32 := 16#32
  let c0_i32_2952 : BitVec 32 := 0#32
  let v3526 : BitVec 1 := Scalar.cmpi .eq c16_i32_2951 c0_i32_2952
  let c1_i32_2953 : BitVec 32 := 1#32
  let v3527 : BitVec 32 := Scalar.select v3526 c1_i32_2953 c16_i32_2951
  let v3528 : BitVec 32 := Scalar.remsi v3525 v3527
  let c0_i32_2955 : BitVec 32 := 0#32
  let v3530 : BitVec 1 := Scalar.cmpi .slt v3528 c0_i32_2955
  let c0_i32_2956 : BitVec 32 := 0#32
  let v3531 : BitVec 1 := Scalar.cmpi .slt v3527 c0_i32_2956
  let v3532 : BitVec 1 := Scalar.xori v3530 v3531
  let c0_i32_2954 : BitVec 32 := 0#32
  let v3529 : BitVec 1 := Scalar.cmpi .ne v3528 c0_i32_2954
  let v3533 : BitVec 1 := Scalar.andi v3532 v3529
  let v3534 : BitVec 32 := Scalar.addi v3528 v3527
  let v3535 : BitVec 32 := Scalar.select v3533 v3534 v3528
  let c1_i32_2959 : BitVec 32 := 1#32
  let v3536 : BitVec 32 := Scalar.muli v3535 c1_i32_2959
  let v3537 : BitVec 32 := Scalar.addi c0_i32_2960 v3536
  v3537.toNat
def k0_dev86 (d0 : Dev nD) : Nat :=
  let c0_i32_2975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2965 : BitVec 32 := 11#32
  let v3546 : BitVec 32 := Scalar.addi v2 c11_i32_2965
  let c16_i32_2966 : BitVec 32 := 16#32
  let c0_i32_2967 : BitVec 32 := 0#32
  let v3547 : BitVec 1 := Scalar.cmpi .eq c16_i32_2966 c0_i32_2967
  let c1_i32_2968 : BitVec 32 := 1#32
  let v3548 : BitVec 32 := Scalar.select v3547 c1_i32_2968 c16_i32_2966
  let v3549 : BitVec 32 := Scalar.remsi v3546 v3548
  let c0_i32_2970 : BitVec 32 := 0#32
  let v3551 : BitVec 1 := Scalar.cmpi .slt v3549 c0_i32_2970
  let c0_i32_2971 : BitVec 32 := 0#32
  let v3552 : BitVec 1 := Scalar.cmpi .slt v3548 c0_i32_2971
  let v3553 : BitVec 1 := Scalar.xori v3551 v3552
  let c0_i32_2969 : BitVec 32 := 0#32
  let v3550 : BitVec 1 := Scalar.cmpi .ne v3549 c0_i32_2969
  let v3554 : BitVec 1 := Scalar.andi v3553 v3550
  let v3555 : BitVec 32 := Scalar.addi v3549 v3548
  let v3556 : BitVec 32 := Scalar.select v3554 v3555 v3549
  let c1_i32_2974 : BitVec 32 := 1#32
  let v3557 : BitVec 32 := Scalar.muli v3556 c1_i32_2974
  let v3558 : BitVec 32 := Scalar.addi c0_i32_2975 v3557
  v3558.toNat
def k0_dev87 (d0 : Dev nD) : Nat :=
  let c0_i32_2990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2980 : BitVec 32 := 12#32
  let v3567 : BitVec 32 := Scalar.addi v2 c12_i32_2980
  let c16_i32_2981 : BitVec 32 := 16#32
  let c0_i32_2982 : BitVec 32 := 0#32
  let v3568 : BitVec 1 := Scalar.cmpi .eq c16_i32_2981 c0_i32_2982
  let c1_i32_2983 : BitVec 32 := 1#32
  let v3569 : BitVec 32 := Scalar.select v3568 c1_i32_2983 c16_i32_2981
  let v3570 : BitVec 32 := Scalar.remsi v3567 v3569
  let c0_i32_2985 : BitVec 32 := 0#32
  let v3572 : BitVec 1 := Scalar.cmpi .slt v3570 c0_i32_2985
  let c0_i32_2986 : BitVec 32 := 0#32
  let v3573 : BitVec 1 := Scalar.cmpi .slt v3569 c0_i32_2986
  let v3574 : BitVec 1 := Scalar.xori v3572 v3573
  let c0_i32_2984 : BitVec 32 := 0#32
  let v3571 : BitVec 1 := Scalar.cmpi .ne v3570 c0_i32_2984
  let v3575 : BitVec 1 := Scalar.andi v3574 v3571
  let v3576 : BitVec 32 := Scalar.addi v3570 v3569
  let v3577 : BitVec 32 := Scalar.select v3575 v3576 v3570
  let c1_i32_2989 : BitVec 32 := 1#32
  let v3578 : BitVec 32 := Scalar.muli v3577 c1_i32_2989
  let v3579 : BitVec 32 := Scalar.addi c0_i32_2990 v3578
  v3579.toNat
def k0_dev88 (d0 : Dev nD) : Nat :=
  let c0_i32_3005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2995 : BitVec 32 := 13#32
  let v3588 : BitVec 32 := Scalar.addi v2 c13_i32_2995
  let c16_i32_2996 : BitVec 32 := 16#32
  let c0_i32_2997 : BitVec 32 := 0#32
  let v3589 : BitVec 1 := Scalar.cmpi .eq c16_i32_2996 c0_i32_2997
  let c1_i32_2998 : BitVec 32 := 1#32
  let v3590 : BitVec 32 := Scalar.select v3589 c1_i32_2998 c16_i32_2996
  let v3591 : BitVec 32 := Scalar.remsi v3588 v3590
  let c0_i32_3000 : BitVec 32 := 0#32
  let v3593 : BitVec 1 := Scalar.cmpi .slt v3591 c0_i32_3000
  let c0_i32_3001 : BitVec 32 := 0#32
  let v3594 : BitVec 1 := Scalar.cmpi .slt v3590 c0_i32_3001
  let v3595 : BitVec 1 := Scalar.xori v3593 v3594
  let c0_i32_2999 : BitVec 32 := 0#32
  let v3592 : BitVec 1 := Scalar.cmpi .ne v3591 c0_i32_2999
  let v3596 : BitVec 1 := Scalar.andi v3595 v3592
  let v3597 : BitVec 32 := Scalar.addi v3591 v3590
  let v3598 : BitVec 32 := Scalar.select v3596 v3597 v3591
  let c1_i32_3004 : BitVec 32 := 1#32
  let v3599 : BitVec 32 := Scalar.muli v3598 c1_i32_3004
  let v3600 : BitVec 32 := Scalar.addi c0_i32_3005 v3599
  v3600.toNat
def k0_dev89 (d0 : Dev nD) : Nat :=
  let c0_i32_3020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3010 : BitVec 32 := 14#32
  let v3609 : BitVec 32 := Scalar.addi v2 c14_i32_3010
  let c16_i32_3011 : BitVec 32 := 16#32
  let c0_i32_3012 : BitVec 32 := 0#32
  let v3610 : BitVec 1 := Scalar.cmpi .eq c16_i32_3011 c0_i32_3012
  let c1_i32_3013 : BitVec 32 := 1#32
  let v3611 : BitVec 32 := Scalar.select v3610 c1_i32_3013 c16_i32_3011
  let v3612 : BitVec 32 := Scalar.remsi v3609 v3611
  let c0_i32_3015 : BitVec 32 := 0#32
  let v3614 : BitVec 1 := Scalar.cmpi .slt v3612 c0_i32_3015
  let c0_i32_3016 : BitVec 32 := 0#32
  let v3615 : BitVec 1 := Scalar.cmpi .slt v3611 c0_i32_3016
  let v3616 : BitVec 1 := Scalar.xori v3614 v3615
  let c0_i32_3014 : BitVec 32 := 0#32
  let v3613 : BitVec 1 := Scalar.cmpi .ne v3612 c0_i32_3014
  let v3617 : BitVec 1 := Scalar.andi v3616 v3613
  let v3618 : BitVec 32 := Scalar.addi v3612 v3611
  let v3619 : BitVec 32 := Scalar.select v3617 v3618 v3612
  let c1_i32_3019 : BitVec 32 := 1#32
  let v3620 : BitVec 32 := Scalar.muli v3619 c1_i32_3019
  let v3621 : BitVec 32 := Scalar.addi c0_i32_3020 v3620
  v3621.toNat
def k0_dev90 (d0 : Dev nD) : Nat :=
  let c0_i32_3035 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_3025 : BitVec 32 := 15#32
  let v3630 : BitVec 32 := Scalar.addi v2 c15_i32_3025
  let c16_i32_3026 : BitVec 32 := 16#32
  let c0_i32_3027 : BitVec 32 := 0#32
  let v3631 : BitVec 1 := Scalar.cmpi .eq c16_i32_3026 c0_i32_3027
  let c1_i32_3028 : BitVec 32 := 1#32
  let v3632 : BitVec 32 := Scalar.select v3631 c1_i32_3028 c16_i32_3026
  let v3633 : BitVec 32 := Scalar.remsi v3630 v3632
  let c0_i32_3030 : BitVec 32 := 0#32
  let v3635 : BitVec 1 := Scalar.cmpi .slt v3633 c0_i32_3030
  let c0_i32_3031 : BitVec 32 := 0#32
  let v3636 : BitVec 1 := Scalar.cmpi .slt v3632 c0_i32_3031
  let v3637 : BitVec 1 := Scalar.xori v3635 v3636
  let c0_i32_3029 : BitVec 32 := 0#32
  let v3634 : BitVec 1 := Scalar.cmpi .ne v3633 c0_i32_3029
  let v3638 : BitVec 1 := Scalar.andi v3637 v3634
  let v3639 : BitVec 32 := Scalar.addi v3633 v3632
  let v3640 : BitVec 32 := Scalar.select v3638 v3639 v3633
  let c1_i32_3034 : BitVec 32 := 1#32
  let v3641 : BitVec 32 := Scalar.muli v3640 c1_i32_3034
  let v3642 : BitVec 32 := Scalar.addi c0_i32_3035 v3641
  v3642.toNat
def k0_dev91 (d0 : Dev nD) : Nat :=
  let c0_i32_3107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3097 : BitVec 32 := 1#32
  let v3724 : BitVec 32 := Scalar.addi v2 c1_i32_3097
  let c16_i32_3098 : BitVec 32 := 16#32
  let c0_i32_3099 : BitVec 32 := 0#32
  let v3725 : BitVec 1 := Scalar.cmpi .eq c16_i32_3098 c0_i32_3099
  let c1_i32_3100 : BitVec 32 := 1#32
  let v3726 : BitVec 32 := Scalar.select v3725 c1_i32_3100 c16_i32_3098
  let v3727 : BitVec 32 := Scalar.remsi v3724 v3726
  let c0_i32_3102 : BitVec 32 := 0#32
  let v3729 : BitVec 1 := Scalar.cmpi .slt v3727 c0_i32_3102
  let c0_i32_3103 : BitVec 32 := 0#32
  let v3730 : BitVec 1 := Scalar.cmpi .slt v3726 c0_i32_3103
  let v3731 : BitVec 1 := Scalar.xori v3729 v3730
  let c0_i32_3101 : BitVec 32 := 0#32
  let v3728 : BitVec 1 := Scalar.cmpi .ne v3727 c0_i32_3101
  let v3732 : BitVec 1 := Scalar.andi v3731 v3728
  let v3733 : BitVec 32 := Scalar.addi v3727 v3726
  let v3734 : BitVec 32 := Scalar.select v3732 v3733 v3727
  let c1_i32_3106 : BitVec 32 := 1#32
  let v3735 : BitVec 32 := Scalar.muli v3734 c1_i32_3106
  let v3736 : BitVec 32 := Scalar.addi c0_i32_3107 v3735
  v3736.toNat
def k0_dev92 (d0 : Dev nD) : Nat :=
  let c0_i32_3122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3112 : BitVec 32 := 2#32
  let v3745 : BitVec 32 := Scalar.addi v2 c2_i32_3112
  let c16_i32_3113 : BitVec 32 := 16#32
  let c0_i32_3114 : BitVec 32 := 0#32
  let v3746 : BitVec 1 := Scalar.cmpi .eq c16_i32_3113 c0_i32_3114
  let c1_i32_3115 : BitVec 32 := 1#32
  let v3747 : BitVec 32 := Scalar.select v3746 c1_i32_3115 c16_i32_3113
  let v3748 : BitVec 32 := Scalar.remsi v3745 v3747
  let c0_i32_3117 : BitVec 32 := 0#32
  let v3750 : BitVec 1 := Scalar.cmpi .slt v3748 c0_i32_3117
  let c0_i32_3118 : BitVec 32 := 0#32
  let v3751 : BitVec 1 := Scalar.cmpi .slt v3747 c0_i32_3118
  let v3752 : BitVec 1 := Scalar.xori v3750 v3751
  let c0_i32_3116 : BitVec 32 := 0#32
  let v3749 : BitVec 1 := Scalar.cmpi .ne v3748 c0_i32_3116
  let v3753 : BitVec 1 := Scalar.andi v3752 v3749
  let v3754 : BitVec 32 := Scalar.addi v3748 v3747
  let v3755 : BitVec 32 := Scalar.select v3753 v3754 v3748
  let c1_i32_3121 : BitVec 32 := 1#32
  let v3756 : BitVec 32 := Scalar.muli v3755 c1_i32_3121
  let v3757 : BitVec 32 := Scalar.addi c0_i32_3122 v3756
  v3757.toNat
def k0_dev93 (d0 : Dev nD) : Nat :=
  let c0_i32_3137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_3127 : BitVec 32 := 3#32
  let v3766 : BitVec 32 := Scalar.addi v2 c3_i32_3127
  let c16_i32_3128 : BitVec 32 := 16#32
  let c0_i32_3129 : BitVec 32 := 0#32
  let v3767 : BitVec 1 := Scalar.cmpi .eq c16_i32_3128 c0_i32_3129
  let c1_i32_3130 : BitVec 32 := 1#32
  let v3768 : BitVec 32 := Scalar.select v3767 c1_i32_3130 c16_i32_3128
  let v3769 : BitVec 32 := Scalar.remsi v3766 v3768
  let c0_i32_3132 : BitVec 32 := 0#32
  let v3771 : BitVec 1 := Scalar.cmpi .slt v3769 c0_i32_3132
  let c0_i32_3133 : BitVec 32 := 0#32
  let v3772 : BitVec 1 := Scalar.cmpi .slt v3768 c0_i32_3133
  let v3773 : BitVec 1 := Scalar.xori v3771 v3772
  let c0_i32_3131 : BitVec 32 := 0#32
  let v3770 : BitVec 1 := Scalar.cmpi .ne v3769 c0_i32_3131
  let v3774 : BitVec 1 := Scalar.andi v3773 v3770
  let v3775 : BitVec 32 := Scalar.addi v3769 v3768
  let v3776 : BitVec 32 := Scalar.select v3774 v3775 v3769
  let c1_i32_3136 : BitVec 32 := 1#32
  let v3777 : BitVec 32 := Scalar.muli v3776 c1_i32_3136
  let v3778 : BitVec 32 := Scalar.addi c0_i32_3137 v3777
  v3778.toNat
def k0_dev94 (d0 : Dev nD) : Nat :=
  let c0_i32_3152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3142 : BitVec 32 := 4#32
  let v3787 : BitVec 32 := Scalar.addi v2 c4_i32_3142
  let c16_i32_3143 : BitVec 32 := 16#32
  let c0_i32_3144 : BitVec 32 := 0#32
  let v3788 : BitVec 1 := Scalar.cmpi .eq c16_i32_3143 c0_i32_3144
  let c1_i32_3145 : BitVec 32 := 1#32
  let v3789 : BitVec 32 := Scalar.select v3788 c1_i32_3145 c16_i32_3143
  let v3790 : BitVec 32 := Scalar.remsi v3787 v3789
  let c0_i32_3147 : BitVec 32 := 0#32
  let v3792 : BitVec 1 := Scalar.cmpi .slt v3790 c0_i32_3147
  let c0_i32_3148 : BitVec 32 := 0#32
  let v3793 : BitVec 1 := Scalar.cmpi .slt v3789 c0_i32_3148
  let v3794 : BitVec 1 := Scalar.xori v3792 v3793
  let c0_i32_3146 : BitVec 32 := 0#32
  let v3791 : BitVec 1 := Scalar.cmpi .ne v3790 c0_i32_3146
  let v3795 : BitVec 1 := Scalar.andi v3794 v3791
  let v3796 : BitVec 32 := Scalar.addi v3790 v3789
  let v3797 : BitVec 32 := Scalar.select v3795 v3796 v3790
  let c1_i32_3151 : BitVec 32 := 1#32
  let v3798 : BitVec 32 := Scalar.muli v3797 c1_i32_3151
  let v3799 : BitVec 32 := Scalar.addi c0_i32_3152 v3798
  v3799.toNat
def k0_dev95 (d0 : Dev nD) : Nat :=
  let c0_i32_3167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_3157 : BitVec 32 := 5#32
  let v3808 : BitVec 32 := Scalar.addi v2 c5_i32_3157
  let c16_i32_3158 : BitVec 32 := 16#32
  let c0_i32_3159 : BitVec 32 := 0#32
  let v3809 : BitVec 1 := Scalar.cmpi .eq c16_i32_3158 c0_i32_3159
  let c1_i32_3160 : BitVec 32 := 1#32
  let v3810 : BitVec 32 := Scalar.select v3809 c1_i32_3160 c16_i32_3158
  let v3811 : BitVec 32 := Scalar.remsi v3808 v3810
  let c0_i32_3162 : BitVec 32 := 0#32
  let v3813 : BitVec 1 := Scalar.cmpi .slt v3811 c0_i32_3162
  let c0_i32_3163 : BitVec 32 := 0#32
  let v3814 : BitVec 1 := Scalar.cmpi .slt v3810 c0_i32_3163
  let v3815 : BitVec 1 := Scalar.xori v3813 v3814
  let c0_i32_3161 : BitVec 32 := 0#32
  let v3812 : BitVec 1 := Scalar.cmpi .ne v3811 c0_i32_3161
  let v3816 : BitVec 1 := Scalar.andi v3815 v3812
  let v3817 : BitVec 32 := Scalar.addi v3811 v3810
  let v3818 : BitVec 32 := Scalar.select v3816 v3817 v3811
  let c1_i32_3166 : BitVec 32 := 1#32
  let v3819 : BitVec 32 := Scalar.muli v3818 c1_i32_3166
  let v3820 : BitVec 32 := Scalar.addi c0_i32_3167 v3819
  v3820.toNat
def k0_dev96 (d0 : Dev nD) : Nat :=
  let c0_i32_3182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_3172 : BitVec 32 := 6#32
  let v3829 : BitVec 32 := Scalar.addi v2 c6_i32_3172
  let c16_i32_3173 : BitVec 32 := 16#32
  let c0_i32_3174 : BitVec 32 := 0#32
  let v3830 : BitVec 1 := Scalar.cmpi .eq c16_i32_3173 c0_i32_3174
  let c1_i32_3175 : BitVec 32 := 1#32
  let v3831 : BitVec 32 := Scalar.select v3830 c1_i32_3175 c16_i32_3173
  let v3832 : BitVec 32 := Scalar.remsi v3829 v3831
  let c0_i32_3177 : BitVec 32 := 0#32
  let v3834 : BitVec 1 := Scalar.cmpi .slt v3832 c0_i32_3177
  let c0_i32_3178 : BitVec 32 := 0#32
  let v3835 : BitVec 1 := Scalar.cmpi .slt v3831 c0_i32_3178
  let v3836 : BitVec 1 := Scalar.xori v3834 v3835
  let c0_i32_3176 : BitVec 32 := 0#32
  let v3833 : BitVec 1 := Scalar.cmpi .ne v3832 c0_i32_3176
  let v3837 : BitVec 1 := Scalar.andi v3836 v3833
  let v3838 : BitVec 32 := Scalar.addi v3832 v3831
  let v3839 : BitVec 32 := Scalar.select v3837 v3838 v3832
  let c1_i32_3181 : BitVec 32 := 1#32
  let v3840 : BitVec 32 := Scalar.muli v3839 c1_i32_3181
  let v3841 : BitVec 32 := Scalar.addi c0_i32_3182 v3840
  v3841.toNat
def k0_dev97 (d0 : Dev nD) : Nat :=
  let c0_i32_3197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_3187 : BitVec 32 := 7#32
  let v3850 : BitVec 32 := Scalar.addi v2 c7_i32_3187
  let c16_i32_3188 : BitVec 32 := 16#32
  let c0_i32_3189 : BitVec 32 := 0#32
  let v3851 : BitVec 1 := Scalar.cmpi .eq c16_i32_3188 c0_i32_3189
  let c1_i32_3190 : BitVec 32 := 1#32
  let v3852 : BitVec 32 := Scalar.select v3851 c1_i32_3190 c16_i32_3188
  let v3853 : BitVec 32 := Scalar.remsi v3850 v3852
  let c0_i32_3192 : BitVec 32 := 0#32
  let v3855 : BitVec 1 := Scalar.cmpi .slt v3853 c0_i32_3192
  let c0_i32_3193 : BitVec 32 := 0#32
  let v3856 : BitVec 1 := Scalar.cmpi .slt v3852 c0_i32_3193
  let v3857 : BitVec 1 := Scalar.xori v3855 v3856
  let c0_i32_3191 : BitVec 32 := 0#32
  let v3854 : BitVec 1 := Scalar.cmpi .ne v3853 c0_i32_3191
  let v3858 : BitVec 1 := Scalar.andi v3857 v3854
  let v3859 : BitVec 32 := Scalar.addi v3853 v3852
  let v3860 : BitVec 32 := Scalar.select v3858 v3859 v3853
  let c1_i32_3196 : BitVec 32 := 1#32
  let v3861 : BitVec 32 := Scalar.muli v3860 c1_i32_3196
  let v3862 : BitVec 32 := Scalar.addi c0_i32_3197 v3861
  v3862.toNat
def k0_dev98 (d0 : Dev nD) : Nat :=
  let c0_i32_3212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_3202 : BitVec 32 := 8#32
  let v3871 : BitVec 32 := Scalar.addi v2 c8_i32_3202
  let c16_i32_3203 : BitVec 32 := 16#32
  let c0_i32_3204 : BitVec 32 := 0#32
  let v3872 : BitVec 1 := Scalar.cmpi .eq c16_i32_3203 c0_i32_3204
  let c1_i32_3205 : BitVec 32 := 1#32
  let v3873 : BitVec 32 := Scalar.select v3872 c1_i32_3205 c16_i32_3203
  let v3874 : BitVec 32 := Scalar.remsi v3871 v3873
  let c0_i32_3207 : BitVec 32 := 0#32
  let v3876 : BitVec 1 := Scalar.cmpi .slt v3874 c0_i32_3207
  let c0_i32_3208 : BitVec 32 := 0#32
  let v3877 : BitVec 1 := Scalar.cmpi .slt v3873 c0_i32_3208
  let v3878 : BitVec 1 := Scalar.xori v3876 v3877
  let c0_i32_3206 : BitVec 32 := 0#32
  let v3875 : BitVec 1 := Scalar.cmpi .ne v3874 c0_i32_3206
  let v3879 : BitVec 1 := Scalar.andi v3878 v3875
  let v3880 : BitVec 32 := Scalar.addi v3874 v3873
  let v3881 : BitVec 32 := Scalar.select v3879 v3880 v3874
  let c1_i32_3211 : BitVec 32 := 1#32
  let v3882 : BitVec 32 := Scalar.muli v3881 c1_i32_3211
  let v3883 : BitVec 32 := Scalar.addi c0_i32_3212 v3882
  v3883.toNat
def k0_dev99 (d0 : Dev nD) : Nat :=
  let c0_i32_3227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_3217 : BitVec 32 := 9#32
  let v3892 : BitVec 32 := Scalar.addi v2 c9_i32_3217
  let c16_i32_3218 : BitVec 32 := 16#32
  let c0_i32_3219 : BitVec 32 := 0#32
  let v3893 : BitVec 1 := Scalar.cmpi .eq c16_i32_3218 c0_i32_3219
  let c1_i32_3220 : BitVec 32 := 1#32
  let v3894 : BitVec 32 := Scalar.select v3893 c1_i32_3220 c16_i32_3218
  let v3895 : BitVec 32 := Scalar.remsi v3892 v3894
  let c0_i32_3222 : BitVec 32 := 0#32
  let v3897 : BitVec 1 := Scalar.cmpi .slt v3895 c0_i32_3222
  let c0_i32_3223 : BitVec 32 := 0#32
  let v3898 : BitVec 1 := Scalar.cmpi .slt v3894 c0_i32_3223
  let v3899 : BitVec 1 := Scalar.xori v3897 v3898
  let c0_i32_3221 : BitVec 32 := 0#32
  let v3896 : BitVec 1 := Scalar.cmpi .ne v3895 c0_i32_3221
  let v3900 : BitVec 1 := Scalar.andi v3899 v3896
  let v3901 : BitVec 32 := Scalar.addi v3895 v3894
  let v3902 : BitVec 32 := Scalar.select v3900 v3901 v3895
  let c1_i32_3226 : BitVec 32 := 1#32
  let v3903 : BitVec 32 := Scalar.muli v3902 c1_i32_3226
  let v3904 : BitVec 32 := Scalar.addi c0_i32_3227 v3903
  v3904.toNat
def k0_dev100 (d0 : Dev nD) : Nat :=
  let c0_i32_3242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_3232 : BitVec 32 := 10#32
  let v3913 : BitVec 32 := Scalar.addi v2 c10_i32_3232
  let c16_i32_3233 : BitVec 32 := 16#32
  let c0_i32_3234 : BitVec 32 := 0#32
  let v3914 : BitVec 1 := Scalar.cmpi .eq c16_i32_3233 c0_i32_3234
  let c1_i32_3235 : BitVec 32 := 1#32
  let v3915 : BitVec 32 := Scalar.select v3914 c1_i32_3235 c16_i32_3233
  let v3916 : BitVec 32 := Scalar.remsi v3913 v3915
  let c0_i32_3237 : BitVec 32 := 0#32
  let v3918 : BitVec 1 := Scalar.cmpi .slt v3916 c0_i32_3237
  let c0_i32_3238 : BitVec 32 := 0#32
  let v3919 : BitVec 1 := Scalar.cmpi .slt v3915 c0_i32_3238
  let v3920 : BitVec 1 := Scalar.xori v3918 v3919
  let c0_i32_3236 : BitVec 32 := 0#32
  let v3917 : BitVec 1 := Scalar.cmpi .ne v3916 c0_i32_3236
  let v3921 : BitVec 1 := Scalar.andi v3920 v3917
  let v3922 : BitVec 32 := Scalar.addi v3916 v3915
  let v3923 : BitVec 32 := Scalar.select v3921 v3922 v3916
  let c1_i32_3241 : BitVec 32 := 1#32
  let v3924 : BitVec 32 := Scalar.muli v3923 c1_i32_3241
  let v3925 : BitVec 32 := Scalar.addi c0_i32_3242 v3924
  v3925.toNat
def k0_dev101 (d0 : Dev nD) : Nat :=
  let c0_i32_3257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_3247 : BitVec 32 := 11#32
  let v3934 : BitVec 32 := Scalar.addi v2 c11_i32_3247
  let c16_i32_3248 : BitVec 32 := 16#32
  let c0_i32_3249 : BitVec 32 := 0#32
  let v3935 : BitVec 1 := Scalar.cmpi .eq c16_i32_3248 c0_i32_3249
  let c1_i32_3250 : BitVec 32 := 1#32
  let v3936 : BitVec 32 := Scalar.select v3935 c1_i32_3250 c16_i32_3248
  let v3937 : BitVec 32 := Scalar.remsi v3934 v3936
  let c0_i32_3252 : BitVec 32 := 0#32
  let v3939 : BitVec 1 := Scalar.cmpi .slt v3937 c0_i32_3252
  let c0_i32_3253 : BitVec 32 := 0#32
  let v3940 : BitVec 1 := Scalar.cmpi .slt v3936 c0_i32_3253
  let v3941 : BitVec 1 := Scalar.xori v3939 v3940
  let c0_i32_3251 : BitVec 32 := 0#32
  let v3938 : BitVec 1 := Scalar.cmpi .ne v3937 c0_i32_3251
  let v3942 : BitVec 1 := Scalar.andi v3941 v3938
  let v3943 : BitVec 32 := Scalar.addi v3937 v3936
  let v3944 : BitVec 32 := Scalar.select v3942 v3943 v3937
  let c1_i32_3256 : BitVec 32 := 1#32
  let v3945 : BitVec 32 := Scalar.muli v3944 c1_i32_3256
  let v3946 : BitVec 32 := Scalar.addi c0_i32_3257 v3945
  v3946.toNat
def k0_dev102 (d0 : Dev nD) : Nat :=
  let c0_i32_3272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_3262 : BitVec 32 := 12#32
  let v3955 : BitVec 32 := Scalar.addi v2 c12_i32_3262
  let c16_i32_3263 : BitVec 32 := 16#32
  let c0_i32_3264 : BitVec 32 := 0#32
  let v3956 : BitVec 1 := Scalar.cmpi .eq c16_i32_3263 c0_i32_3264
  let c1_i32_3265 : BitVec 32 := 1#32
  let v3957 : BitVec 32 := Scalar.select v3956 c1_i32_3265 c16_i32_3263
  let v3958 : BitVec 32 := Scalar.remsi v3955 v3957
  let c0_i32_3267 : BitVec 32 := 0#32
  let v3960 : BitVec 1 := Scalar.cmpi .slt v3958 c0_i32_3267
  let c0_i32_3268 : BitVec 32 := 0#32
  let v3961 : BitVec 1 := Scalar.cmpi .slt v3957 c0_i32_3268
  let v3962 : BitVec 1 := Scalar.xori v3960 v3961
  let c0_i32_3266 : BitVec 32 := 0#32
  let v3959 : BitVec 1 := Scalar.cmpi .ne v3958 c0_i32_3266
  let v3963 : BitVec 1 := Scalar.andi v3962 v3959
  let v3964 : BitVec 32 := Scalar.addi v3958 v3957
  let v3965 : BitVec 32 := Scalar.select v3963 v3964 v3958
  let c1_i32_3271 : BitVec 32 := 1#32
  let v3966 : BitVec 32 := Scalar.muli v3965 c1_i32_3271
  let v3967 : BitVec 32 := Scalar.addi c0_i32_3272 v3966
  v3967.toNat
def k0_dev103 (d0 : Dev nD) : Nat :=
  let c0_i32_3287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_3277 : BitVec 32 := 13#32
  let v3976 : BitVec 32 := Scalar.addi v2 c13_i32_3277
  let c16_i32_3278 : BitVec 32 := 16#32
  let c0_i32_3279 : BitVec 32 := 0#32
  let v3977 : BitVec 1 := Scalar.cmpi .eq c16_i32_3278 c0_i32_3279
  let c1_i32_3280 : BitVec 32 := 1#32
  let v3978 : BitVec 32 := Scalar.select v3977 c1_i32_3280 c16_i32_3278
  let v3979 : BitVec 32 := Scalar.remsi v3976 v3978
  let c0_i32_3282 : BitVec 32 := 0#32
  let v3981 : BitVec 1 := Scalar.cmpi .slt v3979 c0_i32_3282
  let c0_i32_3283 : BitVec 32 := 0#32
  let v3982 : BitVec 1 := Scalar.cmpi .slt v3978 c0_i32_3283
  let v3983 : BitVec 1 := Scalar.xori v3981 v3982
  let c0_i32_3281 : BitVec 32 := 0#32
  let v3980 : BitVec 1 := Scalar.cmpi .ne v3979 c0_i32_3281
  let v3984 : BitVec 1 := Scalar.andi v3983 v3980
  let v3985 : BitVec 32 := Scalar.addi v3979 v3978
  let v3986 : BitVec 32 := Scalar.select v3984 v3985 v3979
  let c1_i32_3286 : BitVec 32 := 1#32
  let v3987 : BitVec 32 := Scalar.muli v3986 c1_i32_3286
  let v3988 : BitVec 32 := Scalar.addi c0_i32_3287 v3987
  v3988.toNat
def k0_dev104 (d0 : Dev nD) : Nat :=
  let c0_i32_3302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3292 : BitVec 32 := 14#32
  let v3997 : BitVec 32 := Scalar.addi v2 c14_i32_3292
  let c16_i32_3293 : BitVec 32 := 16#32
  let c0_i32_3294 : BitVec 32 := 0#32
  let v3998 : BitVec 1 := Scalar.cmpi .eq c16_i32_3293 c0_i32_3294
  let c1_i32_3295 : BitVec 32 := 1#32
  let v3999 : BitVec 32 := Scalar.select v3998 c1_i32_3295 c16_i32_3293
  let v4000 : BitVec 32 := Scalar.remsi v3997 v3999
  let c0_i32_3297 : BitVec 32 := 0#32
  let v4002 : BitVec 1 := Scalar.cmpi .slt v4000 c0_i32_3297
  let c0_i32_3298 : BitVec 32 := 0#32
  let v4003 : BitVec 1 := Scalar.cmpi .slt v3999 c0_i32_3298
  let v4004 : BitVec 1 := Scalar.xori v4002 v4003
  let c0_i32_3296 : BitVec 32 := 0#32
  let v4001 : BitVec 1 := Scalar.cmpi .ne v4000 c0_i32_3296
  let v4005 : BitVec 1 := Scalar.andi v4004 v4001
  let v4006 : BitVec 32 := Scalar.addi v4000 v3999
  let v4007 : BitVec 32 := Scalar.select v4005 v4006 v4000
  let c1_i32_3301 : BitVec 32 := 1#32
  let v4008 : BitVec 32 := Scalar.muli v4007 c1_i32_3301
  let v4009 : BitVec 32 := Scalar.addi c0_i32_3302 v4008
  v4009.toNat
def k0_dev105 (d0 : Dev nD) : Nat :=
  let c0_i32_3317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_3307 : BitVec 32 := 15#32
  let v4018 : BitVec 32 := Scalar.addi v2 c15_i32_3307
  let c16_i32_3308 : BitVec 32 := 16#32
  let c0_i32_3309 : BitVec 32 := 0#32
  let v4019 : BitVec 1 := Scalar.cmpi .eq c16_i32_3308 c0_i32_3309
  let c1_i32_3310 : BitVec 32 := 1#32
  let v4020 : BitVec 32 := Scalar.select v4019 c1_i32_3310 c16_i32_3308
  let v4021 : BitVec 32 := Scalar.remsi v4018 v4020
  let c0_i32_3312 : BitVec 32 := 0#32
  let v4023 : BitVec 1 := Scalar.cmpi .slt v4021 c0_i32_3312
  let c0_i32_3313 : BitVec 32 := 0#32
  let v4024 : BitVec 1 := Scalar.cmpi .slt v4020 c0_i32_3313
  let v4025 : BitVec 1 := Scalar.xori v4023 v4024
  let c0_i32_3311 : BitVec 32 := 0#32
  let v4022 : BitVec 1 := Scalar.cmpi .ne v4021 c0_i32_3311
  let v4026 : BitVec 1 := Scalar.andi v4025 v4022
  let v4027 : BitVec 32 := Scalar.addi v4021 v4020
  let v4028 : BitVec 32 := Scalar.select v4026 v4027 v4021
  let c1_i32_3316 : BitVec 32 := 1#32
  let v4029 : BitVec 32 := Scalar.muli v4028 c1_i32_3316
  let v4030 : BitVec 32 := Scalar.addi c0_i32_3317 v4029
  v4030.toNat
def k0_dev106 (d0 : Dev nD) : Nat :=
  let c0_i32_3632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3622 : BitVec 32 := 1#32
  let v4386 : BitVec 32 := Scalar.addi v2 c1_i32_3622
  let c16_i32_3623 : BitVec 32 := 16#32
  let c0_i32_3624 : BitVec 32 := 0#32
  let v4387 : BitVec 1 := Scalar.cmpi .eq c16_i32_3623 c0_i32_3624
  let c1_i32_3625 : BitVec 32 := 1#32
  let v4388 : BitVec 32 := Scalar.select v4387 c1_i32_3625 c16_i32_3623
  let v4389 : BitVec 32 := Scalar.remsi v4386 v4388
  let c0_i32_3627 : BitVec 32 := 0#32
  let v4391 : BitVec 1 := Scalar.cmpi .slt v4389 c0_i32_3627
  let c0_i32_3628 : BitVec 32 := 0#32
  let v4392 : BitVec 1 := Scalar.cmpi .slt v4388 c0_i32_3628
  let v4393 : BitVec 1 := Scalar.xori v4391 v4392
  let c0_i32_3626 : BitVec 32 := 0#32
  let v4390 : BitVec 1 := Scalar.cmpi .ne v4389 c0_i32_3626
  let v4394 : BitVec 1 := Scalar.andi v4393 v4390
  let v4395 : BitVec 32 := Scalar.addi v4389 v4388
  let v4396 : BitVec 32 := Scalar.select v4394 v4395 v4389
  let c1_i32_3631 : BitVec 32 := 1#32
  let v4397 : BitVec 32 := Scalar.muli v4396 c1_i32_3631
  let v4398 : BitVec 32 := Scalar.addi c0_i32_3632 v4397
  v4398.toNat
def k0_dev107 (d0 : Dev nD) : Nat :=
  let c0_i32_3647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3637 : BitVec 32 := 2#32
  let v4406 : BitVec 32 := Scalar.addi v2 c2_i32_3637
  let c16_i32_3638 : BitVec 32 := 16#32
  let c0_i32_3639 : BitVec 32 := 0#32
  let v4407 : BitVec 1 := Scalar.cmpi .eq c16_i32_3638 c0_i32_3639
  let c1_i32_3640 : BitVec 32 := 1#32
  let v4408 : BitVec 32 := Scalar.select v4407 c1_i32_3640 c16_i32_3638
  let v4409 : BitVec 32 := Scalar.remsi v4406 v4408
  let c0_i32_3642 : BitVec 32 := 0#32
  let v4411 : BitVec 1 := Scalar.cmpi .slt v4409 c0_i32_3642
  let c0_i32_3643 : BitVec 32 := 0#32
  let v4412 : BitVec 1 := Scalar.cmpi .slt v4408 c0_i32_3643
  let v4413 : BitVec 1 := Scalar.xori v4411 v4412
  let c0_i32_3641 : BitVec 32 := 0#32
  let v4410 : BitVec 1 := Scalar.cmpi .ne v4409 c0_i32_3641
  let v4414 : BitVec 1 := Scalar.andi v4413 v4410
  let v4415 : BitVec 32 := Scalar.addi v4409 v4408
  let v4416 : BitVec 32 := Scalar.select v4414 v4415 v4409
  let c1_i32_3646 : BitVec 32 := 1#32
  let v4417 : BitVec 32 := Scalar.muli v4416 c1_i32_3646
  let v4418 : BitVec 32 := Scalar.addi c0_i32_3647 v4417
  v4418.toNat
def k0_dev108 (d0 : Dev nD) : Nat :=
  let c0_i32_3662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_3652 : BitVec 32 := 3#32
  let v4426 : BitVec 32 := Scalar.addi v2 c3_i32_3652
  let c16_i32_3653 : BitVec 32 := 16#32
  let c0_i32_3654 : BitVec 32 := 0#32
  let v4427 : BitVec 1 := Scalar.cmpi .eq c16_i32_3653 c0_i32_3654
  let c1_i32_3655 : BitVec 32 := 1#32
  let v4428 : BitVec 32 := Scalar.select v4427 c1_i32_3655 c16_i32_3653
  let v4429 : BitVec 32 := Scalar.remsi v4426 v4428
  let c0_i32_3657 : BitVec 32 := 0#32
  let v4431 : BitVec 1 := Scalar.cmpi .slt v4429 c0_i32_3657
  let c0_i32_3658 : BitVec 32 := 0#32
  let v4432 : BitVec 1 := Scalar.cmpi .slt v4428 c0_i32_3658
  let v4433 : BitVec 1 := Scalar.xori v4431 v4432
  let c0_i32_3656 : BitVec 32 := 0#32
  let v4430 : BitVec 1 := Scalar.cmpi .ne v4429 c0_i32_3656
  let v4434 : BitVec 1 := Scalar.andi v4433 v4430
  let v4435 : BitVec 32 := Scalar.addi v4429 v4428
  let v4436 : BitVec 32 := Scalar.select v4434 v4435 v4429
  let c1_i32_3661 : BitVec 32 := 1#32
  let v4437 : BitVec 32 := Scalar.muli v4436 c1_i32_3661
  let v4438 : BitVec 32 := Scalar.addi c0_i32_3662 v4437
  v4438.toNat
def k0_dev109 (d0 : Dev nD) : Nat :=
  let c0_i32_3677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3667 : BitVec 32 := 4#32
  let v4446 : BitVec 32 := Scalar.addi v2 c4_i32_3667
  let c16_i32_3668 : BitVec 32 := 16#32
  let c0_i32_3669 : BitVec 32 := 0#32
  let v4447 : BitVec 1 := Scalar.cmpi .eq c16_i32_3668 c0_i32_3669
  let c1_i32_3670 : BitVec 32 := 1#32
  let v4448 : BitVec 32 := Scalar.select v4447 c1_i32_3670 c16_i32_3668
  let v4449 : BitVec 32 := Scalar.remsi v4446 v4448
  let c0_i32_3672 : BitVec 32 := 0#32
  let v4451 : BitVec 1 := Scalar.cmpi .slt v4449 c0_i32_3672
  let c0_i32_3673 : BitVec 32 := 0#32
  let v4452 : BitVec 1 := Scalar.cmpi .slt v4448 c0_i32_3673
  let v4453 : BitVec 1 := Scalar.xori v4451 v4452
  let c0_i32_3671 : BitVec 32 := 0#32
  let v4450 : BitVec 1 := Scalar.cmpi .ne v4449 c0_i32_3671
  let v4454 : BitVec 1 := Scalar.andi v4453 v4450
  let v4455 : BitVec 32 := Scalar.addi v4449 v4448
  let v4456 : BitVec 32 := Scalar.select v4454 v4455 v4449
  let c1_i32_3676 : BitVec 32 := 1#32
  let v4457 : BitVec 32 := Scalar.muli v4456 c1_i32_3676
  let v4458 : BitVec 32 := Scalar.addi c0_i32_3677 v4457
  v4458.toNat
def k0_dev110 (d0 : Dev nD) : Nat :=
  let c0_i32_3692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_3682 : BitVec 32 := 5#32
  let v4466 : BitVec 32 := Scalar.addi v2 c5_i32_3682
  let c16_i32_3683 : BitVec 32 := 16#32
  let c0_i32_3684 : BitVec 32 := 0#32
  let v4467 : BitVec 1 := Scalar.cmpi .eq c16_i32_3683 c0_i32_3684
  let c1_i32_3685 : BitVec 32 := 1#32
  let v4468 : BitVec 32 := Scalar.select v4467 c1_i32_3685 c16_i32_3683
  let v4469 : BitVec 32 := Scalar.remsi v4466 v4468
  let c0_i32_3687 : BitVec 32 := 0#32
  let v4471 : BitVec 1 := Scalar.cmpi .slt v4469 c0_i32_3687
  let c0_i32_3688 : BitVec 32 := 0#32
  let v4472 : BitVec 1 := Scalar.cmpi .slt v4468 c0_i32_3688
  let v4473 : BitVec 1 := Scalar.xori v4471 v4472
  let c0_i32_3686 : BitVec 32 := 0#32
  let v4470 : BitVec 1 := Scalar.cmpi .ne v4469 c0_i32_3686
  let v4474 : BitVec 1 := Scalar.andi v4473 v4470
  let v4475 : BitVec 32 := Scalar.addi v4469 v4468
  let v4476 : BitVec 32 := Scalar.select v4474 v4475 v4469
  let c1_i32_3691 : BitVec 32 := 1#32
  let v4477 : BitVec 32 := Scalar.muli v4476 c1_i32_3691
  let v4478 : BitVec 32 := Scalar.addi c0_i32_3692 v4477
  v4478.toNat
def k0_dev111 (d0 : Dev nD) : Nat :=
  let c0_i32_3707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_3697 : BitVec 32 := 6#32
  let v4486 : BitVec 32 := Scalar.addi v2 c6_i32_3697
  let c16_i32_3698 : BitVec 32 := 16#32
  let c0_i32_3699 : BitVec 32 := 0#32
  let v4487 : BitVec 1 := Scalar.cmpi .eq c16_i32_3698 c0_i32_3699
  let c1_i32_3700 : BitVec 32 := 1#32
  let v4488 : BitVec 32 := Scalar.select v4487 c1_i32_3700 c16_i32_3698
  let v4489 : BitVec 32 := Scalar.remsi v4486 v4488
  let c0_i32_3702 : BitVec 32 := 0#32
  let v4491 : BitVec 1 := Scalar.cmpi .slt v4489 c0_i32_3702
  let c0_i32_3703 : BitVec 32 := 0#32
  let v4492 : BitVec 1 := Scalar.cmpi .slt v4488 c0_i32_3703
  let v4493 : BitVec 1 := Scalar.xori v4491 v4492
  let c0_i32_3701 : BitVec 32 := 0#32
  let v4490 : BitVec 1 := Scalar.cmpi .ne v4489 c0_i32_3701
  let v4494 : BitVec 1 := Scalar.andi v4493 v4490
  let v4495 : BitVec 32 := Scalar.addi v4489 v4488
  let v4496 : BitVec 32 := Scalar.select v4494 v4495 v4489
  let c1_i32_3706 : BitVec 32 := 1#32
  let v4497 : BitVec 32 := Scalar.muli v4496 c1_i32_3706
  let v4498 : BitVec 32 := Scalar.addi c0_i32_3707 v4497
  v4498.toNat
def k0_dev112 (d0 : Dev nD) : Nat :=
  let c0_i32_3722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_3712 : BitVec 32 := 7#32
  let v4506 : BitVec 32 := Scalar.addi v2 c7_i32_3712
  let c16_i32_3713 : BitVec 32 := 16#32
  let c0_i32_3714 : BitVec 32 := 0#32
  let v4507 : BitVec 1 := Scalar.cmpi .eq c16_i32_3713 c0_i32_3714
  let c1_i32_3715 : BitVec 32 := 1#32
  let v4508 : BitVec 32 := Scalar.select v4507 c1_i32_3715 c16_i32_3713
  let v4509 : BitVec 32 := Scalar.remsi v4506 v4508
  let c0_i32_3717 : BitVec 32 := 0#32
  let v4511 : BitVec 1 := Scalar.cmpi .slt v4509 c0_i32_3717
  let c0_i32_3718 : BitVec 32 := 0#32
  let v4512 : BitVec 1 := Scalar.cmpi .slt v4508 c0_i32_3718
  let v4513 : BitVec 1 := Scalar.xori v4511 v4512
  let c0_i32_3716 : BitVec 32 := 0#32
  let v4510 : BitVec 1 := Scalar.cmpi .ne v4509 c0_i32_3716
  let v4514 : BitVec 1 := Scalar.andi v4513 v4510
  let v4515 : BitVec 32 := Scalar.addi v4509 v4508
  let v4516 : BitVec 32 := Scalar.select v4514 v4515 v4509
  let c1_i32_3721 : BitVec 32 := 1#32
  let v4517 : BitVec 32 := Scalar.muli v4516 c1_i32_3721
  let v4518 : BitVec 32 := Scalar.addi c0_i32_3722 v4517
  v4518.toNat
def k0_dev113 (d0 : Dev nD) : Nat :=
  let c0_i32_3737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_3727 : BitVec 32 := 8#32
  let v4526 : BitVec 32 := Scalar.addi v2 c8_i32_3727
  let c16_i32_3728 : BitVec 32 := 16#32
  let c0_i32_3729 : BitVec 32 := 0#32
  let v4527 : BitVec 1 := Scalar.cmpi .eq c16_i32_3728 c0_i32_3729
  let c1_i32_3730 : BitVec 32 := 1#32
  let v4528 : BitVec 32 := Scalar.select v4527 c1_i32_3730 c16_i32_3728
  let v4529 : BitVec 32 := Scalar.remsi v4526 v4528
  let c0_i32_3732 : BitVec 32 := 0#32
  let v4531 : BitVec 1 := Scalar.cmpi .slt v4529 c0_i32_3732
  let c0_i32_3733 : BitVec 32 := 0#32
  let v4532 : BitVec 1 := Scalar.cmpi .slt v4528 c0_i32_3733
  let v4533 : BitVec 1 := Scalar.xori v4531 v4532
  let c0_i32_3731 : BitVec 32 := 0#32
  let v4530 : BitVec 1 := Scalar.cmpi .ne v4529 c0_i32_3731
  let v4534 : BitVec 1 := Scalar.andi v4533 v4530
  let v4535 : BitVec 32 := Scalar.addi v4529 v4528
  let v4536 : BitVec 32 := Scalar.select v4534 v4535 v4529
  let c1_i32_3736 : BitVec 32 := 1#32
  let v4537 : BitVec 32 := Scalar.muli v4536 c1_i32_3736
  let v4538 : BitVec 32 := Scalar.addi c0_i32_3737 v4537
  v4538.toNat
def k0_dev114 (d0 : Dev nD) : Nat :=
  let c0_i32_3752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_3742 : BitVec 32 := 9#32
  let v4546 : BitVec 32 := Scalar.addi v2 c9_i32_3742
  let c16_i32_3743 : BitVec 32 := 16#32
  let c0_i32_3744 : BitVec 32 := 0#32
  let v4547 : BitVec 1 := Scalar.cmpi .eq c16_i32_3743 c0_i32_3744
  let c1_i32_3745 : BitVec 32 := 1#32
  let v4548 : BitVec 32 := Scalar.select v4547 c1_i32_3745 c16_i32_3743
  let v4549 : BitVec 32 := Scalar.remsi v4546 v4548
  let c0_i32_3747 : BitVec 32 := 0#32
  let v4551 : BitVec 1 := Scalar.cmpi .slt v4549 c0_i32_3747
  let c0_i32_3748 : BitVec 32 := 0#32
  let v4552 : BitVec 1 := Scalar.cmpi .slt v4548 c0_i32_3748
  let v4553 : BitVec 1 := Scalar.xori v4551 v4552
  let c0_i32_3746 : BitVec 32 := 0#32
  let v4550 : BitVec 1 := Scalar.cmpi .ne v4549 c0_i32_3746
  let v4554 : BitVec 1 := Scalar.andi v4553 v4550
  let v4555 : BitVec 32 := Scalar.addi v4549 v4548
  let v4556 : BitVec 32 := Scalar.select v4554 v4555 v4549
  let c1_i32_3751 : BitVec 32 := 1#32
  let v4557 : BitVec 32 := Scalar.muli v4556 c1_i32_3751
  let v4558 : BitVec 32 := Scalar.addi c0_i32_3752 v4557
  v4558.toNat
def k0_dev115 (d0 : Dev nD) : Nat :=
  let c0_i32_3767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_3757 : BitVec 32 := 10#32
  let v4566 : BitVec 32 := Scalar.addi v2 c10_i32_3757
  let c16_i32_3758 : BitVec 32 := 16#32
  let c0_i32_3759 : BitVec 32 := 0#32
  let v4567 : BitVec 1 := Scalar.cmpi .eq c16_i32_3758 c0_i32_3759
  let c1_i32_3760 : BitVec 32 := 1#32
  let v4568 : BitVec 32 := Scalar.select v4567 c1_i32_3760 c16_i32_3758
  let v4569 : BitVec 32 := Scalar.remsi v4566 v4568
  let c0_i32_3762 : BitVec 32 := 0#32
  let v4571 : BitVec 1 := Scalar.cmpi .slt v4569 c0_i32_3762
  let c0_i32_3763 : BitVec 32 := 0#32
  let v4572 : BitVec 1 := Scalar.cmpi .slt v4568 c0_i32_3763
  let v4573 : BitVec 1 := Scalar.xori v4571 v4572
  let c0_i32_3761 : BitVec 32 := 0#32
  let v4570 : BitVec 1 := Scalar.cmpi .ne v4569 c0_i32_3761
  let v4574 : BitVec 1 := Scalar.andi v4573 v4570
  let v4575 : BitVec 32 := Scalar.addi v4569 v4568
  let v4576 : BitVec 32 := Scalar.select v4574 v4575 v4569
  let c1_i32_3766 : BitVec 32 := 1#32
  let v4577 : BitVec 32 := Scalar.muli v4576 c1_i32_3766
  let v4578 : BitVec 32 := Scalar.addi c0_i32_3767 v4577
  v4578.toNat
def k0_dev116 (d0 : Dev nD) : Nat :=
  let c0_i32_3782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_3772 : BitVec 32 := 11#32
  let v4586 : BitVec 32 := Scalar.addi v2 c11_i32_3772
  let c16_i32_3773 : BitVec 32 := 16#32
  let c0_i32_3774 : BitVec 32 := 0#32
  let v4587 : BitVec 1 := Scalar.cmpi .eq c16_i32_3773 c0_i32_3774
  let c1_i32_3775 : BitVec 32 := 1#32
  let v4588 : BitVec 32 := Scalar.select v4587 c1_i32_3775 c16_i32_3773
  let v4589 : BitVec 32 := Scalar.remsi v4586 v4588
  let c0_i32_3777 : BitVec 32 := 0#32
  let v4591 : BitVec 1 := Scalar.cmpi .slt v4589 c0_i32_3777
  let c0_i32_3778 : BitVec 32 := 0#32
  let v4592 : BitVec 1 := Scalar.cmpi .slt v4588 c0_i32_3778
  let v4593 : BitVec 1 := Scalar.xori v4591 v4592
  let c0_i32_3776 : BitVec 32 := 0#32
  let v4590 : BitVec 1 := Scalar.cmpi .ne v4589 c0_i32_3776
  let v4594 : BitVec 1 := Scalar.andi v4593 v4590
  let v4595 : BitVec 32 := Scalar.addi v4589 v4588
  let v4596 : BitVec 32 := Scalar.select v4594 v4595 v4589
  let c1_i32_3781 : BitVec 32 := 1#32
  let v4597 : BitVec 32 := Scalar.muli v4596 c1_i32_3781
  let v4598 : BitVec 32 := Scalar.addi c0_i32_3782 v4597
  v4598.toNat
def k0_dev117 (d0 : Dev nD) : Nat :=
  let c0_i32_3797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_3787 : BitVec 32 := 12#32
  let v4606 : BitVec 32 := Scalar.addi v2 c12_i32_3787
  let c16_i32_3788 : BitVec 32 := 16#32
  let c0_i32_3789 : BitVec 32 := 0#32
  let v4607 : BitVec 1 := Scalar.cmpi .eq c16_i32_3788 c0_i32_3789
  let c1_i32_3790 : BitVec 32 := 1#32
  let v4608 : BitVec 32 := Scalar.select v4607 c1_i32_3790 c16_i32_3788
  let v4609 : BitVec 32 := Scalar.remsi v4606 v4608
  let c0_i32_3792 : BitVec 32 := 0#32
  let v4611 : BitVec 1 := Scalar.cmpi .slt v4609 c0_i32_3792
  let c0_i32_3793 : BitVec 32 := 0#32
  let v4612 : BitVec 1 := Scalar.cmpi .slt v4608 c0_i32_3793
  let v4613 : BitVec 1 := Scalar.xori v4611 v4612
  let c0_i32_3791 : BitVec 32 := 0#32
  let v4610 : BitVec 1 := Scalar.cmpi .ne v4609 c0_i32_3791
  let v4614 : BitVec 1 := Scalar.andi v4613 v4610
  let v4615 : BitVec 32 := Scalar.addi v4609 v4608
  let v4616 : BitVec 32 := Scalar.select v4614 v4615 v4609
  let c1_i32_3796 : BitVec 32 := 1#32
  let v4617 : BitVec 32 := Scalar.muli v4616 c1_i32_3796
  let v4618 : BitVec 32 := Scalar.addi c0_i32_3797 v4617
  v4618.toNat
def k0_dev118 (d0 : Dev nD) : Nat :=
  let c0_i32_3812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_3802 : BitVec 32 := 13#32
  let v4626 : BitVec 32 := Scalar.addi v2 c13_i32_3802
  let c16_i32_3803 : BitVec 32 := 16#32
  let c0_i32_3804 : BitVec 32 := 0#32
  let v4627 : BitVec 1 := Scalar.cmpi .eq c16_i32_3803 c0_i32_3804
  let c1_i32_3805 : BitVec 32 := 1#32
  let v4628 : BitVec 32 := Scalar.select v4627 c1_i32_3805 c16_i32_3803
  let v4629 : BitVec 32 := Scalar.remsi v4626 v4628
  let c0_i32_3807 : BitVec 32 := 0#32
  let v4631 : BitVec 1 := Scalar.cmpi .slt v4629 c0_i32_3807
  let c0_i32_3808 : BitVec 32 := 0#32
  let v4632 : BitVec 1 := Scalar.cmpi .slt v4628 c0_i32_3808
  let v4633 : BitVec 1 := Scalar.xori v4631 v4632
  let c0_i32_3806 : BitVec 32 := 0#32
  let v4630 : BitVec 1 := Scalar.cmpi .ne v4629 c0_i32_3806
  let v4634 : BitVec 1 := Scalar.andi v4633 v4630
  let v4635 : BitVec 32 := Scalar.addi v4629 v4628
  let v4636 : BitVec 32 := Scalar.select v4634 v4635 v4629
  let c1_i32_3811 : BitVec 32 := 1#32
  let v4637 : BitVec 32 := Scalar.muli v4636 c1_i32_3811
  let v4638 : BitVec 32 := Scalar.addi c0_i32_3812 v4637
  v4638.toNat
def k0_dev119 (d0 : Dev nD) : Nat :=
  let c0_i32_3827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3817 : BitVec 32 := 14#32
  let v4646 : BitVec 32 := Scalar.addi v2 c14_i32_3817
  let c16_i32_3818 : BitVec 32 := 16#32
  let c0_i32_3819 : BitVec 32 := 0#32
  let v4647 : BitVec 1 := Scalar.cmpi .eq c16_i32_3818 c0_i32_3819
  let c1_i32_3820 : BitVec 32 := 1#32
  let v4648 : BitVec 32 := Scalar.select v4647 c1_i32_3820 c16_i32_3818
  let v4649 : BitVec 32 := Scalar.remsi v4646 v4648
  let c0_i32_3822 : BitVec 32 := 0#32
  let v4651 : BitVec 1 := Scalar.cmpi .slt v4649 c0_i32_3822
  let c0_i32_3823 : BitVec 32 := 0#32
  let v4652 : BitVec 1 := Scalar.cmpi .slt v4648 c0_i32_3823
  let v4653 : BitVec 1 := Scalar.xori v4651 v4652
  let c0_i32_3821 : BitVec 32 := 0#32
  let v4650 : BitVec 1 := Scalar.cmpi .ne v4649 c0_i32_3821
  let v4654 : BitVec 1 := Scalar.andi v4653 v4650
  let v4655 : BitVec 32 := Scalar.addi v4649 v4648
  let v4656 : BitVec 32 := Scalar.select v4654 v4655 v4649
  let c1_i32_3826 : BitVec 32 := 1#32
  let v4657 : BitVec 32 := Scalar.muli v4656 c1_i32_3826
  let v4658 : BitVec 32 := Scalar.addi c0_i32_3827 v4657
  v4658.toNat
def k0_dev120 (d0 : Dev nD) : Nat :=
  let c0_i32_3842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_3832 : BitVec 32 := 15#32
  let v4666 : BitVec 32 := Scalar.addi v2 c15_i32_3832
  let c16_i32_3833 : BitVec 32 := 16#32
  let c0_i32_3834 : BitVec 32 := 0#32
  let v4667 : BitVec 1 := Scalar.cmpi .eq c16_i32_3833 c0_i32_3834
  let c1_i32_3835 : BitVec 32 := 1#32
  let v4668 : BitVec 32 := Scalar.select v4667 c1_i32_3835 c16_i32_3833
  let v4669 : BitVec 32 := Scalar.remsi v4666 v4668
  let c0_i32_3837 : BitVec 32 := 0#32
  let v4671 : BitVec 1 := Scalar.cmpi .slt v4669 c0_i32_3837
  let c0_i32_3838 : BitVec 32 := 0#32
  let v4672 : BitVec 1 := Scalar.cmpi .slt v4668 c0_i32_3838
  let v4673 : BitVec 1 := Scalar.xori v4671 v4672
  let c0_i32_3836 : BitVec 32 := 0#32
  let v4670 : BitVec 1 := Scalar.cmpi .ne v4669 c0_i32_3836
  let v4674 : BitVec 1 := Scalar.andi v4673 v4670
  let v4675 : BitVec 32 := Scalar.addi v4669 v4668
  let v4676 : BitVec 32 := Scalar.select v4674 v4675 v4669
  let c1_i32_3841 : BitVec 32 := 1#32
  let v4677 : BitVec 32 := Scalar.muli v4676 c1_i32_3841
  let v4678 : BitVec 32 := Scalar.addi c0_i32_3842 v4677
  v4678.toNat
def k0_dev121 (d0 : Dev nD) : Nat :=
  let c0_i32_4157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4147 : BitVec 32 := 1#32
  let v5032 : BitVec 32 := Scalar.addi v2 c1_i32_4147
  let c16_i32_4148 : BitVec 32 := 16#32
  let c0_i32_4149 : BitVec 32 := 0#32
  let v5033 : BitVec 1 := Scalar.cmpi .eq c16_i32_4148 c0_i32_4149
  let c1_i32_4150 : BitVec 32 := 1#32
  let v5034 : BitVec 32 := Scalar.select v5033 c1_i32_4150 c16_i32_4148
  let v5035 : BitVec 32 := Scalar.remsi v5032 v5034
  let c0_i32_4152 : BitVec 32 := 0#32
  let v5037 : BitVec 1 := Scalar.cmpi .slt v5035 c0_i32_4152
  let c0_i32_4153 : BitVec 32 := 0#32
  let v5038 : BitVec 1 := Scalar.cmpi .slt v5034 c0_i32_4153
  let v5039 : BitVec 1 := Scalar.xori v5037 v5038
  let c0_i32_4151 : BitVec 32 := 0#32
  let v5036 : BitVec 1 := Scalar.cmpi .ne v5035 c0_i32_4151
  let v5040 : BitVec 1 := Scalar.andi v5039 v5036
  let v5041 : BitVec 32 := Scalar.addi v5035 v5034
  let v5042 : BitVec 32 := Scalar.select v5040 v5041 v5035
  let c1_i32_4156 : BitVec 32 := 1#32
  let v5043 : BitVec 32 := Scalar.muli v5042 c1_i32_4156
  let v5044 : BitVec 32 := Scalar.addi c0_i32_4157 v5043
  v5044.toNat
def k0_dev122 (d0 : Dev nD) : Nat :=
  let c0_i32_4172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_4162 : BitVec 32 := 2#32
  let v5052 : BitVec 32 := Scalar.addi v2 c2_i32_4162
  let c16_i32_4163 : BitVec 32 := 16#32
  let c0_i32_4164 : BitVec 32 := 0#32
  let v5053 : BitVec 1 := Scalar.cmpi .eq c16_i32_4163 c0_i32_4164
  let c1_i32_4165 : BitVec 32 := 1#32
  let v5054 : BitVec 32 := Scalar.select v5053 c1_i32_4165 c16_i32_4163
  let v5055 : BitVec 32 := Scalar.remsi v5052 v5054
  let c0_i32_4167 : BitVec 32 := 0#32
  let v5057 : BitVec 1 := Scalar.cmpi .slt v5055 c0_i32_4167
  let c0_i32_4168 : BitVec 32 := 0#32
  let v5058 : BitVec 1 := Scalar.cmpi .slt v5054 c0_i32_4168
  let v5059 : BitVec 1 := Scalar.xori v5057 v5058
  let c0_i32_4166 : BitVec 32 := 0#32
  let v5056 : BitVec 1 := Scalar.cmpi .ne v5055 c0_i32_4166
  let v5060 : BitVec 1 := Scalar.andi v5059 v5056
  let v5061 : BitVec 32 := Scalar.addi v5055 v5054
  let v5062 : BitVec 32 := Scalar.select v5060 v5061 v5055
  let c1_i32_4171 : BitVec 32 := 1#32
  let v5063 : BitVec 32 := Scalar.muli v5062 c1_i32_4171
  let v5064 : BitVec 32 := Scalar.addi c0_i32_4172 v5063
  v5064.toNat
def k0_dev123 (d0 : Dev nD) : Nat :=
  let c0_i32_4187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_4177 : BitVec 32 := 3#32
  let v5072 : BitVec 32 := Scalar.addi v2 c3_i32_4177
  let c16_i32_4178 : BitVec 32 := 16#32
  let c0_i32_4179 : BitVec 32 := 0#32
  let v5073 : BitVec 1 := Scalar.cmpi .eq c16_i32_4178 c0_i32_4179
  let c1_i32_4180 : BitVec 32 := 1#32
  let v5074 : BitVec 32 := Scalar.select v5073 c1_i32_4180 c16_i32_4178
  let v5075 : BitVec 32 := Scalar.remsi v5072 v5074
  let c0_i32_4182 : BitVec 32 := 0#32
  let v5077 : BitVec 1 := Scalar.cmpi .slt v5075 c0_i32_4182
  let c0_i32_4183 : BitVec 32 := 0#32
  let v5078 : BitVec 1 := Scalar.cmpi .slt v5074 c0_i32_4183
  let v5079 : BitVec 1 := Scalar.xori v5077 v5078
  let c0_i32_4181 : BitVec 32 := 0#32
  let v5076 : BitVec 1 := Scalar.cmpi .ne v5075 c0_i32_4181
  let v5080 : BitVec 1 := Scalar.andi v5079 v5076
  let v5081 : BitVec 32 := Scalar.addi v5075 v5074
  let v5082 : BitVec 32 := Scalar.select v5080 v5081 v5075
  let c1_i32_4186 : BitVec 32 := 1#32
  let v5083 : BitVec 32 := Scalar.muli v5082 c1_i32_4186
  let v5084 : BitVec 32 := Scalar.addi c0_i32_4187 v5083
  v5084.toNat
def k0_dev124 (d0 : Dev nD) : Nat :=
  let c0_i32_4202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_4192 : BitVec 32 := 4#32
  let v5092 : BitVec 32 := Scalar.addi v2 c4_i32_4192
  let c16_i32_4193 : BitVec 32 := 16#32
  let c0_i32_4194 : BitVec 32 := 0#32
  let v5093 : BitVec 1 := Scalar.cmpi .eq c16_i32_4193 c0_i32_4194
  let c1_i32_4195 : BitVec 32 := 1#32
  let v5094 : BitVec 32 := Scalar.select v5093 c1_i32_4195 c16_i32_4193
  let v5095 : BitVec 32 := Scalar.remsi v5092 v5094
  let c0_i32_4197 : BitVec 32 := 0#32
  let v5097 : BitVec 1 := Scalar.cmpi .slt v5095 c0_i32_4197
  let c0_i32_4198 : BitVec 32 := 0#32
  let v5098 : BitVec 1 := Scalar.cmpi .slt v5094 c0_i32_4198
  let v5099 : BitVec 1 := Scalar.xori v5097 v5098
  let c0_i32_4196 : BitVec 32 := 0#32
  let v5096 : BitVec 1 := Scalar.cmpi .ne v5095 c0_i32_4196
  let v5100 : BitVec 1 := Scalar.andi v5099 v5096
  let v5101 : BitVec 32 := Scalar.addi v5095 v5094
  let v5102 : BitVec 32 := Scalar.select v5100 v5101 v5095
  let c1_i32_4201 : BitVec 32 := 1#32
  let v5103 : BitVec 32 := Scalar.muli v5102 c1_i32_4201
  let v5104 : BitVec 32 := Scalar.addi c0_i32_4202 v5103
  v5104.toNat
def k0_dev125 (d0 : Dev nD) : Nat :=
  let c0_i32_4217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_4207 : BitVec 32 := 5#32
  let v5112 : BitVec 32 := Scalar.addi v2 c5_i32_4207
  let c16_i32_4208 : BitVec 32 := 16#32
  let c0_i32_4209 : BitVec 32 := 0#32
  let v5113 : BitVec 1 := Scalar.cmpi .eq c16_i32_4208 c0_i32_4209
  let c1_i32_4210 : BitVec 32 := 1#32
  let v5114 : BitVec 32 := Scalar.select v5113 c1_i32_4210 c16_i32_4208
  let v5115 : BitVec 32 := Scalar.remsi v5112 v5114
  let c0_i32_4212 : BitVec 32 := 0#32
  let v5117 : BitVec 1 := Scalar.cmpi .slt v5115 c0_i32_4212
  let c0_i32_4213 : BitVec 32 := 0#32
  let v5118 : BitVec 1 := Scalar.cmpi .slt v5114 c0_i32_4213
  let v5119 : BitVec 1 := Scalar.xori v5117 v5118
  let c0_i32_4211 : BitVec 32 := 0#32
  let v5116 : BitVec 1 := Scalar.cmpi .ne v5115 c0_i32_4211
  let v5120 : BitVec 1 := Scalar.andi v5119 v5116
  let v5121 : BitVec 32 := Scalar.addi v5115 v5114
  let v5122 : BitVec 32 := Scalar.select v5120 v5121 v5115
  let c1_i32_4216 : BitVec 32 := 1#32
  let v5123 : BitVec 32 := Scalar.muli v5122 c1_i32_4216
  let v5124 : BitVec 32 := Scalar.addi c0_i32_4217 v5123
  v5124.toNat
def k0_dev126 (d0 : Dev nD) : Nat :=
  let c0_i32_4232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_4222 : BitVec 32 := 6#32
  let v5132 : BitVec 32 := Scalar.addi v2 c6_i32_4222
  let c16_i32_4223 : BitVec 32 := 16#32
  let c0_i32_4224 : BitVec 32 := 0#32
  let v5133 : BitVec 1 := Scalar.cmpi .eq c16_i32_4223 c0_i32_4224
  let c1_i32_4225 : BitVec 32 := 1#32
  let v5134 : BitVec 32 := Scalar.select v5133 c1_i32_4225 c16_i32_4223
  let v5135 : BitVec 32 := Scalar.remsi v5132 v5134
  let c0_i32_4227 : BitVec 32 := 0#32
  let v5137 : BitVec 1 := Scalar.cmpi .slt v5135 c0_i32_4227
  let c0_i32_4228 : BitVec 32 := 0#32
  let v5138 : BitVec 1 := Scalar.cmpi .slt v5134 c0_i32_4228
  let v5139 : BitVec 1 := Scalar.xori v5137 v5138
  let c0_i32_4226 : BitVec 32 := 0#32
  let v5136 : BitVec 1 := Scalar.cmpi .ne v5135 c0_i32_4226
  let v5140 : BitVec 1 := Scalar.andi v5139 v5136
  let v5141 : BitVec 32 := Scalar.addi v5135 v5134
  let v5142 : BitVec 32 := Scalar.select v5140 v5141 v5135
  let c1_i32_4231 : BitVec 32 := 1#32
  let v5143 : BitVec 32 := Scalar.muli v5142 c1_i32_4231
  let v5144 : BitVec 32 := Scalar.addi c0_i32_4232 v5143
  v5144.toNat
def k0_dev127 (d0 : Dev nD) : Nat :=
  let c0_i32_4247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_4237 : BitVec 32 := 7#32
  let v5152 : BitVec 32 := Scalar.addi v2 c7_i32_4237
  let c16_i32_4238 : BitVec 32 := 16#32
  let c0_i32_4239 : BitVec 32 := 0#32
  let v5153 : BitVec 1 := Scalar.cmpi .eq c16_i32_4238 c0_i32_4239
  let c1_i32_4240 : BitVec 32 := 1#32
  let v5154 : BitVec 32 := Scalar.select v5153 c1_i32_4240 c16_i32_4238
  let v5155 : BitVec 32 := Scalar.remsi v5152 v5154
  let c0_i32_4242 : BitVec 32 := 0#32
  let v5157 : BitVec 1 := Scalar.cmpi .slt v5155 c0_i32_4242
  let c0_i32_4243 : BitVec 32 := 0#32
  let v5158 : BitVec 1 := Scalar.cmpi .slt v5154 c0_i32_4243
  let v5159 : BitVec 1 := Scalar.xori v5157 v5158
  let c0_i32_4241 : BitVec 32 := 0#32
  let v5156 : BitVec 1 := Scalar.cmpi .ne v5155 c0_i32_4241
  let v5160 : BitVec 1 := Scalar.andi v5159 v5156
  let v5161 : BitVec 32 := Scalar.addi v5155 v5154
  let v5162 : BitVec 32 := Scalar.select v5160 v5161 v5155
  let c1_i32_4246 : BitVec 32 := 1#32
  let v5163 : BitVec 32 := Scalar.muli v5162 c1_i32_4246
  let v5164 : BitVec 32 := Scalar.addi c0_i32_4247 v5163
  v5164.toNat
def k0_dev128 (d0 : Dev nD) : Nat :=
  let c0_i32_4262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_4252 : BitVec 32 := 8#32
  let v5172 : BitVec 32 := Scalar.addi v2 c8_i32_4252
  let c16_i32_4253 : BitVec 32 := 16#32
  let c0_i32_4254 : BitVec 32 := 0#32
  let v5173 : BitVec 1 := Scalar.cmpi .eq c16_i32_4253 c0_i32_4254
  let c1_i32_4255 : BitVec 32 := 1#32
  let v5174 : BitVec 32 := Scalar.select v5173 c1_i32_4255 c16_i32_4253
  let v5175 : BitVec 32 := Scalar.remsi v5172 v5174
  let c0_i32_4257 : BitVec 32 := 0#32
  let v5177 : BitVec 1 := Scalar.cmpi .slt v5175 c0_i32_4257
  let c0_i32_4258 : BitVec 32 := 0#32
  let v5178 : BitVec 1 := Scalar.cmpi .slt v5174 c0_i32_4258
  let v5179 : BitVec 1 := Scalar.xori v5177 v5178
  let c0_i32_4256 : BitVec 32 := 0#32
  let v5176 : BitVec 1 := Scalar.cmpi .ne v5175 c0_i32_4256
  let v5180 : BitVec 1 := Scalar.andi v5179 v5176
  let v5181 : BitVec 32 := Scalar.addi v5175 v5174
  let v5182 : BitVec 32 := Scalar.select v5180 v5181 v5175
  let c1_i32_4261 : BitVec 32 := 1#32
  let v5183 : BitVec 32 := Scalar.muli v5182 c1_i32_4261
  let v5184 : BitVec 32 := Scalar.addi c0_i32_4262 v5183
  v5184.toNat
def k0_dev129 (d0 : Dev nD) : Nat :=
  let c0_i32_4277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_4267 : BitVec 32 := 9#32
  let v5192 : BitVec 32 := Scalar.addi v2 c9_i32_4267
  let c16_i32_4268 : BitVec 32 := 16#32
  let c0_i32_4269 : BitVec 32 := 0#32
  let v5193 : BitVec 1 := Scalar.cmpi .eq c16_i32_4268 c0_i32_4269
  let c1_i32_4270 : BitVec 32 := 1#32
  let v5194 : BitVec 32 := Scalar.select v5193 c1_i32_4270 c16_i32_4268
  let v5195 : BitVec 32 := Scalar.remsi v5192 v5194
  let c0_i32_4272 : BitVec 32 := 0#32
  let v5197 : BitVec 1 := Scalar.cmpi .slt v5195 c0_i32_4272
  let c0_i32_4273 : BitVec 32 := 0#32
  let v5198 : BitVec 1 := Scalar.cmpi .slt v5194 c0_i32_4273
  let v5199 : BitVec 1 := Scalar.xori v5197 v5198
  let c0_i32_4271 : BitVec 32 := 0#32
  let v5196 : BitVec 1 := Scalar.cmpi .ne v5195 c0_i32_4271
  let v5200 : BitVec 1 := Scalar.andi v5199 v5196
  let v5201 : BitVec 32 := Scalar.addi v5195 v5194
  let v5202 : BitVec 32 := Scalar.select v5200 v5201 v5195
  let c1_i32_4276 : BitVec 32 := 1#32
  let v5203 : BitVec 32 := Scalar.muli v5202 c1_i32_4276
  let v5204 : BitVec 32 := Scalar.addi c0_i32_4277 v5203
  v5204.toNat
def k0_dev130 (d0 : Dev nD) : Nat :=
  let c0_i32_4292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_4282 : BitVec 32 := 10#32
  let v5212 : BitVec 32 := Scalar.addi v2 c10_i32_4282
  let c16_i32_4283 : BitVec 32 := 16#32
  let c0_i32_4284 : BitVec 32 := 0#32
  let v5213 : BitVec 1 := Scalar.cmpi .eq c16_i32_4283 c0_i32_4284
  let c1_i32_4285 : BitVec 32 := 1#32
  let v5214 : BitVec 32 := Scalar.select v5213 c1_i32_4285 c16_i32_4283
  let v5215 : BitVec 32 := Scalar.remsi v5212 v5214
  let c0_i32_4287 : BitVec 32 := 0#32
  let v5217 : BitVec 1 := Scalar.cmpi .slt v5215 c0_i32_4287
  let c0_i32_4288 : BitVec 32 := 0#32
  let v5218 : BitVec 1 := Scalar.cmpi .slt v5214 c0_i32_4288
  let v5219 : BitVec 1 := Scalar.xori v5217 v5218
  let c0_i32_4286 : BitVec 32 := 0#32
  let v5216 : BitVec 1 := Scalar.cmpi .ne v5215 c0_i32_4286
  let v5220 : BitVec 1 := Scalar.andi v5219 v5216
  let v5221 : BitVec 32 := Scalar.addi v5215 v5214
  let v5222 : BitVec 32 := Scalar.select v5220 v5221 v5215
  let c1_i32_4291 : BitVec 32 := 1#32
  let v5223 : BitVec 32 := Scalar.muli v5222 c1_i32_4291
  let v5224 : BitVec 32 := Scalar.addi c0_i32_4292 v5223
  v5224.toNat
def k0_dev131 (d0 : Dev nD) : Nat :=
  let c0_i32_4307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_4297 : BitVec 32 := 11#32
  let v5232 : BitVec 32 := Scalar.addi v2 c11_i32_4297
  let c16_i32_4298 : BitVec 32 := 16#32
  let c0_i32_4299 : BitVec 32 := 0#32
  let v5233 : BitVec 1 := Scalar.cmpi .eq c16_i32_4298 c0_i32_4299
  let c1_i32_4300 : BitVec 32 := 1#32
  let v5234 : BitVec 32 := Scalar.select v5233 c1_i32_4300 c16_i32_4298
  let v5235 : BitVec 32 := Scalar.remsi v5232 v5234
  let c0_i32_4302 : BitVec 32 := 0#32
  let v5237 : BitVec 1 := Scalar.cmpi .slt v5235 c0_i32_4302
  let c0_i32_4303 : BitVec 32 := 0#32
  let v5238 : BitVec 1 := Scalar.cmpi .slt v5234 c0_i32_4303
  let v5239 : BitVec 1 := Scalar.xori v5237 v5238
  let c0_i32_4301 : BitVec 32 := 0#32
  let v5236 : BitVec 1 := Scalar.cmpi .ne v5235 c0_i32_4301
  let v5240 : BitVec 1 := Scalar.andi v5239 v5236
  let v5241 : BitVec 32 := Scalar.addi v5235 v5234
  let v5242 : BitVec 32 := Scalar.select v5240 v5241 v5235
  let c1_i32_4306 : BitVec 32 := 1#32
  let v5243 : BitVec 32 := Scalar.muli v5242 c1_i32_4306
  let v5244 : BitVec 32 := Scalar.addi c0_i32_4307 v5243
  v5244.toNat
def k0_dev132 (d0 : Dev nD) : Nat :=
  let c0_i32_4322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_4312 : BitVec 32 := 12#32
  let v5252 : BitVec 32 := Scalar.addi v2 c12_i32_4312
  let c16_i32_4313 : BitVec 32 := 16#32
  let c0_i32_4314 : BitVec 32 := 0#32
  let v5253 : BitVec 1 := Scalar.cmpi .eq c16_i32_4313 c0_i32_4314
  let c1_i32_4315 : BitVec 32 := 1#32
  let v5254 : BitVec 32 := Scalar.select v5253 c1_i32_4315 c16_i32_4313
  let v5255 : BitVec 32 := Scalar.remsi v5252 v5254
  let c0_i32_4317 : BitVec 32 := 0#32
  let v5257 : BitVec 1 := Scalar.cmpi .slt v5255 c0_i32_4317
  let c0_i32_4318 : BitVec 32 := 0#32
  let v5258 : BitVec 1 := Scalar.cmpi .slt v5254 c0_i32_4318
  let v5259 : BitVec 1 := Scalar.xori v5257 v5258
  let c0_i32_4316 : BitVec 32 := 0#32
  let v5256 : BitVec 1 := Scalar.cmpi .ne v5255 c0_i32_4316
  let v5260 : BitVec 1 := Scalar.andi v5259 v5256
  let v5261 : BitVec 32 := Scalar.addi v5255 v5254
  let v5262 : BitVec 32 := Scalar.select v5260 v5261 v5255
  let c1_i32_4321 : BitVec 32 := 1#32
  let v5263 : BitVec 32 := Scalar.muli v5262 c1_i32_4321
  let v5264 : BitVec 32 := Scalar.addi c0_i32_4322 v5263
  v5264.toNat
def k0_dev133 (d0 : Dev nD) : Nat :=
  let c0_i32_4337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_4327 : BitVec 32 := 13#32
  let v5272 : BitVec 32 := Scalar.addi v2 c13_i32_4327
  let c16_i32_4328 : BitVec 32 := 16#32
  let c0_i32_4329 : BitVec 32 := 0#32
  let v5273 : BitVec 1 := Scalar.cmpi .eq c16_i32_4328 c0_i32_4329
  let c1_i32_4330 : BitVec 32 := 1#32
  let v5274 : BitVec 32 := Scalar.select v5273 c1_i32_4330 c16_i32_4328
  let v5275 : BitVec 32 := Scalar.remsi v5272 v5274
  let c0_i32_4332 : BitVec 32 := 0#32
  let v5277 : BitVec 1 := Scalar.cmpi .slt v5275 c0_i32_4332
  let c0_i32_4333 : BitVec 32 := 0#32
  let v5278 : BitVec 1 := Scalar.cmpi .slt v5274 c0_i32_4333
  let v5279 : BitVec 1 := Scalar.xori v5277 v5278
  let c0_i32_4331 : BitVec 32 := 0#32
  let v5276 : BitVec 1 := Scalar.cmpi .ne v5275 c0_i32_4331
  let v5280 : BitVec 1 := Scalar.andi v5279 v5276
  let v5281 : BitVec 32 := Scalar.addi v5275 v5274
  let v5282 : BitVec 32 := Scalar.select v5280 v5281 v5275
  let c1_i32_4336 : BitVec 32 := 1#32
  let v5283 : BitVec 32 := Scalar.muli v5282 c1_i32_4336
  let v5284 : BitVec 32 := Scalar.addi c0_i32_4337 v5283
  v5284.toNat
def k0_dev134 (d0 : Dev nD) : Nat :=
  let c0_i32_4352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_4342 : BitVec 32 := 14#32
  let v5292 : BitVec 32 := Scalar.addi v2 c14_i32_4342
  let c16_i32_4343 : BitVec 32 := 16#32
  let c0_i32_4344 : BitVec 32 := 0#32
  let v5293 : BitVec 1 := Scalar.cmpi .eq c16_i32_4343 c0_i32_4344
  let c1_i32_4345 : BitVec 32 := 1#32
  let v5294 : BitVec 32 := Scalar.select v5293 c1_i32_4345 c16_i32_4343
  let v5295 : BitVec 32 := Scalar.remsi v5292 v5294
  let c0_i32_4347 : BitVec 32 := 0#32
  let v5297 : BitVec 1 := Scalar.cmpi .slt v5295 c0_i32_4347
  let c0_i32_4348 : BitVec 32 := 0#32
  let v5298 : BitVec 1 := Scalar.cmpi .slt v5294 c0_i32_4348
  let v5299 : BitVec 1 := Scalar.xori v5297 v5298
  let c0_i32_4346 : BitVec 32 := 0#32
  let v5296 : BitVec 1 := Scalar.cmpi .ne v5295 c0_i32_4346
  let v5300 : BitVec 1 := Scalar.andi v5299 v5296
  let v5301 : BitVec 32 := Scalar.addi v5295 v5294
  let v5302 : BitVec 32 := Scalar.select v5300 v5301 v5295
  let c1_i32_4351 : BitVec 32 := 1#32
  let v5303 : BitVec 32 := Scalar.muli v5302 c1_i32_4351
  let v5304 : BitVec 32 := Scalar.addi c0_i32_4352 v5303
  v5304.toNat
def k0_dev135 (d0 : Dev nD) : Nat :=
  let c0_i32_4367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_4357 : BitVec 32 := 15#32
  let v5312 : BitVec 32 := Scalar.addi v2 c15_i32_4357
  let c16_i32_4358 : BitVec 32 := 16#32
  let c0_i32_4359 : BitVec 32 := 0#32
  let v5313 : BitVec 1 := Scalar.cmpi .eq c16_i32_4358 c0_i32_4359
  let c1_i32_4360 : BitVec 32 := 1#32
  let v5314 : BitVec 32 := Scalar.select v5313 c1_i32_4360 c16_i32_4358
  let v5315 : BitVec 32 := Scalar.remsi v5312 v5314
  let c0_i32_4362 : BitVec 32 := 0#32
  let v5317 : BitVec 1 := Scalar.cmpi .slt v5315 c0_i32_4362
  let c0_i32_4363 : BitVec 32 := 0#32
  let v5318 : BitVec 1 := Scalar.cmpi .slt v5314 c0_i32_4363
  let v5319 : BitVec 1 := Scalar.xori v5317 v5318
  let c0_i32_4361 : BitVec 32 := 0#32
  let v5316 : BitVec 1 := Scalar.cmpi .ne v5315 c0_i32_4361
  let v5320 : BitVec 1 := Scalar.andi v5319 v5316
  let v5321 : BitVec 32 := Scalar.addi v5315 v5314
  let v5322 : BitVec 32 := Scalar.select v5320 v5321 v5315
  let c1_i32_4366 : BitVec 32 := 1#32
  let v5323 : BitVec 32 := Scalar.muli v5322 c1_i32_4366
  let v5324 : BitVec 32 := Scalar.addi c0_i32_4367 v5323
  v5324.toNat
def k0_dev136 (d0 : Dev nD) : Nat :=
  let c0_i32_5432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5422 : BitVec 32 := 1#32
  let v6367 : BitVec 32 := Scalar.addi v2 c1_i32_5422
  let c16_i32_5423 : BitVec 32 := 16#32
  let c0_i32_5424 : BitVec 32 := 0#32
  let v6368 : BitVec 1 := Scalar.cmpi .eq c16_i32_5423 c0_i32_5424
  let c1_i32_5425 : BitVec 32 := 1#32
  let v6369 : BitVec 32 := Scalar.select v6368 c1_i32_5425 c16_i32_5423
  let v6370 : BitVec 32 := Scalar.remsi v6367 v6369
  let c0_i32_5427 : BitVec 32 := 0#32
  let v6372 : BitVec 1 := Scalar.cmpi .slt v6370 c0_i32_5427
  let c0_i32_5428 : BitVec 32 := 0#32
  let v6373 : BitVec 1 := Scalar.cmpi .slt v6369 c0_i32_5428
  let v6374 : BitVec 1 := Scalar.xori v6372 v6373
  let c0_i32_5426 : BitVec 32 := 0#32
  let v6371 : BitVec 1 := Scalar.cmpi .ne v6370 c0_i32_5426
  let v6375 : BitVec 1 := Scalar.andi v6374 v6371
  let v6376 : BitVec 32 := Scalar.addi v6370 v6369
  let v6377 : BitVec 32 := Scalar.select v6375 v6376 v6370
  let c1_i32_5431 : BitVec 32 := 1#32
  let v6378 : BitVec 32 := Scalar.muli v6377 c1_i32_5431
  let v6379 : BitVec 32 := Scalar.addi c0_i32_5432 v6378
  v6379.toNat
def k0_dev137 (d0 : Dev nD) : Nat :=
  let c0_i32_5447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_5437 : BitVec 32 := 2#32
  let v6388 : BitVec 32 := Scalar.addi v2 c2_i32_5437
  let c16_i32_5438 : BitVec 32 := 16#32
  let c0_i32_5439 : BitVec 32 := 0#32
  let v6389 : BitVec 1 := Scalar.cmpi .eq c16_i32_5438 c0_i32_5439
  let c1_i32_5440 : BitVec 32 := 1#32
  let v6390 : BitVec 32 := Scalar.select v6389 c1_i32_5440 c16_i32_5438
  let v6391 : BitVec 32 := Scalar.remsi v6388 v6390
  let c0_i32_5442 : BitVec 32 := 0#32
  let v6393 : BitVec 1 := Scalar.cmpi .slt v6391 c0_i32_5442
  let c0_i32_5443 : BitVec 32 := 0#32
  let v6394 : BitVec 1 := Scalar.cmpi .slt v6390 c0_i32_5443
  let v6395 : BitVec 1 := Scalar.xori v6393 v6394
  let c0_i32_5441 : BitVec 32 := 0#32
  let v6392 : BitVec 1 := Scalar.cmpi .ne v6391 c0_i32_5441
  let v6396 : BitVec 1 := Scalar.andi v6395 v6392
  let v6397 : BitVec 32 := Scalar.addi v6391 v6390
  let v6398 : BitVec 32 := Scalar.select v6396 v6397 v6391
  let c1_i32_5446 : BitVec 32 := 1#32
  let v6399 : BitVec 32 := Scalar.muli v6398 c1_i32_5446
  let v6400 : BitVec 32 := Scalar.addi c0_i32_5447 v6399
  v6400.toNat
def k0_dev138 (d0 : Dev nD) : Nat :=
  let c0_i32_5462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_5452 : BitVec 32 := 3#32
  let v6409 : BitVec 32 := Scalar.addi v2 c3_i32_5452
  let c16_i32_5453 : BitVec 32 := 16#32
  let c0_i32_5454 : BitVec 32 := 0#32
  let v6410 : BitVec 1 := Scalar.cmpi .eq c16_i32_5453 c0_i32_5454
  let c1_i32_5455 : BitVec 32 := 1#32
  let v6411 : BitVec 32 := Scalar.select v6410 c1_i32_5455 c16_i32_5453
  let v6412 : BitVec 32 := Scalar.remsi v6409 v6411
  let c0_i32_5457 : BitVec 32 := 0#32
  let v6414 : BitVec 1 := Scalar.cmpi .slt v6412 c0_i32_5457
  let c0_i32_5458 : BitVec 32 := 0#32
  let v6415 : BitVec 1 := Scalar.cmpi .slt v6411 c0_i32_5458
  let v6416 : BitVec 1 := Scalar.xori v6414 v6415
  let c0_i32_5456 : BitVec 32 := 0#32
  let v6413 : BitVec 1 := Scalar.cmpi .ne v6412 c0_i32_5456
  let v6417 : BitVec 1 := Scalar.andi v6416 v6413
  let v6418 : BitVec 32 := Scalar.addi v6412 v6411
  let v6419 : BitVec 32 := Scalar.select v6417 v6418 v6412
  let c1_i32_5461 : BitVec 32 := 1#32
  let v6420 : BitVec 32 := Scalar.muli v6419 c1_i32_5461
  let v6421 : BitVec 32 := Scalar.addi c0_i32_5462 v6420
  v6421.toNat
def k0_dev139 (d0 : Dev nD) : Nat :=
  let c0_i32_5477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5467 : BitVec 32 := 4#32
  let v6430 : BitVec 32 := Scalar.addi v2 c4_i32_5467
  let c16_i32_5468 : BitVec 32 := 16#32
  let c0_i32_5469 : BitVec 32 := 0#32
  let v6431 : BitVec 1 := Scalar.cmpi .eq c16_i32_5468 c0_i32_5469
  let c1_i32_5470 : BitVec 32 := 1#32
  let v6432 : BitVec 32 := Scalar.select v6431 c1_i32_5470 c16_i32_5468
  let v6433 : BitVec 32 := Scalar.remsi v6430 v6432
  let c0_i32_5472 : BitVec 32 := 0#32
  let v6435 : BitVec 1 := Scalar.cmpi .slt v6433 c0_i32_5472
  let c0_i32_5473 : BitVec 32 := 0#32
  let v6436 : BitVec 1 := Scalar.cmpi .slt v6432 c0_i32_5473
  let v6437 : BitVec 1 := Scalar.xori v6435 v6436
  let c0_i32_5471 : BitVec 32 := 0#32
  let v6434 : BitVec 1 := Scalar.cmpi .ne v6433 c0_i32_5471
  let v6438 : BitVec 1 := Scalar.andi v6437 v6434
  let v6439 : BitVec 32 := Scalar.addi v6433 v6432
  let v6440 : BitVec 32 := Scalar.select v6438 v6439 v6433
  let c1_i32_5476 : BitVec 32 := 1#32
  let v6441 : BitVec 32 := Scalar.muli v6440 c1_i32_5476
  let v6442 : BitVec 32 := Scalar.addi c0_i32_5477 v6441
  v6442.toNat
def k0_dev140 (d0 : Dev nD) : Nat :=
  let c0_i32_5492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_5482 : BitVec 32 := 5#32
  let v6451 : BitVec 32 := Scalar.addi v2 c5_i32_5482
  let c16_i32_5483 : BitVec 32 := 16#32
  let c0_i32_5484 : BitVec 32 := 0#32
  let v6452 : BitVec 1 := Scalar.cmpi .eq c16_i32_5483 c0_i32_5484
  let c1_i32_5485 : BitVec 32 := 1#32
  let v6453 : BitVec 32 := Scalar.select v6452 c1_i32_5485 c16_i32_5483
  let v6454 : BitVec 32 := Scalar.remsi v6451 v6453
  let c0_i32_5487 : BitVec 32 := 0#32
  let v6456 : BitVec 1 := Scalar.cmpi .slt v6454 c0_i32_5487
  let c0_i32_5488 : BitVec 32 := 0#32
  let v6457 : BitVec 1 := Scalar.cmpi .slt v6453 c0_i32_5488
  let v6458 : BitVec 1 := Scalar.xori v6456 v6457
  let c0_i32_5486 : BitVec 32 := 0#32
  let v6455 : BitVec 1 := Scalar.cmpi .ne v6454 c0_i32_5486
  let v6459 : BitVec 1 := Scalar.andi v6458 v6455
  let v6460 : BitVec 32 := Scalar.addi v6454 v6453
  let v6461 : BitVec 32 := Scalar.select v6459 v6460 v6454
  let c1_i32_5491 : BitVec 32 := 1#32
  let v6462 : BitVec 32 := Scalar.muli v6461 c1_i32_5491
  let v6463 : BitVec 32 := Scalar.addi c0_i32_5492 v6462
  v6463.toNat
def k0_dev141 (d0 : Dev nD) : Nat :=
  let c0_i32_5507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_5497 : BitVec 32 := 6#32
  let v6472 : BitVec 32 := Scalar.addi v2 c6_i32_5497
  let c16_i32_5498 : BitVec 32 := 16#32
  let c0_i32_5499 : BitVec 32 := 0#32
  let v6473 : BitVec 1 := Scalar.cmpi .eq c16_i32_5498 c0_i32_5499
  let c1_i32_5500 : BitVec 32 := 1#32
  let v6474 : BitVec 32 := Scalar.select v6473 c1_i32_5500 c16_i32_5498
  let v6475 : BitVec 32 := Scalar.remsi v6472 v6474
  let c0_i32_5502 : BitVec 32 := 0#32
  let v6477 : BitVec 1 := Scalar.cmpi .slt v6475 c0_i32_5502
  let c0_i32_5503 : BitVec 32 := 0#32
  let v6478 : BitVec 1 := Scalar.cmpi .slt v6474 c0_i32_5503
  let v6479 : BitVec 1 := Scalar.xori v6477 v6478
  let c0_i32_5501 : BitVec 32 := 0#32
  let v6476 : BitVec 1 := Scalar.cmpi .ne v6475 c0_i32_5501
  let v6480 : BitVec 1 := Scalar.andi v6479 v6476
  let v6481 : BitVec 32 := Scalar.addi v6475 v6474
  let v6482 : BitVec 32 := Scalar.select v6480 v6481 v6475
  let c1_i32_5506 : BitVec 32 := 1#32
  let v6483 : BitVec 32 := Scalar.muli v6482 c1_i32_5506
  let v6484 : BitVec 32 := Scalar.addi c0_i32_5507 v6483
  v6484.toNat
def k0_dev142 (d0 : Dev nD) : Nat :=
  let c0_i32_5522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_5512 : BitVec 32 := 7#32
  let v6493 : BitVec 32 := Scalar.addi v2 c7_i32_5512
  let c16_i32_5513 : BitVec 32 := 16#32
  let c0_i32_5514 : BitVec 32 := 0#32
  let v6494 : BitVec 1 := Scalar.cmpi .eq c16_i32_5513 c0_i32_5514
  let c1_i32_5515 : BitVec 32 := 1#32
  let v6495 : BitVec 32 := Scalar.select v6494 c1_i32_5515 c16_i32_5513
  let v6496 : BitVec 32 := Scalar.remsi v6493 v6495
  let c0_i32_5517 : BitVec 32 := 0#32
  let v6498 : BitVec 1 := Scalar.cmpi .slt v6496 c0_i32_5517
  let c0_i32_5518 : BitVec 32 := 0#32
  let v6499 : BitVec 1 := Scalar.cmpi .slt v6495 c0_i32_5518
  let v6500 : BitVec 1 := Scalar.xori v6498 v6499
  let c0_i32_5516 : BitVec 32 := 0#32
  let v6497 : BitVec 1 := Scalar.cmpi .ne v6496 c0_i32_5516
  let v6501 : BitVec 1 := Scalar.andi v6500 v6497
  let v6502 : BitVec 32 := Scalar.addi v6496 v6495
  let v6503 : BitVec 32 := Scalar.select v6501 v6502 v6496
  let c1_i32_5521 : BitVec 32 := 1#32
  let v6504 : BitVec 32 := Scalar.muli v6503 c1_i32_5521
  let v6505 : BitVec 32 := Scalar.addi c0_i32_5522 v6504
  v6505.toNat
def k0_dev143 (d0 : Dev nD) : Nat :=
  let c0_i32_5537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_5527 : BitVec 32 := 8#32
  let v6514 : BitVec 32 := Scalar.addi v2 c8_i32_5527
  let c16_i32_5528 : BitVec 32 := 16#32
  let c0_i32_5529 : BitVec 32 := 0#32
  let v6515 : BitVec 1 := Scalar.cmpi .eq c16_i32_5528 c0_i32_5529
  let c1_i32_5530 : BitVec 32 := 1#32
  let v6516 : BitVec 32 := Scalar.select v6515 c1_i32_5530 c16_i32_5528
  let v6517 : BitVec 32 := Scalar.remsi v6514 v6516
  let c0_i32_5532 : BitVec 32 := 0#32
  let v6519 : BitVec 1 := Scalar.cmpi .slt v6517 c0_i32_5532
  let c0_i32_5533 : BitVec 32 := 0#32
  let v6520 : BitVec 1 := Scalar.cmpi .slt v6516 c0_i32_5533
  let v6521 : BitVec 1 := Scalar.xori v6519 v6520
  let c0_i32_5531 : BitVec 32 := 0#32
  let v6518 : BitVec 1 := Scalar.cmpi .ne v6517 c0_i32_5531
  let v6522 : BitVec 1 := Scalar.andi v6521 v6518
  let v6523 : BitVec 32 := Scalar.addi v6517 v6516
  let v6524 : BitVec 32 := Scalar.select v6522 v6523 v6517
  let c1_i32_5536 : BitVec 32 := 1#32
  let v6525 : BitVec 32 := Scalar.muli v6524 c1_i32_5536
  let v6526 : BitVec 32 := Scalar.addi c0_i32_5537 v6525
  v6526.toNat
def k0_dev144 (d0 : Dev nD) : Nat :=
  let c0_i32_5552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_5542 : BitVec 32 := 9#32
  let v6535 : BitVec 32 := Scalar.addi v2 c9_i32_5542
  let c16_i32_5543 : BitVec 32 := 16#32
  let c0_i32_5544 : BitVec 32 := 0#32
  let v6536 : BitVec 1 := Scalar.cmpi .eq c16_i32_5543 c0_i32_5544
  let c1_i32_5545 : BitVec 32 := 1#32
  let v6537 : BitVec 32 := Scalar.select v6536 c1_i32_5545 c16_i32_5543
  let v6538 : BitVec 32 := Scalar.remsi v6535 v6537
  let c0_i32_5547 : BitVec 32 := 0#32
  let v6540 : BitVec 1 := Scalar.cmpi .slt v6538 c0_i32_5547
  let c0_i32_5548 : BitVec 32 := 0#32
  let v6541 : BitVec 1 := Scalar.cmpi .slt v6537 c0_i32_5548
  let v6542 : BitVec 1 := Scalar.xori v6540 v6541
  let c0_i32_5546 : BitVec 32 := 0#32
  let v6539 : BitVec 1 := Scalar.cmpi .ne v6538 c0_i32_5546
  let v6543 : BitVec 1 := Scalar.andi v6542 v6539
  let v6544 : BitVec 32 := Scalar.addi v6538 v6537
  let v6545 : BitVec 32 := Scalar.select v6543 v6544 v6538
  let c1_i32_5551 : BitVec 32 := 1#32
  let v6546 : BitVec 32 := Scalar.muli v6545 c1_i32_5551
  let v6547 : BitVec 32 := Scalar.addi c0_i32_5552 v6546
  v6547.toNat
def k0_dev145 (d0 : Dev nD) : Nat :=
  let c0_i32_5567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_5557 : BitVec 32 := 10#32
  let v6556 : BitVec 32 := Scalar.addi v2 c10_i32_5557
  let c16_i32_5558 : BitVec 32 := 16#32
  let c0_i32_5559 : BitVec 32 := 0#32
  let v6557 : BitVec 1 := Scalar.cmpi .eq c16_i32_5558 c0_i32_5559
  let c1_i32_5560 : BitVec 32 := 1#32
  let v6558 : BitVec 32 := Scalar.select v6557 c1_i32_5560 c16_i32_5558
  let v6559 : BitVec 32 := Scalar.remsi v6556 v6558
  let c0_i32_5562 : BitVec 32 := 0#32
  let v6561 : BitVec 1 := Scalar.cmpi .slt v6559 c0_i32_5562
  let c0_i32_5563 : BitVec 32 := 0#32
  let v6562 : BitVec 1 := Scalar.cmpi .slt v6558 c0_i32_5563
  let v6563 : BitVec 1 := Scalar.xori v6561 v6562
  let c0_i32_5561 : BitVec 32 := 0#32
  let v6560 : BitVec 1 := Scalar.cmpi .ne v6559 c0_i32_5561
  let v6564 : BitVec 1 := Scalar.andi v6563 v6560
  let v6565 : BitVec 32 := Scalar.addi v6559 v6558
  let v6566 : BitVec 32 := Scalar.select v6564 v6565 v6559
  let c1_i32_5566 : BitVec 32 := 1#32
  let v6567 : BitVec 32 := Scalar.muli v6566 c1_i32_5566
  let v6568 : BitVec 32 := Scalar.addi c0_i32_5567 v6567
  v6568.toNat
def k0_dev146 (d0 : Dev nD) : Nat :=
  let c0_i32_5582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_5572 : BitVec 32 := 11#32
  let v6577 : BitVec 32 := Scalar.addi v2 c11_i32_5572
  let c16_i32_5573 : BitVec 32 := 16#32
  let c0_i32_5574 : BitVec 32 := 0#32
  let v6578 : BitVec 1 := Scalar.cmpi .eq c16_i32_5573 c0_i32_5574
  let c1_i32_5575 : BitVec 32 := 1#32
  let v6579 : BitVec 32 := Scalar.select v6578 c1_i32_5575 c16_i32_5573
  let v6580 : BitVec 32 := Scalar.remsi v6577 v6579
  let c0_i32_5577 : BitVec 32 := 0#32
  let v6582 : BitVec 1 := Scalar.cmpi .slt v6580 c0_i32_5577
  let c0_i32_5578 : BitVec 32 := 0#32
  let v6583 : BitVec 1 := Scalar.cmpi .slt v6579 c0_i32_5578
  let v6584 : BitVec 1 := Scalar.xori v6582 v6583
  let c0_i32_5576 : BitVec 32 := 0#32
  let v6581 : BitVec 1 := Scalar.cmpi .ne v6580 c0_i32_5576
  let v6585 : BitVec 1 := Scalar.andi v6584 v6581
  let v6586 : BitVec 32 := Scalar.addi v6580 v6579
  let v6587 : BitVec 32 := Scalar.select v6585 v6586 v6580
  let c1_i32_5581 : BitVec 32 := 1#32
  let v6588 : BitVec 32 := Scalar.muli v6587 c1_i32_5581
  let v6589 : BitVec 32 := Scalar.addi c0_i32_5582 v6588
  v6589.toNat
def k0_dev147 (d0 : Dev nD) : Nat :=
  let c0_i32_5597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_5587 : BitVec 32 := 12#32
  let v6598 : BitVec 32 := Scalar.addi v2 c12_i32_5587
  let c16_i32_5588 : BitVec 32 := 16#32
  let c0_i32_5589 : BitVec 32 := 0#32
  let v6599 : BitVec 1 := Scalar.cmpi .eq c16_i32_5588 c0_i32_5589
  let c1_i32_5590 : BitVec 32 := 1#32
  let v6600 : BitVec 32 := Scalar.select v6599 c1_i32_5590 c16_i32_5588
  let v6601 : BitVec 32 := Scalar.remsi v6598 v6600
  let c0_i32_5592 : BitVec 32 := 0#32
  let v6603 : BitVec 1 := Scalar.cmpi .slt v6601 c0_i32_5592
  let c0_i32_5593 : BitVec 32 := 0#32
  let v6604 : BitVec 1 := Scalar.cmpi .slt v6600 c0_i32_5593
  let v6605 : BitVec 1 := Scalar.xori v6603 v6604
  let c0_i32_5591 : BitVec 32 := 0#32
  let v6602 : BitVec 1 := Scalar.cmpi .ne v6601 c0_i32_5591
  let v6606 : BitVec 1 := Scalar.andi v6605 v6602
  let v6607 : BitVec 32 := Scalar.addi v6601 v6600
  let v6608 : BitVec 32 := Scalar.select v6606 v6607 v6601
  let c1_i32_5596 : BitVec 32 := 1#32
  let v6609 : BitVec 32 := Scalar.muli v6608 c1_i32_5596
  let v6610 : BitVec 32 := Scalar.addi c0_i32_5597 v6609
  v6610.toNat
def k0_dev148 (d0 : Dev nD) : Nat :=
  let c0_i32_5612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_5602 : BitVec 32 := 13#32
  let v6619 : BitVec 32 := Scalar.addi v2 c13_i32_5602
  let c16_i32_5603 : BitVec 32 := 16#32
  let c0_i32_5604 : BitVec 32 := 0#32
  let v6620 : BitVec 1 := Scalar.cmpi .eq c16_i32_5603 c0_i32_5604
  let c1_i32_5605 : BitVec 32 := 1#32
  let v6621 : BitVec 32 := Scalar.select v6620 c1_i32_5605 c16_i32_5603
  let v6622 : BitVec 32 := Scalar.remsi v6619 v6621
  let c0_i32_5607 : BitVec 32 := 0#32
  let v6624 : BitVec 1 := Scalar.cmpi .slt v6622 c0_i32_5607
  let c0_i32_5608 : BitVec 32 := 0#32
  let v6625 : BitVec 1 := Scalar.cmpi .slt v6621 c0_i32_5608
  let v6626 : BitVec 1 := Scalar.xori v6624 v6625
  let c0_i32_5606 : BitVec 32 := 0#32
  let v6623 : BitVec 1 := Scalar.cmpi .ne v6622 c0_i32_5606
  let v6627 : BitVec 1 := Scalar.andi v6626 v6623
  let v6628 : BitVec 32 := Scalar.addi v6622 v6621
  let v6629 : BitVec 32 := Scalar.select v6627 v6628 v6622
  let c1_i32_5611 : BitVec 32 := 1#32
  let v6630 : BitVec 32 := Scalar.muli v6629 c1_i32_5611
  let v6631 : BitVec 32 := Scalar.addi c0_i32_5612 v6630
  v6631.toNat
def k0_dev149 (d0 : Dev nD) : Nat :=
  let c0_i32_5627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_5617 : BitVec 32 := 14#32
  let v6640 : BitVec 32 := Scalar.addi v2 c14_i32_5617
  let c16_i32_5618 : BitVec 32 := 16#32
  let c0_i32_5619 : BitVec 32 := 0#32
  let v6641 : BitVec 1 := Scalar.cmpi .eq c16_i32_5618 c0_i32_5619
  let c1_i32_5620 : BitVec 32 := 1#32
  let v6642 : BitVec 32 := Scalar.select v6641 c1_i32_5620 c16_i32_5618
  let v6643 : BitVec 32 := Scalar.remsi v6640 v6642
  let c0_i32_5622 : BitVec 32 := 0#32
  let v6645 : BitVec 1 := Scalar.cmpi .slt v6643 c0_i32_5622
  let c0_i32_5623 : BitVec 32 := 0#32
  let v6646 : BitVec 1 := Scalar.cmpi .slt v6642 c0_i32_5623
  let v6647 : BitVec 1 := Scalar.xori v6645 v6646
  let c0_i32_5621 : BitVec 32 := 0#32
  let v6644 : BitVec 1 := Scalar.cmpi .ne v6643 c0_i32_5621
  let v6648 : BitVec 1 := Scalar.andi v6647 v6644
  let v6649 : BitVec 32 := Scalar.addi v6643 v6642
  let v6650 : BitVec 32 := Scalar.select v6648 v6649 v6643
  let c1_i32_5626 : BitVec 32 := 1#32
  let v6651 : BitVec 32 := Scalar.muli v6650 c1_i32_5626
  let v6652 : BitVec 32 := Scalar.addi c0_i32_5627 v6651
  v6652.toNat
def k0_dev150 (d0 : Dev nD) : Nat :=
  let c0_i32_5642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_5632 : BitVec 32 := 15#32
  let v6661 : BitVec 32 := Scalar.addi v2 c15_i32_5632
  let c16_i32_5633 : BitVec 32 := 16#32
  let c0_i32_5634 : BitVec 32 := 0#32
  let v6662 : BitVec 1 := Scalar.cmpi .eq c16_i32_5633 c0_i32_5634
  let c1_i32_5635 : BitVec 32 := 1#32
  let v6663 : BitVec 32 := Scalar.select v6662 c1_i32_5635 c16_i32_5633
  let v6664 : BitVec 32 := Scalar.remsi v6661 v6663
  let c0_i32_5637 : BitVec 32 := 0#32
  let v6666 : BitVec 1 := Scalar.cmpi .slt v6664 c0_i32_5637
  let c0_i32_5638 : BitVec 32 := 0#32
  let v6667 : BitVec 1 := Scalar.cmpi .slt v6663 c0_i32_5638
  let v6668 : BitVec 1 := Scalar.xori v6666 v6667
  let c0_i32_5636 : BitVec 32 := 0#32
  let v6665 : BitVec 1 := Scalar.cmpi .ne v6664 c0_i32_5636
  let v6669 : BitVec 1 := Scalar.andi v6668 v6665
  let v6670 : BitVec 32 := Scalar.addi v6664 v6663
  let v6671 : BitVec 32 := Scalar.select v6669 v6670 v6664
  let c1_i32_5641 : BitVec 32 := 1#32
  let v6672 : BitVec 32 := Scalar.muli v6671 c1_i32_5641
  let v6673 : BitVec 32 := Scalar.addi c0_i32_5642 v6672
  v6673.toNat
def k0_dev151 (d0 : Dev nD) : Nat :=
  let c0_i32_5714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5704 : BitVec 32 := 1#32
  let v6755 : BitVec 32 := Scalar.addi v2 c1_i32_5704
  let c16_i32_5705 : BitVec 32 := 16#32
  let c0_i32_5706 : BitVec 32 := 0#32
  let v6756 : BitVec 1 := Scalar.cmpi .eq c16_i32_5705 c0_i32_5706
  let c1_i32_5707 : BitVec 32 := 1#32
  let v6757 : BitVec 32 := Scalar.select v6756 c1_i32_5707 c16_i32_5705
  let v6758 : BitVec 32 := Scalar.remsi v6755 v6757
  let c0_i32_5709 : BitVec 32 := 0#32
  let v6760 : BitVec 1 := Scalar.cmpi .slt v6758 c0_i32_5709
  let c0_i32_5710 : BitVec 32 := 0#32
  let v6761 : BitVec 1 := Scalar.cmpi .slt v6757 c0_i32_5710
  let v6762 : BitVec 1 := Scalar.xori v6760 v6761
  let c0_i32_5708 : BitVec 32 := 0#32
  let v6759 : BitVec 1 := Scalar.cmpi .ne v6758 c0_i32_5708
  let v6763 : BitVec 1 := Scalar.andi v6762 v6759
  let v6764 : BitVec 32 := Scalar.addi v6758 v6757
  let v6765 : BitVec 32 := Scalar.select v6763 v6764 v6758
  let c1_i32_5713 : BitVec 32 := 1#32
  let v6766 : BitVec 32 := Scalar.muli v6765 c1_i32_5713
  let v6767 : BitVec 32 := Scalar.addi c0_i32_5714 v6766
  v6767.toNat
def k0_dev152 (d0 : Dev nD) : Nat :=
  let c0_i32_5729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_5719 : BitVec 32 := 2#32
  let v6776 : BitVec 32 := Scalar.addi v2 c2_i32_5719
  let c16_i32_5720 : BitVec 32 := 16#32
  let c0_i32_5721 : BitVec 32 := 0#32
  let v6777 : BitVec 1 := Scalar.cmpi .eq c16_i32_5720 c0_i32_5721
  let c1_i32_5722 : BitVec 32 := 1#32
  let v6778 : BitVec 32 := Scalar.select v6777 c1_i32_5722 c16_i32_5720
  let v6779 : BitVec 32 := Scalar.remsi v6776 v6778
  let c0_i32_5724 : BitVec 32 := 0#32
  let v6781 : BitVec 1 := Scalar.cmpi .slt v6779 c0_i32_5724
  let c0_i32_5725 : BitVec 32 := 0#32
  let v6782 : BitVec 1 := Scalar.cmpi .slt v6778 c0_i32_5725
  let v6783 : BitVec 1 := Scalar.xori v6781 v6782
  let c0_i32_5723 : BitVec 32 := 0#32
  let v6780 : BitVec 1 := Scalar.cmpi .ne v6779 c0_i32_5723
  let v6784 : BitVec 1 := Scalar.andi v6783 v6780
  let v6785 : BitVec 32 := Scalar.addi v6779 v6778
  let v6786 : BitVec 32 := Scalar.select v6784 v6785 v6779
  let c1_i32_5728 : BitVec 32 := 1#32
  let v6787 : BitVec 32 := Scalar.muli v6786 c1_i32_5728
  let v6788 : BitVec 32 := Scalar.addi c0_i32_5729 v6787
  v6788.toNat
def k0_dev153 (d0 : Dev nD) : Nat :=
  let c0_i32_5744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_5734 : BitVec 32 := 3#32
  let v6797 : BitVec 32 := Scalar.addi v2 c3_i32_5734
  let c16_i32_5735 : BitVec 32 := 16#32
  let c0_i32_5736 : BitVec 32 := 0#32
  let v6798 : BitVec 1 := Scalar.cmpi .eq c16_i32_5735 c0_i32_5736
  let c1_i32_5737 : BitVec 32 := 1#32
  let v6799 : BitVec 32 := Scalar.select v6798 c1_i32_5737 c16_i32_5735
  let v6800 : BitVec 32 := Scalar.remsi v6797 v6799
  let c0_i32_5739 : BitVec 32 := 0#32
  let v6802 : BitVec 1 := Scalar.cmpi .slt v6800 c0_i32_5739
  let c0_i32_5740 : BitVec 32 := 0#32
  let v6803 : BitVec 1 := Scalar.cmpi .slt v6799 c0_i32_5740
  let v6804 : BitVec 1 := Scalar.xori v6802 v6803
  let c0_i32_5738 : BitVec 32 := 0#32
  let v6801 : BitVec 1 := Scalar.cmpi .ne v6800 c0_i32_5738
  let v6805 : BitVec 1 := Scalar.andi v6804 v6801
  let v6806 : BitVec 32 := Scalar.addi v6800 v6799
  let v6807 : BitVec 32 := Scalar.select v6805 v6806 v6800
  let c1_i32_5743 : BitVec 32 := 1#32
  let v6808 : BitVec 32 := Scalar.muli v6807 c1_i32_5743
  let v6809 : BitVec 32 := Scalar.addi c0_i32_5744 v6808
  v6809.toNat
def k0_dev154 (d0 : Dev nD) : Nat :=
  let c0_i32_5759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5749 : BitVec 32 := 4#32
  let v6818 : BitVec 32 := Scalar.addi v2 c4_i32_5749
  let c16_i32_5750 : BitVec 32 := 16#32
  let c0_i32_5751 : BitVec 32 := 0#32
  let v6819 : BitVec 1 := Scalar.cmpi .eq c16_i32_5750 c0_i32_5751
  let c1_i32_5752 : BitVec 32 := 1#32
  let v6820 : BitVec 32 := Scalar.select v6819 c1_i32_5752 c16_i32_5750
  let v6821 : BitVec 32 := Scalar.remsi v6818 v6820
  let c0_i32_5754 : BitVec 32 := 0#32
  let v6823 : BitVec 1 := Scalar.cmpi .slt v6821 c0_i32_5754
  let c0_i32_5755 : BitVec 32 := 0#32
  let v6824 : BitVec 1 := Scalar.cmpi .slt v6820 c0_i32_5755
  let v6825 : BitVec 1 := Scalar.xori v6823 v6824
  let c0_i32_5753 : BitVec 32 := 0#32
  let v6822 : BitVec 1 := Scalar.cmpi .ne v6821 c0_i32_5753
  let v6826 : BitVec 1 := Scalar.andi v6825 v6822
  let v6827 : BitVec 32 := Scalar.addi v6821 v6820
  let v6828 : BitVec 32 := Scalar.select v6826 v6827 v6821
  let c1_i32_5758 : BitVec 32 := 1#32
  let v6829 : BitVec 32 := Scalar.muli v6828 c1_i32_5758
  let v6830 : BitVec 32 := Scalar.addi c0_i32_5759 v6829
  v6830.toNat
def k0_dev155 (d0 : Dev nD) : Nat :=
  let c0_i32_5774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_5764 : BitVec 32 := 5#32
  let v6839 : BitVec 32 := Scalar.addi v2 c5_i32_5764
  let c16_i32_5765 : BitVec 32 := 16#32
  let c0_i32_5766 : BitVec 32 := 0#32
  let v6840 : BitVec 1 := Scalar.cmpi .eq c16_i32_5765 c0_i32_5766
  let c1_i32_5767 : BitVec 32 := 1#32
  let v6841 : BitVec 32 := Scalar.select v6840 c1_i32_5767 c16_i32_5765
  let v6842 : BitVec 32 := Scalar.remsi v6839 v6841
  let c0_i32_5769 : BitVec 32 := 0#32
  let v6844 : BitVec 1 := Scalar.cmpi .slt v6842 c0_i32_5769
  let c0_i32_5770 : BitVec 32 := 0#32
  let v6845 : BitVec 1 := Scalar.cmpi .slt v6841 c0_i32_5770
  let v6846 : BitVec 1 := Scalar.xori v6844 v6845
  let c0_i32_5768 : BitVec 32 := 0#32
  let v6843 : BitVec 1 := Scalar.cmpi .ne v6842 c0_i32_5768
  let v6847 : BitVec 1 := Scalar.andi v6846 v6843
  let v6848 : BitVec 32 := Scalar.addi v6842 v6841
  let v6849 : BitVec 32 := Scalar.select v6847 v6848 v6842
  let c1_i32_5773 : BitVec 32 := 1#32
  let v6850 : BitVec 32 := Scalar.muli v6849 c1_i32_5773
  let v6851 : BitVec 32 := Scalar.addi c0_i32_5774 v6850
  v6851.toNat
def k0_dev156 (d0 : Dev nD) : Nat :=
  let c0_i32_5789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_5779 : BitVec 32 := 6#32
  let v6860 : BitVec 32 := Scalar.addi v2 c6_i32_5779
  let c16_i32_5780 : BitVec 32 := 16#32
  let c0_i32_5781 : BitVec 32 := 0#32
  let v6861 : BitVec 1 := Scalar.cmpi .eq c16_i32_5780 c0_i32_5781
  let c1_i32_5782 : BitVec 32 := 1#32
  let v6862 : BitVec 32 := Scalar.select v6861 c1_i32_5782 c16_i32_5780
  let v6863 : BitVec 32 := Scalar.remsi v6860 v6862
  let c0_i32_5784 : BitVec 32 := 0#32
  let v6865 : BitVec 1 := Scalar.cmpi .slt v6863 c0_i32_5784
  let c0_i32_5785 : BitVec 32 := 0#32
  let v6866 : BitVec 1 := Scalar.cmpi .slt v6862 c0_i32_5785
  let v6867 : BitVec 1 := Scalar.xori v6865 v6866
  let c0_i32_5783 : BitVec 32 := 0#32
  let v6864 : BitVec 1 := Scalar.cmpi .ne v6863 c0_i32_5783
  let v6868 : BitVec 1 := Scalar.andi v6867 v6864
  let v6869 : BitVec 32 := Scalar.addi v6863 v6862
  let v6870 : BitVec 32 := Scalar.select v6868 v6869 v6863
  let c1_i32_5788 : BitVec 32 := 1#32
  let v6871 : BitVec 32 := Scalar.muli v6870 c1_i32_5788
  let v6872 : BitVec 32 := Scalar.addi c0_i32_5789 v6871
  v6872.toNat
def k0_dev157 (d0 : Dev nD) : Nat :=
  let c0_i32_5804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_5794 : BitVec 32 := 7#32
  let v6881 : BitVec 32 := Scalar.addi v2 c7_i32_5794
  let c16_i32_5795 : BitVec 32 := 16#32
  let c0_i32_5796 : BitVec 32 := 0#32
  let v6882 : BitVec 1 := Scalar.cmpi .eq c16_i32_5795 c0_i32_5796
  let c1_i32_5797 : BitVec 32 := 1#32
  let v6883 : BitVec 32 := Scalar.select v6882 c1_i32_5797 c16_i32_5795
  let v6884 : BitVec 32 := Scalar.remsi v6881 v6883
  let c0_i32_5799 : BitVec 32 := 0#32
  let v6886 : BitVec 1 := Scalar.cmpi .slt v6884 c0_i32_5799
  let c0_i32_5800 : BitVec 32 := 0#32
  let v6887 : BitVec 1 := Scalar.cmpi .slt v6883 c0_i32_5800
  let v6888 : BitVec 1 := Scalar.xori v6886 v6887
  let c0_i32_5798 : BitVec 32 := 0#32
  let v6885 : BitVec 1 := Scalar.cmpi .ne v6884 c0_i32_5798
  let v6889 : BitVec 1 := Scalar.andi v6888 v6885
  let v6890 : BitVec 32 := Scalar.addi v6884 v6883
  let v6891 : BitVec 32 := Scalar.select v6889 v6890 v6884
  let c1_i32_5803 : BitVec 32 := 1#32
  let v6892 : BitVec 32 := Scalar.muli v6891 c1_i32_5803
  let v6893 : BitVec 32 := Scalar.addi c0_i32_5804 v6892
  v6893.toNat
def k0_dev158 (d0 : Dev nD) : Nat :=
  let c0_i32_5819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_5809 : BitVec 32 := 8#32
  let v6902 : BitVec 32 := Scalar.addi v2 c8_i32_5809
  let c16_i32_5810 : BitVec 32 := 16#32
  let c0_i32_5811 : BitVec 32 := 0#32
  let v6903 : BitVec 1 := Scalar.cmpi .eq c16_i32_5810 c0_i32_5811
  let c1_i32_5812 : BitVec 32 := 1#32
  let v6904 : BitVec 32 := Scalar.select v6903 c1_i32_5812 c16_i32_5810
  let v6905 : BitVec 32 := Scalar.remsi v6902 v6904
  let c0_i32_5814 : BitVec 32 := 0#32
  let v6907 : BitVec 1 := Scalar.cmpi .slt v6905 c0_i32_5814
  let c0_i32_5815 : BitVec 32 := 0#32
  let v6908 : BitVec 1 := Scalar.cmpi .slt v6904 c0_i32_5815
  let v6909 : BitVec 1 := Scalar.xori v6907 v6908
  let c0_i32_5813 : BitVec 32 := 0#32
  let v6906 : BitVec 1 := Scalar.cmpi .ne v6905 c0_i32_5813
  let v6910 : BitVec 1 := Scalar.andi v6909 v6906
  let v6911 : BitVec 32 := Scalar.addi v6905 v6904
  let v6912 : BitVec 32 := Scalar.select v6910 v6911 v6905
  let c1_i32_5818 : BitVec 32 := 1#32
  let v6913 : BitVec 32 := Scalar.muli v6912 c1_i32_5818
  let v6914 : BitVec 32 := Scalar.addi c0_i32_5819 v6913
  v6914.toNat
def k0_dev159 (d0 : Dev nD) : Nat :=
  let c0_i32_5834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_5824 : BitVec 32 := 9#32
  let v6923 : BitVec 32 := Scalar.addi v2 c9_i32_5824
  let c16_i32_5825 : BitVec 32 := 16#32
  let c0_i32_5826 : BitVec 32 := 0#32
  let v6924 : BitVec 1 := Scalar.cmpi .eq c16_i32_5825 c0_i32_5826
  let c1_i32_5827 : BitVec 32 := 1#32
  let v6925 : BitVec 32 := Scalar.select v6924 c1_i32_5827 c16_i32_5825
  let v6926 : BitVec 32 := Scalar.remsi v6923 v6925
  let c0_i32_5829 : BitVec 32 := 0#32
  let v6928 : BitVec 1 := Scalar.cmpi .slt v6926 c0_i32_5829
  let c0_i32_5830 : BitVec 32 := 0#32
  let v6929 : BitVec 1 := Scalar.cmpi .slt v6925 c0_i32_5830
  let v6930 : BitVec 1 := Scalar.xori v6928 v6929
  let c0_i32_5828 : BitVec 32 := 0#32
  let v6927 : BitVec 1 := Scalar.cmpi .ne v6926 c0_i32_5828
  let v6931 : BitVec 1 := Scalar.andi v6930 v6927
  let v6932 : BitVec 32 := Scalar.addi v6926 v6925
  let v6933 : BitVec 32 := Scalar.select v6931 v6932 v6926
  let c1_i32_5833 : BitVec 32 := 1#32
  let v6934 : BitVec 32 := Scalar.muli v6933 c1_i32_5833
  let v6935 : BitVec 32 := Scalar.addi c0_i32_5834 v6934
  v6935.toNat
def k0_dev160 (d0 : Dev nD) : Nat :=
  let c0_i32_5849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_5839 : BitVec 32 := 10#32
  let v6944 : BitVec 32 := Scalar.addi v2 c10_i32_5839
  let c16_i32_5840 : BitVec 32 := 16#32
  let c0_i32_5841 : BitVec 32 := 0#32
  let v6945 : BitVec 1 := Scalar.cmpi .eq c16_i32_5840 c0_i32_5841
  let c1_i32_5842 : BitVec 32 := 1#32
  let v6946 : BitVec 32 := Scalar.select v6945 c1_i32_5842 c16_i32_5840
  let v6947 : BitVec 32 := Scalar.remsi v6944 v6946
  let c0_i32_5844 : BitVec 32 := 0#32
  let v6949 : BitVec 1 := Scalar.cmpi .slt v6947 c0_i32_5844
  let c0_i32_5845 : BitVec 32 := 0#32
  let v6950 : BitVec 1 := Scalar.cmpi .slt v6946 c0_i32_5845
  let v6951 : BitVec 1 := Scalar.xori v6949 v6950
  let c0_i32_5843 : BitVec 32 := 0#32
  let v6948 : BitVec 1 := Scalar.cmpi .ne v6947 c0_i32_5843
  let v6952 : BitVec 1 := Scalar.andi v6951 v6948
  let v6953 : BitVec 32 := Scalar.addi v6947 v6946
  let v6954 : BitVec 32 := Scalar.select v6952 v6953 v6947
  let c1_i32_5848 : BitVec 32 := 1#32
  let v6955 : BitVec 32 := Scalar.muli v6954 c1_i32_5848
  let v6956 : BitVec 32 := Scalar.addi c0_i32_5849 v6955
  v6956.toNat
def k0_dev161 (d0 : Dev nD) : Nat :=
  let c0_i32_5864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_5854 : BitVec 32 := 11#32
  let v6965 : BitVec 32 := Scalar.addi v2 c11_i32_5854
  let c16_i32_5855 : BitVec 32 := 16#32
  let c0_i32_5856 : BitVec 32 := 0#32
  let v6966 : BitVec 1 := Scalar.cmpi .eq c16_i32_5855 c0_i32_5856
  let c1_i32_5857 : BitVec 32 := 1#32
  let v6967 : BitVec 32 := Scalar.select v6966 c1_i32_5857 c16_i32_5855
  let v6968 : BitVec 32 := Scalar.remsi v6965 v6967
  let c0_i32_5859 : BitVec 32 := 0#32
  let v6970 : BitVec 1 := Scalar.cmpi .slt v6968 c0_i32_5859
  let c0_i32_5860 : BitVec 32 := 0#32
  let v6971 : BitVec 1 := Scalar.cmpi .slt v6967 c0_i32_5860
  let v6972 : BitVec 1 := Scalar.xori v6970 v6971
  let c0_i32_5858 : BitVec 32 := 0#32
  let v6969 : BitVec 1 := Scalar.cmpi .ne v6968 c0_i32_5858
  let v6973 : BitVec 1 := Scalar.andi v6972 v6969
  let v6974 : BitVec 32 := Scalar.addi v6968 v6967
  let v6975 : BitVec 32 := Scalar.select v6973 v6974 v6968
  let c1_i32_5863 : BitVec 32 := 1#32
  let v6976 : BitVec 32 := Scalar.muli v6975 c1_i32_5863
  let v6977 : BitVec 32 := Scalar.addi c0_i32_5864 v6976
  v6977.toNat
def k0_dev162 (d0 : Dev nD) : Nat :=
  let c0_i32_5879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_5869 : BitVec 32 := 12#32
  let v6986 : BitVec 32 := Scalar.addi v2 c12_i32_5869
  let c16_i32_5870 : BitVec 32 := 16#32
  let c0_i32_5871 : BitVec 32 := 0#32
  let v6987 : BitVec 1 := Scalar.cmpi .eq c16_i32_5870 c0_i32_5871
  let c1_i32_5872 : BitVec 32 := 1#32
  let v6988 : BitVec 32 := Scalar.select v6987 c1_i32_5872 c16_i32_5870
  let v6989 : BitVec 32 := Scalar.remsi v6986 v6988
  let c0_i32_5874 : BitVec 32 := 0#32
  let v6991 : BitVec 1 := Scalar.cmpi .slt v6989 c0_i32_5874
  let c0_i32_5875 : BitVec 32 := 0#32
  let v6992 : BitVec 1 := Scalar.cmpi .slt v6988 c0_i32_5875
  let v6993 : BitVec 1 := Scalar.xori v6991 v6992
  let c0_i32_5873 : BitVec 32 := 0#32
  let v6990 : BitVec 1 := Scalar.cmpi .ne v6989 c0_i32_5873
  let v6994 : BitVec 1 := Scalar.andi v6993 v6990
  let v6995 : BitVec 32 := Scalar.addi v6989 v6988
  let v6996 : BitVec 32 := Scalar.select v6994 v6995 v6989
  let c1_i32_5878 : BitVec 32 := 1#32
  let v6997 : BitVec 32 := Scalar.muli v6996 c1_i32_5878
  let v6998 : BitVec 32 := Scalar.addi c0_i32_5879 v6997
  v6998.toNat
def k0_dev163 (d0 : Dev nD) : Nat :=
  let c0_i32_5894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_5884 : BitVec 32 := 13#32
  let v7007 : BitVec 32 := Scalar.addi v2 c13_i32_5884
  let c16_i32_5885 : BitVec 32 := 16#32
  let c0_i32_5886 : BitVec 32 := 0#32
  let v7008 : BitVec 1 := Scalar.cmpi .eq c16_i32_5885 c0_i32_5886
  let c1_i32_5887 : BitVec 32 := 1#32
  let v7009 : BitVec 32 := Scalar.select v7008 c1_i32_5887 c16_i32_5885
  let v7010 : BitVec 32 := Scalar.remsi v7007 v7009
  let c0_i32_5889 : BitVec 32 := 0#32
  let v7012 : BitVec 1 := Scalar.cmpi .slt v7010 c0_i32_5889
  let c0_i32_5890 : BitVec 32 := 0#32
  let v7013 : BitVec 1 := Scalar.cmpi .slt v7009 c0_i32_5890
  let v7014 : BitVec 1 := Scalar.xori v7012 v7013
  let c0_i32_5888 : BitVec 32 := 0#32
  let v7011 : BitVec 1 := Scalar.cmpi .ne v7010 c0_i32_5888
  let v7015 : BitVec 1 := Scalar.andi v7014 v7011
  let v7016 : BitVec 32 := Scalar.addi v7010 v7009
  let v7017 : BitVec 32 := Scalar.select v7015 v7016 v7010
  let c1_i32_5893 : BitVec 32 := 1#32
  let v7018 : BitVec 32 := Scalar.muli v7017 c1_i32_5893
  let v7019 : BitVec 32 := Scalar.addi c0_i32_5894 v7018
  v7019.toNat
def k0_dev164 (d0 : Dev nD) : Nat :=
  let c0_i32_5909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_5899 : BitVec 32 := 14#32
  let v7028 : BitVec 32 := Scalar.addi v2 c14_i32_5899
  let c16_i32_5900 : BitVec 32 := 16#32
  let c0_i32_5901 : BitVec 32 := 0#32
  let v7029 : BitVec 1 := Scalar.cmpi .eq c16_i32_5900 c0_i32_5901
  let c1_i32_5902 : BitVec 32 := 1#32
  let v7030 : BitVec 32 := Scalar.select v7029 c1_i32_5902 c16_i32_5900
  let v7031 : BitVec 32 := Scalar.remsi v7028 v7030
  let c0_i32_5904 : BitVec 32 := 0#32
  let v7033 : BitVec 1 := Scalar.cmpi .slt v7031 c0_i32_5904
  let c0_i32_5905 : BitVec 32 := 0#32
  let v7034 : BitVec 1 := Scalar.cmpi .slt v7030 c0_i32_5905
  let v7035 : BitVec 1 := Scalar.xori v7033 v7034
  let c0_i32_5903 : BitVec 32 := 0#32
  let v7032 : BitVec 1 := Scalar.cmpi .ne v7031 c0_i32_5903
  let v7036 : BitVec 1 := Scalar.andi v7035 v7032
  let v7037 : BitVec 32 := Scalar.addi v7031 v7030
  let v7038 : BitVec 32 := Scalar.select v7036 v7037 v7031
  let c1_i32_5908 : BitVec 32 := 1#32
  let v7039 : BitVec 32 := Scalar.muli v7038 c1_i32_5908
  let v7040 : BitVec 32 := Scalar.addi c0_i32_5909 v7039
  v7040.toNat
def k0_dev165 (d0 : Dev nD) : Nat :=
  let c0_i32_5924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_5914 : BitVec 32 := 15#32
  let v7049 : BitVec 32 := Scalar.addi v2 c15_i32_5914
  let c16_i32_5915 : BitVec 32 := 16#32
  let c0_i32_5916 : BitVec 32 := 0#32
  let v7050 : BitVec 1 := Scalar.cmpi .eq c16_i32_5915 c0_i32_5916
  let c1_i32_5917 : BitVec 32 := 1#32
  let v7051 : BitVec 32 := Scalar.select v7050 c1_i32_5917 c16_i32_5915
  let v7052 : BitVec 32 := Scalar.remsi v7049 v7051
  let c0_i32_5919 : BitVec 32 := 0#32
  let v7054 : BitVec 1 := Scalar.cmpi .slt v7052 c0_i32_5919
  let c0_i32_5920 : BitVec 32 := 0#32
  let v7055 : BitVec 1 := Scalar.cmpi .slt v7051 c0_i32_5920
  let v7056 : BitVec 1 := Scalar.xori v7054 v7055
  let c0_i32_5918 : BitVec 32 := 0#32
  let v7053 : BitVec 1 := Scalar.cmpi .ne v7052 c0_i32_5918
  let v7057 : BitVec 1 := Scalar.andi v7056 v7053
  let v7058 : BitVec 32 := Scalar.addi v7052 v7051
  let v7059 : BitVec 32 := Scalar.select v7057 v7058 v7052
  let c1_i32_5923 : BitVec 32 := 1#32
  let v7060 : BitVec 32 := Scalar.muli v7059 c1_i32_5923
  let v7061 : BitVec 32 := Scalar.addi c0_i32_5924 v7060
  v7061.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x1024 : Shape := ⟨2, ![64, 1024]⟩
abbrev S1024x32768 : Shape := ⟨2, ![1024, 32768]⟩
abbrev S32768x1024 : Shape := ⟨2, ![32768, 1024]⟩
abbrev S64x32768 : Shape := ⟨2, ![64, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x32768, .f32⟩
  | .hbm, ⟨2, _⟩ => ⟨S32768x1024, .f32⟩
  | .hbm, ⟨3, _⟩ => ⟨S1024x32768, .f32⟩
  | .hbm, ⟨4, _⟩ => ⟨S32768x1024, .f32⟩
  | .hbm, ⟨5, _⟩ => ⟨S1024x32768, .f32⟩
  | .hbm, ⟨6, _⟩ => ⟨S32768x1024, .f32⟩
  | .hbm, ⟨7, _⟩ => ⟨S64x32768, .f32⟩
  | .hbm, ⟨8, _⟩ => ⟨S_, .f32⟩
  | .hbm, ⟨9, _⟩ => ⟨S64x32768, .f32⟩
  | .hbm, ⟨10, _⟩ => ⟨S64x32768, .f32⟩
  | .hbm, ⟨11, _⟩ => ⟨S64x1024, .f32⟩
  | .hbm, ⟨12, _⟩ => ⟨S64x32768, .f32⟩
  | .hbm, ⟨13, _⟩ => ⟨S_, .f32⟩
  | .hbm, ⟨14, _⟩ => ⟨S64x32768, .f32⟩
  | .hbm, ⟨15, _⟩ => ⟨S64x32768, .f32⟩
  | .hbm, ⟨16, _⟩ => ⟨S64x1024, .f32⟩
  | .hbm, ⟨17, _⟩ => ⟨S64x32768, .f32⟩
  | .hbm, ⟨18, _⟩ => ⟨S_, .f32⟩
  | .hbm, ⟨19, _⟩ => ⟨S64x32768, .f32⟩
  | .hbm, ⟨20, _⟩ => ⟨S64x32768, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Body.lean ====
/-
  The kernel's body written once more, by its groups of operations: the signals of the entry handshake, the stores of the partial product's
  pieces, the copies to the fifteen peers, the waits on the copies that come from them. A group is a recursion over the list of the peers it
  goes through, and takes the rest of the program as its last argument.
-/
module

public import proofs.«01_k».proof.Proof.Gen.KernelIdeal.Skeleton

@[expose] public section

noncomputable section

namespace Cert.KernelIdeal.Mlp

open Idealize.ShloMosaic Idealize.ShloMosaic.TcCoe Idealize.SL.Sem
open Cert.KernelIdeal Cert.KernelIdeal.Gen

/-- What the body is called with. -/
structure Args where
  x : Memref sig .tc .vmem S64x1024 .f32
  hx : x.IsWhole
  win0 : Memref sig .tc .hbm S1024x2048 .f32
  hwin0 : win0.IsWhole
  wout0 : Memref sig .tc .hbm S2048x1024 .f32
  hwout0 : wout0.IsWhole
  win1 : Memref sig .tc .hbm S1024x2048 .f32
  hwin1 : win1.IsWhole
  wout1 : Memref sig .tc .hbm S2048x1024 .f32
  hwout1 : wout1.IsWhole
  win2 : Memref sig .tc .hbm S1024x2048 .f32
  hwin2 : win2.IsWhole
  wout2 : Memref sig .tc .hbm S2048x1024 .f32
  hwout2 : wout2.IsWhole
  out : Memref sig .tc .vmem S4x1024 .f32
  hout : out.IsWhole
  wbuf : Memref sig .tc .vmem S2x1024x2048 .f32
  hwbuf : wbuf.IsWhole
  obuf : Memref sig .tc .vmem S2x2048x1024 .f32
  hobuf : obuf.IsWhole
  xbuf : Memref sig .tc .vmem S16x4x1024 .f32
  hxbuf : xbuf.IsWhole
  p : Memref sig .tc .vmem S16x4x1024 .f32
  hp : p.IsWhole
  r : Memref sig .tc .vmem S4x1024 .f32
  hr : r.IsWhole
  rs : Memref sig .tc .vmem S16x4x1024 .f32
  hrs : rs.IsWhole
  wsem : DmaSems sig S2
  osem : DmaSems sig S2
  lsem : DmaSems sig S4
  rss : DmaSems sig S2x16
  rsr : DmaSems sig S2x16
  ags : DmaSems sig S2x16
  agr : DmaSems sig S2x16

variable {F : FTy → Type} [FloatOps F]

/-- A program of the kernel. -/
abbrev Pr (F : FTy → Type) := Prog (TpuEff nD τ sig (Elt F) Λ₀ .tc) PUnit

/-! ## The peers, and where their blocks lie -/

/-- The peer `r + 1` places after `d`, as the kernel computes it. -/
def peerNat (d : Dev nD) (w : BitVec 32) : Nat :=
  let v2 : BitVec 32 := Scalar.remsi (Scalar.divsi (Dev.word d) 1#32) 16#32
  let v303 : BitVec 32 := Scalar.select (Scalar.cmpi .eq 16#32 0#32) 1#32 16#32
  let v304 : BitVec 32 := Scalar.remsi (Scalar.addi v2 w) v303
  let v308 : BitVec 1 := Scalar.xori (Scalar.cmpi .slt v304 0#32) (Scalar.cmpi .slt v303 0#32)
  let v309 : BitVec 1 := Scalar.andi v308 (Scalar.cmpi .ne v304 0#32)
  let v311 : BitVec 32 := Scalar.select v309 (Scalar.addi v304 v303) v304
  (Scalar.addi 0#32 (Scalar.muli v311 1#32)).toNat

theorem peerNat_eq : ∀ (d : Dev nD) (r : Fin 15), peerNat d (BitVec.ofNat 32 (1 + r.val)) = (d.val + (1 + r.val)) % 16 := by decide +kernel

theorem peerNat_lt (d : Dev nD) (r : Fin 15) : peerNat d (BitVec.ofNat 32 (1 + r.val)) < nD := by
  rw [peerNat_eq]; exact Nat.mod_lt _ (by decide)

/-- The peer `r + 1` places after `d`. -/
def peer (d : Dev nD) (r : Fin 15) : Dev nD := ⟨peerNat d (BitVec.ofNat 32 (1 + r.val)), peerNat_lt d r⟩

/-- The entry of a semaphore array for the peer. -/
def semOffT (ch : Fin 2) (d : Dev nD) (w : BitVec 32) : Fin 2 → Nat := match ch with
  | 0 => k0_off1 d w
  | 1 => k0_off5 d w
theorem semOffT_inb (ch : Fin 2) (d : Dev nD) (r : Fin 15) : ∀ a, semOffT ch d (BitVec.ofNat 32 (1 + r.val)) a + S1x1.size a ≤ S2x16.size a := match ch with
  | 0 => k0_off1_inb d r
  | 1 => k0_off5_inb d r
/-- The entry of a semaphore array for the device itself. -/
def semOffO (ch : Fin 2) (d : Dev nD) : Fin 2 → Nat := match ch with
  | 0 => k0_off2 d
  | 1 => k0_off6 d
theorem semOffO_inb (ch : Fin 2) (d : Dev nD) : ∀ a, semOffO ch d a + S1x1.size a ≤ S2x16.size a := match ch with
  | 0 => k0_off2_inb d
  | 1 => k0_off6_inb d
/-- The corner of the peer's block in a buffer of sixteen blocks. -/
def bufOffT (ch : Fin 2) (d : Dev nD) (w : BitVec 32) : Fin 3 → Nat := match ch with
  | 0 => k0_off4 d w
  | 1 => k0_off8 d w
theorem bufOffT_inb (ch : Fin 2) (d : Dev nD) (r : Fin 15) : ∀ a, bufOffT ch d (BitVec.ofNat 32 (1 + r.val)) a + S1x4x512.size a ≤ S16x4x1024.size a := match ch with
  | 0 => k0_off4_inb d r
  | 1 => k0_off8_inb d r
/-- The corner of the device's own block. -/
def bufOffO (ch : Fin 2) (d : Dev nD) : Fin 3 → Nat := match ch with
  | 0 => k0_off3 d
  | 1 => k0_off7 d
theorem bufOffO_inb (ch : Fin 2) (d : Dev nD) : ∀ a, bufOffO ch d a + S1x4x512.size a ≤ S16x4x1024.size a := match ch with
  | 0 => k0_off3_inb d
  | 1 => k0_off7_inb d

/-- The semaphore of `s` at the peer. -/
abbrev semT (s : DmaSems sig S2x16) (ch : Fin 2) (d : Dev nD) (r : Fin 15) : DmaSem sig :=
  ((s.slice (Rect.unit (s := S2x16) (semOffT ch d (BitVec.ofNat 32 (1 + r.val))) S1x1.size (semOffT_inb ch d r))).squeeze S_ squeezes_S1x1_S_).sem
/-- The semaphore of `s` at the device itself. -/
abbrev semO (s : DmaSems sig S2x16) (ch : Fin 2) (d : Dev nD) : DmaSem sig :=
  ((s.slice (Rect.unit (s := S2x16) (semOffO ch d) S1x1.size (semOffO_inb ch d))).squeeze S_ squeezes_S1x1_S_).sem
/-- The peer's block of `m`. -/
abbrev bufT (m : Memref sig .tc .vmem S16x4x1024 .f32) (ch : Fin 2) (d : Dev nD) (r : Fin 15) : Memref sig .tc .vmem S4x512 .f32 :=
  (m.slice (Rect.unit (s := S16x4x1024) (bufOffT ch d (BitVec.ofNat 32 (1 + r.val))) S1x4x512.size (bufOffT_inb ch d r)) (fun _ => rfl)).squeeze S4x512 squeezes_S1x4x512_S4x512
/-- The device's own block of `m`. -/
abbrev bufO (m : Memref sig .tc .vmem S16x4x1024 .f32) (ch : Fin 2) (d : Dev nD) : Memref sig .tc .vmem S4x512 .f32 :=
  (m.slice (Rect.unit (s := S16x4x1024) (bufOffO ch d) S1x4x512.size (bufOffO_inb ch d)) (fun _ => rfl)).squeeze S4x512 squeezes_S1x4x512_S4x512

theorem blk_inb (ch : Fin 2) (j : Fin 16) : ∀ a, (![j.val, 0, 512 * ch.val] : Fin 3 → Nat) a + S1x4x512.size a ≤ S16x4x1024.size a := by
  revert ch j; decide +kernel
/-- The rectangle of block `j`, chunk `ch`. -/
abbrev blkR (ch : Fin 2) (j : Fin 16) : Rect S16x4x1024 := Rect.unit (s := S16x4x1024) ![j.val, 0, 512 * ch.val] S1x4x512.size (blk_inb ch j)
/-- Block `j`, chunk `ch`, of `m`. -/
abbrev blk (m : Memref sig .tc .vmem S16x4x1024 .f32) (ch : Fin 2) (j : Fin 16) : Memref sig .tc .vmem S4x512 .f32 :=
  (m.slice (blkR ch j) (fun _ => rfl)).squeeze S4x512 squeezes_S1x4x512_S4x512

theorem row_inb (ch : Fin 2) : ∀ a, (![0, 512 * ch.val] : Fin 2 → Nat) a + S4x512.size a ≤ S4x1024.size a := by
  revert ch; decide +kernel
/-- The rectangle of chunk `ch` of a block row. -/
abbrev rowR (ch : Fin 2) : Rect S4x1024 := Rect.unit (s := S4x1024) ![0, 512 * ch.val] S4x512.size (row_inb ch)
/-- Chunk `ch` of a block row. -/
abbrev row (m : Memref sig .tc .vmem S4x1024 .f32) (ch : Fin 2) : Memref sig .tc .vmem S4x512 .f32 := m.slice (rowR ch) (fun _ => rfl)

theorem wslot_inb (s : Fin 2) : ∀ a, (![s.val, 0, 0] : Fin 3 → Nat) a + S1x1024x2048.size a ≤ S2x1024x2048.size a := by revert s; decide +kernel
theorem oslot_inb (s : Fin 2) : ∀ a, (![s.val, 0, 0] : Fin 3 → Nat) a + S1x2048x1024.size a ≤ S2x2048x1024.size a := by revert s; decide +kernel
theorem sem2_inb (s : Fin 2) : ∀ a, (![s.val] : Fin 1 → Nat) a + S1.size a ≤ S2.size a := by revert s; decide +kernel
theorem sem4_inb (s : Fin 4) : ∀ a, (![s.val] : Fin 1 → Nat) a + S1.size a ≤ S4.size a := by revert s; decide +kernel
/-- Slot `s` of the buffer of first weights. -/
abbrev wslot (m : Memref sig .tc .vmem S2x1024x2048 .f32) (s : Fin 2) : Memref sig .tc .vmem S1024x2048 .f32 :=
  (m.slice (Rect.unit (s := S2x1024x2048) ![s.val, 0, 0] S1x1024x2048.size (wslot_inb s)) (fun _ => rfl)).squeeze S1024x2048 squeezes_S1x1024x2048_S1024x2048
/-- Slot `s` of the buffer of second weights. -/
abbrev oslot (m : Memref sig .tc .vmem S2x2048x1024 .f32) (s : Fin 2) : Memref sig .tc .vmem S2048x1024 .f32 :=
  (m.slice (Rect.unit (s := S2x2048x1024) ![s.val, 0, 0] S1x2048x1024.size (oslot_inb s)) (fun _ => rfl)).squeeze S2048x1024 squeezes_S1x2048x1024_S2048x1024
/-- Entry `s` of an array of two semaphores. -/
abbrev sem2 (m : DmaSems sig S2) (s : Fin 2) : DmaSem sig := ((m.slice (Rect.unit (s := S2) ![s.val] S1.size (sem2_inb s))).squeeze S_ squeezes_S1_S_).sem
/-- Entry `s` of an array of four semaphores. -/
abbrev sem4 (m : DmaSems sig S4) (s : Fin 4) : DmaSem sig := ((m.slice (Rect.unit (s := S4) ![s.val] S1.size (sem4_inb s))).squeeze S_ squeezes_S1_S_).sem

/-! ## The groups of operations -/

/-- Start the copy of first weights into slot `s`. -/
def startW (a : Args) (s : Fin 2) (src : Memref sig .tc .hbm S1024x2048 .f32) (h : src.IsWhole) (K : Pr F) : Pr F :=
  .op (.enqueueDma src (.here (wslot a.wbuf s)) (.dma (sem2 a.wsem s)) h.wordExact ((View.wordExact_bits rfl).reshape _ _) ⟨Or.inl rfl, trivial⟩) fun _ => K
/-- Await it. -/
def waitW (a : Args) (s : Fin 2) (src : Memref sig .tc .hbm S1024x2048 .f32) (h : src.IsWhole) (K : Pr F) : Pr F :=
  .op (.waitDma2 (sem2 a.wsem s) src (wslot a.wbuf s) h.wordExact ((View.wordExact_bits rfl).reshape _ _)) fun _ => K
/-- Start the copy of second weights into slot `s`. -/
def startO (a : Args) (s : Fin 2) (src : Memref sig .tc .hbm S2048x1024 .f32) (h : src.IsWhole) (K : Pr F) : Pr F :=
  .op (.enqueueDma src (.here (oslot a.obuf s)) (.dma (sem2 a.osem s)) h.wordExact ((View.wordExact_bits rfl).reshape _ _) ⟨Or.inl rfl, trivial⟩) fun _ => K
/-- Await it. -/
def waitO (a : Args) (s : Fin 2) (src : Memref sig .tc .hbm S2048x1024 .f32) (h : src.IsWhole) (K : Pr F) : Pr F :=
  .op (.waitDma2 (sem2 a.osem s) src (oslot a.obuf s) h.wordExact ((View.wordExact_bits rfl).reshape _ _)) fun _ => K

/-- The semaphore of the entry handshake. -/
abbrev barSem : Fin sig.nSem := (SemArray.scalar (sig.barrier 0 rfl) : Sems sig S_).sem
/-- The entry signals to the peers of `l`. -/
def signals (d : Dev nD) (l : List (Fin 15)) (K : Pr F) : Pr F := match l with
  | [] => K
  | r :: l => .op (.semSignal ((peer d r : Dev nD), .tc) barSem (1#32).toInt) fun _ => signals d l K
/-- The entry handshake's wait. -/
def waitBar (K : Pr F) : Pr F := .op (.semWait barSem (15#32).toInt) fun _ => K

/-- The product of the hidden rows with a chunk of the second weights. -/
def prodO (h : FVec F S64x2048 .f32) (w : Vec F S1x2048x512 .f32) : FVec F S64x512 .f32 :=
  matmul dot_S64x2048_S2048x512_S64x512_1_0_0_1_n_n none h (shapeCast S2048x512 w shapeCasts_S1x2048x512_S2048x512) (constant S64x512 .f32 0x00000000#32)

theorem piece_slices (t : Fin 16) : S64x512.Slices ![4 * t.val, 0] S4x512 := by revert t; decide +kernel
/-- Rows `4 t` to `4 t + 3` of a product. -/
def piece (pc : FVec F S64x512 .f32) (t : Fin 16) : FVec F S4x512 .f32 := extractStridedSlice S4x512 ![4 * t.val, 0] pc (piece_slices t)
/-- The same as a block of one. -/
def piece1 (pc : FVec F S64x512 .f32) (t : Fin 16) : FVec F S1x4x512 .f32 := shapeCast S1x4x512 (piece pc t) shapeCasts_S4x512_S1x4x512

/-- Store the pieces of `l` of the product `pc` (each store behind a load of the same place). -/
def stores (a : Args) (ch : Fin 2) (pc : FVec F S64x512 .f32) (l : List (Fin 16)) (K : Pr F) : Pr F := match l with
  | [] => K
  | t :: l => .op (.load a.p (blkR ch t).toLoadRect (View.loadsAt_vmem h_S1x4x512)) fun _ =>
      .op (.store a.p (blkR ch t) (piece1 pc t) Finset.univ (View.stores_vmem_bits_univ h_S1x4x512 rfl) (.inl rfl)) fun _ => stores a ch pc l K

/-- Send the peers of `l` their pieces. -/
def rsSends (a : Args) (ch : Fin 2) (d : Dev nD) (l : List (Fin 15)) (K : Pr F) : Pr F := match l with
  | [] => K
  | r :: l => .op (.enqueueDma (bufT a.p ch d r) (.remote (Dev.tc (peer d r)) (bufO a.rs ch d) (.dma (semT a.rss ch d r))) (.dma (semO a.rsr ch d))
      ((View.wordExact_bits rfl).reshape _ _) ((View.wordExact_bits rfl).reshape _ _) ⟨⟨rfl, Or.inl rfl⟩, trivial⟩) fun _ => rsSends a ch d l K
/-- Copy the own piece. -/
def rsOwn (a : Args) (ch : Fin 2) (d : Dev nD) (K : Pr F) : Pr F :=
  .op (.enqueueDma (bufO a.p ch d) (.here (bufO a.rs ch d)) (.dma (sem4 a.lsem ⟨ch.val, by omega⟩))
    ((View.wordExact_bits rfl).reshape _ _) ((View.wordExact_bits rfl).reshape _ _) ⟨Or.inl rfl, trivial⟩) fun _ => K
/-- Await the pieces of the peers of `l`. -/
def rsRecvs (a : Args) (ch : Fin 2) (d : Dev nD) (l : List (Fin 15)) (K : Pr F) : Pr F := match l with
  | [] => K
  | r :: l => .op (.waitDma2 (semT a.rsr ch d r) (blk a.p ch 0) (bufT a.rs ch d r) ((View.wordExact_bits rfl).reshape _ _) ((View.wordExact_bits rfl).reshape _ _))
      fun _ => rsRecvs a ch d l K
/-- Await the own piece. -/
def rsOwnWait (a : Args) (ch : Fin 2) (d : Dev nD) (K : Pr F) : Pr F :=
  .op (.waitDma2 (sem4 a.lsem ⟨ch.val, by omega⟩) (bufO a.p ch d) (bufO a.rs ch d) ((View.wordExact_bits rfl).reshape _ _) ((View.wordExact_bits rfl).reshape _ _)) fun _ => K
/-- Load the blocks of `l` of `m`, behind those loaded already. -/
def loads (m : Memref sig .tc .vmem S16x4x1024 .f32) (ch : Fin 2) (l : List (Fin 16)) (acc : List (Vec F S1x4x512 .f32)) (K : List (Vec F S1x4x512 .f32) → Pr F) : Pr F :=
  match l with
  | [] => K acc
  | j :: l => .op (.load m (blkR ch j).toLoadRect (View.loadsAt_vmem h_S1x4x512)) fun (v : Vec F S1x4x512 .f32) => loads m ch l (acc ++ [v]) K

/-- A block of one as a block. -/
def flat (v : Vec F S1x4x512 .f32) : FVec F S4x512 .f32 := shapeCast S4x512 v shapeCasts_S1x4x512_S4x512
/-- The sum of the loaded pieces, from the first on. -/
def total : List (Vec F S1x4x512 .f32) → FVec F S4x512 .f32
  | [] => fun _ => Scalar.ofBits .f32 0x00000000#32
  | v :: l => l.foldl (fun s w => addf s (flat w)) (flat v)

/-- The block as the register of its own shape that a store takes. -/
def asRow (v : FVec F S4x512 .f32) : FVec F S4x512 .f32 := shapeCast S4x512 v shapeCasts_S4x512_S4x512
/-- Store `v` into chunk `ch` of `m` (behind a load of the same place). -/
def storeRow (m : Memref sig .tc .vmem S4x1024 .f32) (ch : Fin 2) (v : FVec F S4x512 .f32) (K : Pr F) : Pr F :=
  .op (.load m (rowR ch).toLoadRect (View.loadsAt_vmem h_S4x512)) fun _ =>
    .op (.store m (rowR ch) v Finset.univ (View.stores_vmem_bits_univ h_S4x512 rfl) (.inl rfl)) fun _ => K

/-- Send the sum to the peers of `l`. -/
def agSends (a : Args) (ch : Fin 2) (d : Dev nD) (l : List (Fin 15)) (K : Pr F) : Pr F := match l with
  | [] => K
  | r :: l => .op (.enqueueDma (row a.r ch) (.remote (Dev.tc (peer d r)) (bufO a.xbuf ch d) (.dma (semT a.ags ch d r))) (.dma (semO a.agr ch d))
      (View.wordExact_bits rfl) ((View.wordExact_bits rfl).reshape _ _) ⟨⟨rfl, Or.inl rfl⟩, trivial⟩) fun _ => agSends a ch d l K
/-- Copy the sum into the own place. -/
def agOwn (a : Args) (ch : Fin 2) (d : Dev nD) (K : Pr F) : Pr F :=
  .op (.enqueueDma (row a.r ch) (.here (bufO a.xbuf ch d)) (.dma (sem4 a.lsem ⟨2 + ch.val, by omega⟩))
    (View.wordExact_bits rfl) ((View.wordExact_bits rfl).reshape _ _) ⟨Or.inl rfl, trivial⟩) fun _ => K
/-- Await the sums of the peers of `l`. -/
def agRecvs (a : Args) (ch : Fin 2) (d : Dev nD) (l : List (Fin 15)) (K : Pr F) : Pr F := match l with
  | [] => K
  | r :: l => .op (.waitDma2 (semT a.agr ch d r) (row a.r ch) (bufT a.xbuf ch d r) (View.wordExact_bits rfl) ((View.wordExact_bits rfl).reshape _ _))
      fun _ => agRecvs a ch d l K
/-- Await the own sum. -/
def agOwnWait (a : Args) (ch : Fin 2) (d : Dev nD) (K : Pr F) : Pr F :=
  .op (.waitDma2 (sem4 a.lsem ⟨2 + ch.val, by omega⟩) (row a.r ch) (bufO a.xbuf ch d) (View.wordExact_bits rfl) ((View.wordExact_bits rfl).reshape _ _)) fun _ => K
/-- Await that the pieces have left for the peers of `l`. -/
def rsDone (a : Args) (ch : Fin 2) (d : Dev nD) (l : List (Fin 15)) (K : Pr F) : Pr F := match l with
  | [] => K
  | r :: l => .op (.waitDma2 (semT a.rss ch d r) (bufO a.rs ch d) (bufT a.p ch d r) ((View.wordExact_bits rfl).reshape _ _) ((View.wordExact_bits rfl).reshape _ _))
      fun _ => rsDone a ch d l K
/-- Await that the sum has left for the peers of `l`. -/
def agDone (a : Args) (ch : Fin 2) (d : Dev nD) (l : List (Fin 15)) (K : Pr F) : Pr F := match l with
  | [] => K
  | r :: l => .op (.waitDma2 (semT a.ags ch d r) (bufO a.xbuf ch d) (row a.r ch) ((View.wordExact_bits rfl).reshape _ _) (View.wordExact_bits rfl))
      fun _ => agDone a ch d l K

theorem och_inb (s ch : Fin 2) : ∀ a, (![s.val, 0, 512 * ch.val] : Fin 3 → Nat) a + S1x2048x512.size a ≤ S2x2048x1024.size a := by revert s ch; decide +kernel
/-- The columns of chunk `ch` in slot `s` of the second weights. -/
abbrev ochR (s ch : Fin 2) : Rect S2x2048x1024 := Rect.unit (s := S2x2048x1024) ![s.val, 0, 512 * ch.val] S1x2048x512.size (och_inb s ch)
theorem wch_inb (s ch : Fin 2) : ∀ a, (![s.val, 512 * ch.val, 0] : Fin 3 → Nat) a + S1x512x2048.size a ≤ S2x1024x2048.size a := by revert s ch; decide +kernel
/-- The rows of chunk `ch` in slot `s` of the first weights. -/
abbrev wchR (s ch : Fin 2) : Rect S2x1024x2048 := Rect.unit (s := S2x1024x2048) ![s.val, 512 * ch.val, 0] S1x512x2048.size (wch_inb s ch)

/-- Load a chunk of the second weights. -/
def loadO (a : Args) (s ch : Fin 2) (K : Vec F S1x2048x512 .f32 → Pr F) : Pr F :=
  .op (.load a.obuf (ochR s ch).toLoadRect (View.loadsAt_vmem h_S1x2048x512)) K
/-- Load a chunk of the first weights. -/
def loadW (a : Args) (s ch : Fin 2) (K : Vec F S1x512x2048 .f32 → Pr F) : Pr F :=
  .op (.load a.wbuf (wchR s ch).toLoadRect (View.loadsAt_vmem h_S1x512x2048)) K
/-- Load the input. -/
def loadX (a : Args) (K : Vec F S64x1024 .f32 → Pr F) : Pr F :=
  .op (.load a.x (Rect.unit (s := S64x1024) ![0, 0] S64x1024.size inb_S64x1024_S64x1024_0_0).toLoadRect (View.loadsAt_vmem h_S64x1024)) K
/-- Load the first weights of the first layer whole. -/
def loadW0 (a : Args) (K : Vec F S1x1024x2048 .f32 → Pr F) : Pr F :=
  .op (.load a.wbuf (Rect.unit (s := S2x1024x2048) ![0, 0, 0] S1x1024x2048.size inb_S2x1024x2048_S1x1024x2048_0_0_0).toLoadRect (View.loadsAt_vmem h_S1x1024x2048)) K

/-- The hidden rows of the first layer. -/
def hid0 (x : Vec F S64x1024 .f32) (w : Vec F S1x1024x2048 .f32) : FVec F S64x2048 .f32 :=
  maximumf (matmul dot_S64x1024_S1024x2048_S64x2048_1_0_0_1_n_n none (shapeCast S64x1024 x shapeCasts_S64x1024_S64x1024)
    (shapeCast S1024x2048 w shapeCasts_S1x1024x2048_S1024x2048) (constant S64x2048 .f32 0x00000000#32)) (broadcast S64x2048 (Scalar.ofBits .f32 0x00000000#32 : F .f32))
/-- A chunk of the gathered rows times a chunk of the first weights. -/
def part (l : List (Vec F S1x4x512 .f32)) (w : Vec F S1x512x2048 .f32) : FVec F S64x2048 .f32 := match l with
  | [v0, v1, v2, v3, v4, v5, v6, v7, v8, v9, v10, v11, v12, v13, v14, v15] =>
    matmul dot_S64x512_S512x2048_S64x2048_1_0_0_1_n_n none
      (concatenate S64x512 0 [⟨S4x512, flat v0⟩, ⟨S4x512, flat v1⟩, ⟨S4x512, flat v2⟩, ⟨S4x512, flat v3⟩, ⟨S4x512, flat v4⟩, ⟨S4x512, flat v5⟩, ⟨S4x512, flat v6⟩, ⟨S4x512, flat v7⟩, ⟨S4x512, flat v8⟩, ⟨S4x512, flat v9⟩, ⟨S4x512, flat v10⟩, ⟨S4x512, flat v11⟩, ⟨S4x512, flat v12⟩, ⟨S4x512, flat v13⟩, ⟨S4x512, flat v14⟩, ⟨S4x512, flat v15⟩]
        concatenates_S4x512_S4x512_S4x512_S4x512_S4x512_S4x512_S4x512_S4x512_S4x512_S4x512_S4x512_S4x512_S4x512_S4x512_S4x512_S4x512_S64x512_d0)
      (shapeCast S512x2048 w shapeCasts_S1x512x2048_S512x2048) (constant S64x2048 .f32 0x00000000#32)
  | _ => fun _ => Scalar.ofBits .f32 0x00000000#32
/-- The hidden rows of a later layer from its two partial products. -/
def hidN (p q : FVec F S64x2048 .f32) : FVec F S64x2048 .f32 :=
  maximumf (addf p q) (broadcast S64x2048 (Scalar.ofBits .f32 0x00000000#32 : F .f32))

abbrev peers : List (Fin 15) := [0, 1, 2, 3, 4, 5, 6, 7, 8, 9, 10, 11, 12, 13, 14]
abbrev blocks : List (Fin 16) := [0, 1, 2, 3, 4, 5, 6, 7, 8, 9, 10, 11, 12, 13, 14, 15]

/-- A chunk of a layer's product, and its pieces on their way. -/
def scatter (a : Args) (ch : Fin 2) (s : Fin 2) (d : Dev nD) (h : FVec F S64x2048 .f32) (K : Pr F) : Pr F :=
  loadO a s ch fun w => stores a ch (prodO h w) blocks <| rsSends a ch d peers <| rsOwn a ch d K
/-- The pieces of a chunk received and summed. -/
def collect (a : Args) (ch : Fin 2) (d : Dev nD) (K : FVec F S4x512 .f32 → Pr F) : Pr F :=
  rsRecvs a ch d peers <| rsOwnWait a ch d <| loads a.rs ch blocks [] fun l => K (total l)
/-- The sum of a chunk sent to everyone. -/
def spread (a : Args) (ch : Fin 2) (d : Dev nD) (v : FVec F S4x512 .f32) (K : Pr F) : Pr F :=
  storeRow a.r ch (asRow v) <| agSends a ch d peers <| agOwn a ch d K
/-- The sums of a chunk received and multiplied by the next layer's first weights. -/
def gather (a : Args) (ch : Fin 2) (s : Fin 2) (d : Dev nD) (K : FVec F S64x2048 .f32 → Pr F) : Pr F :=
  agRecvs a ch d peers <| agOwnWait a ch d <| loads a.xbuf ch blocks [] fun l => loadW a s ch fun w => K (part l w)

/-- The body. -/
def bodyS (a : Args) : Pr F :=
  .op .deviceId fun d =>
  startW a 0 a.win0 a.hwin0 <| startO a 0 a.wout0 a.hwout0 <|
  signals d peers <| waitBar <|
  waitW a 0 a.win0 a.hwin0 <| startW a 1 a.win1 a.hwin1 <| startO a 1 a.wout1 a.hwout1 <|
  loadX a fun x => loadW0 a fun w =>
  startW a 0 a.win2 a.hwin2 <|
  waitO a 0 a.wout0 a.hwout0 <|
  scatter a 0 0 d (hid0 x w) <| scatter a 1 0 d (hid0 x w) <|
  startO a 0 a.wout2 a.hwout2 <|
  collect a 0 d fun v => spread a 0 d v <|
  collect a 1 d fun v => spread a 1 d v <|
  waitW a 1 a.win1 a.hwin1 <|
  gather a 0 1 d fun p0 => gather a 1 1 d fun p1 =>
  rsDone a 0 d peers <| agDone a 0 d peers <| rsDone a 1 d peers <| agDone a 1 d peers <|
  waitO a 1 a.wout1 a.hwout1 <|
  scatter a 0 1 d (hidN p0 p1) <| scatter a 1 1 d (hidN p0 p1) <|
  collect a 0 d fun v => spread a 0 d v <|
  collect a 1 d fun v => spread a 1 d v <|
  waitW a 0 a.win2 a.hwin2 <|
  gather a 0 0 d fun q0 => gather a 1 0 d fun q1 =>
  rsDone a 0 d peers <| agDone a 0 d peers <| rsDone a 1 d peers <| agDone a 1 d peers <|
  waitO a 0 a.wout2 a.hwout2 <|
  scatter a 0 0 d (hidN q0 q1) <| scatter a 1 0 d (hidN q0 q1) <|
  collect a 0 d fun v => storeRow a.out 0 v <|
  collect a 1 d fun v => storeRow a.out 1 v <|
  rsDone a 0 d peers <| rsDone a 1 d peers <| .ret ⟨⟩

end Cert.KernelIdeal.Mlp

end
-- ==== Proof.Proto.lean ====
/-
  The protocol of the kernel on sixteen devices: its semaphores by name, the values it computes layer by layer, and what each arrival hands to the
  device that waits for it.

  A layer has two halves and each half runs by chunks `ch` of 512 columns. In the first half device `s` sends device `c` the piece of its partial product
  that `c` sums up (semaphores `rss` at the sender, `rsr` at the receiver); in the second half `s` sends `c` its sum (`ags`, `agr`). Every landing place has one writer.
  Its permission travels against the data: with the entry signal a device hands each peer the place for the first piece, with a piece the place for that layer's sum,
  with a sum the place for the next layer's piece.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.TalkSites
public import Idealize.ShloMosaic.Lib.ShareLeaves
public import Idealize.ShloMosaic.Lib.VecWindow
public import Idealize.ShloMosaic.Lib.Tactic

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)
open Cert.KernelIdeal Cert.KernelIdeal.Gen

variable {F : FTy → Type} [FloatOps F]

/-! ## Places -/

abbrev xM : Memref sig .tc .vmem S64x1024 .f32 := Memref.whole cc0_stg0_0
abbrev outM : Memref sig .tc .vmem S4x1024 .f32 := Memref.whole cc0_stg1_0
abbrev wM : Memref sig .tc .vmem S2x1024x2048 .f32 := Memref.whole cc0_scratch0
abbrev oM : Memref sig .tc .vmem S2x2048x1024 .f32 := Memref.whole cc0_scratch1
abbrev xbM : Memref sig .tc .vmem S16x4x1024 .f32 := Memref.whole cc0_scratch2
abbrev pM : Memref sig .tc .vmem S16x4x1024 .f32 := Memref.whole cc0_scratch3
abbrev rM : Memref sig .tc .vmem S4x1024 .f32 := Memref.whole cc0_scratch4
abbrev rsM : Memref sig .tc .vmem S16x4x1024 .f32 := Memref.whole cc0_scratch5
/-- The first weights of layer `l`. -/
abbrev winM (l : Fin 3) : Memref sig .tc .hbm S1024x2048 .f32 := match l with
  | 0 => Memref.whole main_arg1
  | 1 => Memref.whole main_arg3
  | 2 => Memref.whole main_arg5
/-- The second weights of layer `l`. -/
abbrev woutM (l : Fin 3) : Memref sig .tc .hbm S2048x1024 .f32 := match l with
  | 0 => Memref.whole main_arg2
  | 1 => Memref.whole main_arg4
  | 2 => Memref.whole main_arg6

/-- What the launch calls the body with. -/
abbrev args : Args where
  x := xM
  hx := Memref.isWhole_whole _
  win0 := winM 0
  hwin0 := Memref.isWhole_whole _
  wout0 := woutM 0
  hwout0 := Memref.isWhole_whole _
  win1 := winM 1
  hwin1 := Memref.isWhole_whole _
  wout1 := woutM 1
  hwout1 := Memref.isWhole_whole _
  win2 := winM 2
  hwin2 := Memref.isWhole_whole _
  wout2 := woutM 2
  hwout2 := Memref.isWhole_whole _
  out := outM
  hout := Memref.isWhole_whole _
  wbuf := wM
  hwbuf := Memref.isWhole_whole _
  obuf := oM
  hobuf := Memref.isWhole_whole _
  xbuf := xbM
  hxbuf := Memref.isWhole_whole _
  p := pM
  hp := Memref.isWhole_whole _
  r := rM
  hr := Memref.isWhole_whole _
  rs := rsM
  hrs := Memref.isWhole_whole _
  wsem := cc0_scratch6
  osem := cc0_scratch7
  lsem := cc0_scratch8
  rss := cc0_scratch9
  rsr := cc0_scratch10
  ags := cc0_scratch11
  agr := cc0_scratch12

/-! ## The peers -/

theorem peer_val (d : Dev nD) (r : Fin 15) : (peer d r).val = (d.val + (1 + r.val)) % 16 := peerNat_eq d r
theorem peer_ne (d : Dev nD) (r : Fin 15) : peer d r ≠ d := fun h => by
  have := congrArg Fin.val h
  rw [peer_val] at this
  have h1 : d.val < 16 := d.isLt
  omega
theorem peer_inj (d : Dev nD) : Function.Injective (peer d) := fun r r' h => by
  have := congrArg Fin.val h
  rw [peer_val, peer_val] at this
  apply Fin.ext; omega
/-- The peers are everyone else. -/
theorem image_peer (d : Dev nD) : (Finset.univ : Finset (Fin 15)).map ⟨peer d, peer_inj d⟩ = Finset.univ.erase d :=
  Finset.eq_of_subset_of_card_le
    (fun s hs => by
      obtain ⟨r, -, rfl⟩ := Finset.mem_map.mp hs
      exact Finset.mem_erase.mpr ⟨peer_ne d r, Finset.mem_univ _⟩)
    (by rw [Finset.card_map, Finset.card_erase_of_mem (Finset.mem_univ _)]; decide)

/-! ## The semaphores by name -/

/-- The semaphores of a device: the entry handshake, the two slots of each weight buffer, the own copies of a piece and of a sum, and per chunk and peer the
    departures and arrivals of pieces and of sums. -/
inductive Kd where
  | bar
  | w (s : Fin 2)
  | o (s : Fin 2)
  | lr (ch : Fin 2)
  | lx (ch : Fin 2)
  | rss (ch : Fin 2) (t : Fin 16)
  | rsr (ch : Fin 2) (t : Fin 16)
  | ags (ch : Fin 2) (t : Fin 16)
  | agr (ch : Fin 2) (t : Fin 16)
  deriving DecidableEq

/-- The names, family by family. -/
def kdEquiv : (Unit ⊕ Fin 2 ⊕ Fin 2 ⊕ Fin 2 ⊕ Fin 2) ⊕ ((Fin 2 × Fin 16) ⊕ (Fin 2 × Fin 16) ⊕ (Fin 2 × Fin 16) ⊕ (Fin 2 × Fin 16)) ≃ Kd where
  toFun
    | .inl (.inl _) => .bar
    | .inl (.inr (.inl s)) => .w s
    | .inl (.inr (.inr (.inl s))) => .o s
    | .inl (.inr (.inr (.inr (.inl s)))) => .lr s
    | .inl (.inr (.inr (.inr (.inr s)))) => .lx s
    | .inr (.inl p) => .rss p.1 p.2
    | .inr (.inr (.inl p)) => .rsr p.1 p.2
    | .inr (.inr (.inr (.inl p))) => .ags p.1 p.2
    | .inr (.inr (.inr (.inr p))) => .agr p.1 p.2
  invFun
    | .bar => .inl (.inl ())
    | .w s => .inl (.inr (.inl s))
    | .o s => .inl (.inr (.inr (.inl s)))
    | .lr s => .inl (.inr (.inr (.inr (.inl s))))
    | .lx s => .inl (.inr (.inr (.inr (.inr s))))
    | .rss ch t => .inr (.inl (ch, t))
    | .rsr ch t => .inr (.inr (.inl (ch, t)))
    | .ags ch t => .inr (.inr (.inr (.inl (ch, t))))
    | .agr ch t => .inr (.inr (.inr (.inr (ch, t))))
  left_inv x := by rcases x with (_ | _ | _ | _ | _) | (_ | _ | _ | _) <;> rfl
  right_inv k := by cases k <;> rfl

instance : Fintype Kd := Fintype.ofEquiv _ kdEquiv

theorem semE_inb (ch : Fin 2) (t : Fin 16) : ∀ a, (![ch.val, t.val] : Fin 2 → Nat) a + S1x1.size a ≤ S2x16.size a := by revert ch t; decide +kernel
/-- Entry `(ch, t)` of an array of semaphores. -/
abbrev semE (s : DmaSems sig S2x16) (ch : Fin 2) (t : Fin 16) : DmaSem sig :=
  ((s.slice (Rect.unit (s := S2x16) ![ch.val, t.val] S1x1.size (semE_inb ch t))).squeeze S_ squeezes_S1x1_S_).sem

/-- The semaphore of a name, as the machine numbers it. -/
def semOf : Kd → SemLoc sig
  | .bar => .reg barSem
  | .w s => .dma (sem2 cc0_scratch6 s)
  | .o s => .dma (sem2 cc0_scratch7 s)
  | .lr ch => .dma (sem4 cc0_scratch8 ⟨ch.val, by omega⟩)
  | .lx ch => .dma (sem4 cc0_scratch8 ⟨2 + ch.val, by omega⟩)
  | .rss ch t => .dma (semE cc0_scratch9 ch t)
  | .rsr ch t => .dma (semE cc0_scratch10 ch t)
  | .ags ch t => .dma (semE cc0_scratch11 ch t)
  | .agr ch t => .dma (semE cc0_scratch12 ch t)

theorem num2 (s : Fin 2) : (sem2 cc0_scratch6 s).val = 2 + s.val ∧ (sem2 cc0_scratch7 s).val = 4 + s.val := by revert s; decide +kernel
theorem num4 : ∀ s : Fin 4, (sem4 cc0_scratch8 s).val = 6 + s.val := by decide +kernel
theorem numE : ∀ (ch : Fin 2) (t : Fin 16), (semE cc0_scratch9 ch t).val = 10 + 16 * ch.val + t.val ∧ (semE cc0_scratch10 ch t).val = 42 + 16 * ch.val + t.val
    ∧ (semE cc0_scratch11 ch t).val = 74 + 16 * ch.val + t.val ∧ (semE cc0_scratch12 ch t).val = 106 + 16 * ch.val + t.val := by decide +kernel

/-- The number of a semaphore. -/
def num : Kd → ℕ
  | .bar => 0
  | .w s => 2 + s.val
  | .o s => 4 + s.val
  | .lr ch => 6 + ch.val
  | .lx ch => 8 + ch.val
  | .rss ch t => 10 + 16 * ch.val + t.val
  | .rsr ch t => 42 + 16 * ch.val + t.val
  | .ags ch t => 74 + 16 * ch.val + t.val
  | .agr ch t => 106 + 16 * ch.val + t.val

theorem num_eq (k : Kd) : (match semOf k with | .reg _ => 0 | .dma x => x.val) = num k := by
  cases k with
  | bar => rfl
  | w s => exact (num2 s).1
  | o s => exact (num2 s).2
  | lr ch => exact num4 _
  | lx ch => exact (num4 _).trans (by show 6 + (2 + ch.val) = 8 + ch.val; omega)
  | rss ch t => exact (numE ch t).1
  | rsr ch t => exact (numE ch t).2.1
  | ags ch t => exact (numE ch t).2.2.1
  | agr ch t => exact (numE ch t).2.2.2

theorem num_inj : Function.Injective num := by
  intro k k' h
  cases k <;> cases k' <;> simp only [num] at h <;> first
    | rfl
    | (exfalso; omega)
    | (congr 1 <;> apply Fin.ext <;> omega)

theorem semOf_inj : Function.Injective semOf := fun k k' h => num_inj (by rw [← num_eq, ← num_eq, h])

theorem semOffT_eq : ∀ (ch : Fin 2) (d : Dev nD) (r : Fin 15), semOffT ch d (BitVec.ofNat 32 (1 + r.val)) = ![ch.val, (peer d r).val] := by decide +kernel
theorem semOffO_eq : ∀ (ch : Fin 2) (d : Dev nD), semOffO ch d = ![ch.val, d.val] := by decide +kernel
theorem bufOffT_eq : ∀ (ch : Fin 2) (d : Dev nD) (r : Fin 15), bufOffT ch d (BitVec.ofNat 32 (1 + r.val)) = ![(peer d r).val, 0, 512 * ch.val] := by decide +kernel
theorem bufOffO_eq : ∀ (ch : Fin 2) (d : Dev nD), bufOffO ch d = ![d.val, 0, 512 * ch.val] := by decide +kernel

theorem sem_of_off (s : DmaSems sig S2x16) {off off' : Fin 2 → Nat} (h : ∀ a, off a + S1x1.size a ≤ S2x16.size a) (h' : ∀ a, off' a + S1x1.size a ≤ S2x16.size a) (e : off = off') :
    ((s.slice (Rect.unit (s := S2x16) off S1x1.size h)).squeeze S_ squeezes_S1x1_S_).sem = ((s.slice (Rect.unit (s := S2x16) off' S1x1.size h')).squeeze S_ squeezes_S1x1_S_).sem := by
  subst e; rfl
theorem buf_of_off (m : Memref sig .tc .vmem S16x4x1024 .f32) {off off' : Fin 3 → Nat} (h : ∀ a, off a + S1x4x512.size a ≤ S16x4x1024.size a)
    (h' : ∀ a, off' a + S1x4x512.size a ≤ S16x4x1024.size a) (e : off = off') :
    (m.slice (Rect.unit (s := S16x4x1024) off S1x4x512.size h) (fun _ => rfl)).squeeze S4x512 squeezes_S1x4x512_S4x512
      = (m.slice (Rect.unit (s := S16x4x1024) off' S1x4x512.size h') (fun _ => rfl)).squeeze S4x512 squeezes_S1x4x512_S4x512 := by
  subst e; rfl
theorem semT_eq (s : DmaSems sig S2x16) (ch : Fin 2) (d : Dev nD) (r : Fin 15) : semT s ch d r = semE s ch (peer d r) := sem_of_off s _ _ (semOffT_eq ch d r)
theorem semO_eq (s : DmaSems sig S2x16) (ch : Fin 2) (d : Dev nD) : semO s ch d = semE s ch d := sem_of_off s _ _ (semOffO_eq ch d)
theorem bufT_eq (m : Memref sig .tc .vmem S16x4x1024 .f32) (ch : Fin 2) (d : Dev nD) (r : Fin 15) : bufT m ch d r = blk m ch (peer d r) := buf_of_off m _ _ (bufOffT_eq ch d r)
theorem bufO_eq (m : Memref sig .tc .vmem S16x4x1024 .f32) (ch : Fin 2) (d : Dev nD) : bufO m ch d = blk m ch d := buf_of_off m _ _ (bufOffO_eq ch d)

/-- The cell of a name on a device. -/
abbrev cell (c : Dev nD) (k : Kd) : GSem nD τ sig := ((c : Thread nD τ), semOf k)

theorem cell_inj : Function.Injective (fun p : Dev nD × Kd => cell p.1 p.2) := fun p p' h => by
  have h1 : (p.1 : Thread nD τ) = (p'.1 : Thread nD τ) := congrArg Prod.fst h
  exact Prod.ext (congrArg (fun t : Thread nD τ => t.1) h1) (semOf_inj (congrArg Prod.snd h))

/-- A table over devices and names, as one over all cells. -/
def onCells {α : Type} (z : α) (f : Dev nD → Kd → α) (g : GSem nD τ sig) : α := (Function.partialInv (fun p : Dev nD × Kd => cell p.1 p.2) g).elim z fun p => f p.1 p.2

theorem onCells_cell {α : Type} (z : α) (f : Dev nD → Kd → α) (c : Dev nD) (k : Kd) : onCells z f (cell c k) = f c k := by
  unfold onCells
  rw [show cell c k = (fun p : Dev nD × Kd => cell p.1 p.2) (c, k) from rfl, Function.partialInv_left cell_inj]
  rfl

/-! ## The values -/

section Values

variable (m : (ℓ : Loc nD τ sig) → Buf (Elt F) ℓ)

/-- The input, the weights of a layer, as a device holds them at launch. -/
def xIn (c : Dev nD) : FVec F S64x1024 .f32 := m ((c : Thread nD τ).loc main_arg0)
def win (l : Fin 3) (c : Dev nD) : FVec F S1024x2048 .f32 := (winM l).view.read (Elt F) (m ((winM l).view.loc (c : Thread nD τ)))
def wout (l : Fin 3) (c : Dev nD) : FVec F S2048x1024 .f32 := (woutM l).view.read (Elt F) (m ((woutM l).view.loc (c : Thread nD τ)))

theorem colsO (ch : Fin 2) : S2048x1024.Slices ![0, 512 * ch.val] S2048x512 := by revert ch; decide +kernel
theorem rowsW (ch : Fin 2) : S1024x2048.Slices ![512 * ch.val, 0] S512x2048 := by revert ch; decide +kernel
/-- A chunk's columns of the second weights, a chunk's rows of the first. -/
def chO (o : FVec F S2048x1024 .f32) (ch : Fin 2) : FVec F S2048x512 .f32 := extractStridedSlice S2048x512 ![0, 512 * ch.val] o (colsO ch)
def chW (w : FVec F S1024x2048 .f32) (ch : Fin 2) : FVec F S512x2048 .f32 := extractStridedSlice S512x2048 ![512 * ch.val, 0] w (rowsW ch)

/-- The partial product of a chunk. -/
def mulO (h : FVec F S64x2048 .f32) (o : FVec F S2048x512 .f32) : FVec F S64x512 .f32 :=
  matmul dot_S64x2048_S2048x512_S64x512_1_0_0_1_n_n none h o (constant S64x512 .f32 0x00000000#32)
/-- The sum of blocks, from the first on. -/
def sumOf : List (FVec F S4x512 .f32) → FVec F S4x512 .f32
  | [] => fun _ => Scalar.ofBits .f32 0x00000000#32
  | v :: l => l.foldl addf v
/-- The gathered rows of a chunk times its rows of the first weights. -/
def mulW (r : Fin 16 → FVec F S4x512 .f32) (w : FVec F S512x2048 .f32) : FVec F S64x2048 .f32 :=
  matmul dot_S64x512_S512x2048_S64x2048_1_0_0_1_n_n none
    (concatenate S64x512 0 [⟨S4x512, r 0⟩, ⟨S4x512, r 1⟩, ⟨S4x512, r 2⟩, ⟨S4x512, r 3⟩, ⟨S4x512, r 4⟩, ⟨S4x512, r 5⟩, ⟨S4x512, r 6⟩, ⟨S4x512, r 7⟩, ⟨S4x512, r 8⟩, ⟨S4x512, r 9⟩, ⟨S4x512, r 10⟩, ⟨S4x512, r 11⟩, ⟨S4x512, r 12⟩, ⟨S4x512, r 13⟩, ⟨S4x512, r 14⟩, ⟨S4x512, r 15⟩]
      concatenates_S4x512_S4x512_S4x512_S4x512_S4x512_S4x512_S4x512_S4x512_S4x512_S4x512_S4x512_S4x512_S4x512_S4x512_S4x512_S4x512_S64x512_d0)
    w (constant S64x2048 .f32 0x00000000#32)
/-- The hidden rows of the first layer. -/
def hidX (x : FVec F S64x1024 .f32) (w : FVec F S1024x2048 .f32) : FVec F S64x2048 .f32 :=
  maximumf (matmul dot_S64x1024_S1024x2048_S64x2048_1_0_0_1_n_n none (shapeCast S64x1024 x shapeCasts_S64x1024_S64x1024) w (constant S64x2048 .f32 0x00000000#32))
    (broadcast S64x2048 (Scalar.ofBits .f32 0x00000000#32 : F .f32))

/-- From the hidden rows of all devices: the piece that `s` sends `c`, and the sum that `c` makes. -/
def pieceOf (h : Dev nD → FVec F S64x2048 .f32) (l : Fin 3) (ch : Fin 2) (s c : Dev nD) : FVec F S4x512 .f32 := piece (mulO (h s) (chO (wout m l s) ch)) c
def redOf (h : Dev nD → FVec F S64x2048 .f32) (l : Fin 3) (ch : Fin 2) (c : Dev nD) : FVec F S4x512 .f32 := asRow (sumOf (blocks.map fun s => pieceOf m h l ch s c))
/-- The next layer's hidden rows. -/
def nextOf (h : Dev nD → FVec F S64x2048 .f32) (l : Fin 3) (l' : Fin 3) (c : Dev nD) : FVec F S64x2048 .f32 :=
  hidN (mulW (redOf m h l 0) (chW (win m l' c) 0)) (mulW (redOf m h l 1) (chW (win m l' c) 1))

/-- The hidden rows of layer `l` on a device. -/
def hid (l : Fin 3) (c : Dev nD) : FVec F S64x2048 .f32 := match l with
  | 0 => hidX (xIn m c) (win m 0 c)
  | 1 => nextOf m (fun c => hidX (xIn m c) (win m 0 c)) 0 1 c
  | 2 => nextOf m (nextOf m (fun c => hidX (xIn m c) (win m 0 c)) 0 1) 1 2 c
/-- The piece that `s` sends `c` in layer `l`, the sum of `c`. -/
def pc (l : Fin 3) (ch : Fin 2) (s c : Dev nD) : FVec F S4x512 .f32 := pieceOf m (hid m l) l ch s c
def red (l : Fin 3) (ch : Fin 2) (c : Dev nD) : FVec F S4x512 .f32 := redOf m (hid m l) l ch c

theorem hid_one (c : Dev nD) : hid m 1 c = nextOf m (hid m 0) 0 1 c := rfl
theorem hid_two (c : Dev nD) : hid m 2 c = nextOf m (hid m 1) 1 2 c := rfl

end Values

/-! ## The assertions -/

abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-- Device `c` holds the place `M` by share `q`, and it reads `X`. -/
def hold (c : Dev nD) {sp : Space} {s : Shape} {e : EltTy} (M : Memref sig .tc sp s e) (q : PosShare TreeShare) (X : s.Idx → Elt F e) : sProp 𝕄 :=
  M.view.loc (c : Thread nD τ) ↦[M.view.set]{q} M.view.rep X
/-- Device `c` has the place `M` to itself, whatever it holds. -/
def some' (c : Dev nD) {sp : Space} {s : Shape} {e : EltTy} (M : Memref sig .tc sp s e) : sProp 𝕄 := iprop(∃ X, hold (F := F) c M fullShare X)

instance hold_storable (c : Dev nD) {sp : Space} {s : Shape} {e : EltTy} (M : Memref sig .tc sp s e) (q : PosShare TreeShare) (X : s.Idx → Elt F e) :
    BI.Storable (upEmb : UEmb _ 𝕄) (hold c M q X) := by unfold hold; infer_instance
instance some_storable (c : Dev nD) {sp : Space} {s : Shape} {e : EltTy} (M : Memref sig .tc sp s e) :
    BI.Storable (upEmb : UEmb _ 𝕄) (some' (F := F) c M) := by unfold some'; infer_instance

/-- Sixteen equal shares of one. -/
def share (t : Fin 16) : PosShare TreeShare := ShareLeaves.leaf 4 fullShare t

/-- `s` lets `c` write the place for its piece, round `k`; the place for its sum, round `k` (there are two such). -/
def grantR (ch : Fin 2) (s c : Dev nD) (k : ℕ) : sProp 𝕄 := iprop(some' (F := F) s (blk rsM ch c) ∗ reached ER (cell s (.rsr ch c)) k)
def grantX (ch : Fin 2) (s c : Dev nD) (k : ℕ) : sProp 𝕄 :=
  if k < 2 then iprop(some' (F := F) s (blk xbM ch c) ∗ reached ER (cell s (.agr ch c)) k) else iprop(emp)

instance grantR_storable (ch : Fin 2) (s c : Dev nD) (k : ℕ) : BI.Storable (upEmb : UEmb _ 𝕄) (grantR (F := F) ch s c k) := by unfold grantR; infer_instance
instance grantX_storable (ch : Fin 2) (s c : Dev nD) (k : ℕ) : BI.Storable (upEmb : UEmb _ 𝕄) (grantX (F := F) ch s c k) := by unfold grantX; split <;> infer_instance

/-! ## The schedule -/

/-- Round `k` as a layer. -/
def layer (k : ℕ) : Fin 3 := ⟨k % 3, Nat.mod_lt _ (by decide)⟩
/-- The layer whose weights the `k`-th copy into slot `s` brings. -/
def wLayer (s : Fin 2) (k : ℕ) : Fin 3 := layer (s.val + 2 * k)

/-- How many rounds a cell has. -/
def rounds (c : Dev nD) : Kd → ℕ
  | .bar => 1
  | .w s => 2 - s.val
  | .o s => 2 - s.val
  | .lr _ => 3
  | .lx _ => 2
  | .rss _ t => if t = c then 0 else 3
  | .rsr _ t => if t = c then 0 else 3
  | .ags _ t => if t = c then 0 else 2
  | .agr _ t => if t = c then 0 else 2

/-- Who pays in a round. -/
def payers (c : Dev nD) (k : Kd) (r : ℕ) : Finset (Dev nD) :=
  if r < rounds c k then (match k with | .bar => Finset.univ.erase c | _ => {0}) else ∅

/-- The units of a payment. -/
def units : Kd → ℕ
  | .bar => 1
  | .w s => (wslot wM s).view.dmaCredit
  | .o s => (oslot oM s).view.dmaCredit
  | .lr _ => (blk rsM 0 0).view.dmaCredit
  | .lx _ => (blk xbM 0 0).view.dmaCredit
  | .rss _ _ => (blk rsM 0 0).view.dmaCredit
  | .rsr _ _ => (blk rsM 0 0).view.dmaCredit
  | .ags _ _ => (blk xbM 0 0).view.dmaCredit
  | .agr _ _ => (blk xbM 0 0).view.dmaCredit

theorem units_pos (k : Kd) : 0 < units k := by
  cases k <;> first | exact Nat.one_pos | exact View.dmaCredit_pos _ (by decide)

variable (m : (ℓ : Loc nD τ sig) → Buf (Elt F) ℓ)

/-- What a payment hands over. -/
def pay (c : Dev nD) (k : Kd) (r : ℕ) (d : Dev nD) : sProp 𝕄 := match k with
  | .bar => iprop(grantR (F := F) 0 d c 0 ∗ grantR (F := F) 1 d c 0)
  | .w s => iprop(hold c (wslot wM s) fullShare (win m (wLayer s r) c) ∗ hold c (winM (wLayer s r)) fullShare (win m (wLayer s r) c))
  | .o s => iprop(hold c (oslot oM s) fullShare (wout m (wLayer s r) c) ∗ hold c (woutM (wLayer s r)) fullShare (wout m (wLayer s r) c))
  | .lr ch => iprop(hold c (blk rsM ch c) fullShare (pc m (layer r) ch c c) ∗ some' (F := F) c (blk pM ch c))
  | .lx ch => iprop(hold c (blk xbM ch c) fullShare (red m (layer r) ch c) ∗ hold c (row rM ch) (share c) (red m (layer r) ch c))
  | .rss ch t => some' (F := F) c (blk pM ch t)
  | .rsr ch s => iprop(hold c (blk rsM ch s) fullShare (pc m (layer r) ch s c) ∗ grantX (F := F) ch s c r)
  | .ags ch t => hold c (row rM ch) (share t) (red m (layer r) ch c)
  | .agr ch s => iprop(hold c (blk xbM ch s) fullShare (red m (layer r) ch s) ∗ grantR (F := F) ch s c (r + 1))

instance pay_storable (c : Dev nD) (k : Kd) (r : ℕ) (d : Dev nD) : BI.Storable (upEmb : UEmb _ 𝕄) (pay m c k r d) := by
  unfold pay; split <;> infer_instance

/-- The rounds of all cells. -/
def sched : Schedule (GSem nD τ sig) (Dev nD) 𝕄 where
  duties g r := onCells ∅ (fun c k => payers c k r) g
  amount g _ _ := onCells 1 (fun _ k => units k) g
  payload g r d := onCells iprop(emp) (fun c k => pay m c k r d) g
  amount_pos g _ _ _ := by
    show 0 < onCells 1 (fun _ k => units k) g
    unfold onCells
    cases Function.partialInv (fun p : Dev nD × Kd => cell p.1 p.2) g with
    | none => exact Nat.one_pos
    | some p => exact units_pos p.2

instance sched_storable (g : GSem nD τ sig) (r : ℕ) (d : Dev nD) : BI.Storable (upEmb : UEmb _ 𝕄) ((sched m).payload g r d) := by
  show BI.Storable upEmb (onCells iprop(emp) (fun c k => pay m c k r d) g)
  unfold onCells
  cases Function.partialInv (fun p : Dev nD × Kd => cell p.1 p.2) g with
  | none => exact inferInstanceAs (BI.Storable upEmb (iprop(emp) : sProp 𝕄))
  | some p => exact pay_storable m p.1 p.2 r d

theorem duties_cell (c : Dev nD) (k : Kd) (r : ℕ) : (sched m).duties (cell c k) r = payers c k r := onCells_cell (α := Finset (Dev nD)) _ (fun c k => payers c k r) c k
theorem amount_cell (c : Dev nD) (k : Kd) (r : ℕ) (d : Dev nD) : (sched m).amount (cell c k) r d = units k := onCells_cell (α := ℕ) _ (fun _ k => units k) c k
theorem payload_cell (c : Dev nD) (k : Kd) (r : ℕ) (d : Dev nD) : (sched m).payload (cell c k) r d = pay m c k r d := onCells_cell (α := sProp 𝕄) _ (fun c k => pay m c k r d) c k

/-- A cell other than the handshake's has one payer. -/
theorem payers_one (c : Dev nD) {k : Kd} (hk : k ≠ .bar) {r : ℕ} (hr : r < rounds c k) : payers c k r = {0} := by
  unfold payers; rw [if_pos hr]; cases k <;> first | exact absurd rfl hk | rfl
theorem payers_bar (c : Dev nD) : payers c .bar 0 = Finset.univ.erase c := by unfold payers; exact if_pos Nat.one_pos
theorem payers_late (c : Dev nD) (k : Kd) {r : ℕ} (hr : rounds c k ≤ r) : payers c k r = ∅ := by unfold payers; rw [if_neg (by omega)]

theorem expect_one (c : Dev nD) {k : Kd} (hk : k ≠ .bar) {r : ℕ} (hr : r < rounds c k) : (sched m).expect (cell c k) r = units k := by
  unfold Schedule.expect Schedule.amountOf; rw [duties_cell, payers_one c hk hr, Finset.sum_singleton, amount_cell]
theorem expect_bar (c : Dev nD) : (sched m).expect (cell c .bar) 0 = 15 := by
  unfold Schedule.expect Schedule.amountOf
  rw [duties_cell, payers_bar, Finset.sum_congr rfl fun d _ => amount_cell m c .bar 0 d, Finset.sum_const, Finset.card_erase_of_mem (Finset.mem_univ _)]
  rfl
theorem rest_one (c : Dev nD) {k : Kd} (hk : k ≠ .bar) {r : ℕ} (hr : r < rounds c k) :
    bigSep ((sched m).duties (cell c k) r \ ∅) (fun d => (sched m).payload (cell c k) r d) = pay m c k r 0 := by
  rw [Finset.sdiff_empty, duties_cell, payers_one c hk hr, bigSep_singleton, payload_cell]
theorem rest_bar (c : Dev nD) :
    bigSep ((sched m).duties (cell c .bar) 0 \ ∅) (fun d => (sched m).payload (cell c .bar) 0 d) = bigSep (Finset.univ.erase c) fun d => pay m c .bar 0 d := by
  rw [Finset.sdiff_empty, duties_cell, payers_bar]
  exact bigSep_congr fun d _ => payload_cell m c .bar 0 d

/-! ## What is owed -/

/-- The steps at which a device pays its peers: the handshake, a layer's pieces, a layer's sums. -/
inductive St where
  | bar
  | rs (k : ℕ) (ch : Fin 2)
  | ag (k : ℕ) (ch : Fin 2)

/-- The place of a step in the order of the program. -/
def St.ix : St → ℕ
  | .bar => 1
  | .rs k ch => 2 + 4 * k + ch.val
  | .ag k ch => 4 + 4 * k + ch.val
/-- The cell at the peer that the step pays. -/
def St.kd (c : Dev nD) : St → Kd
  | .bar => .bar
  | .rs _ ch => .rsr ch c
  | .ag _ ch => .agr ch c

/-- The payment of `c` to `t`. -/
abbrev due (st : St) (c t : Dev nD) : Pay nD τ sig := (cell t (st.kd c), st.ix, units (st.kd c))
/-- The steps in order. -/
abbrev steps : List St := [.bar, .rs 0 0, .rs 0 1, .ag 0 0, .ag 0 1, .rs 1 0, .rs 1 1, .ag 1 0, .ag 1 1, .rs 2 0, .rs 2 1]
/-- What a device owes at the steps of `l`. -/
def dues (c : Dev nD) (l : List St) : List (Pay nD τ sig) := l.flatMap fun st => peers.map fun r => due st c (peer c r)

/-- At a wait below the place of every step to come the device may wait. -/
theorem mayWait (c : Dev nD) (s : SemLoc sig) (i : ℕ) (l : List St) (h : ∀ st ∈ l, i < st.ix ∧ st.ix < 16) :
    (levAts (L 16) lv : sProp 𝕄) ⊢ MayWait (c : Thread nD τ) s i (tallyL (dues c l)) := by
  by_cases hi : i < 16
  · refine SiteBlocks.mayWait_of hi c s _ fun g j hg => ?_
    obtain ⟨x, hx, rfl, rfl⟩ := TalkSites.tallyL_pos hg
    obtain ⟨st, hst, hx⟩ := List.mem_flatMap.mp hx
    obtain ⟨r, -, rfl⟩ := List.mem_map.mp hx
    exact ⟨SiteBlocks.mem_L' rfl (h st hst).2, (h st hst).1⟩
  · cases l with
    | nil => rw [show tallyL (dues c []) = 0 from rfl, MayWait_zero]; iintro -; iempintro
    | cons st l =>
      have := h st List.mem_cons_self
      omega

end Cert.KernelIdeal.Mlp

end
-- ==== Proof.Mem.lean ====
/-
  The buffers by their places: a buffer held whole is its blocks held one by one, and what loads read and stores leave.
-/
module

public import proofs.«01_k».proof.Proof.Proto
public import Idealize.ShloMosaic.Lib.Ring
public import Idealize.ShloMosaic.Lib.Pipeline.Value

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Holding and having -/

theorem eq_of {P Q : sProp 𝕄} (h : P ⊢ Q) (h' : Q ⊢ P) : P = Q := Idealize.SL.BI.Entails.antisymm h h'

section Hold

variable {c : Dev nD} {sp : Space} {s : Shape} {e : EltTy} {M : Memref sig .tc sp s e} {q : PosShare TreeShare}
theorem bigSep_weaken {I : Type} [DecidableEq I] {S : Finset I} {Φ Ψ : I → sProp 𝕄} (h : ∀ i ∈ S, Φ i ⊢ Ψ i) : bigSep S Φ ⊢ bigSep S Ψ := bigSep_mono h

/-- A place held at contents that read `X`. -/
theorem hold_of_read (c : Dev nD) (M : Memref sig .tc sp s e) (q : PosShare TreeShare) (X : s.Idx → Elt F e) (g : Buf (Elt F) (M.view.loc (c : Thread nD τ)))
    (h : M.view.read (Elt F) g = X) : (M.view.loc (c : Thread nD τ) ↦[M.view.set]{q} g : sProp 𝕄) = hold c M q X := by
  subst h; exact pointsTo_rep (c : Thread nD τ) M g q

theorem some_of_hold (X : s.Idx → Elt F e) : (hold c M fullShare X : sProp 𝕄) ⊢ some' c M := by
  unfold some'; iintro H; iexists X; iexact H

theorem some_eq (c : Dev nD) (M : Memref sig .tc sp s e) :
    (some' c M : sProp 𝕄) = iprop(∃ g, M.view.loc (c : Thread nD τ) ↦[M.view.set]{fullShare} g) := by
  refine eq_of ?_ ?_
  · unfold some' hold; iintro ⟨%X, H⟩; iexists _; iexact H
  · unfold some'; iintro ⟨%g, H⟩
    iexists (M.view.read (Elt F) g)
    iapply (Entails.of_eq (hold_of_read c M fullShare _ g rfl)); iexact H

end Hold

/-- A buffer someone has whole is had place by place, if every element lies in just one place. -/
theorem split_exists {ℓ : Loc nD τ sig} {B : Type} [Fintype B] [DecidableEq B] (f₀ : Buf (Elt F) ℓ) (I : B → Finset (Idx ℓ)) (at' : Idx ℓ → B) (h : ∀ i b, i ∈ I b ↔ at' i = b) :
    (iprop(∃ f, ℓ ↦{fullShare} f) : sProp 𝕄) = bigSep Finset.univ fun b => iprop(∃ f, ℓ ↦[I b]{fullShare} f) := by
  have hd : ∀ b b', b ≠ b' → Disjoint (I b) (I b') := fun b b' hb => Finset.disjoint_left.mpr fun i hi hi' => hb (((h i b).mp hi).symm.trans ((h i b').mp hi'))
  have hc : Finset.univ.biUnion I = Finset.univ := Finset.eq_univ_of_forall fun i => Finset.mem_biUnion.mpr ⟨at' i, Finset.mem_univ _, (h i _).mpr rfl⟩
  refine eq_of ?_ (Ring.pointsTo_blocks_join_exists I hd hc f₀)
  iintro ⟨%f, H⟩
  have hs : (bigSep Finset.univ fun b => (ℓ ↦[I b]{fullShare} f : sProp 𝕄)) ⊢ bigSep Finset.univ fun b => iprop(∃ f, ℓ ↦[I b]{fullShare} f) :=
    bigSep_weaken fun b _ => by iintro H; iexists f; iexact H
  iapply hs
  iapply (Entails.of_eq (Ring.pointsTo_blocks I hd hc f)); iexact H

/-- In which block an element of a buffer of sixteen blocks lies, in which chunk of a row. -/
def atBlk (i : S16x4x1024.Idx) : Fin 2 × Fin 16 := (⟨(i 2).val / 512, by have : (i 2).val < 1024 := (i 2).isLt; omega⟩, ⟨(i 0).val, (i 0).isLt⟩)
def atRow (i : S4x1024.Idx) : Fin 2 := ⟨(i 1).val / 512, by have : (i 1).val < 1024 := (i 1).isLt; omega⟩

theorem mem_blkR (i : S16x4x1024.Idx) (b : Fin 2 × Fin 16) : i ∈ (blkR b.1 b.2).set ↔ atBlk i = b := by
  obtain ⟨ch, j⟩ := b
  rw [Rect.mem_set_unit]
  have h0 : (i 0).val < 16 := (i 0).isLt
  have h1 : (i 1).val < 4 := (i 1).isLt
  have h2 : (i 2).val < 1024 := (i 2).isLt
  have hc : ch.val < 2 := ch.isLt
  constructor
  · intro h
    have a0 : j.val ≤ (i 0).val ∧ (i 0).val < j.val + 1 := h 0
    have a2 : 512 * ch.val ≤ (i 2).val ∧ (i 2).val < 512 * ch.val + 512 := h 2
    refine Prod.ext (Fin.ext ?_) (Fin.ext ?_)
    · show (i 2).val / 512 = ch.val; omega
    · show (i 0).val = j.val; omega
  · intro h
    have b1 : (i 2).val / 512 = ch.val := congrArg (fun b => b.1.val) h
    have b2 : (i 0).val = j.val := congrArg (fun b => b.2.val) h
    intro a
    fin_cases a
    · show j.val ≤ (i 0).val ∧ (i 0).val < j.val + 1; omega
    · show 0 ≤ (i 1).val ∧ (i 1).val < 0 + 4; omega
    · show 512 * ch.val ≤ (i 2).val ∧ (i 2).val < 512 * ch.val + 512; omega

theorem mem_rowR (i : S4x1024.Idx) (ch : Fin 2) : i ∈ (rowR ch).set ↔ atRow i = ch := by
  rw [Rect.mem_set_unit]
  have h0 : (i 0).val < 4 := (i 0).isLt
  have h1 : (i 1).val < 1024 := (i 1).isLt
  have hc : ch.val < 2 := ch.isLt
  constructor
  · intro h
    have a1 : 512 * ch.val ≤ (i 1).val ∧ (i 1).val < 512 * ch.val + 512 := h 1
    refine Fin.ext ?_
    show (i 1).val / 512 = ch.val; omega
  · intro h
    have b1 : (i 1).val / 512 = ch.val := congrArg Fin.val h
    intro a
    fin_cases a
    · show 0 ≤ (i 0).val ∧ (i 0).val < 0 + 4; omega
    · show 512 * ch.val ≤ (i 1).val ∧ (i 1).val < 512 * ch.val + 512; omega

theorem mem_wslot (i : S2x1024x2048.Idx) (s : Fin 2) :
    i ∈ (Rect.unit (s := S2x1024x2048) ![s.val, 0, 0] S1x1024x2048.size (wslot_inb s)).set ↔ i 0 = s := by
  rw [Rect.mem_set_unit]
  have h1 : (i 1).val < 1024 := (i 1).isLt
  have h2 : (i 2).val < 2048 := (i 2).isLt
  constructor
  · intro h
    have a0 : s.val ≤ (i 0).val ∧ (i 0).val < s.val + 1 := h 0
    apply Fin.ext; show (i 0).val = s.val; omega
  · rintro rfl a
    fin_cases a
    · show (i 0).val ≤ (i 0).val ∧ (i 0).val < (i 0).val + 1; omega
    · show 0 ≤ (i 1).val ∧ (i 1).val < 0 + 1024; omega
    · show 0 ≤ (i 2).val ∧ (i 2).val < 0 + 2048; omega

theorem mem_oslot (i : S2x2048x1024.Idx) (s : Fin 2) :
    i ∈ (Rect.unit (s := S2x2048x1024) ![s.val, 0, 0] S1x2048x1024.size (oslot_inb s)).set ↔ i 0 = s := by
  rw [Rect.mem_set_unit]
  have h1 : (i 1).val < 2048 := (i 1).isLt
  have h2 : (i 2).val < 1024 := (i 2).isLt
  constructor
  · intro h
    have a0 : s.val ≤ (i 0).val ∧ (i 0).val < s.val + 1 := h 0
    apply Fin.ext; show (i 0).val = s.val; omega
  · rintro rfl a
    fin_cases a
    · show (i 0).val ≤ (i 0).val ∧ (i 0).val < (i 0).val + 1; omega
    · show 0 ≤ (i 1).val ∧ (i 1).val < 0 + 2048; omega
    · show 0 ≤ (i 2).val ∧ (i 2).val < 0 + 1024; omega

/-- All blocks of a buffer of sixteen. -/
def allBlk (c : Dev nD) (M : Memref sig .tc .vmem S16x4x1024 .f32) : sProp 𝕄 := bigSep Finset.univ fun b : Fin 2 × Fin 16 => some' c (blk M b.1 b.2)

/-- A whole buffer whose places are rectangles of it. -/
theorem split_whole (c : Dev nD) (b : Ref sig .tc) {B : Type} [Fintype B] [DecidableEq B] (P : B → sProp 𝕄) (R : B → Rect b.ty.shape) (at' : b.ty.shape.Idx → B)
    (h : ∀ i t, i ∈ (R t).set ↔ at' i = t)
    (hP : ∀ t, P t = iprop(∃ g, (c : Thread nD τ).loc b ↦[((View.whole b).slice (R t)).set]{fullShare} g)) :
    (iprop(∃ f, ((c : Thread nD τ).loc b) ↦{fullShare} f) : sProp 𝕄) = bigSep Finset.univ P := by
  rw [split_exists (ℓ := (c : Thread nD τ).loc b) (fun _ => Classical.choice (Elt.nonempty F _)) (fun t => (R t).set) at' h]
  exact bigSep_congr fun t _ => by rw [hP t, View.set_slice_whole]

theorem some_blk (c : Dev nD) (M : Memref sig .tc .vmem S16x4x1024 .f32) (ch : Fin 2) (j : Fin 16) :
    (some' c (blk M ch j) : sProp 𝕄) = iprop(∃ g, M.view.loc (c : Thread nD τ) ↦[(M.view.slice (blkR ch j)).set]{fullShare} g) := by
  rw [some_eq]; exact congrArg _ (funext fun g => congrArg (fun S => (M.view.loc (c : Thread nD τ) ↦[S]{fullShare} g : sProp 𝕄)) (View.set_reshape _ _))

theorem split_xb (c : Dev nD) : (iprop(∃ f, ((c : Thread nD τ).loc cc0_scratch2) ↦{fullShare} f) : sProp 𝕄) = allBlk c xbM :=
  split_whole c cc0_scratch2 _ (fun b => blkR b.1 b.2) atBlk mem_blkR fun b => some_blk c xbM b.1 b.2
theorem split_p (c : Dev nD) : (iprop(∃ f, ((c : Thread nD τ).loc cc0_scratch3) ↦{fullShare} f) : sProp 𝕄) = allBlk c pM :=
  split_whole c cc0_scratch3 _ (fun b => blkR b.1 b.2) atBlk mem_blkR fun b => some_blk c pM b.1 b.2
theorem split_rs (c : Dev nD) : (iprop(∃ f, ((c : Thread nD τ).loc cc0_scratch5) ↦{fullShare} f) : sProp 𝕄) = allBlk c rsM :=
  split_whole c cc0_scratch5 _ (fun b => blkR b.1 b.2) atBlk mem_blkR fun b => some_blk c rsM b.1 b.2
theorem split_r (c : Dev nD) : (iprop(∃ f, ((c : Thread nD τ).loc cc0_scratch4) ↦{fullShare} f) : sProp 𝕄) = bigSep Finset.univ fun ch => some' c (row rM ch) :=
  split_whole c cc0_scratch4 _ rowR atRow mem_rowR fun ch => some_eq c (row rM ch)
theorem split_w (c : Dev nD) : (iprop(∃ f, ((c : Thread nD τ).loc cc0_scratch0) ↦{fullShare} f) : sProp 𝕄) = bigSep Finset.univ fun s => some' c (wslot wM s) :=
  split_whole c cc0_scratch0 _ (fun s => Rect.unit (s := S2x1024x2048) ![s.val, 0, 0] S1x1024x2048.size (wslot_inb s)) (fun i => i 0) mem_wslot fun s => by
    rw [some_eq]; exact congrArg _ (funext fun g => congrArg (fun S => (wM.view.loc (c : Thread nD τ) ↦[S]{fullShare} g : sProp 𝕄)) (View.set_reshape _ _))
theorem split_o (c : Dev nD) : (iprop(∃ f, ((c : Thread nD τ).loc cc0_scratch1) ↦{fullShare} f) : sProp 𝕄) = bigSep Finset.univ fun s => some' c (oslot oM s) :=
  split_whole c cc0_scratch1 _ (fun s => Rect.unit (s := S2x2048x1024) ![s.val, 0, 0] S1x2048x1024.size (oslot_inb s)) (fun i => i 0) mem_oslot fun s => by
    rw [some_eq]; exact congrArg _ (funext fun g => congrArg (fun S => (oM.view.loc (c : Thread nD τ) ↦[S]{fullShare} g : sProp 𝕄)) (View.set_reshape _ _))

/-! ## What loads read -/

section Contents

theorem flat_blk (M : Memref sig .tc .vmem S16x4x1024 .f32) (ch : Fin 2) (j : Fin 16) (X : FVec F S4x512 .f32) :
    flat (M.view.readAt (Elt F) (blkR ch j).toLoadRect ((blk M ch j).view.rep (Val := Elt F) X)) = X := by
  generalize hf : (blk M ch j).view.rep (Val := Elt F) X = f
  have h := Memref.read_squeeze_slice (Val := Elt F) M (blkR ch j) (fun _ => rfl) squeezes_S1x4x512_S4x512 shapeCasts_S1x4x512_S4x512 f
  unfold flat
  rw [← h, ← hf]
  exact View.read_rep (Val := Elt F) (blk M ch j).view X

theorem chO_slot (s ch : Fin 2) (X : FVec F S2048x1024 .f32) :
    shapeCast S2048x512 (oM.view.readAt (Elt F) (ochR s ch).toLoadRect ((oslot oM s).view.rep (Val := Elt F) X)) shapeCasts_S1x2048x512_S2048x512 = chO X ch := by
  generalize hf : (oslot oM s).view.rep (Val := Elt F) X = f
  have hX : X = shapeCast S2048x1024 (oM.view.readAt (Elt F) (Rect.unit (s := S2x2048x1024) ![s.val, 0, 0] S1x2048x1024.size (oslot_inb s)).toLoadRect f) squeezes_S1x2048x1024_S2048x1024.numel_eq := by
    rw [← hf]
    exact ((Memref.read_squeeze_slice oM (Rect.unit (s := S2x2048x1024) ![s.val, 0, 0] S1x2048x1024.size (oslot_inb s)) (fun _ => rfl) squeezes_S1x2048x1024_S2048x1024 _ _).symm.trans
      (View.read_rep (Val := Elt F) (oslot oM s).view X)).symm
  rw [hX]
  funext i
  unfold chO extractStridedSlice
  rw [shapeCast_dropUnit_apply ![2048, 512], shapeCast_dropUnit_apply ![2048, 1024]]
  refine congrArg f (funext fun a => Fin.ext ?_)
  fin_cases a
  · rfl
  · show 0 + 1 * (i 0).val = 0 + 1 * (0 + (i 0).val); omega
  · show 512 * ch.val + 1 * (i 1).val = 0 + 1 * (512 * ch.val + (i 1).val); omega

theorem chW_slot (s ch : Fin 2) (X : FVec F S1024x2048 .f32) :
    shapeCast S512x2048 (wM.view.readAt (Elt F) (wchR s ch).toLoadRect ((wslot wM s).view.rep (Val := Elt F) X)) shapeCasts_S1x512x2048_S512x2048 = chW X ch := by
  generalize hf : (wslot wM s).view.rep (Val := Elt F) X = f
  have hX : X = shapeCast S1024x2048 (wM.view.readAt (Elt F) (Rect.unit (s := S2x1024x2048) ![s.val, 0, 0] S1x1024x2048.size (wslot_inb s)).toLoadRect f) squeezes_S1x1024x2048_S1024x2048.numel_eq := by
    rw [← hf]
    exact ((Memref.read_squeeze_slice wM (Rect.unit (s := S2x1024x2048) ![s.val, 0, 0] S1x1024x2048.size (wslot_inb s)) (fun _ => rfl) squeezes_S1x1024x2048_S1024x2048 _ _).symm.trans
      (View.read_rep (Val := Elt F) (wslot wM s).view X)).symm
  rw [hX]
  funext i
  unfold chW extractStridedSlice
  rw [shapeCast_dropUnit_apply ![512, 2048], shapeCast_dropUnit_apply ![1024, 2048]]
  refine congrArg f (funext fun a => Fin.ext ?_)
  fin_cases a
  · rfl
  · show 512 * ch.val + 1 * (i 0).val = 0 + 1 * (512 * ch.val + (i 0).val); omega
  · show 0 + 1 * (i 1).val = 0 + 1 * (0 + (i 1).val); omega

theorem w_slot0 (X : FVec F S1024x2048 .f32) :
    shapeCast S1024x2048 (wM.view.readAt (Elt F) (Rect.unit (s := S2x1024x2048) ![0, 0, 0] S1x1024x2048.size inb_S2x1024x2048_S1x1024x2048_0_0_0).toLoadRect ((wslot wM 0).view.rep X))
      shapeCasts_S1x1024x2048_S1024x2048 = X := by
  generalize hf : (wslot wM 0).view.rep (Val := Elt F) X = f
  have h := Memref.read_squeeze_slice (Val := Elt F) wM (Rect.unit (s := S2x1024x2048) ![0, 0, 0] S1x1024x2048.size inb_S2x1024x2048_S1x1024x2048_0_0_0) (fun _ => rfl)
    squeezes_S1x1024x2048_S1024x2048 shapeCasts_S1x1024x2048_S1024x2048 f
  rw [← h, ← hf]
  exact View.read_rep (Val := Elt F) (wslot wM 0).view X

theorem x_whole (X : FVec F S64x1024 .f32) :
    xM.view.readAt (Elt F) (Rect.unit (s := S64x1024) ![0, 0] S64x1024.size inb_S64x1024_S64x1024_0_0).toLoadRect X = X :=
  Memref.readAt_unit_zero (Elt F) cc0_stg0_0 (by funext a; fin_cases a <;> rfl) _ X

theorem asRow_eq (v : FVec F S4x512 .f32) : asRow v = v := shapeCast_self _ _

/-- The stored block reads back as the piece. -/
theorem read_piece (M : Memref sig .tc .vmem S16x4x1024 .f32) (ch : Fin 2) (t : Fin 16) (v : FVec F S64x512 .f32) (f : M.view.ty.Contents (Elt F)) :
    (blk M ch t).view.read (Elt F) ((M.access (blkR ch t)).write (Elt F) f (piece1 v t) Finset.univ) = piece v t := by
  have h : (blk M ch t).view.read (Elt F) ((M.access (blkR ch t)).write (Elt F) f (piece1 v t) Finset.univ)
      = shapeCast S4x512 (M.view.readAt (Elt F) (blkR ch t).toLoadRect ((M.access (blkR ch t)).write (Elt F) f (piece1 v t) Finset.univ)) shapeCasts_S1x4x512_S4x512 :=
    Memref.read_squeeze_slice M (blkR ch t) (fun _ => rfl) squeezes_S1x4x512_S4x512 shapeCasts_S1x4x512_S4x512 _
  rw [h, show M.view.readAt (Elt F) (blkR ch t).toLoadRect ((M.access (blkR ch t)).write (Elt F) f (piece1 v t) Finset.univ) = piece1 v t from View.read_write_univ (v := M.access (blkR ch t)) f (piece1 v t)]
  exact shapeCast_shapeCast _ _ _

end Contents

end Cert.KernelIdeal.Mlp

end
-- ==== Proof.Rules.lean ====
/-
  One operation of the protocol at a time: a signal, a copy, a copy to a peer, a wait; and a group of operations from one of them.
-/
module

public import proofs.«01_k».proof.Proof.Mem
public import Idealize.ShloMosaic.Lib.Pipeline.BigSepL

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)
open Cert.KernelIdeal Cert.KernelIdeal.Gen

variable {F : FTy → Type} [FloatOps F]

local notation "𝕄" => MT nD τ sig ℕ (Elt F) ℕ UU ℕ

abbrev 𝒱₀ : Variants := Variants.none

/-- Device `c` runs `p` to its end, where `Q` holds. -/
abbrev run (c : Dev nD) (p : Pr F) (Q : sProp 𝕄) : sProp 𝕄 := wp frame (wpE (defs₀ (F := F)) 𝒱₀ (c : Thread nD τ) none) Set.univ p (fun _ => Q)

/-! ## Everyone else -/

/-- `Φ` for every peer of `c`. -/
def each (c : Dev nD) (Φ : Dev nD → sProp 𝕄) : sProp 𝕄 := bigSepL peers fun r => Φ (peer c r)

theorem each_eq (c : Dev nD) (Φ : Dev nD → sProp 𝕄) : each c Φ = bigSep (Finset.univ.erase c) Φ := by
  unfold each
  rw [← image_peer c, bigSep_map, bigSep_univ_eq_bigSepL peers (by decide) (by decide)]
  rfl
theorem each_sep (c : Dev nD) (Φ Ψ : Dev nD → sProp 𝕄) : each c (fun t => iprop(Φ t ∗ Ψ t)) = iprop(each c Φ ∗ each c Ψ) := by
  rw [each_eq, each_eq, each_eq, bigSep_sep']
theorem each_mono (c : Dev nD) {Φ Ψ : Dev nD → sProp 𝕄} (h : ∀ t, t ≠ c → (Φ t ⊢ Ψ t)) : each c Φ ⊢ each c Ψ := by
  rw [each_eq, each_eq]; exact bigSep_mono fun t ht => h t (Finset.ne_of_mem_erase ht)
/-- Everyone is the device and its peers. -/
theorem around (c : Dev nD) (Φ : Dev nD → sProp 𝕄) : bigSepL blocks Φ = iprop(Φ c ∗ each c Φ) := by
  rw [each_eq, ← bigSep_univ_eq_bigSepL (I := Fin 16) blocks (by decide) (by decide) Φ]
  exact bigSep_univ_at Φ c

theorem bigSepL_weaken {I : Type} {l : List I} {Φ Ψ : I → sProp 𝕄} (h : ∀ i, Φ i ⊢ Ψ i) : bigSepL l Φ ⊢ bigSepL l Ψ := bigSepL_mono fun i _ => h i

/-- A group of operations, one at a time. -/
theorem run_each {ι : Type} (c : Dev nD) (step : ι → Pr F → Pr F) (G : List ι → Pr F → Pr F) (hn : ∀ K, G [] K = K) (hc : ∀ r l K, G (r :: l) K = step r (G l K))
    {E : sProp 𝕄} [BI.Persistent E] (A B : ι → sProp 𝕄) (I : List ι → sProp 𝕄) (Q : sProp 𝕄)
    (h : ∀ r l K, iprop(E ∗ A r ∗ I (r :: l) ∗ ((B r ∗ I l) -∗ run c K Q)) ⊢ run c (step r K) Q) :
    ∀ (l : List ι) (K : Pr F), iprop(E ∗ bigSepL l A ∗ I l ∗ ((bigSepL l B ∗ I []) -∗ run c K Q)) ⊢ run c (G l K) Q := by
  intro l
  induction l with
  | nil =>
    intro K
    rw [hn]
    iintro ⟨-, -, HI, HK⟩
    iapply HK
    isplitr; · rw [bigSepL_nil]; iempintro
    iexact HI
  | cons r l ih =>
    intro K
    rw [hc, bigSepL_cons' r l A, bigSepL_cons' r l B]
    iintro ⟨#HE, ⟨HA, Hl⟩, HI, HK⟩
    iapply (h r l (G l K))
    isplitr; · iexact HE
    isplitl [HA]; · iexact HA
    isplitl [HI]; · iexact HI
    iintro ⟨HB, HI⟩
    iapply (ih K)
    isplitr; · iexact HE
    isplitl [Hl]; · iexact Hl
    isplitl [HI]; · iexact HI
    iintro ⟨HBl, HI⟩
    iapply HK
    isplitl [HB HBl]
    · isplitl [HB] <;> iassumption
    iexact HI

/-! ## The records everyone shares -/

variable (m : (ℓ : Loc nD τ sig) → Buf (Elt F) ℓ)

def allInv (K : Dev nD × Kd → ℕ) : sProp 𝕄 := bigSep Finset.univ fun p : Dev nD × Kd => cellInv ER (sched m) (K p) (cell p.1 p.2)
def env (K : Dev nD × Kd → ℕ) : sProp 𝕄 := iprop(allInv m K ∗ levAts (L 16) lv)
instance (K : Dev nD × Kd → ℕ) : BI.Persistent (allInv m K) := by unfold allInv; infer_instance
instance (K : Dev nD × Kd → ℕ) : BI.Persistent (env m K) := by unfold env; infer_instance

theorem env_inv (K : Dev nD × Kd → ℕ) (c : Dev nD) (k : Kd) : env m K ⊢ cellInv ER (sched m) (K (c, k)) (cell c k) := by
  unfold env allInv
  iintro ⟨H, -⟩
  iapply (show (bigSep Finset.univ fun p : Dev nD × Kd => cellInv ER (sched m) (K p) (cell p.1 p.2) : sProp 𝕄) ⊢ cellInv ER (sched m) (K (c, k)) (cell c k) from
    bigSep_elim (Finset.mem_univ (c, k)))
  iexact H
theorem env_wait (K : Dev nD × Kd → ℕ) (c : Dev nD) (s : SemLoc sig) (i : ℕ) (l : List St) (h : ∀ st ∈ l, i < st.ix ∧ st.ix < 16) :
    env m K ⊢ MayWait (c : Thread nD τ) s i (tallyL (dues c l)) := by
  unfold env
  iintro ⟨-, H⟩
  iapply (mayWait (F := F) c s i l h); iexact H

/-! ## The state of a cell -/

/-- What is left of a list of rounds from `R` on. -/
def left (n R : ℕ) (Φ : ℕ → sProp 𝕄) : sProp 𝕄 := bigSep (Finset.Ico R n) Φ
theorem left_pop {n R : ℕ} (h : R < n) (Φ : ℕ → sProp 𝕄) : left n R Φ = iprop(Φ R ∗ left n (R + 1) Φ) := by
  unfold left
  rw [show Finset.Ico R n = insert R (Finset.Ico (R + 1) n) from by ext x; simp only [Finset.mem_Ico, Finset.mem_insert]; omega]
  exact bigSep_insert (by simp)

/-- The tokens of a cell's payer from round `R` on. -/
def toks (c : Dev nD) (k : Kd) (R : ℕ) : sProp 𝕄 := left (rounds c k) R fun r => dutyTok ER (cell c k) r 0
/-- A cell at the start of round `R`. -/
def pos (c : Dev nD) (k : Kd) (R : ℕ) : sProp 𝕄 := iprop(atPos ER (cell c k) R ∅ 0 ∗ reached ER (cell c k) R)
/-- A cell that its own device pays, with no payment under way; with one under way. -/
def idle (c : Dev nD) (k : Kd) (R : ℕ) : sProp 𝕄 := iprop(pos (F := F) c k R ∗ toks (F := F) c k R)
def busy (c : Dev nD) (k : Kd) (R : ℕ) : sProp 𝕄 := iprop(pos (F := F) c k R ∗ toks (F := F) c k (R + 1) ∗ cred (tallyAt (cell c k) 0 (units k)))
/-- What the device owes. -/
def owe (c : Dev nD) (l : List (Pay nD τ sig)) : sProp 𝕄 := iprop(∃ W, owes (c : Thread nD τ) (tallyL l) W)

/-! ## The operations -/

/-- A wait for a payment in full. -/
theorem run_wait (K : Dev nD × Kd → ℕ) (c : Dev nD) (k : Kd) (hk : k ≠ .bar) (R : ℕ) (hR : R < rounds c k) (i : ℕ) (l : List St) (hl : ∀ st ∈ l, i < st.ix ∧ st.ix < 16)
    (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (semOf k) (units k) Kt)
    (p : Pr F) (Q : sProp 𝕄) :
    iprop(env m K ∗ pos c k R ∗ cred (tallyAt (cell c k) i (units k)) ∗ owe c (dues c l) ∗ ((owe c (dues c l) ∗ pos c k (R + 1) ∗ pay m c k R 0) -∗ run c p Q))
      ⊢ run c (.op w fun _ => p) Q := by
  unfold pos owe
  iintro ⟨#HE, ⟨Hat, -⟩, Hc, ⟨%W, HO⟩, HK⟩
  iapply (Rounds.wp_wait_rest_token 𝒱₀ ER (sched m) (c : Thread nD τ) none (κ := K (c, k)) hw (Set.mem_univ _) i (O := tallyL (dues c l)) (W := W) (R := R) (m := 0) (T := ∅)
      (by rw [Nat.zero_add]; exact (expect_one m c hk hR).symm)) $$ [Hc HO Hat]
  · isplitr; · iapply (env_inv m K c k); iexact HE
    isplitl [Hc]; · iexact Hc
    isplitl [HO]; · iexact HO
    isplitr; · iapply (env_wait m K c (semOf k) i l hl); iexact HE
    iexact Hat
  iintro ⟨HO, Hat, Hr, Hp⟩
  ihave Hp := (Entails.of_eq (rest_one m c hk hR)) $$ Hp
  iapply HK
  isplitl [HO]; · iexists _; iexact HO
  isplitl [Hat Hr]
  · isplitl [Hat] <;> iassumption
  iexact Hp

/-- A wait for a payment of the device's own. -/
theorem run_wait_own (K : Dev nD × Kd → ℕ) (c : Dev nD) (k : Kd) (hk : k ≠ .bar) (R : ℕ) (hR : R < rounds c k) (l : List St) (hl : ∀ st ∈ l, 0 < st.ix ∧ st.ix < 16)
    (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (semOf k) (units k) Kt)
    (p : Pr F) (Q : sProp 𝕄) :
    iprop(env m K ∗ busy c k R ∗ owe c (dues c l) ∗ ((owe c (dues c l) ∗ idle c k (R + 1) ∗ pay m c k R 0) -∗ run c p Q))
      ⊢ run c (.op w fun _ => p) Q := by
  unfold busy
  iintro ⟨#HE, ⟨Hpos, Ht, Hc⟩, HO, HK⟩
  iapply (run_wait m K c k hk R hR 0 l hl w hw p Q)
  isplitr; · iexact HE
  isplitl [Hpos]; · iexact Hpos
  isplitl [Hc]; · iexact Hc
  isplitl [HO]; · iexact HO
  iintro ⟨HO, Hpos, Hp⟩
  iapply HK
  isplitl [HO]; · iexact HO
  isplitl [Hpos Ht]
  · unfold idle; isplitl [Hpos] <;> iassumption
  iexact Hp

/-- A copy on the device. -/
theorem run_copy (K : Dev nD × Kd → ℕ) (c : Dev nD) (k : Kd) (hk : k ≠ .bar) (R : ℕ) (hR : R < rounds c k)
    {sp sp' : Space} {s : Shape} {e : EltTy} {src : Memref sig .tc sp s e} {dst : Memref sig .tc sp' s e} {sem : SemLoc sig} (hsem : sem = semOf k)
    (hN : dst.view.amount sem = units k) {h₁ : src.view.WordExact} {h₂ : dst.view.WordExact} {h₃ : DmaTarget.Typed (nD := nD) sp sem (DmaTarget.here (p := Proc.tc) dst)}
    (q : PosShare TreeShare) (X : s.Idx → Elt F e) (hpay : iprop(hold c dst fullShare X ∗ hold c src q X) ⊢ pay m c k R 0) (p : Pr F) (Q : sProp 𝕄) :
    iprop(env m K ∗ idle c k R ∗ hold c src q X ∗ some' c dst ∗ (busy c k R -∗ run c p Q))
      ⊢ run c (.op (.enqueueDma src (.here dst) sem h₁ h₂ h₃) fun _ => p) Q := by
  subst hsem
  unfold idle pos toks
  rw [left_pop hR, some_eq]
  iintro ⟨#HE, ⟨⟨Hat, #Hr⟩, Ht, Hts⟩, Hs, ⟨%g, Hd⟩, HK⟩
  iapply (Rounds.wp_copy_pointsTo 𝒱₀ ER (sched m) (c : Thread nD τ) none (κ := K (c, k)) (q := q) (fs := src.view.rep X) (fd := g) (r := R) (d := 0)
      (by rw [duties_cell, payers_one c hk hR]; exact Finset.mem_singleton_self _) 0 (units k) hN (amount_cell m c k R 0)
      (by
        rw [payload_cell]
        refine BIBase.Entails.trans (sep_mono_left (Entails.of_eq (hold_of_read c dst fullShare X _ ?_))) hpay
        rw [View.read_write_univ, View.read_rep])) $$ [Hs Hd Ht]
  · isplitr; · iapply (env_inv m K c k); iexact HE
    isplitl [Hs]; · unfold hold; iexact Hs
    isplitl [Hd]; · iexact Hd
    isplitl [Ht]; · iexact Ht
    iexact Hr
  iintro Hc
  iapply HK
  unfold busy pos toks
  isplitl [Hat]
  · isplitl [Hat]; · iexact Hat
    iexact Hr
  isplitl [Hts] <;> iassumption

/-- A copy to a peer. -/
theorem run_send (K : Dev nD × Kd → ℕ) (c t : Dev nD) (k k' : Kd) (hk : k ≠ .bar) (hk' : k' ≠ .bar) (R R' : ℕ) (hR : R < rounds c k) (hR' : R' < rounds t k')
    {sp sp' : Space} {s : Shape} {e : EltTy} {src : Memref sig .tc sp s e} {dst : Memref sig .tc sp' s e} {hsc : dst.view.ref.isScScratch = false}
    {sS sem : SemLoc sig} (hsS : sS = semOf k) (hsem : sem = semOf k') (hu : units k = units k')
    (hN : dst.view.amount sem = units k') {h₁ : src.view.WordExact} {h₂ : dst.view.WordExact} {h₃ : DmaTarget.Typed sp sem (DmaTarget.remote (p := .tc) (t : Thread nD τ) dst sS hsc)}
    (q : PosShare TreeShare) (X : s.Idx → Elt F e) (G : sProp 𝕄) (hpay : hold c src q X ⊢ pay m c k R 0) (hpay' : iprop(hold t dst fullShare X ∗ G) ⊢ pay m t k' R' 0)
    (i : ℕ) (l : List (Pay nD τ sig)) (p : Pr F) (Q : sProp 𝕄) :
    iprop(env m K ∗ (idle c k R ∗ toks t k' R' ∗ reached ER (cell t k') R' ∗ hold c src q X ∗ some' t dst ∗ G) ∗ owe c ((cell t k', i, units k') :: l)
        ∗ (((busy c k R ∗ toks t k' (R' + 1)) ∗ owe c l) -∗ run c p Q))
      ⊢ run c (.op (.enqueueDma src (.remote (t : Thread nD τ) dst sS hsc) sem h₁ h₂ h₃) fun _ => p) Q := by
  subst hsS hsem
  unfold idle pos toks owe
  rw [left_pop hR, left_pop hR', some_eq]
  iintro ⟨#HE, ⟨⟨⟨Hat, #Hr⟩, Ht, Hts⟩, ⟨Ht', Hts'⟩, Hr', Hs, ⟨%g, Hd⟩, HG⟩, ⟨%W, HO⟩, HK⟩
  iapply (Rounds.wp_send_pointsTo_with 𝒱₀ ER (sched m) (c : Thread nD τ) none (κ₁ := K (c, k)) (κ₂ := K (t, k')) (q := q) (fs := src.view.rep X) (fd := g) (F := G)
      (r₁ := R) (r₂ := R') (d₁ := 0) (d₂ := 0)
      (by rw [duties_cell, payers_one c hk hR]; exact Finset.mem_singleton_self _) (by rw [duties_cell, payers_one t hk' hR']; exact Finset.mem_singleton_self _)
      i 0 (units k') hN ((amount_cell m c k R 0).trans hu) (amount_cell m t k' R' 0) (tallyL l) (add_comm _ _) (W := W)
      (by rw [payload_cell]; exact hpay)
      (by
        rw [payload_cell]
        refine BIBase.Entails.trans (sep_mono_left (Entails.of_eq (hold_of_read t dst fullShare X _ ?_))) hpay'
        rw [View.read_write_univ, View.read_rep])) $$ [Hs Hd HG HO Ht Ht' Hr']
  · isplitr; · iapply (env_inv m K c k); iexact HE
    isplitr; · iapply (env_inv m K t k'); iexact HE
    isplitl [Hs]; · unfold hold; iexact Hs
    isplitl [Hd HG]
    · isplitl [Hd] <;> iassumption
    isplitl [HO]; · iexact HO
    isplitl [Ht]; · iexact Ht
    isplitr; · iexact Hr
    isplitl [Ht'] <;> iassumption
  iintro ⟨Hc, HO⟩
  iapply HK
  isplitr [HO]
  · unfold busy pos toks
    isplitl [Hat Hts Hc]
    · isplitl [Hat]
      · isplitl [Hat]; · iexact Hat
        iexact Hr
      isplitl [Hts]; · iexact Hts
      rw [hu]; iexact Hc
    iexact Hts'
  iexists W; iexact HO

/-- An entry signal: the peer may write the places for its first pieces. -/
theorem run_signal (K : Dev nD × Kd → ℕ) (c t : Dev nD) (ht : t ≠ c) (i : ℕ) (l : List (Pay nD τ sig)) (p : Pr F) (Q : sProp 𝕄) :
    iprop(env m K ∗ (dutyTok ER (cell t .bar) 0 c ∗ reached ER (cell t .bar) 0 ∗ grantR 0 c t 0 ∗ grantR 1 c t 0) ∗ owe c ((cell t .bar, i, units .bar) :: l) ∗ ((emp ∗ owe c l) -∗ run c p Q))
      ⊢ run c (.op (.semSignal ((t : Dev nD), .tc) barSem (1#32).toInt) fun _ => p) Q := by
  unfold owe

  iintro ⟨#HE, ⟨Ht, Hr, HG⟩, ⟨%W, HO⟩, HK⟩
  iapply (Rounds.wp_signal 𝒱₀ ER (sched m) (c : Thread nD τ) none (dst := (t : Thread nD τ)) (κ := K (t, .bar)) (r := 0) (d := c)
      ((duties_cell m t .bar 0).symm ▸ (payers_bar t).symm ▸ Finset.mem_erase.mpr ⟨ht.symm, Finset.mem_univ _⟩)
      ((amount_cell m t .bar 0 c).trans (by decide)) i (tallyL l) (add_comm _ _) (W := W)) $$ [HO Ht Hr HG]
  · isplitr; · iapply (env_inv m K t .bar); iexact HE
    isplitl [HO]; · iexact HO
    isplitl [Ht]; · iexact Ht
    isplitl [HG]; · iapply (Entails.of_eq (show pay m t .bar 0 c = (sched m).payload ((t : Thread nD τ), .reg barSem) 0 c from (payload_cell m t .bar 0 c).symm)); unfold pay; iexact HG
    iexact Hr
  iintro HO
  iapply HK
  isplitr; · iempintro
  iexists W; iexact HO

end Cert.KernelIdeal.Mlp

end
-- ==== Proof.Groups.lean ====
/-
  The groups of operations of the body, each from what it needs to what it leaves.
-/
module

public import proofs.«01_k».proof.Proof.Rules

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Kd → ℕ) (c : Dev nD)

/-! ## Going through the peers -/

theorem dues_cons (st : St) (l : List St) : dues c (st :: l) = peers.map (fun r => due st c (peer c r)) ++ dues c l := List.flatMap_cons ..

/-- A group that goes through the peers. -/
theorem run_peers (G : List (Fin 15) → Pr F → Pr F) (hn : ∀ K, G [] K = K) (hc : ∀ r l K, G (r :: l) K = G [r] (G l K))
    (A B : Dev nD → sProp 𝕄) (I : List (Fin 15) → sProp 𝕄)
    (h : ∀ r l K' Q, iprop(env m K ∗ A (peer c r) ∗ I (r :: l) ∗ ((B (peer c r) ∗ I l) -∗ run c K' Q)) ⊢ run c (G [r] K') Q) (p : Pr F) (Q : sProp 𝕄) :
    iprop(env m K ∗ each c A ∗ I peers ∗ ((each c B ∗ I []) -∗ run c p Q)) ⊢ run c (G peers p) Q :=
  run_each c (fun r => G [r]) G hn hc (fun r => A (peer c r)) (fun r => B (peer c r)) I Q (fun r l K' => h r l K' Q) peers p

/-! ## The handshake -/

theorem run_signals (l : List St) (p : Pr F) (Q : sProp 𝕄) :
    iprop(env m K ∗ each c (fun t => iprop(dutyTok ER (cell t .bar) 0 c ∗ reached ER (cell t .bar) 0 ∗ grantR 0 c t 0 ∗ grantR 1 c t 0))
        ∗ owe c (dues c (.bar :: l)) ∗ ((each c (fun _ => iprop(emp)) ∗ owe c (dues c l)) -∗ run c p Q))
      ⊢ run c (signals c peers p) Q := by
  rw [dues_cons]
  exact run_peers m K c (signals c) (fun _ => rfl) (fun _ _ _ => rfl)
    (fun t => iprop(dutyTok ER (cell t .bar) 0 c ∗ reached ER (cell t .bar) 0 ∗ grantR 0 c t 0 ∗ grantR 1 c t 0))
    (fun _ => iprop(emp)) (fun rs => owe c (rs.map (fun r => due .bar c (peer c r)) ++ dues c l))
    (fun r rs p Q => run_signal m K c (peer c r) (peer_ne c r) 1 _ p Q) p Q

theorem run_waitBar (l : List St) (hl : ∀ st ∈ l, 1 < st.ix ∧ st.ix < 16) (p : Pr F) (Q : sProp 𝕄) :
    iprop(env m K ∗ pos c .bar 0 ∗ cred (tallyAt (cell c .bar) 1 15) ∗ owe c (dues c l)
        ∗ ((owe c (dues c l) ∗ pos c .bar 1 ∗ each c fun t => iprop(grantR 0 t c 0 ∗ grantR 1 t c 0)) -∗ run c p Q))
      ⊢ run c (waitBar p) Q := by
  unfold pos owe waitBar
  iintro ⟨#HE, ⟨Hat, -⟩, Hc, ⟨%W, HO⟩, HK⟩
  iapply (Rounds.wp_wait_rest_token 𝒱₀ ER (sched m) (c : Thread nD τ) none (κ := K (c, .bar)) (k' := 15) (wpE_semWait_eq 𝒱₀ (c : Thread nD τ) none Set.univ) (Set.mem_univ _) 1
      (O := tallyL (dues c l)) (W := W) (R := 0) (m := 0) (T := ∅) (by rw [Nat.zero_add]; exact (expect_bar m c).symm)) $$ [Hc HO Hat]
  · isplitr; · iapply (env_inv m K c .bar); iexact HE
    isplitl [Hc]; · iexact Hc
    isplitl [HO]; · iexact HO
    isplitr; · iapply (env_wait m K c (semOf .bar) 1 l hl); iexact HE
    iexact Hat
  iintro ⟨HO, Hat, Hr, Hp⟩
  iapply HK
  isplitl [HO]; · iexists _; iexact HO
  isplitl [Hat Hr]
  · isplitl [Hat]; · iexact Hat
    iexact Hr
  iapply (Entails.of_eq (show _ = each c (fun t => iprop(grantR (F := F) 0 t c 0 ∗ grantR (F := F) 1 t c 0)) from (rest_bar m c).trans (each_eq c fun d => pay m c .bar 0 d).symm))
  iexact Hp

/-! ## The weights -/

theorem run_startW (s : Fin 2) (R : ℕ) (hR : R < rounds c (.w s)) (j : Fin 3) (hj : wLayer s R = j) {src : Memref sig .tc .hbm S1024x2048 .f32} {h : src.IsWhole} (hs : src = winM j) (p : Pr F) (Q : sProp 𝕄) :
    iprop(env m K ∗ idle c (.w s) R ∗ hold c (winM j) fullShare (win m j c) ∗ some' c (wslot wM s) ∗ (busy c (.w s) R -∗ run c p Q))
      ⊢ run c (startW args s src h p) Q := by
  subst hs hj
  exact run_copy m K c (.w s) nofun R hR rfl rfl fullShare (win m (wLayer s R) c) BIBase.Entails.rfl p Q
theorem run_startO (s : Fin 2) (R : ℕ) (hR : R < rounds c (.o s)) (j : Fin 3) (hj : wLayer s R = j) {src : Memref sig .tc .hbm S2048x1024 .f32} {h : src.IsWhole} (hs : src = woutM j) (p : Pr F) (Q : sProp 𝕄) :
    iprop(env m K ∗ idle c (.o s) R ∗ hold c (woutM j) fullShare (wout m j c) ∗ some' c (oslot oM s) ∗ (busy c (.o s) R -∗ run c p Q))
      ⊢ run c (startO args s src h p) Q := by
  subst hs hj
  exact run_copy m K c (.o s) nofun R hR rfl rfl fullShare (wout m (wLayer s R) c) BIBase.Entails.rfl p Q
theorem run_waitW (s : Fin 2) (R : ℕ) (hR : R < rounds c (.w s)) (j : Fin 3) (hj : wLayer s R = j) (l : List St) (hl : ∀ st ∈ l, 0 < st.ix ∧ st.ix < 16) {src : Memref sig .tc .hbm S1024x2048 .f32} {h : src.IsWhole} (p : Pr F) (Q : sProp 𝕄) :
    iprop(env m K ∗ busy c (.w s) R ∗ owe c (dues c l)
        ∗ ((owe c (dues c l) ∗ idle c (.w s) (R + 1) ∗ hold c (wslot wM s) fullShare (win m j c) ∗ hold c (winM j) fullShare (win m j c)) -∗ run c p Q))
      ⊢ run c (waitW args s src h p) Q := by
  subst hj
  exact run_wait_own m K c (.w s) nofun R hR l hl _ (fun Kt => wpE_waitDma2_eq 𝒱₀ (c : Thread nD τ) none Set.univ Kt) p Q
theorem run_waitO (s : Fin 2) (R : ℕ) (hR : R < rounds c (.o s)) (j : Fin 3) (hj : wLayer s R = j) (l : List St) (hl : ∀ st ∈ l, 0 < st.ix ∧ st.ix < 16) {src : Memref sig .tc .hbm S2048x1024 .f32} {h : src.IsWhole} (p : Pr F) (Q : sProp 𝕄) :
    iprop(env m K ∗ busy c (.o s) R ∗ owe c (dues c l)
        ∗ ((owe c (dues c l) ∗ idle c (.o s) (R + 1) ∗ hold c (oslot oM s) fullShare (wout m j c) ∗ hold c (woutM j) fullShare (wout m j c)) -∗ run c p Q))
      ⊢ run c (waitO args s src h p) Q := by
  subst hj
  exact run_wait_own m K c (.o s) nofun R hR l hl _ (fun Kt => wpE_waitDma2_eq 𝒱₀ (c : Thread nD τ) none Set.univ Kt) p Q

/-! ## Loads and stores -/

theorem sub_place {sp : Space} {s s' : Shape} {e : EltTy} (V : View sig .tc sp s e) (r R : Rect s) (hq : s'.numel = R.shape.numel) (h : r.set ⊆ R.set) :
    V.setOn r.set ⊆ ((V.slice R).reshape s' hq).set := by
  have h' : V.setOn r.set ⊆ (V.slice R).set := (View.set_slice V R).symm ▸ Finset.map_subset_map.mpr h
  exact h'.trans (View.set_reshape (V.slice R) hq).symm.subset

theorem ochR_sub (s ch : Fin 2) : (ochR s ch).set ⊆ (Rect.unit (s := S2x2048x1024) ![s.val, 0, 0] S1x2048x1024.size (oslot_inb s)).set := fun i hi => by
  have h0 : s.val ≤ (i 0).val ∧ (i 0).val < s.val + 1 := Rect.mem_set_unit.mp hi 0
  exact (mem_oslot i s).mpr (Fin.ext (by omega))
theorem wchR_sub (s ch : Fin 2) : (wchR s ch).set ⊆ (Rect.unit (s := S2x1024x2048) ![s.val, 0, 0] S1x1024x2048.size (wslot_inb s)).set := fun i hi => by
  have h0 : s.val ≤ (i 0).val ∧ (i 0).val < s.val + 1 := Rect.mem_set_unit.mp hi 0
  exact (mem_wslot i s).mpr (Fin.ext (by omega))

theorem run_loadO (s ch : Fin 2) (X : FVec F S2048x1024 .f32) (h : FVec F S64x2048 .f32) (P : FVec F S64x512 .f32 → Pr F) (Q : sProp 𝕄) :
    iprop(hold c (oslot oM s) fullShare X ∗ (hold c (oslot oM s) fullShare X -∗ run c (P (mulO h (chO X ch))) Q)) ⊢ run c (loadO args s ch fun w => P (prodO h w)) Q := by
  unfold loadO hold
  iintro ⟨H, HK⟩
  iapply (wp_load 𝒱₀ (c : Thread nD τ) none Set.univ (m := oM) (r := (ochR s ch).toLoadRect) (S := (oslot oM s).view.set) (f := (oslot oM s).view.rep (Val := Elt F) X)
    (sub_place oM.view (ochR s ch) _ _ (ochR_sub s ch))) $$ H
  iintro H
  rw [show prodO h (oM.view.readAt (Elt F) (ochR s ch).toLoadRect ((oslot oM s).view.rep (Val := Elt F) X)) = mulO h (chO X ch) from by
    unfold prodO mulO; rw [chO_slot]]
  iapply HK; iexact H

theorem part_eq (v : Fin 16 → Vec F S1x4x512 .f32) (X : Fin 16 → FVec F S4x512 .f32) (h : ∀ j, flat (v j) = X j) (w : Vec F S1x512x2048 .f32) :
    part (blocks.map v) w = mulW X (shapeCast S512x2048 w shapeCasts_S1x512x2048_S512x2048) := by
  obtain rfl : (fun j => flat (v j)) = X := funext h
  rfl
theorem total_eq {v : Fin 16 → Vec F S1x4x512 .f32} {X : Fin 16 → FVec F S4x512 .f32} (h : ∀ j, flat (v j) = X j) : total (blocks.map v) = sumOf (blocks.map X) := by
  obtain rfl : (fun j => flat (v j)) = X := funext h
  rfl

theorem run_loadW (s ch : Fin 2) (X : FVec F S1024x2048 .f32) (P : Vec F S1x512x2048 .f32 → Pr F) (Q : sProp 𝕄) :
    iprop(hold c (wslot wM s) fullShare X ∗ (hold c (wslot wM s) fullShare X -∗ run c (P (wM.view.readAt (Elt F) (wchR s ch).toLoadRect ((wslot wM s).view.rep (Val := Elt F) X))) Q))
      ⊢ run c (loadW args s ch P) Q := by
  unfold loadW hold
  iintro ⟨H, HK⟩
  iapply (wp_load 𝒱₀ (c : Thread nD τ) none Set.univ (m := wM) (r := (wchR s ch).toLoadRect) (S := (wslot wM s).view.set) (f := (wslot wM s).view.rep (Val := Elt F) X)
    (sub_place wM.view (wchR s ch) _ _ (wchR_sub s ch))) $$ H
  iexact HK

/-- What a load of block `j` sees. -/
def seen (M : Memref sig .tc .vmem S16x4x1024 .f32) (ch : Fin 2) (X : Fin 16 → FVec F S4x512 .f32) (j : Fin 16) : Vec F S1x4x512 .f32 :=
  M.view.readAt (Elt F) (blkR ch j).toLoadRect ((blk M ch j).view.rep (Val := Elt F) (X j))
theorem flat_seen (M : Memref sig .tc .vmem S16x4x1024 .f32) (ch : Fin 2) (X : Fin 16 → FVec F S4x512 .f32) (j : Fin 16) : flat (seen M ch X j) = X j := flat_blk M ch j (X j)

theorem run_loads (M : Memref sig .tc .vmem S16x4x1024 .f32) (ch : Fin 2) (X : Fin 16 → FVec F S4x512 .f32) (P : List (Vec F S1x4x512 .f32) → Pr F) (Q : sProp 𝕄) :
    ∀ (l : List (Fin 16)) (acc : List (Vec F S1x4x512 .f32)),
    iprop(bigSepL l (fun j => hold c (blk M ch j) fullShare (X j))
        ∗ (bigSepL l (fun j => hold c (blk M ch j) fullShare (X j))
          -∗ run c (P (acc ++ l.map (seen M ch X))) Q))
      ⊢ run c (loads M ch l acc P) Q := by
  intro l
  induction l with
  | nil =>
    intro acc
    rw [List.map_nil, List.append_nil]
    iintro ⟨H, HK⟩
    iapply HK; iexact H
  | cons j l ih =>
    intro acc
    rw [bigSepL_cons' j l]
    iintro ⟨⟨Hj, Hl⟩, HK⟩
    unfold loads
    iapply (wp_load 𝒱₀ (c : Thread nD τ) none Set.univ (m := M) (r := (blkR ch j).toLoadRect) (q := fullShare) (S := (blk M ch j).view.set) (f := (blk M ch j).view.rep (Val := Elt F) (X j))
      (sub_place M.view (blkR ch j) _ _ (Finset.Subset.refl _))) $$ [Hj]
    · unfold hold; iexact Hj
    iintro Hj
    iapply (ih (acc ++ [seen M ch X j]))
    isplitl [Hl]; · iexact Hl
    iintro Hl
    rw [List.append_assoc, List.singleton_append, List.map_cons]
    iapply HK
    isplitl [Hj]; · unfold hold; iexact Hj
    iexact Hl

theorem run_stores (ch : Fin 2) (v : FVec F S64x512 .f32) (p : Pr F) (Q : sProp 𝕄) :
    iprop(env m K ∗ bigSepL blocks (fun t => some' c (blk pM ch t)) ∗ (bigSepL blocks (fun t => hold c (blk pM ch t) fullShare (piece v t)) -∗ run c p Q))
      ⊢ run c (stores args ch v blocks p) Q := by
  iintro ⟨#HE, HA, HK⟩
  iapply (run_each c (fun t p => .op (.load pM (blkR ch t).toLoadRect (View.loadsAt_vmem h_S1x4x512)) fun _ =>
      .op (.store pM (blkR ch t) (piece1 v t) Finset.univ (View.stores_vmem_bits_univ h_S1x4x512 rfl) (.inl rfl)) fun _ => p) (stores args ch v) (fun _ => rfl) (fun _ _ _ => rfl)
    (E := env m K) (fun t => some' c (blk pM ch t)) (fun t => hold c (blk pM ch t) fullShare (piece v t)) (fun _ => iprop(emp)) Q (fun t l p => by
      rw [some_eq]
      iintro ⟨-, ⟨%g, H⟩, -, HK⟩
      iapply (wp_load 𝒱₀ (c : Thread nD τ) none Set.univ (m := pM) (r := (blkR ch t).toLoadRect) (q := fullShare) (S := (blk pM ch t).view.set) (f := g)
        (sub_place pM.view (blkR ch t) _ _ (Finset.Subset.refl _))) $$ [H]
      · iexact H
      iintro H
      iapply (wp_store 𝒱₀ (c : Thread nD τ) none Set.univ (m := pM) (r := blkR ch t) (S := (blk pM ch t).view.set) (f := g) (View.set_reshape (pM.view.slice (blkR ch t)) squeezes_S1x4x512_S4x512.numel_eq).symm.subset) $$ [H]
      · iexact H
      iintro H
      iapply HK
      isplitl; · iapply (Entails.of_eq (hold_of_read c (blk pM ch t) fullShare (piece v t) _ (read_piece pM ch t v g))); iexact H
      iempintro) blocks p)
  isplitr; · iexact HE
  isplitl [HA]; · iexact HA
  isplitr; · iempintro
  iintro ⟨H, -⟩
  iapply HK; iexact H

theorem run_storeRow (M : Memref sig .tc .vmem S4x1024 .f32) (ch : Fin 2) (v : FVec F S4x512 .f32) (p : Pr F) (Q : sProp 𝕄) :
    iprop(some' c (row M ch) ∗ (hold c (row M ch) fullShare v -∗ run c p Q)) ⊢ run c (storeRow M ch v p) Q := by
  rw [some_eq]
  unfold storeRow
  iintro ⟨⟨%g, H⟩, HK⟩
  iapply (wp_load_rect 𝒱₀ (c : Thread nD τ) none Set.univ (m := M) (r := rowR ch) (q := fullShare) (S := (row M ch).view.set) (f := g) (Finset.Subset.refl _)) $$ [H]
  · iexact H
  iintro H
  iapply (wp_store 𝒱₀ (c : Thread nD τ) none Set.univ (m := M) (r := rowR ch) (S := (row M ch).view.set) (f := g) (Finset.Subset.refl _)) $$ [H]
  · iexact H
  iintro H
  iapply HK
  iapply (Entails.of_eq (hold_of_read c (row M ch) fullShare v _ (View.read_write_univ (v := M.access (rowR ch)) g v))); iexact H

theorem hold_x (X : FVec F S64x1024 .f32) : (hold c xM fullShare X : sProp 𝕄) = (((c : Thread nD τ).loc cc0_stg0_0) ↦{fullShare} X) := by
  rw [← hold_of_read c xM fullShare X X (View.read_whole _ _)]
  exact congrArg (fun S => (((c : Thread nD τ).loc cc0_stg0_0) ↦[S]{fullShare} X : sProp 𝕄)) (View.set_whole _)

/-- The input and the first layer's first weights are loaded whole. -/
theorem run_load0 (X : FVec F S64x1024 .f32) (w : FVec F S1024x2048 .f32) (P : FVec F S64x2048 .f32 → Pr F) (Q : sProp 𝕄) :
    iprop(hold c xM fullShare X ∗ hold c (wslot wM 0) fullShare w ∗ ((hold c xM fullShare X ∗ hold c (wslot wM 0) fullShare w) -∗ run c (P (hidX X w)) Q))
      ⊢ run c (loadX args fun x => loadW0 args fun w => P (hid0 x w)) Q := by
  unfold loadX loadW0
  rw [hold_x]
  iintro ⟨Hx, Hw, HK⟩
  iapply (wp_load 𝒱₀ (c : Thread nD τ) none Set.univ (m := xM) (r := (Rect.unit (s := S64x1024) ![0, 0] S64x1024.size inb_S64x1024_S64x1024_0_0).toLoadRect) (S := Finset.univ) (f := X) (Finset.subset_univ _)) $$ [Hx]
  · iexact Hx
  iintro Hx
  rw [x_whole]
  iapply (wp_load 𝒱₀ (c : Thread nD τ) none Set.univ (m := wM) (r := (Rect.unit (s := S2x1024x2048) ![0, 0, 0] S1x1024x2048.size inb_S2x1024x2048_S1x1024x2048_0_0_0).toLoadRect)
    (q := fullShare) (S := (wslot wM 0).view.set) (f := (wslot wM 0).view.rep (Val := Elt F) w) (sub_place wM.view _ _ _ (Finset.Subset.refl _))) $$ [Hw]
  · unfold hold; iexact Hw
  iintro Hw
  rw [show hid0 X (wM.view.readAt (Elt F) (Rect.unit (s := S2x1024x2048) ![0, 0, 0] S1x1024x2048.size inb_S2x1024x2048_S1x1024x2048_0_0_0).toLoadRect ((wslot wM 0).view.rep (Val := Elt F) w)) = hidX X w from by
    unfold hid0 hidX; rw [w_slot0]]
  iapply HK
  isplitl [Hx]; · iexact Hx
  unfold hold; iexact Hw

/-! ## The copies of a chunk -/

theorem rounds_rss {c t : Dev nD} (ch : Fin 2) (h : t ≠ c) : rounds c (.rss ch t) = 3 := if_neg h
theorem rounds_rsr {c t : Dev nD} (ch : Fin 2) (h : t ≠ c) : rounds c (.rsr ch t) = 3 := if_neg h
theorem rounds_ags {c t : Dev nD} (ch : Fin 2) (h : t ≠ c) : rounds c (.ags ch t) = 2 := if_neg h
theorem rounds_agr {c t : Dev nD} (ch : Fin 2) (h : t ≠ c) : rounds c (.agr ch t) = 2 := if_neg h

variable (ch : Fin 2) (k : ℕ)

theorem run_rsSends (hk : k < 3) (l : List St) (p : Pr F) (Q : sProp 𝕄) :
    iprop(env m K ∗ each c (fun t => iprop(idle c (.rss ch t) k ∗ toks t (.rsr ch c) k ∗ grantR ch t c k ∗ hold c (blk pM ch t) fullShare (pc m (layer k) ch c t) ∗ grantX ch c t k))
        ∗ owe c (dues c (.rs k ch :: l)) ∗ ((each c (fun t => iprop(busy c (.rss ch t) k ∗ toks t (.rsr ch c) (k + 1))) ∗ owe c (dues c l)) -∗ run c p Q))
      ⊢ run c (rsSends args ch c peers p) Q := by
  rw [dues_cons]
  refine run_peers m K c (rsSends args ch c) (fun _ => rfl) (fun _ _ _ => rfl) _ (fun t => iprop(busy c (.rss ch t) k ∗ toks t (.rsr ch c) (k + 1)))
    (fun rs => owe c (rs.map (fun r => due (.rs k ch) c (peer c r)) ++ dues c l)) (fun r rs p Q => ?_) p Q
  have hne := peer_ne c r
  have h := run_send m K c (peer c r) (.rss ch (peer c r)) (.rsr ch c) nofun nofun k k ((rounds_rss ch hne).symm ▸ hk) ((rounds_rsr ch hne.symm).symm ▸ hk)
    (src := bufT pM ch c r) (dst := bufO rsM ch c) (hsc := rfl) (sS := .dma (semT cc0_scratch9 ch c r)) (sem := .dma (semO cc0_scratch10 ch c))
    (congrArg SemLoc.dma (semT_eq cc0_scratch9 ch c r)) (congrArg SemLoc.dma (semO_eq cc0_scratch10 ch c)) rfl rfl
    (h₁ := (View.wordExact_bits rfl).reshape _ _) (h₂ := (View.wordExact_bits rfl).reshape _ _) (h₃ := ⟨⟨rfl, Or.inl rfl⟩, trivial⟩)
    fullShare (pc m (layer k) ch c (peer c r)) (grantX ch c (peer c r) k)
    (by rw [bufT_eq]; exact some_of_hold _) (by rw [bufO_eq]; exact BIBase.Entails.rfl)
    (St.rs k ch).ix (rs.map (fun r => due (.rs k ch) c (peer c r)) ++ dues c l) p Q
  refine BIBase.Entails.trans ?_ h
  rw [bufT_eq, bufO_eq]
  unfold grantR
  iintro ⟨#HE, ⟨Hi, Ht, ⟨Hg, Hr⟩, Hh, HX⟩, HO, HK⟩
  isplitr; · iexact HE
  isplitl [Hi Ht Hg Hr Hh HX]
  · isplitl [Hi]; · iexact Hi
    isplitl [Ht]; · iexact Ht
    isplitl [Hr]; · iexact Hr
    isplitl [Hh]; · iexact Hh
    isplitl [Hg] <;> iassumption
  isplitl [HO]; · iexact HO
  iexact HK

theorem run_rsOwn (hk : k < 3) (p : Pr F) (Q : sProp 𝕄) :
    iprop(env m K ∗ idle c (.lr ch) k ∗ hold c (blk pM ch c) fullShare (pc m (layer k) ch c c) ∗ some' c (blk rsM ch c) ∗ (busy c (.lr ch) k -∗ run c p Q))
      ⊢ run c (rsOwn args ch c p) Q := by
  have h := run_copy m K c (.lr ch) nofun k hk (src := bufO pM ch c) (dst := bufO rsM ch c) (sem := .dma (sem4 cc0_scratch8 ⟨ch.val, by omega⟩)) rfl rfl
    (h₁ := (View.wordExact_bits rfl).reshape _ _) (h₂ := (View.wordExact_bits rfl).reshape _ _) (h₃ := ⟨Or.inl rfl, trivial⟩)
    fullShare (pc m (layer k) ch c c) (by rw [bufO_eq, bufO_eq]; exact sep_mono_right (some_of_hold _)) p Q
  refine BIBase.Entails.trans ?_ h
  rw [bufO_eq, bufO_eq]

theorem run_rsRecvs (hk : k < 3) (l : List St) (hl : ∀ st ∈ l, 2 + 4 * k + ch.val < st.ix ∧ st.ix < 16) (p : Pr F) (Q : sProp 𝕄) :
    iprop(env m K ∗ each c (fun s => iprop(pos c (.rsr ch s) k ∗ cred (tallyAt (cell c (.rsr ch s)) (2 + 4 * k + ch.val) (units (.rsr ch s)))))
        ∗ owe c (dues c l) ∗ ((each c (fun s => iprop(pos c (.rsr ch s) (k + 1) ∗ hold c (blk rsM ch s) fullShare (pc m (layer k) ch s c) ∗ grantX ch s c k)) ∗ owe c (dues c l)) -∗ run c p Q))
      ⊢ run c (rsRecvs args ch c peers p) Q := by
  refine run_peers m K c (rsRecvs args ch c) (fun _ => rfl) (fun _ _ _ => rfl) _ (fun s => iprop(pos c (.rsr ch s) (k + 1) ∗ hold c (blk rsM ch s) fullShare (pc m (layer k) ch s c) ∗ grantX ch s c k))
    (fun _ => owe c (dues c l)) (fun r rs p Q => ?_) p Q
  have hne := peer_ne c r
  have h := fun w hw => run_wait m K c (.rsr ch (peer c r)) nofun k ((rounds_rsr ch hne).symm ▸ hk) (2 + 4 * k + ch.val) l hl w hw p Q
  refine BIBase.Entails.trans ?_ (h _ fun Kt => ?_)
  rotate_left
  · refine (wpE_waitDma2_eq 𝒱₀ (c : Thread nD τ) none Set.univ Kt).trans ?_
    rw [semT_eq]; rfl
  iintro ⟨#HE, ⟨Hp, Hc⟩, HO, HK⟩
  isplitr; · iexact HE
  isplitl [Hp]; · iexact Hp
  isplitl [Hc]; · iexact Hc
  isplitl [HO]; · iexact HO
  iintro ⟨HO, Hp, Hpay⟩
  iapply HK
  isplitr [HO]
  · isplitl [Hp]; · iexact Hp
    unfold pay; iexact Hpay
  iexact HO

theorem run_rsOwnWait (hk : k < 3) (l : List St) (hl : ∀ st ∈ l, 0 < st.ix ∧ st.ix < 16) (p : Pr F) (Q : sProp 𝕄) :
    iprop(env m K ∗ busy c (.lr ch) k ∗ owe c (dues c l)
        ∗ ((owe c (dues c l) ∗ idle c (.lr ch) (k + 1) ∗ hold c (blk rsM ch c) fullShare (pc m (layer k) ch c c) ∗ some' c (blk pM ch c)) -∗ run c p Q))
      ⊢ run c (rsOwnWait args ch c p) Q := by
  unfold rsOwnWait
  refine run_wait_own m K c (.lr ch) nofun k hk l hl _ (fun Kt => ?_) p Q
  exact wpE_waitDma2_eq 𝒱₀ (c : Thread nD τ) none Set.univ Kt

theorem run_agSends (hk : k < 2) (l : List St) (p : Pr F) (Q : sProp 𝕄) :
    iprop(env m K ∗ each c (fun t => iprop(idle c (.ags ch t) k ∗ toks t (.agr ch c) k ∗ grantX ch t c k ∗ hold c (row rM ch) (share t) (red m (layer k) ch c) ∗ grantR ch c t (k + 1)))
        ∗ owe c (dues c (.ag k ch :: l)) ∗ ((each c (fun t => iprop(busy c (.ags ch t) k ∗ toks t (.agr ch c) (k + 1))) ∗ owe c (dues c l)) -∗ run c p Q))
      ⊢ run c (agSends args ch c peers p) Q := by
  rw [dues_cons]
  refine run_peers m K c (agSends args ch c) (fun _ => rfl) (fun _ _ _ => rfl) _ (fun t => iprop(busy c (.ags ch t) k ∗ toks t (.agr ch c) (k + 1)))
    (fun rs => owe c (rs.map (fun r => due (.ag k ch) c (peer c r)) ++ dues c l)) (fun r rs p Q => ?_) p Q
  have hne := peer_ne c r
  have h := run_send m K c (peer c r) (.ags ch (peer c r)) (.agr ch c) nofun nofun k k ((rounds_ags ch hne).symm ▸ hk) ((rounds_agr ch hne.symm).symm ▸ hk)
    (src := row rM ch) (dst := bufO xbM ch c) (hsc := rfl) (sS := .dma (semT cc0_scratch11 ch c r)) (sem := .dma (semO cc0_scratch12 ch c))
    (congrArg SemLoc.dma (semT_eq cc0_scratch11 ch c r)) (congrArg SemLoc.dma (semO_eq cc0_scratch12 ch c)) rfl rfl
    (h₁ := View.wordExact_bits rfl) (h₂ := (View.wordExact_bits rfl).reshape _ _) (h₃ := ⟨⟨rfl, Or.inl rfl⟩, trivial⟩)
    (share (peer c r)) (red m (layer k) ch c) (grantR ch c (peer c r) (k + 1))
    BIBase.Entails.rfl (by rw [bufO_eq]; exact BIBase.Entails.rfl)
    (St.ag k ch).ix (rs.map (fun r => due (.ag k ch) c (peer c r)) ++ dues c l) p Q
  refine BIBase.Entails.trans ?_ h
  rw [bufO_eq, grantX, if_pos hk]
  iintro ⟨#HE, ⟨Hi, Ht, ⟨Hg, Hr⟩, Hh, HX⟩, HO, HK⟩
  isplitr; · iexact HE
  isplitl [Hi Ht Hg Hr Hh HX]
  · isplitl [Hi]; · iexact Hi
    isplitl [Ht]; · iexact Ht
    isplitl [Hr]; · iexact Hr
    isplitl [Hh]; · iexact Hh
    isplitl [Hg] <;> iassumption
  isplitl [HO]; · iexact HO
  iexact HK

theorem run_agOwn (hk : k < 2) (p : Pr F) (Q : sProp 𝕄) :
    iprop(env m K ∗ idle c (.lx ch) k ∗ hold c (row rM ch) (share c) (red m (layer k) ch c) ∗ some' c (blk xbM ch c) ∗ (busy c (.lx ch) k -∗ run c p Q))
      ⊢ run c (agOwn args ch c p) Q := by
  have h := run_copy m K c (.lx ch) nofun k hk (src := row rM ch) (dst := bufO xbM ch c) (sem := .dma (sem4 cc0_scratch8 ⟨2 + ch.val, by omega⟩)) rfl rfl
    (h₁ := View.wordExact_bits rfl) (h₂ := (View.wordExact_bits rfl).reshape _ _) (h₃ := ⟨Or.inl rfl, trivial⟩)
    (share c) (red m (layer k) ch c) (by rw [bufO_eq]; exact BIBase.Entails.rfl) p Q
  refine BIBase.Entails.trans ?_ h
  rw [bufO_eq]

theorem run_agRecvs (hk : k < 2) (l : List St) (hl : ∀ st ∈ l, 4 + 4 * k + ch.val < st.ix ∧ st.ix < 16) (p : Pr F) (Q : sProp 𝕄) :
    iprop(env m K ∗ each c (fun s => iprop(pos c (.agr ch s) k ∗ cred (tallyAt (cell c (.agr ch s)) (4 + 4 * k + ch.val) (units (.agr ch s)))))
        ∗ owe c (dues c l) ∗ ((each c (fun s => iprop(pos c (.agr ch s) (k + 1) ∗ hold c (blk xbM ch s) fullShare (red m (layer k) ch s) ∗ grantR ch s c (k + 1))) ∗ owe c (dues c l)) -∗ run c p Q))
      ⊢ run c (agRecvs args ch c peers p) Q := by
  refine run_peers m K c (agRecvs args ch c) (fun _ => rfl) (fun _ _ _ => rfl) _ (fun s => iprop(pos c (.agr ch s) (k + 1) ∗ hold c (blk xbM ch s) fullShare (red m (layer k) ch s) ∗ grantR ch s c (k + 1)))
    (fun _ => owe c (dues c l)) (fun r rs p Q => ?_) p Q
  have hne := peer_ne c r
  have h := fun w hw => run_wait m K c (.agr ch (peer c r)) nofun k ((rounds_agr ch hne).symm ▸ hk) (4 + 4 * k + ch.val) l hl w hw p Q
  refine BIBase.Entails.trans ?_ (h _ fun Kt => ?_)
  rotate_left
  · refine (wpE_waitDma2_eq 𝒱₀ (c : Thread nD τ) none Set.univ Kt).trans ?_
    rw [semT_eq]; rfl
  iintro ⟨#HE, ⟨Hp, Hc⟩, HO, HK⟩
  isplitr; · iexact HE
  isplitl [Hp]; · iexact Hp
  isplitl [Hc]; · iexact Hc
  isplitl [HO]; · iexact HO
  iintro ⟨HO, Hp, Hpay⟩
  iapply HK
  isplitr [HO]
  · isplitl [Hp]; · iexact Hp
    unfold pay; iexact Hpay
  iexact HO

theorem run_agOwnWait (hk : k < 2) (l : List St) (hl : ∀ st ∈ l, 0 < st.ix ∧ st.ix < 16) (p : Pr F) (Q : sProp 𝕄) :
    iprop(env m K ∗ busy c (.lx ch) k ∗ owe c (dues c l)
        ∗ ((owe c (dues c l) ∗ idle c (.lx ch) (k + 1) ∗ hold c (blk xbM ch c) fullShare (red m (layer k) ch c) ∗ hold c (row rM ch) (share c) (red m (layer k) ch c)) -∗ run c p Q))
      ⊢ run c (agOwnWait args ch c p) Q := by
  unfold agOwnWait
  refine run_wait_own m K c (.lx ch) nofun k hk l hl _ (fun Kt => ?_) p Q
  exact wpE_waitDma2_eq 𝒱₀ (c : Thread nD τ) none Set.univ Kt

theorem run_rsDone (hk : k < 3) (l : List St) (hl : ∀ st ∈ l, 0 < st.ix ∧ st.ix < 16) (p : Pr F) (Q : sProp 𝕄) :
    iprop(env m K ∗ each c (fun t => busy c (.rss ch t) k)
        ∗ owe c (dues c l) ∗ ((each c (fun t => iprop(idle c (.rss ch t) (k + 1) ∗ some' c (blk pM ch t))) ∗ owe c (dues c l)) -∗ run c p Q))
      ⊢ run c (rsDone args ch c peers p) Q := by
  refine run_peers m K c (rsDone args ch c) (fun _ => rfl) (fun _ _ _ => rfl) _ (fun t => iprop(idle c (.rss ch t) (k + 1) ∗ some' c (blk pM ch t)))
    (fun _ => owe c (dues c l)) (fun r rs p Q => ?_) p Q
  have hne := peer_ne c r
  have h := fun w hw => run_wait_own m K c (.rss ch (peer c r)) nofun k ((rounds_rss ch hne).symm ▸ hk) l hl w hw p Q
  refine BIBase.Entails.trans ?_ (h _ fun Kt => ?_)
  rotate_left
  · refine (wpE_waitDma2_eq 𝒱₀ (c : Thread nD τ) none Set.univ Kt).trans ?_
    rw [semT_eq]; rfl
  iintro ⟨#HE, Hb, HO, HK⟩
  isplitr; · iexact HE
  isplitl [Hb]; · iexact Hb
  isplitl [HO]; · iexact HO
  iintro ⟨HO, Hi, Hp⟩
  iapply HK
  isplitr [HO]
  · isplitl [Hi]; · iexact Hi
    unfold pay; iexact Hp
  iexact HO

theorem run_agDone (hk : k < 2) (l : List St) (hl : ∀ st ∈ l, 0 < st.ix ∧ st.ix < 16) (p : Pr F) (Q : sProp 𝕄) :
    iprop(env m K ∗ each c (fun t => busy c (.ags ch t) k)
        ∗ owe c (dues c l) ∗ ((each c (fun t => iprop(idle c (.ags ch t) (k + 1) ∗ hold c (row rM ch) (share t) (red m (layer k) ch c))) ∗ owe c (dues c l)) -∗ run c p Q))
      ⊢ run c (agDone args ch c peers p) Q := by
  refine run_peers m K c (agDone args ch c) (fun _ => rfl) (fun _ _ _ => rfl) _ (fun t => iprop(idle c (.ags ch t) (k + 1) ∗ hold c (row rM ch) (share t) (red m (layer k) ch c)))
    (fun _ => owe c (dues c l)) (fun r rs p Q => ?_) p Q
  have hne := peer_ne c r
  have h := fun w hw => run_wait_own m K c (.ags ch (peer c r)) nofun k ((rounds_ags ch hne).symm ▸ hk) l hl w hw p Q
  refine BIBase.Entails.trans ?_ (h _ fun Kt => ?_)
  rotate_left
  · refine (wpE_waitDma2_eq 𝒱₀ (c : Thread nD τ) none Set.univ Kt).trans ?_
    rw [semT_eq]; rfl
  iintro ⟨#HE, Hb, HO, HK⟩
  isplitr; · iexact HE
  isplitl [Hb]; · iexact Hb
  isplitl [HO]; · iexact HO
  iintro ⟨HO, Hi, Hp⟩
  iapply HK
  isplitr [HO]
  · isplitl [Hi]; · iexact Hi
    unfold pay; iexact Hp
  iexact HO

end Cert.KernelIdeal.Mlp

end
-- ==== Proof.Chunk.lean ====
/-
  A chunk's way through a layer: what a device holds of it before the layer, and after each of the five stages.
-/
module

public import proofs.«01_k».proof.Proof.Groups

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)
open Cert.KernelIdeal Cert.KernelIdeal.Gen

variable {F : FTy → Type} [FloatOps F]

local notation "𝕄" => MT nD τ sig ℕ (Elt F) ℕ UU ℕ

/-! ## Families over the peers -/

theorem each_zip (c : Dev nD) {Φ Ψ Θ : Dev nD → sProp 𝕄} (h : ∀ t, t ≠ c → (iprop(Φ t ∗ Ψ t) ⊢ Θ t)) : iprop(each c Φ ∗ each c Ψ) ⊢ each c Θ := by
  rw [← each_sep]; exact each_mono c h
theorem each_unzip (c : Dev nD) {Φ Ψ Θ : Dev nD → sProp 𝕄} (h : ∀ t, t ≠ c → (Θ t ⊢ iprop(Φ t ∗ Ψ t))) : each c Θ ⊢ iprop(each c Φ ∗ each c Ψ) := by
  rw [← each_sep]; exact each_mono c h

variable (m : (ℓ : Loc nD τ sig) → Buf (Elt F) ℓ) (K : Dev nD × Kd → ℕ) (c : Dev nD) (ch : Fin 2) (k : ℕ)

/-- The credits for the pieces of `s` from layer `k` on, for the sums of `s`. -/
def credR (s : Dev nD) (k : ℕ) : sProp 𝕄 := left 3 k fun r => cred (tallyAt (cell c (.rsr ch s)) (2 + 4 * r + ch.val) (units (.rsr ch s)))
def credX (s : Dev nD) (k : ℕ) : sProp 𝕄 := left 2 k fun r => cred (tallyAt (cell c (.agr ch s)) (4 + 4 * r + ch.val) (units (.agr ch s)))

/-- The departures of pieces, none under way; all under way. -/
def rssI : sProp 𝕄 := each c fun t => iprop(idle (F := F) c (.rss ch t) k ∗ toks (F := F) t (.rsr ch c) k)
def rssB : sProp 𝕄 := each c fun t => iprop(busy (F := F) c (.rss ch t) k ∗ toks (F := F) t (.rsr ch c) (k + 1))
/-- The departures of sums. -/
def agsI : sProp 𝕄 := each c fun t => iprop(idle (F := F) c (.ags ch t) k ∗ toks (F := F) t (.agr ch c) k)
def agsB : sProp 𝕄 := each c fun t => iprop(busy (F := F) c (.ags ch t) k ∗ toks (F := F) t (.agr ch c) (k + 1))
/-- The arrivals of pieces, of sums. -/
def recR : sProp 𝕄 := each c fun s => iprop(pos (F := F) c (.rsr ch s) k ∗ credR (F := F) c ch s k)
def recX : sProp 𝕄 := each c fun s => iprop(pos (F := F) c (.agr ch s) k ∗ credX (F := F) c ch s k)
/-- The grants of the places at the peers. -/
def mayR : sProp 𝕄 := each c fun t => grantR (F := F) ch t c k
def mayX : sProp 𝕄 := each c fun t => grantX (F := F) ch t c k
/-- The peers' blocks of a buffer. -/
def ours (M : Memref sig .tc .vmem S16x4x1024 .f32) : sProp 𝕄 := each c fun t => some' (F := F) c (blk M ch t)
/-- The peers' blocks for sums in the last layer, which sends none. -/
def keepX : sProp 𝕄 := each c fun t => if k < 2 then iprop(emp) else some' (F := F) c (blk xbM ch t)

theorem grant_X (t : Dev nD) : iprop(some' (F := F) c (blk xbM ch t) ∗ reached ER (cell c (.agr ch t)) k)
    ⊢ iprop(grantX (F := F) ch c t k ∗ (if k < 2 then iprop(emp) else some' (F := F) c (blk xbM ch t))) := by
  unfold grantX
  by_cases hk : k < 2
  · rw [if_pos hk, if_pos hk]
    iintro H; isplitl [H]; · iexact H
    iempintro
  · rw [if_neg hk, if_neg hk]
    iintro ⟨H, -⟩; isplitr; · iempintro
    iexact H

/-- Pieces leave, and with them the places for the sums. -/
theorem grants_X : iprop(ours (F := F) c ch xbM ∗ recX (F := F) c ch k) ⊢ iprop((each c fun t => grantX (F := F) ch c t k) ∗ keepX (F := F) c ch k ∗ recX (F := F) c ch k) := by
  unfold ours recX keepX
  rw [← each_sep, ← each_sep, ← each_sep]
  refine each_mono c fun t _ => ?_
  unfold pos
  iintro ⟨Hs, ⟨Ha, #Hr⟩, Hc⟩
  ihave H := (grant_X c ch k t) $$ [Hs]
  · isplitl [Hs]; · iexact Hs
    iexact Hr
  icases H with ⟨Hg, Hk⟩
  isplitl [Hg]; · iexact Hg
  isplitl [Hk]; · iexact Hk
  isplitl [Ha]
  · isplitl [Ha]; · iexact Ha
    iexact Hr
  iexact Hc
/-- Sums leave, and with them the places for the next pieces. -/
theorem grants_R : iprop(ours (F := F) c ch rsM ∗ recR (F := F) c ch k) ⊢ iprop((each c fun t => grantR (F := F) ch c t k) ∗ recR (F := F) c ch k) := by
  unfold ours recR
  rw [← each_sep, ← each_sep]
  refine each_mono c fun t _ => ?_
  unfold pos grantR
  iintro ⟨Hs, ⟨Ha, #Hr⟩, Hc⟩
  isplitl [Hs]
  · isplitl [Hs]; · iexact Hs
    iexact Hr
  isplitl [Ha]
  · isplitl [Ha]; · iexact Ha
    iexact Hr
  iexact Hc

/-! ## The stages -/

/-- Before layer `k`. -/
def Z : sProp 𝕄 := iprop(rssI (F := F) c ch k ∗ mayR (F := F) c ch k ∗ recR (F := F) c ch k ∗ agsI (F := F) c ch k ∗ recX (F := F) c ch k
  ∗ ours (F := F) c ch pM ∗ some' (F := F) c (blk pM ch c) ∗ some' (F := F) c (blk rsM ch c) ∗ ours (F := F) c ch xbM ∗ some' (F := F) c (blk xbM ch c) ∗ some' (F := F) c (row rM ch)
  ∗ idle (F := F) c (.lr ch) k ∗ idle (F := F) c (.lx ch) k)
/-- The pieces under way. -/
def A : sProp 𝕄 := iprop(rssB (F := F) c ch k ∗ recR (F := F) c ch k ∗ agsI (F := F) c ch k ∗ recX (F := F) c ch k
  ∗ keepX (F := F) c ch k ∗ some' (F := F) c (blk xbM ch c) ∗ some' (F := F) c (row rM ch)
  ∗ busy (F := F) c (.lr ch) k ∗ idle (F := F) c (.lx ch) k)
/-- The pieces summed. -/
def B : sProp 𝕄 := iprop(rssB (F := F) c ch k ∗ mayX (F := F) c ch k ∗ recR (F := F) c ch (k + 1) ∗ agsI (F := F) c ch k ∗ recX (F := F) c ch k
  ∗ some' (F := F) c (blk pM ch c) ∗ ours (F := F) c ch rsM ∗ some' (F := F) c (blk rsM ch c) ∗ keepX (F := F) c ch k ∗ some' (F := F) c (blk xbM ch c) ∗ some' (F := F) c (row rM ch)
  ∗ idle (F := F) c (.lr ch) (k + 1) ∗ idle (F := F) c (.lx ch) k)
/-- The sum under way. -/
def C : sProp 𝕄 := iprop(rssB (F := F) c ch k ∗ recR (F := F) c ch (k + 1) ∗ agsB (F := F) c ch k ∗ recX (F := F) c ch k
  ∗ some' (F := F) c (blk pM ch c) ∗ some' (F := F) c (blk rsM ch c)
  ∗ idle (F := F) c (.lr ch) (k + 1) ∗ busy (F := F) c (.lx ch) k)
/-- The sums gathered. -/
def D : sProp 𝕄 := iprop(rssB (F := F) c ch k ∗ mayR (F := F) c ch (k + 1) ∗ recR (F := F) c ch (k + 1) ∗ agsB (F := F) c ch k ∗ recX (F := F) c ch (k + 1)
  ∗ some' (F := F) c (blk pM ch c) ∗ some' (F := F) c (blk rsM ch c) ∗ ours (F := F) c ch xbM ∗ some' (F := F) c (blk xbM ch c) ∗ hold c (row rM ch) (share c) (red m (layer k) ch c)
  ∗ idle (F := F) c (.lr ch) (k + 1) ∗ idle (F := F) c (.lx ch) (k + 1))
/-- After the last layer. -/
def E : sProp 𝕄 := iprop(rssI (F := F) c ch 3 ∗ recR (F := F) c ch 3 ∗ agsI (F := F) c ch 2 ∗ recX (F := F) c ch 2
  ∗ ours (F := F) c ch pM ∗ some' (F := F) c (blk pM ch c) ∗ ours (F := F) c ch rsM ∗ some' (F := F) c (blk rsM ch c) ∗ ours (F := F) c ch xbM ∗ some' (F := F) c (blk xbM ch c)
  ∗ some' (F := F) c (row rM ch) ∗ idle (F := F) c (.lr ch) 3 ∗ idle (F := F) c (.lx ch) 2)

theorem run_scatter (hk : k < 3) (j : Fin 3) (hj : layer k = j) (s : Fin 2) (l : List St) (p : Pr F) (Q : sProp 𝕄) :
    iprop(env m K ∗ Z c ch k ∗ hold c (oslot oM s) fullShare (wout m j c) ∗ owe c (dues c (.rs k ch :: l))
        ∗ ((A c ch k ∗ hold c (oslot oM s) fullShare (wout m j c) ∗ owe c (dues c l)) -∗ run c p Q))
      ⊢ run c (scatter args ch s c (hid m j c) p) Q := by
  subst hj
  unfold scatter Z
  iintro ⟨#HE, ⟨Hrss, Hmay, HrecR, Hags, HrecX, Hp, HpO, HrsO, Hxb, HxbO, Hrow, Hlr, Hlx⟩, Ho, HO, HK⟩
  iapply (run_loadO c s ch (wout m (layer k) c) (hid m (layer k) c) (fun v => stores args ch v blocks <| rsSends args ch c peers <| rsOwn args ch c p) Q)
  isplitl [Ho]; · iexact Ho
  iintro Ho
  iapply (run_stores m K c ch _ _ Q)
  isplitr; · iexact HE
  isplitl [Hp HpO]
  · rw [around c]
    isplitl [HpO]; · iexact HpO
    unfold ours; iexact Hp
  rw [around c]
  iintro ⟨HpO, Hp⟩
  ihave HX := (grants_X c ch k) $$ [Hxb HrecX]
  · isplitl [Hxb] <;> iassumption
  icases HX with ⟨HX, Hkeep, HrecX⟩
  iapply (run_rsSends m K c ch k hk l _ Q)
  isplitr; · iexact HE
  isplitl [Hrss Hmay Hp HX]
  · unfold rssI mayR
    have hz : iprop((each c fun t => iprop(idle (F := F) c (.rss ch t) k ∗ toks (F := F) t (.rsr ch c) k)) ∗ (each c fun t => grantR (F := F) ch t c k)
        ∗ (each c fun t => hold c (blk pM ch t) fullShare (piece (mulO (hid m (layer k) c) (chO (wout m (layer k) c) ch)) t)) ∗ (each c fun t => grantX (F := F) ch c t k))
      ⊢ each c (fun t => iprop(idle c (.rss ch t) k ∗ toks t (.rsr ch c) k ∗ grantR ch t c k ∗ hold c (blk pM ch t) fullShare (pc m (layer k) ch c t) ∗ grantX ch c t k)) := by
      rw [← each_sep, ← each_sep, ← each_sep]
      refine each_mono c fun t _ => ?_
      iintro ⟨⟨Hi, Ht⟩, Hg, Hh, HX⟩
      isplitl [Hi]; · iexact Hi
      isplitl [Ht]; · iexact Ht
      isplitl [Hg]; · iexact Hg
      isplitl [Hh]; · iexact Hh
      iexact HX
    iapply hz
    isplitl [Hrss]; · iexact Hrss
    isplitl [Hmay]; · iexact Hmay
    isplitl [Hp] <;> iassumption
  isplitl [HO]; · iexact HO
  iintro ⟨Hrss, HO⟩
  iapply (run_rsOwn m K c ch k hk p Q)
  isplitr; · iexact HE
  isplitl [Hlr]; · iexact Hlr
  isplitl [HpO]; · iexact HpO
  isplitl [HrsO]; · iexact HrsO
  iintro Hlr
  iapply HK
  unfold A
  isplitr [Ho HO]
  · isplitl [Hrss]; · unfold rssB; iexact Hrss
    isplitl [HrecR]; · iexact HrecR
    isplitl [Hags]; · iexact Hags
    isplitl [HrecX]; · iexact HrecX
    isplitl [Hkeep]; · iexact Hkeep
    isplitl [HxbO]; · iexact HxbO
    isplitl [Hrow]; · iexact Hrow
    isplitl [Hlr] <;> iassumption
  isplitl [Ho] <;> iassumption

theorem run_collect (hk : k < 3) (l : List St) (hl : ∀ st ∈ l, 2 + 4 * k + ch.val < st.ix ∧ st.ix < 16) (P : FVec F S4x512 .f32 → Pr F) (Q : sProp 𝕄) :
    iprop(env m K ∗ A c ch k ∗ owe c (dues c l) ∗ ((B c ch k ∗ owe c (dues c l)) -∗ run c (P (sumOf (blocks.map fun s => pc m (layer k) ch s c))) Q))
      ⊢ run c (collect args ch c P) Q := by
  unfold collect A
  iintro ⟨#HE, ⟨Hrss, HrecR, Hags, HrecX, Hkeep, HxbO, Hrow, Hlr, Hlx⟩, HO, HK⟩
  have hpop : recR (F := F) c ch k ⊢ iprop((each c fun s => iprop(pos c (.rsr ch s) k ∗ cred (tallyAt (cell c (.rsr ch s)) (2 + 4 * k + ch.val) (units (.rsr ch s)))))
      ∗ each c fun s => credR c ch s (k + 1)) := by
    unfold recR
    refine each_unzip c fun s _ => ?_
    unfold credR
    rw [left_pop hk]
    iintro ⟨Hp, Hc, Hl⟩
    isplitl [Hp Hc]
    · isplitl [Hp] <;> iassumption
    iexact Hl
  ihave H := hpop $$ HrecR
  icases H with ⟨Hrec, Hcr⟩
  iapply (run_rsRecvs m K c ch k hk l hl _ Q)
  isplitr; · iexact HE
  isplitl [Hrec]; · iexact Hrec
  isplitl [HO]; · iexact HO
  iintro ⟨Hrec, HO⟩
  have hun : (each c fun s => iprop(pos c (.rsr ch s) (k + 1) ∗ hold c (blk rsM ch s) fullShare (pc m (layer k) ch s c) ∗ grantX ch s c k))
      ⊢ iprop((each c fun s => pos (F := F) c (.rsr ch s) (k + 1)) ∗ (each c fun s => hold c (blk rsM ch s) fullShare (pc m (layer k) ch s c)) ∗ each c fun s => grantX (F := F) ch s c k) := by
    rw [← each_sep, ← each_sep]
  ihave H := hun $$ Hrec
  icases H with ⟨Hpos, Hrs, HX⟩
  iapply (run_rsOwnWait m K c ch k hk l (fun st h => ⟨by have := (hl st h).1; omega, (hl st h).2⟩) _ Q)
  isplitr; · iexact HE
  isplitl [Hlr]; · iexact Hlr
  isplitl [HO]; · iexact HO
  iintro ⟨HO, Hlr, HrsO, HpO⟩
  iapply (run_loads c rsM ch (fun s => pc m (layer k) ch s c) (fun l => P (total l)) Q blocks [])
  isplitl [Hrs HrsO]
  · rw [around c]; isplitl [HrsO] <;> iassumption
  rw [around c, List.nil_append, total_eq (flat_seen rsM ch fun s => pc m (layer k) ch s c)]
  iintro ⟨HrsO, Hrs⟩
  iapply HK
  isplitr [HO]
  · unfold B
    isplitl [Hrss]; · iexact Hrss
    isplitl [HX]; · unfold mayX; iexact HX
    isplitl [Hpos Hcr]
    · unfold recR; rw [each_sep]
      isplitl [Hpos] <;> iassumption
    isplitl [Hags]; · iexact Hags
    isplitl [HrecX]; · iexact HrecX
    isplitl [HpO]; · iexact HpO
    isplitl [Hrs]
    · have h : (each c fun s => hold c (blk rsM ch s) fullShare (pc m (layer k) ch s c)) ⊢ ours (F := F) c ch rsM := by
        unfold ours; exact each_mono c fun s _ => some_of_hold _
      iapply h; iexact Hrs
    isplitl [HrsO]; · iapply (some_of_hold (c := c) (M := blk rsM ch c) (pc m (layer k) ch c c)); iexact HrsO
    isplitl [Hkeep]; · iexact Hkeep
    isplitl [HxbO]; · iexact HxbO
    isplitl [Hrow]; · iexact Hrow
    isplitl [Hlr] <;> iassumption
  iexact HO

/-- The row in its sixteen shares. -/
theorem row_shares (X : FVec F S4x512 .f32) :
    (hold c (row rM ch) fullShare X : sProp 𝕄) = iprop(hold c (row rM ch) (share c) X ∗ each c fun t => hold c (row rM ch) (share t) X) := by
  rw [each_eq]
  exact (ShareLeaves.pointsTo_leaves _ _ 4 fullShare).trans (bigSep_univ_at (I := Fin 16) (fun t => hold c (row rM ch) (share t) X) c)

theorem run_spread (hk : k < 2) (l : List St) (v : FVec F S4x512 .f32) (hv : asRow v = red m (layer k) ch c) (p : Pr F) (Q : sProp 𝕄) :
    iprop(env m K ∗ B c ch k ∗ owe c (dues c (.ag k ch :: l)) ∗ ((C c ch k ∗ owe c (dues c l)) -∗ run c p Q))
      ⊢ run c (spread args ch c v p) Q := by
  unfold spread B
  rw [hv]
  iintro ⟨#HE, ⟨Hrss, HmayX, HrecR, Hags, HrecX, HpO, Hrs, HrsO, -, HxbO, Hrow, Hlr, Hlx⟩, HO, HK⟩
  iapply (run_storeRow c rM ch (red m (layer k) ch c) _ Q)
  isplitl [Hrow]; · iexact Hrow
  rw [row_shares]
  iintro ⟨HrowO, Hrow⟩
  ihave HR := (grants_R c ch (k + 1)) $$ [Hrs HrecR]
  · isplitl [Hrs] <;> iassumption
  icases HR with ⟨HR, HrecR⟩
  iapply (run_agSends m K c ch k hk l _ Q)
  isplitr; · iexact HE
  isplitl [Hags HmayX Hrow HR]
  · unfold agsI mayX
    have hz : iprop((each c fun t => iprop(idle (F := F) c (.ags ch t) k ∗ toks (F := F) t (.agr ch c) k)) ∗ (each c fun t => grantX (F := F) ch t c k)
        ∗ (each c fun t => hold c (row rM ch) (share t) (red m (layer k) ch c)) ∗ (each c fun t => grantR (F := F) ch c t (k + 1)))
      ⊢ each c (fun t => iprop(idle c (.ags ch t) k ∗ toks t (.agr ch c) k ∗ grantX ch t c k ∗ hold c (row rM ch) (share t) (red m (layer k) ch c) ∗ grantR ch c t (k + 1))) := by
      rw [← each_sep, ← each_sep, ← each_sep]
      refine each_mono c fun t _ => ?_
      iintro ⟨⟨Hi, Ht⟩, Hg, Hh, HX⟩
      isplitl [Hi]; · iexact Hi
      isplitl [Ht]; · iexact Ht
      isplitl [Hg]; · iexact Hg
      isplitl [Hh]; · iexact Hh
      iexact HX
    iapply hz
    isplitl [Hags]; · iexact Hags
    isplitl [HmayX]; · iexact HmayX
    isplitl [Hrow] <;> iassumption
  isplitl [HO]; · iexact HO
  iintro ⟨Hags, HO⟩
  iapply (run_agOwn m K c ch k hk p Q)
  isplitr; · iexact HE
  isplitl [Hlx]; · iexact Hlx
  isplitl [HrowO]; · iexact HrowO
  isplitl [HxbO]; · iexact HxbO
  iintro Hlx
  iapply HK
  isplitr [HO]
  · unfold C
    isplitl [Hrss]; · iexact Hrss
    isplitl [HrecR]; · iexact HrecR
    isplitl [Hags]; · unfold agsB; iexact Hags
    isplitl [HrecX]; · iexact HrecX
    isplitl [HpO]; · iexact HpO
    isplitl [HrsO]; · iexact HrsO
    isplitl [Hlr] <;> iassumption
  iexact HO

theorem run_gather (hk : k < 2) (j : Fin 3) (hj : layer k = j) (s : Fin 2) (w : FVec F S1024x2048 .f32) (l : List St) (hl : ∀ st ∈ l, 4 + 4 * k + ch.val < st.ix ∧ st.ix < 16) (P : FVec F S64x2048 .f32 → Pr F) (Q : sProp 𝕄) :
    iprop(env m K ∗ C c ch k ∗ hold c (wslot wM s) fullShare w ∗ owe c (dues c l)
        ∗ ((D m c ch k ∗ hold c (wslot wM s) fullShare w ∗ owe c (dues c l)) -∗ run c (P (mulW (red m j ch) (chW w ch))) Q))
      ⊢ run c (gather args ch s c P) Q := by
  subst hj
  unfold gather C
  iintro ⟨#HE, ⟨Hrss, HrecR, Hags, HrecX, HpO, HrsO, Hlr, Hlx⟩, Hw, HO, HK⟩
  have hpop : recX (F := F) c ch k ⊢ iprop((each c fun s => iprop(pos c (.agr ch s) k ∗ cred (tallyAt (cell c (.agr ch s)) (4 + 4 * k + ch.val) (units (.agr ch s)))))
      ∗ each c fun s => credX c ch s (k + 1)) := by
    unfold recX
    refine each_unzip c fun s _ => ?_
    unfold credX
    rw [left_pop hk]
    iintro ⟨Hp, Hc, Hl⟩
    isplitl [Hp Hc]
    · isplitl [Hp] <;> iassumption
    iexact Hl
  ihave H := hpop $$ HrecX
  icases H with ⟨Hrec, Hcr⟩
  iapply (run_agRecvs m K c ch k hk l hl _ Q)
  isplitr; · iexact HE
  isplitl [Hrec]; · iexact Hrec
  isplitl [HO]; · iexact HO
  iintro ⟨Hrec, HO⟩
  have hun : (each c fun s => iprop(pos c (.agr ch s) (k + 1) ∗ hold c (blk xbM ch s) fullShare (red m (layer k) ch s) ∗ grantR ch s c (k + 1)))
      ⊢ iprop((each c fun s => pos (F := F) c (.agr ch s) (k + 1)) ∗ (each c fun s => hold c (blk xbM ch s) fullShare (red m (layer k) ch s)) ∗ each c fun s => grantR (F := F) ch s c (k + 1)) := by
    rw [← each_sep, ← each_sep]
  ihave H := hun $$ Hrec
  icases H with ⟨Hpos, Hxb, HR⟩
  iapply (run_agOwnWait m K c ch k hk l (fun st h => ⟨by have := (hl st h).1; omega, (hl st h).2⟩) _ Q)
  isplitr; · iexact HE
  isplitl [Hlx]; · iexact Hlx
  isplitl [HO]; · iexact HO
  iintro ⟨HO, Hlx, HxbO, Hrow⟩
  iapply (run_loads c xbM ch (fun s => red m (layer k) ch s) (fun l => loadW args s ch fun w => P (part l w)) Q blocks [])
  isplitl [Hxb HxbO]
  · rw [around c]; isplitl [HxbO] <;> iassumption
  rw [around c, List.nil_append]
  iintro ⟨HxbO, Hxb⟩
  iapply (run_loadW c s ch w _ Q)
  isplitl [Hw]; · iexact Hw
  rw [part_eq _ _ (flat_seen xbM ch fun s => red m (layer k) ch s), chW_slot]
  iintro Hw
  iapply HK
  isplitr [Hw HO]
  · unfold D
    isplitl [Hrss]; · iexact Hrss
    isplitl [HR]; · unfold mayR; iexact HR
    isplitl [HrecR]; · iexact HrecR
    isplitl [Hags]; · iexact Hags
    isplitl [Hpos Hcr]
    · unfold recX; rw [each_sep]
      isplitl [Hpos] <;> iassumption
    isplitl [HpO]; · iexact HpO
    isplitl [HrsO]; · iexact HrsO
    isplitl [Hxb]
    · have h : (each c fun s => hold c (blk xbM ch s) fullShare (red m (layer k) ch s)) ⊢ ours (F := F) c ch xbM := by
        unfold ours; exact each_mono c fun s _ => some_of_hold _
      iapply h; iexact Hxb
    isplitl [HxbO]; · iapply (some_of_hold (c := c) (M := blk xbM ch c) (red m (layer k) ch c)); iexact HxbO
    isplitl [Hrow]; · iexact Hrow
    isplitl [Hlr] <;> iassumption
  isplitl [Hw] <;> iassumption

/-- The departures of pieces are over. -/
theorem run_rsOver (hk : k < 3) (l : List St) (hl : ∀ st ∈ l, 0 < st.ix ∧ st.ix < 16) (p : Pr F) (Q : sProp 𝕄) :
    iprop(env m K ∗ rssB c ch k ∗ owe c (dues c l) ∗ ((rssI c ch (k + 1) ∗ ours c ch pM ∗ owe c (dues c l)) -∗ run c p Q))
      ⊢ run c (rsDone args ch c peers p) Q := by
  unfold rssB
  rw [each_sep]
  iintro ⟨#HE, ⟨Hb, Ht⟩, HO, HK⟩
  iapply (run_rsDone m K c ch k hk l hl p Q)
  isplitr; · iexact HE
  isplitl [Hb]; · iexact Hb
  isplitl [HO]; · iexact HO
  rw [each_sep]
  iintro ⟨⟨Hi, Hp⟩, HO⟩
  iapply HK
  isplitl [Hi Ht]
  · unfold rssI; rw [each_sep]
    isplitl [Hi] <;> iassumption
  isplitl [Hp]; · unfold ours; iexact Hp
  iexact HO

theorem run_over (hk : k < 2) (l : List St) (hl : ∀ st ∈ l, 0 < st.ix ∧ st.ix < 16) (p : Pr F) (Q : sProp 𝕄) :
    iprop(env m K ∗ D m c ch k ∗ owe c (dues c l) ∗ ((Z c ch (k + 1) ∗ owe c (dues c l)) -∗ run c p Q))
      ⊢ run c (rsDone args ch c peers <| agDone args ch c peers p) Q := by
  unfold D agsB
  rw [each_sep]
  iintro ⟨#HE, ⟨Hrss, HR, HrecR, ⟨Hb, Ht⟩, HrecX, HpO, HrsO, Hxb, HxbO, HrowO, Hlr, Hlx⟩, HO, HK⟩
  iapply (run_rsOver m K c ch k (by omega) l hl _ Q)
  isplitr; · iexact HE
  isplitl [Hrss]; · iexact Hrss
  isplitl [HO]; · iexact HO
  iintro ⟨Hrss, Hp, HO⟩
  iapply (run_agDone m K c ch k hk l hl p Q)
  isplitr; · iexact HE
  isplitl [Hb]; · iexact Hb
  isplitl [HO]; · iexact HO
  rw [each_sep]
  iintro ⟨⟨Hi, Hrow⟩, HO⟩
  iapply HK
  isplitr [HO]
  · unfold Z
    isplitl [Hrss]; · iexact Hrss
    isplitl [HR]; · iexact HR
    isplitl [HrecR]; · iexact HrecR
    isplitl [Hi Ht]
    · unfold agsI; rw [each_sep]
      isplitl [Hi] <;> iassumption
    isplitl [HrecX]; · iexact HrecX
    isplitl [Hp]; · iexact Hp
    isplitl [HpO]; · iexact HpO
    isplitl [HrsO]; · iexact HrsO
    isplitl [Hxb]; · iexact Hxb
    isplitl [HxbO]; · iexact HxbO
    isplitl [HrowO Hrow]
    · iapply (some_of_hold (c := c) (M := row rM ch) (red m (layer k) ch c))
      rw [row_shares]
      isplitl [HrowO] <;> iassumption
    isplitl [Hlr] <;> iassumption
  iexact HO

/-- The last layer's end. -/
theorem run_last (l : List St) (hl : ∀ st ∈ l, 0 < st.ix ∧ st.ix < 16) (p : Pr F) (Q : sProp 𝕄) :
    iprop(env m K ∗ B c ch 2 ∗ owe c (dues c l) ∗ ((E c ch ∗ owe c (dues c l)) -∗ run c p Q)) ⊢ run c (rsDone args ch c peers p) Q := by
  unfold B keepX
  rw [show (fun t => (if 2 < 2 then iprop(emp) else some' (F := F) c (blk xbM ch t) : sProp 𝕄)) = fun t => some' (F := F) c (blk xbM ch t) from funext fun _ => if_neg (by decide)]
  iintro ⟨#HE, ⟨Hrss, -, HrecR, Hags, HrecX, HpO, Hrs, HrsO, Hkeep, HxbO, Hrow, Hlr, Hlx⟩, HO, HK⟩
  iapply (run_rsOver m K c ch 2 (by decide) l hl _ Q)
  isplitr; · iexact HE
  isplitl [Hrss]; · iexact Hrss
  isplitl [HO]; · iexact HO
  iintro ⟨Hrss, Hp, HO⟩
  iapply HK
  isplitr [HO]
  · unfold E
    isplitl [Hrss]; · iexact Hrss
    isplitl [HrecR]; · iexact HrecR
    isplitl [Hags]; · iexact Hags
    isplitl [HrecX]; · iexact HrecX
    isplitl [Hp]; · iexact Hp
    isplitl [HpO]; · iexact HpO
    isplitl [Hrs]; · iexact Hrs
    isplitl [HrsO]; · iexact HrsO
    isplitl [Hkeep]; · unfold ours; iexact Hkeep
    isplitl [HxbO]; · iexact HxbO
    isplitl [Hrow]; · iexact Hrow
    isplitl [Hlr] <;> iassumption
  iexact HO

end Cert.KernelIdeal.Mlp

end
-- ==== Proof.Core.lean ====
/-
  The body from start to end on one device.
-/
module

public import proofs.«01_k».proof.Proof.Chunk

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Kd → ℕ) (c : Dev nD)

/-- A chunk at the start: as before a layer, but the places for the peers' pieces are still here and theirs not yet granted. -/
def Z₀ (ch : Fin 2) : sProp 𝕄 := iprop(rssI (F := F) c ch 0 ∗ recR (F := F) c ch 0 ∗ agsI (F := F) c ch 0 ∗ recX (F := F) c ch 0
  ∗ ours (F := F) c ch pM ∗ some' (F := F) c (blk pM ch c) ∗ ours (F := F) c ch rsM ∗ some' (F := F) c (blk rsM ch c) ∗ ours (F := F) c ch xbM ∗ some' (F := F) c (blk xbM ch c) ∗ some' (F := F) c (row rM ch)
  ∗ idle (F := F) c (.lr ch) 0 ∗ idle (F := F) c (.lx ch) 0)
/-- The rest of a chunk that has granted the places for the peers' pieces. -/
def Z₁ (ch : Fin 2) : sProp 𝕄 := iprop(rssI (F := F) c ch 0 ∗ recR (F := F) c ch 0 ∗ agsI (F := F) c ch 0 ∗ recX (F := F) c ch 0
  ∗ ours (F := F) c ch pM ∗ some' (F := F) c (blk pM ch c) ∗ some' (F := F) c (blk rsM ch c) ∗ ours (F := F) c ch xbM ∗ some' (F := F) c (blk xbM ch c) ∗ some' (F := F) c (row rM ch)
  ∗ idle (F := F) c (.lr ch) 0 ∗ idle (F := F) c (.lx ch) 0)

theorem grant₀ (ch : Fin 2) : Z₀ (F := F) c ch ⊢ iprop(Z₁ c ch ∗ each c fun t => grantR ch c t 0) := by
  unfold Z₀ Z₁
  iintro ⟨H1, H2, H3, H4, H5, H6, H7, H8, H9, H10, H11, H12⟩
  ihave H := (grants_R c ch 0) $$ [H7 H2]
  · isplitl [H7] <;> iassumption
  icases H with ⟨HG, H2⟩
  isplitr [HG]
  · isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    isplitl [H11] <;> iassumption
  iexact HG

theorem granted₀ (ch : Fin 2) : iprop(Z₁ (F := F) c ch ∗ each c fun t => grantR ch t c 0) ⊢ Z c ch 0 := by
  unfold Z Z₁ mayR
  iintro ⟨⟨H1, H2, H3, H4, H5, H6, H8, H9, H10, H11, H12⟩, HG⟩
  isplitl [H1]; · iexact H1
  isplitl [HG]; · iexact HG
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11] <;> iassumption

/-- The weights of a layer in place. -/
def weights (l : Fin 3) : sProp 𝕄 := iprop(hold c (winM l) fullShare (win m l c) ∗ hold c (woutM l) fullShare (wout m l c))
/-- A slot of each buffer of weights and its semaphores. -/
def slot (s : Fin 2) (R : ℕ) : sProp 𝕄 := iprop(idle (F := F) c (.w s) R ∗ idle (F := F) c (.o s) R ∗ some' (F := F) c (wslot wM s) ∗ some' (F := F) c (oslot oM s))
/-- What the entry signals need. -/
def entry : sProp 𝕄 := iprop((each c fun t => iprop(dutyTok ER (cell t .bar) 0 c ∗ reached ER (cell t .bar) 0)) ∗ pos (F := F) c .bar 0 ∗ cred (tallyAt (cell c .bar) 1 15))

/-- What the body starts with, what it ends with. -/
def Start : sProp 𝕄 := iprop(hold c xM fullShare (xIn m c) ∗ (some' (F := F) c (row outM 0) ∗ some' (F := F) c (row outM 1)) ∗ (weights m c 0 ∗ weights m c 1 ∗ weights m c 2)
  ∗ (slot (F := F) c 0 0 ∗ slot (F := F) c 1 0) ∗ entry (F := F) c ∗ (Z₀ (F := F) c 0 ∗ Z₀ (F := F) c 1) ∗ owe (F := F) c (dues c steps))
def Done : sProp 𝕄 := iprop(hold c xM fullShare (xIn m c) ∗ (hold c (row outM 0) fullShare (red m 2 0 c) ∗ hold c (row outM 1) fullShare (red m 2 1 c)) ∗ (weights m c 0 ∗ weights m c 1 ∗ weights m c 2)
  ∗ (slot (F := F) c 0 2 ∗ slot (F := F) c 1 1) ∗ pos (F := F) c .bar 1 ∗ (E (F := F) c 0 ∗ E (F := F) c 1) ∗ owe (F := F) c [])

/-! ## The body by layers -/

/-- Both chunks of a layer leave. -/
def scatters (s : Fin 2) (d : Dev nD) (h : FVec F S64x2048 .f32) (p : Pr F) : Pr F := scatter args 0 s d h <| scatter args 1 s d h p
/-- Both are summed and the sums leave. -/
def exchange (d : Dev nD) (p : Pr F) : Pr F := collect args 0 d fun v => spread args 0 d v <| collect args 1 d fun v => spread args 1 d v p
/-- The sums arrive, and the copies are over. -/
def meet (s : Fin 2) (d : Dev nD) (P : FVec F S64x2048 .f32 → Pr F) : Pr F :=
  gather args 0 s d fun p0 => gather args 1 s d fun p1 =>
  rsDone args 0 d peers <| agDone args 0 d peers <| rsDone args 1 d peers <| agDone args 1 d peers <| P (hidN p0 p1)
/-- The last layer from its hidden rows on, and before it the second and the first. -/
def tail2 (d : Dev nD) (h : FVec F S64x2048 .f32) : Pr F :=
  waitO args 0 args.wout2 args.hwout2 <| scatters 0 d h <|
  collect args 0 d fun v => storeRow args.out 0 v <|
  collect args 1 d fun v => storeRow args.out 1 v <|
  rsDone args 0 d peers <| rsDone args 1 d peers <| .ret ⟨⟩
def tail1 (d : Dev nD) (h : FVec F S64x2048 .f32) : Pr F :=
  waitO args 1 args.wout1 args.hwout1 <| scatters 1 d h <| exchange d <| waitW args 0 args.win2 args.hwin2 <| meet 0 d (tail2 d)
def tail0 (d : Dev nD) (h : FVec F S64x2048 .f32) : Pr F :=
  startW args 0 args.win2 args.hwin2 <| waitO args 0 args.wout0 args.hwout0 <| scatters 0 d h <| startO args 0 args.wout2 args.hwout2 <|
  exchange d <| waitW args 1 args.win1 args.hwin1 <| meet 1 d (tail1 d)

theorem bodyS_eq : (bodyS args : Pr F) = .op .deviceId fun d =>
    startW args 0 args.win0 args.hwin0 <| startO args 0 args.wout0 args.hwout0 <| signals d peers <| waitBar <|
    waitW args 0 args.win0 args.hwin0 <| startW args 1 args.win1 args.hwin1 <| startO args 1 args.wout1 args.hwout1 <|
    loadX args fun x => loadW0 args fun w => tail0 d (hid0 x w) := rfl

theorem run_scatters (k : ℕ) (hk : k < 3) (j : Fin 3) (hj : layer k = j) (s : Fin 2) (l : List St) (p : Pr F) (Q : sProp 𝕄) :
    iprop(env m K ∗ (Z c 0 k ∗ Z c 1 k) ∗ hold c (oslot oM s) fullShare (wout m j c) ∗ owe c (dues c (.rs k 0 :: .rs k 1 :: l))
        ∗ (((A c 0 k ∗ A c 1 k) ∗ hold c (oslot oM s) fullShare (wout m j c) ∗ owe c (dues c l)) -∗ run c p Q))
      ⊢ run c (scatters s c (hid m j c) p) Q := by
  unfold scatters
  iintro ⟨#HE, ⟨HZ0, HZ1⟩, Ho, HO, HK⟩
  iapply (run_scatter m K c 0 k hk j hj s (.rs k 1 :: l) _ Q)
  isplitr; · iexact HE
  isplitl [HZ0]; · iexact HZ0
  isplitl [Ho]; · iexact Ho
  isplitl [HO]; · iexact HO
  iintro ⟨HA0, Ho, HO⟩
  iapply (run_scatter m K c 1 k hk j hj s l _ Q)
  isplitr; · iexact HE
  isplitl [HZ1]; · iexact HZ1
  isplitl [Ho]; · iexact Ho
  isplitl [HO]; · iexact HO
  iintro ⟨HA1, Ho, HO⟩
  iapply HK
  isplitl [HA0 HA1]
  · isplitl [HA0] <;> iassumption
  isplitl [Ho] <;> iassumption

theorem sum_red (j : Fin 3) (ch : Fin 2) : asRow (sumOf (blocks.map fun s => pc m j ch s c)) = red m j ch c := by unfold red redOf pc; rfl

theorem run_exchange (k : ℕ) (hk : k < 2) (l : List St) (hl : ∀ st ∈ l, 5 + 4 * k < st.ix ∧ st.ix < 16) (p : Pr F) (Q : sProp 𝕄) :
    iprop(env m K ∗ (A c 0 k ∗ A c 1 k) ∗ owe c (dues c (.ag k 0 :: .ag k 1 :: l)) ∗ (((C c 0 k ∗ C c 1 k) ∗ owe c (dues c l)) -∗ run c p Q))
      ⊢ run c (exchange c p) Q := by
  have h1 : ∀ st ∈ St.ag k 1 :: l, 3 + 4 * k < st.ix ∧ st.ix < 16 := fun st h => by
    rcases List.mem_cons.mp h with rfl | h
    · show 3 + 4 * k < 4 + 4 * k + 1 ∧ 4 + 4 * k + 1 < 16; omega
    · have := hl st h; omega
  have h0 : ∀ st ∈ St.ag k 0 :: St.ag k 1 :: l, 2 + 4 * k < st.ix ∧ st.ix < 16 := fun st h => by
    rcases List.mem_cons.mp h with rfl | h
    · show 2 + 4 * k < 4 + 4 * k + 0 ∧ 4 + 4 * k + 0 < 16; omega
    · have := h1 st h; omega
  unfold exchange
  iintro ⟨#HE, ⟨HA0, HA1⟩, HO, HK⟩
  iapply (run_collect m K c 0 k (by omega) _ h0 (fun v => spread args 0 c v <| collect args 1 c fun v => spread args 1 c v p) Q)
  isplitr; · iexact HE
  isplitl [HA0]; · iexact HA0
  isplitl [HO]; · iexact HO
  iintro ⟨HB0, HO⟩
  iapply (run_spread m K c 0 k hk (.ag k 1 :: l) _ (sum_red m c (layer k) 0) _ Q)
  isplitr; · iexact HE
  isplitl [HB0]; · iexact HB0
  isplitl [HO]; · iexact HO
  iintro ⟨HC0, HO⟩
  iapply (run_collect m K c 1 k (by omega) _ (fun st h => by have := h1 st h; show 2 + 4 * k + 1 < _ ∧ _; omega) (fun v => spread args 1 c v p) Q)
  isplitr; · iexact HE
  isplitl [HA1]; · iexact HA1
  isplitl [HO]; · iexact HO
  iintro ⟨HB1, HO⟩
  iapply (run_spread m K c 1 k hk l _ (sum_red m c (layer k) 1) _ Q)
  isplitr; · iexact HE
  isplitl [HB1]; · iexact HB1
  isplitl [HO]; · iexact HO
  iintro ⟨HC1, HO⟩
  iapply HK
  isplitl [HC0 HC1]
  · isplitl [HC0] <;> iassumption
  iexact HO

theorem run_meet (k : ℕ) (hk : k < 2) (j j' : Fin 3) (hj : layer k = j) (hh : hid m j' c = nextOf m (hid m j) j j' c) (s : Fin 2) (l : List St) (hl : ∀ st ∈ l, 5 + 4 * k < st.ix ∧ st.ix < 16)
    (P : FVec F S64x2048 .f32 → Pr F) (Q : sProp 𝕄) :
    iprop(env m K ∗ (C c 0 k ∗ C c 1 k) ∗ hold c (wslot wM s) fullShare (win m j' c) ∗ owe c (dues c l)
        ∗ (((Z c 0 (k + 1) ∗ Z c 1 (k + 1)) ∗ hold c (wslot wM s) fullShare (win m j' c) ∗ owe c (dues c l)) -∗ run c (P (hid m j' c)) Q))
      ⊢ run c (meet s c P) Q := by
  unfold meet
  iintro ⟨#HE, ⟨HC0, HC1⟩, Hw, HO, HK⟩
  iapply (run_gather m K c 0 k hk j hj s (win m j' c) l (fun st h => by have := hl st h; show 4 + 4 * k + 0 < _ ∧ _; omega) (fun p0 => gather args 1 s c fun p1 =>
    rsDone args 0 c peers <| agDone args 0 c peers <| rsDone args 1 c peers <| agDone args 1 c peers <| P (hidN p0 p1)) Q)
  isplitr; · iexact HE
  isplitl [HC0]; · iexact HC0
  isplitl [Hw]; · iexact Hw
  isplitl [HO]; · iexact HO
  iintro ⟨HD0, Hw, HO⟩
  iapply (run_gather m K c 1 k hk j hj s (win m j' c) l (fun st h => by have := hl st h; show 4 + 4 * k + 1 < _ ∧ _; omega) (fun p1 =>
    rsDone args 0 c peers <| agDone args 0 c peers <| rsDone args 1 c peers <| agDone args 1 c peers <| P (hidN (mulW (red m j 0) (chW (win m j' c) 0)) p1)) Q)
  isplitr; · iexact HE
  isplitl [HC1]; · iexact HC1
  isplitl [Hw]; · iexact Hw
  isplitl [HO]; · iexact HO
  iintro ⟨HD1, Hw, HO⟩
  iapply (run_over m K c 0 k hk l (fun st h => by have := hl st h; omega) _ Q)
  isplitr; · iexact HE
  isplitl [HD0]; · iexact HD0
  isplitl [HO]; · iexact HO
  iintro ⟨HZ0, HO⟩
  iapply (run_over m K c 1 k hk l (fun st h => by have := hl st h; omega) _ Q)
  isplitr; · iexact HE
  isplitl [HD1]; · iexact HD1
  isplitl [HO]; · iexact HO
  iintro ⟨HZ1, HO⟩
  rw [show hidN (mulW (red m j 0) (chW (win m j' c) 0)) (mulW (red m j 1) (chW (win m j' c) 1)) = hid m j' c from hh.symm]
  iapply HK
  isplitl [HZ0 HZ1]
  · isplitl [HZ0] <;> iassumption
  isplitl [Hw] <;> iassumption

/-- What is still owed before each layer, and before its sums leave. -/
abbrev l2b : List St := []
abbrev l2 : List St := .rs 2 0 :: .rs 2 1 :: l2b
abbrev l1b : List St := .ag 1 0 :: .ag 1 1 :: l2
abbrev l1 : List St := .rs 1 0 :: .rs 1 1 :: l1b
abbrev l0b : List St := .ag 0 0 :: .ag 0 1 :: l1
abbrev l0 : List St := .rs 0 0 :: .rs 0 1 :: l0b

theorem run_tail2 : iprop(env m K ∗ hold c xM fullShare (xIn m c) ∗ (some' c (row outM 0) ∗ some' c (row outM 1)) ∗ (weights m c 0 ∗ weights m c 1 ∗ hold c (winM 2) fullShare (win m 2 c))
      ∗ ((idle c (.w 0) 2 ∗ busy c (.o 0) 1 ∗ some' c (wslot wM 0)) ∗ slot c 1 1) ∗ pos c .bar 1 ∗ (Z c 0 2 ∗ Z c 1 2) ∗ owe c (dues c l2))
    ⊢ run c (tail2 c (hid m 2 c)) (Done m c) := by
  unfold tail2
  iintro ⟨#HE, Hx, ⟨Hout0, Hout1⟩, ⟨HW0, HW1, Hwin2⟩, ⟨⟨Hw0, Ho0, Hs0⟩, Hslot1⟩, Hbar, HZ, HO⟩
  iapply (run_waitO m K c 0 1 (show 1 < 2 by decide) 2 rfl l2 (by decide) _ _)
  isplitr; · iexact HE
  isplitl [Ho0]; · iexact Ho0
  isplitl [HO]; · iexact HO
  iintro ⟨HO, Ho0, Hos, Hwout2⟩
  iapply (run_scatters m K c 2 (by decide) 2 rfl 0 l2b _ _)
  isplitr; · iexact HE
  isplitl [HZ]; · iexact HZ
  isplitl [Hos]; · iexact Hos
  isplitl [HO]; · iexact HO
  iintro ⟨⟨HA0, HA1⟩, Hos, HO⟩
  iapply (run_collect m K c 0 2 (by decide) l2b (by decide) (fun v => storeRow args.out 0 v <| collect args 1 c fun v => storeRow args.out 1 v <|
    rsDone args 0 c peers <| rsDone args 1 c peers <| .ret ⟨⟩) _)
  isplitr; · iexact HE
  isplitl [HA0]; · iexact HA0
  isplitl [HO]; · iexact HO
  iintro ⟨HB0, HO⟩
  iapply (run_storeRow c outM 0 _ _ _)
  isplitl [Hout0]; · iexact Hout0
  iintro Hout0
  iapply (run_collect m K c 1 2 (by decide) l2b (by decide) (fun v => storeRow args.out 1 v <| rsDone args 0 c peers <| rsDone args 1 c peers <| .ret ⟨⟩) _)
  isplitr; · iexact HE
  isplitl [HA1]; · iexact HA1
  isplitl [HO]; · iexact HO
  iintro ⟨HB1, HO⟩
  iapply (run_storeRow c outM 1 _ _ _)
  isplitl [Hout1]; · iexact Hout1
  iintro Hout1
  iapply (run_last m K c 0 l2b (by decide) _ _)
  isplitr; · iexact HE
  isplitl [HB0]; · iexact HB0
  isplitl [HO]; · iexact HO
  iintro ⟨HE0, HO⟩
  iapply (run_last m K c 1 l2b (by decide) _ _)
  isplitr; · iexact HE
  isplitl [HB1]; · iexact HB1
  isplitl [HO]; · iexact HO
  iintro ⟨HE1, HO⟩
  unfold run
  rw [wp_ret]
  imodintro
  unfold Done slot weights
  isplitl [Hx]; · iexact Hx
  isplitl [Hout0 Hout1]
  · rw [show red m 2 0 c = sumOf (blocks.map fun s => pc m (layer 2) 0 s c) from asRow_eq _, show red m 2 1 c = sumOf (blocks.map fun s => pc m (layer 2) 1 s c) from asRow_eq _]
    isplitl [Hout0] <;> iassumption
  isplitl [HW0 HW1 Hwin2 Hwout2]
  · isplitl [HW0]; · iexact HW0
    isplitl [HW1]; · iexact HW1
    isplitl [Hwin2] <;> iassumption
  isplitl [Hw0 Ho0 Hs0 Hos Hslot1]
  · isplitl [Hw0 Ho0 Hs0 Hos]
    · isplitl [Hw0]; · iexact Hw0
      isplitl [Ho0]; · iexact Ho0
      isplitl [Hs0]; · iexact Hs0
      iapply (some_of_hold (c := c) (M := oslot oM 0) (wout m 2 c)); iexact Hos
    iexact Hslot1
  isplitl [Hbar]; · iexact Hbar
  isplitl [HE0 HE1]
  · isplitl [HE0] <;> iassumption
  iexact HO

theorem run_tail1 : iprop(env m K ∗ hold c xM fullShare (xIn m c) ∗ (some' c (row outM 0) ∗ some' c (row outM 1)) ∗ (weights m c 0 ∗ hold c (winM 1) fullShare (win m 1 c))
      ∗ ((busy c (.w 0) 1 ∗ busy c (.o 0) 1) ∗ (idle c (.w 1) 1 ∗ busy c (.o 1) 0 ∗ some' c (wslot wM 1))) ∗ pos c .bar 1 ∗ (Z c 0 1 ∗ Z c 1 1) ∗ owe c (dues c l1))
    ⊢ run c (tail1 c (hid m 1 c)) (Done m c) := by
  unfold tail1
  iintro ⟨#HE, Hx, Hout, ⟨HW0, Hwin1⟩, ⟨⟨Hw0, Ho0⟩, Hw1, Ho1, Hs1⟩, Hbar, HZ, HO⟩
  iapply (run_waitO m K c 1 0 (show 0 < 1 by decide) 1 rfl l1 (by decide) _ _)
  isplitr; · iexact HE
  isplitl [Ho1]; · iexact Ho1
  isplitl [HO]; · iexact HO
  iintro ⟨HO, Ho1, Hos, Hwout1⟩
  iapply (run_scatters m K c 1 (by decide) 1 rfl 1 l1b _ _)
  isplitr; · iexact HE
  isplitl [HZ]; · iexact HZ
  isplitl [Hos]; · iexact Hos
  isplitl [HO]; · iexact HO
  iintro ⟨HA, Hos, HO⟩
  iapply (run_exchange m K c 1 (by decide) l2 (by decide) _ _)
  isplitr; · iexact HE
  isplitl [HA]; · iexact HA
  isplitl [HO]; · iexact HO
  iintro ⟨HC, HO⟩
  iapply (run_waitW m K c 0 1 (show 1 < 2 by decide) 2 rfl l2 (by decide) _ _)
  isplitr; · iexact HE
  isplitl [Hw0]; · iexact Hw0
  isplitl [HO]; · iexact HO
  iintro ⟨HO, Hw0, Hws, Hwin2⟩
  iapply (run_meet m K c 1 (by decide) 1 2 rfl (hid_two m c) 0 l2 (by decide) _ _)
  isplitr; · iexact HE
  isplitl [HC]; · iexact HC
  isplitl [Hws]; · iexact Hws
  isplitl [HO]; · iexact HO
  iintro ⟨HZ, Hws, HO⟩
  iapply (run_tail2 m K c)
  unfold slot weights
  isplitr; · iexact HE
  isplitl [Hx]; · iexact Hx
  isplitl [Hout]; · iexact Hout
  isplitl [HW0 Hwin1 Hwout1 Hwin2]
  · isplitl [HW0]; · iexact HW0
    isplitr [Hwin2]
    · isplitl [Hwin1] <;> iassumption
    iexact Hwin2
  isplitl [Hw0 Ho0 Hws Hw1 Ho1 Hs1 Hos]
  · isplitl [Hw0 Ho0 Hws]
    · isplitl [Hw0]; · iexact Hw0
      isplitl [Ho0]; · iexact Ho0
      iapply (some_of_hold (c := c) (M := wslot wM 0) (win m 2 c)); iexact Hws
    isplitl [Hw1]; · iexact Hw1
    isplitl [Ho1]; · iexact Ho1
    isplitl [Hs1]; · iexact Hs1
    iapply (some_of_hold (c := c) (M := oslot oM 1) (wout m 1 c)); iexact Hos
  isplitl [Hbar]; · iexact Hbar
  isplitl [HZ] <;> iassumption

theorem run_tail0 : iprop(env m K ∗ hold c xM fullShare (xIn m c) ∗ (some' c (row outM 0) ∗ some' c (row outM 1)) ∗ (hold c (winM 0) fullShare (win m 0 c) ∗ weights m c 2)
      ∗ ((idle c (.w 0) 1 ∗ busy c (.o 0) 0 ∗ some' c (wslot wM 0)) ∗ (busy c (.w 1) 0 ∗ busy c (.o 1) 0)) ∗ pos c .bar 1 ∗ (Z c 0 0 ∗ Z c 1 0) ∗ owe c (dues c l0))
    ⊢ run c (tail0 c (hid m 0 c)) (Done m c) := by
  unfold tail0 weights
  iintro ⟨#HE, Hx, Hout, ⟨Hwin0, Hwin2, Hwout2⟩, ⟨⟨Hw0, Ho0, Hs0⟩, Hw1, Ho1⟩, Hbar, HZ, HO⟩
  iapply (run_startW m K c 0 1 (show 1 < 2 by decide) 2 rfl rfl _ _)
  isplitr; · iexact HE
  isplitl [Hw0]; · iexact Hw0
  isplitl [Hwin2]; · iexact Hwin2
  isplitl [Hs0]; · iexact Hs0
  iintro Hw0
  iapply (run_waitO m K c 0 0 (show 0 < 2 by decide) 0 rfl l0 (by decide) _ _)
  isplitr; · iexact HE
  isplitl [Ho0]; · iexact Ho0
  isplitl [HO]; · iexact HO
  iintro ⟨HO, Ho0, Hos, Hwout0⟩
  iapply (run_scatters m K c 0 (by decide) 0 rfl 0 l0b _ _)
  isplitr; · iexact HE
  isplitl [HZ]; · iexact HZ
  isplitl [Hos]; · iexact Hos
  isplitl [HO]; · iexact HO
  iintro ⟨HA, Hos, HO⟩
  iapply (run_startO m K c 0 1 (show 1 < 2 by decide) 2 rfl rfl _ _)
  isplitr; · iexact HE
  isplitl [Ho0]; · iexact Ho0
  isplitl [Hwout2]; · iexact Hwout2
  isplitl [Hos]; · iapply (some_of_hold (c := c) (M := oslot oM 0) (wout m 0 c)); iexact Hos
  iintro Ho0
  iapply (run_exchange m K c 0 (by decide) l1 (by decide) _ _)
  isplitr; · iexact HE
  isplitl [HA]; · iexact HA
  isplitl [HO]; · iexact HO
  iintro ⟨HC, HO⟩
  iapply (run_waitW m K c 1 0 (show 0 < 1 by decide) 1 rfl l1 (by decide) _ _)
  isplitr; · iexact HE
  isplitl [Hw1]; · iexact Hw1
  isplitl [HO]; · iexact HO
  iintro ⟨HO, Hw1, Hws, Hwin1⟩
  iapply (run_meet m K c 0 (by decide) 0 1 rfl (hid_one m c) 1 l1 (by decide) _ _)
  isplitr; · iexact HE
  isplitl [HC]; · iexact HC
  isplitl [Hws]; · iexact Hws
  isplitl [HO]; · iexact HO
  iintro ⟨HZ, Hws, HO⟩
  iapply (run_tail1 m K c)
  unfold weights
  isplitr; · iexact HE
  isplitl [Hx]; · iexact Hx
  isplitl [Hout]; · iexact Hout
  isplitl [Hwin0 Hwout0 Hwin1]
  · isplitr [Hwin1]
    · isplitl [Hwin0] <;> iassumption
    iexact Hwin1
  isplitl [Hw0 Ho0 Hws Hw1 Ho1]
  · isplitl [Hw0 Ho0]
    · isplitl [Hw0] <;> iassumption
    isplitl [Hw1]; · iexact Hw1
    isplitl [Ho1]; · iexact Ho1
    iapply (some_of_hold (c := c) (M := wslot wM 1) (win m 1 c)); iexact Hws
  isplitl [Hbar]; · iexact Hbar
  isplitl [HZ] <;> iassumption

theorem run_body : iprop(env m K ∗ Start m c) ⊢ run c (bodyS args) (Done m c) := by
  rw [bodyS_eq]
  unfold Start weights slot entry
  iintro ⟨#HE, Hx, ⟨Hout0, Hout1⟩, ⟨⟨Hwin0, Hwout0⟩, ⟨Hwin1, Hwout1⟩, Hwin2, Hwout2⟩, ⟨⟨Hw0, Ho0, HW0, HO0⟩, Hw1, Ho1, HW1, HO1⟩, ⟨Hent, Hbar, Hcr⟩, ⟨HZ0, HZ1⟩, HO⟩
  unfold run
  rw [wp_deviceId]
  iapply (run_startW m K c 0 0 (show 0 < 2 by decide) 0 rfl rfl _ _)
  isplitr; · iexact HE
  isplitl [Hw0]; · iexact Hw0
  isplitl [Hwin0]; · iexact Hwin0
  isplitl [HW0]; · iexact HW0
  iintro Hw0
  iapply (run_startO m K c 0 0 (show 0 < 2 by decide) 0 rfl rfl _ _)
  isplitr; · iexact HE
  isplitl [Ho0]; · iexact Ho0
  isplitl [Hwout0]; · iexact Hwout0
  isplitl [HO0]; · iexact HO0
  iintro Ho0
  ihave HZ0 := (grant₀ c 0) $$ HZ0
  icases HZ0 with ⟨HZ0, HG0⟩
  ihave HZ1 := (grant₀ c 1) $$ HZ1
  icases HZ1 with ⟨HZ1, HG1⟩
  iapply (run_signals m K c l0 _ _)
  isplitr; · iexact HE
  isplitl [Hent HG0 HG1]
  · have h : iprop((each c fun t => iprop(dutyTok ER (cell t .bar) 0 c ∗ reached ER (cell t .bar) 0)) ∗ (each c fun t => grantR (F := F) 0 c t 0) ∗ (each c fun t => grantR (F := F) 1 c t 0))
        ⊢ each c (fun t => iprop(dutyTok ER (cell t .bar) 0 c ∗ reached ER (cell t .bar) 0 ∗ grantR 0 c t 0 ∗ grantR 1 c t 0)) := by
      rw [← each_sep, ← each_sep]
      refine each_mono c fun t _ => ?_
      iintro ⟨⟨H1, H2⟩, H3, H4⟩
      isplitl [H1]; · iexact H1
      isplitl [H2]; · iexact H2
      isplitl [H3] <;> iassumption
    iapply h
    isplitl [Hent]; · iexact Hent
    isplitl [HG0] <;> iassumption
  isplitl [HO]; · iexact HO
  iintro ⟨-, HO⟩
  iapply (run_waitBar m K c l0 (by decide) _ _)
  isplitr; · iexact HE
  isplitl [Hbar]; · iexact Hbar
  isplitl [Hcr]; · iexact Hcr
  isplitl [HO]; · iexact HO
  rw [each_sep]
  iintro ⟨HO, Hbar, HG0, HG1⟩
  ihave HZ0 := (granted₀ c 0) $$ [HZ0 HG0]
  · isplitl [HZ0] <;> iassumption
  ihave HZ1 := (granted₀ c 1) $$ [HZ1 HG1]
  · isplitl [HZ1] <;> iassumption
  iapply (run_waitW m K c 0 0 (show 0 < 2 by decide) 0 rfl l0 (by decide) _ _)
  isplitr; · iexact HE
  isplitl [Hw0]; · iexact Hw0
  isplitl [HO]; · iexact HO
  iintro ⟨HO, Hw0, HW0, Hwin0⟩
  iapply (run_startW m K c 1 0 (show 0 < 1 by decide) 1 rfl rfl _ _)
  isplitr; · iexact HE
  isplitl [Hw1]; · iexact Hw1
  isplitl [Hwin1]; · iexact Hwin1
  isplitl [HW1]; · iexact HW1
  iintro Hw1
  iapply (run_startO m K c 1 0 (show 0 < 1 by decide) 1 rfl rfl _ _)
  isplitr; · iexact HE
  isplitl [Ho1]; · iexact Ho1
  isplitl [Hwout1]; · iexact Hwout1
  isplitl [HO1]; · iexact HO1
  iintro Ho1
  iapply (run_load0 c (xIn m c) (win m 0 c) (tail0 c) _)
  isplitl [Hx]; · iexact Hx
  isplitl [HW0]; · iexact HW0
  iintro ⟨Hx, HW0⟩
  iapply (run_tail0 m K c)
  unfold weights
  isplitr; · iexact HE
  isplitl [Hx]; · iexact Hx
  isplitl [Hout0 Hout1]
  · isplitl [Hout0] <;> iassumption
  isplitl [Hwin0 Hwin2 Hwout2]
  · isplitl [Hwin0]; · iexact Hwin0
    isplitl [Hwin2] <;> iassumption
  isplitl [Hw0 Ho0 HW0 Hw1 Ho1]
  · isplitl [Hw0 Ho0 HW0]
    · isplitl [Hw0]; · iexact Hw0
      isplitl [Ho0]; · iexact Ho0
      iapply (some_of_hold (c := c) (M := wslot wM 0) (win m 0 c)); iexact HW0
    isplitl [Hw1] <;> iassumption
  isplitl [Hbar]; · iexact Hbar
  isplitl [HZ0 HZ1]
  · isplitl [HZ0] <;> iassumption
  iexact HO

end Cert.KernelIdeal.Mlp

end
-- ==== Proof.Deal.lean ====
/-
  What the launch deals each device: the positions of its own cells, the tokens of the payments it makes, and the credit of the payments its peers owe it.

  Tokens are made cell by cell and then go to whoever pays: an arrival's token to the sender, a handshake token to the peer that signals.
-/
module

public import proofs.«01_k».proof.Proof.Core

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)
open Cert.KernelIdeal Cert.KernelIdeal.Gen

variable {F : FTy → Type} [FloatOps F]

local notation "𝕄" => MT nD τ sig ℕ (Elt F) ℕ UU ℕ

/-! ## All names -/

/-- The names of a slot, of a chunk. -/
def ofSlot (Φ : Kd → sProp 𝕄) (s : Fin 2) : sProp 𝕄 := iprop(Φ (.w s) ∗ Φ (.o s))
def ofChunk (Φ : Kd → sProp 𝕄) (ch : Fin 2) : sProp 𝕄 := iprop((bigSep Finset.univ fun t => Φ (.rss ch t)) ∗ (bigSep Finset.univ fun t => Φ (.rsr ch t))
  ∗ (bigSep Finset.univ fun t => Φ (.ags ch t)) ∗ (bigSep Finset.univ fun t => Φ (.agr ch t)) ∗ Φ (.lr ch) ∗ Φ (.lx ch))

/-- Everything over all names: the handshake, the slots, the chunks. -/
theorem all_kd (Φ : Kd → sProp 𝕄) : bigSep Finset.univ Φ = iprop(Φ .bar ∗ (ofSlot Φ 0 ∗ ofSlot Φ 1) ∗ (ofChunk Φ 0 ∗ ofChunk Φ 1)) := by
  rw [bigSep_univ_equiv kdEquiv]
  simp only [bigSep_univ_sum, bigSep_univ_prod, bigSep_univ_two]
  rw [bigSep_univ_of_subsingleton ()]
  unfold ofSlot ofChunk
  simp only [show ∀ P Q : sProp 𝕄, BI.sep P Q = iprop(P ∗ Q) from fun _ _ => rfl, show kdEquiv (.inl (.inl ())) = .bar from rfl,
    show ∀ s, kdEquiv (.inl (.inr (.inl s))) = .w s from fun _ => rfl, show ∀ s, kdEquiv (.inl (.inr (.inr (.inl s)))) = .o s from fun _ => rfl,
    show ∀ s, kdEquiv (.inl (.inr (.inr (.inr (.inl s))))) = .lr s from fun _ => rfl, show ∀ s, kdEquiv (.inl (.inr (.inr (.inr (.inr s))))) = .lx s from fun _ => rfl,
    show ∀ s t, kdEquiv (.inr (.inl (s, t))) = .rss s t from fun _ _ => rfl, show ∀ s t, kdEquiv (.inr (.inr (.inl (s, t)))) = .rsr s t from fun _ _ => rfl,
    show ∀ s t, kdEquiv (.inr (.inr (.inr (.inl (s, t))))) = .ags s t from fun _ _ => rfl, show ∀ s t, kdEquiv (.inr (.inr (.inr (.inr (s, t))))) = .agr s t from fun _ _ => rfl]
  refine eq_of ?_ ?_
  · iintro ⟨⟨H1, ⟨Hw0, Hw1⟩, ⟨Ho0, Ho1⟩, ⟨Hr0, Hr1⟩, Hx0, Hx1⟩, ⟨Ha0, Ha1⟩, ⟨Hb0, Hb1⟩, ⟨Hc0, Hc1⟩, Hd0, Hd1⟩
    isplitl [H1]; · iexact H1
    isplitl [Hw0 Hw1 Ho0 Ho1]
    · isplitl [Hw0 Ho0]
      · isplitl [Hw0] <;> iassumption
      isplitl [Hw1] <;> iassumption
    isplitl [Ha0 Hb0 Hc0 Hd0 Hr0 Hx0]
    · isplitl [Ha0]; · iexact Ha0
      isplitl [Hb0]; · iexact Hb0
      isplitl [Hc0]; · iexact Hc0
      isplitl [Hd0]; · iexact Hd0
      isplitl [Hr0] <;> iassumption
    isplitl [Ha1]; · iexact Ha1
    isplitl [Hb1]; · iexact Hb1
    isplitl [Hc1]; · iexact Hc1
    isplitl [Hd1]; · iexact Hd1
    isplitl [Hr1] <;> iassumption
  · iintro ⟨H1, ⟨⟨Hw0, Ho0⟩, Hw1, Ho1⟩, ⟨Ha0, Hb0, Hc0, Hd0, Hr0, Hx0⟩, Ha1, Hb1, Hc1, Hd1, Hr1, Hx1⟩
    isplitl [H1 Hw0 Hw1 Ho0 Ho1 Hr0 Hr1 Hx0 Hx1]
    · isplitl [H1]; · iexact H1
      isplitl [Hw0 Hw1]
      · isplitl [Hw0] <;> iassumption
      isplitl [Ho0 Ho1]
      · isplitl [Ho0] <;> iassumption
      isplitl [Hr0 Hr1]
      · isplitl [Hr0] <;> iassumption
      isplitl [Hx0] <;> iassumption
    isplitl [Ha0 Ha1]
    · isplitl [Ha0] <;> iassumption
    isplitl [Hb0 Hb1]
    · isplitl [Hb0] <;> iassumption
    isplitl [Hc0 Hc1]
    · isplitl [Hc0] <;> iassumption
    isplitl [Hd0] <;> iassumption

/-! ## The tokens -/

/-- The tokens of a cell's payments, as made for the cell. -/
def minted (c : Dev nD) : Kd → sProp 𝕄
  | .bar => each c fun d => dutyTok ER (cell c .bar) 0 d
  | k => toks (F := F) c k 0
/-- The tokens that device `c` pays with: for a cell of its own that it pays itself, and in place of an arrival from `t` those of the arrival at `t`. -/
def given (c : Dev nD) : Kd → sProp 𝕄
  | .bar => each c fun t => dutyTok ER (cell t .bar) 0 c
  | .rsr ch t => toks (F := F) t (.rsr ch c) 0
  | .agr ch t => toks (F := F) t (.agr ch c) 0
  | k => toks (F := F) c k 0

theorem dealt : (bigSep Finset.univ fun c : Dev nD => bigSep Finset.univ (minted (F := F) c)) = bigSep Finset.univ fun c : Dev nD => bigSep Finset.univ (given (F := F) c) := by
  have hb : (bigSep Finset.univ fun c : Dev nD => (each c fun d => dutyTok ER (cell c .bar) 0 d : sProp 𝕄)) = bigSep Finset.univ fun c : Dev nD => each c fun t => dutyTok ER (cell t .bar) 0 c := by
    simp only [each_eq]
    exact bigSep_erase_comm fun c d => dutyTok ER (cell c .bar) 0 d
  have hr (ch : Fin 2) : (bigSep Finset.univ fun c : Dev nD => bigSep Finset.univ fun t : Fin 16 => toks (F := F) c (.rsr ch t) 0)
      = bigSep Finset.univ fun c : Dev nD => bigSep Finset.univ fun t : Fin 16 => toks (F := F) t (.rsr ch c) 0 :=
    bigSep_univ_comm fun (c t : Fin 16) => toks (F := F) c (.rsr ch t) 0
  have ha (ch : Fin 2) : (bigSep Finset.univ fun c : Dev nD => bigSep Finset.univ fun t : Fin 16 => toks (F := F) c (.agr ch t) 0)
      = bigSep Finset.univ fun c : Dev nD => bigSep Finset.univ fun t : Fin 16 => toks (F := F) t (.agr ch c) 0 :=
    bigSep_univ_comm fun (c t : Fin 16) => toks (F := F) c (.agr ch t) 0
  simp only [all_kd, ofSlot, ofChunk, bigSep_sep', minted, given]
  rw [hb, hr, hr, ha, ha]

theorem rounds_le (c : Dev nD) (k : Kd) : rounds c k ≤ 3 := by
  cases k <;> simp only [rounds] <;> first | omega | (split <;> omega)

theorem mint (c : Dev nD) (k : Kd) : (bigSep Finset.univ fun r : Fin 3 => bigSep Finset.univ fun d : Dev nD => (dutyTok ER (cell c k) r d : sProp 𝕄)) ⊢ minted c k := by
  rw [show (bigSep Finset.univ fun r : Fin 3 => bigSep Finset.univ fun d : Dev nD => (dutyTok ER (cell c k) r d : sProp 𝕄)) = bigSep (Finset.range 3) fun r => bigSep Finset.univ fun d : Dev nD => (dutyTok ER (cell c k) r d : sProp 𝕄) from by
    rw [show Finset.range 3 = Finset.univ.map (Fin.valEmbedding (n := 3)) from by decide, bigSep_map]; rfl]
  have h : (bigSep (Finset.range 3) fun r => bigSep Finset.univ fun d : Dev nD => (dutyTok ER (cell c k) r d : sProp 𝕄)) ⊢ toks c k 0 := by
    unfold toks left
    refine BIBase.Entails.trans (bigSep_weaken fun r _ => (bigSep_elim (Finset.mem_univ (0 : Dev nD)) : _ ⊢ (dutyTok ER (cell c k) r 0 : sProp 𝕄))) ?_
    exact bigSep_subset fun r hr => Finset.mem_range.mpr (by have := (Finset.mem_Ico.mp hr).2; have := rounds_le c k; omega)
  cases k
  case bar =>
    show _ ⊢ each c fun d => dutyTok ER (cell c .bar) 0 d
    rw [each_eq]
    refine BIBase.Entails.trans (bigSep_elim (Finset.mem_range.mpr (show 0 < 3 by decide)) : _ ⊢ (bigSep Finset.univ fun d : Dev nD => (dutyTok ER (cell c .bar) 0 d : sProp 𝕄))) ?_
    exact bigSep_subset (Finset.erase_subset _ _)
  all_goals exact h

/-- The launch's tokens, three rounds of every cell by every payer: more than are used. -/
def allToks : Finset (GSem nD τ sig × ℕ × Dev nD) :=
  (Finset.univ : Finset ((Dev nD × Kd) × Fin 3 × Dev nD)).map ⟨fun x => (cell x.1.1 x.1.2, (x.2.1 : ℕ), x.2.2), fun x y h => by
    obtain ⟨h1, h2⟩ := Prod.ext_iff.mp h
    obtain ⟨h3, h4⟩ := Prod.ext_iff.mp h2
    exact Prod.ext (cell_inj h1) (Prod.ext (Fin.ext h3) h4)⟩
def allCells : Finset (GSem nD τ sig) := Finset.univ.map ⟨fun p : Dev nD × Kd => cell p.1 p.2, cell_inj⟩

theorem over_cells (Φ : GSem nD τ sig → sProp 𝕄) : bigSep allCells Φ = bigSep Finset.univ fun c : Dev nD => bigSep Finset.univ fun k => Φ (cell c k) := by
  unfold allCells; rw [bigSep_map, bigSep_univ_prod]; rfl

theorem over_toks : bigSep allToks (fun x => (dutyTok ER x.1 x.2.1 x.2.2 : sProp 𝕄)) ⊢ bigSep Finset.univ fun c : Dev nD => bigSep Finset.univ (given c) := by
  rw [← dealt]
  unfold allToks
  rw [bigSep_map, bigSep_univ_prod, bigSep_univ_prod]
  refine bigSep_weaken fun c _ => bigSep_weaken fun k _ => ?_
  refine BIBase.Entails.trans ?_ (mint c k)
  rw [bigSep_univ_prod]
  exact BIBase.Entails.rfl

/-! ## A device's part -/

/-- The cells of a chunk that stand for the device itself: nothing ever comes through them. -/
def unused (c : Dev nD) (ch : Fin 2) : sProp 𝕄 := iprop(pos (F := F) c (.rss ch c) 0 ∗ pos (F := F) c (.rsr ch c) 0 ∗ pos (F := F) c (.ags ch c) 0 ∗ pos (F := F) c (.agr ch c) 0)
/-- A chunk's cells and tokens. -/
def chunk₀ (c : Dev nD) (ch : Fin 2) : sProp 𝕄 := iprop(rssI (F := F) c ch 0 ∗ (each c fun s => pos (F := F) c (.rsr ch s) 0) ∗ agsI (F := F) c ch 0 ∗ (each c fun s => pos (F := F) c (.agr ch s) 0)
  ∗ idle (F := F) c (.lr ch) 0 ∗ idle (F := F) c (.lx ch) 0)
def slot₀ (c : Dev nD) (s : Fin 2) : sProp 𝕄 := iprop(idle (F := F) c (.w s) 0 ∗ idle (F := F) c (.o s) 0)
def part₀ (c : Dev nD) : sProp 𝕄 := iprop((pos (F := F) c .bar 0 ∗ each c fun t => dutyTok ER (cell t .bar) 0 c)
  ∗ (slot₀ (F := F) c 0 ∗ slot₀ (F := F) c 1) ∗ (chunk₀ (F := F) c 0 ∗ chunk₀ (F := F) c 1) ∗ (unused (F := F) c 0 ∗ unused (F := F) c 1))

theorem to_chunk (c : Dev nD) (ch : Fin 2) : ofChunk (fun k => iprop(pos (F := F) c k 0 ∗ given (F := F) c k)) ch ⊢ iprop(chunk₀ c ch ∗ unused c ch) := by
  unfold ofChunk chunk₀ unused rssI agsI idle
  rw [bigSep_univ_at _ c, bigSep_univ_at (fun t => iprop(pos (F := F) c (.rsr ch t) 0 ∗ given (F := F) c (.rsr ch t))) c,
    bigSep_univ_at (fun t => iprop(pos (F := F) c (.ags ch t) 0 ∗ given (F := F) c (.ags ch t))) c,
    bigSep_univ_at (fun t => iprop(pos (F := F) c (.agr ch t) 0 ∗ given (F := F) c (.agr ch t))) c,
    ← each_eq, ← each_eq, ← each_eq, ← each_eq]
  simp only [each_sep]
  iintro ⟨⟨⟨U1, -⟩, H1, T1⟩, ⟨⟨U2, -⟩, H2, T2⟩, ⟨⟨U3, -⟩, H3, T3⟩, ⟨⟨U4, -⟩, H4, T4⟩, Hr, Hx⟩
  isplitr [U1 U2 U3 U4]
  · isplitl [H1 T1 T2]
    · isplitl [H1 T1]
      · isplitl [H1]; · iexact H1
        iexact T1
      iexact T2
    isplitl [H2]; · iexact H2
    isplitl [H3 T3 T4]
    · isplitl [H3 T3]
      · isplitl [H3]; · iexact H3
        iexact T3
      iexact T4
    isplitl [H4]; · iexact H4
    isplitl [Hr]; · iexact Hr
    iexact Hx
  isplitl [U1]; · iexact U1
  isplitl [U2]; · iexact U2
  isplitl [U3]; · iexact U3
  iexact U4

theorem to_slot (c : Dev nD) (s : Fin 2) : ofSlot (fun k => iprop(pos (F := F) c k 0 ∗ given (F := F) c k)) s ⊢ slot₀ c s := BIBase.Entails.rfl

theorem to_part (c : Dev nD) : (bigSep Finset.univ fun k => iprop(pos (F := F) c k 0 ∗ given (F := F) c k)) ⊢ part₀ c := by
  rw [all_kd]
  unfold part₀
  iintro ⟨Hb, ⟨H0, H1⟩, C0, C1⟩
  isplitl [Hb]; · iexact Hb
  isplitl [H0 H1]
  · isplitl [H0]; · iapply (to_slot (F := F) c 0) $$ H0
    iapply (to_slot (F := F) c 1) $$ H1
  ihave C0 := (to_chunk (F := F) c 0) $$ C0
  ihave C1 := (to_chunk (F := F) c 1) $$ C1
  icases C0 with ⟨C0, U0⟩
  icases C1 with ⟨C1, U1⟩
  isplitl [C0 C1]
  · isplitl [C0] <;> iassumption
  isplitl [U0] <;> iassumption

/-! ## The credit -/

theorem cred_plus (a b : CellTallies nD τ sig ℕ) : (cred (a + b) : sProp 𝕄) = iprop(cred a ∗ cred b) := eq_of (cred_add _ _).1 (cred_add _ _).2
theorem cred_over {α : Type} [DecidableEq α] (s : Finset α) (f : α → CellTallies nD τ sig ℕ) : (cred (∑ x ∈ s, f x) : sProp 𝕄) = bigSep s fun x => cred (f x) := by
  induction s using Finset.induction_on with
  | empty => rw [Finset.sum_empty, cred_zero, bigSep_empty]; rfl
  | insert x s hx ih => rw [Finset.sum_insert hx, cred_plus, ih, bigSep_insert hx]; rfl

/-- What device `c` is owed at the steps of `l`. -/
def owedTo (c : Dev nD) : List St → CellTallies nD τ sig ℕ
  | [] => 0
  | st :: l => (∑ d ∈ Finset.univ.erase c, (due st d c).tally) + owedTo c l

theorem tally_peers (st : St) (d : Dev nD) : tallyL (peers.map fun r => due st d (peer d r)) = ∑ t ∈ Finset.univ.erase d, (due st d t).tally := by
  have h (l : List (Fin 15)) : tallyL (l.map fun r => due st d (peer d r)) = (l.map fun r => (due st d (peer d r)).tally).sum := by
    induction l with
    | nil => rfl
    | cons r l ih => rw [List.map_cons, List.map_cons, List.sum_cons, ← ih]; rfl
  rw [h, ← image_peer d, Finset.sum_map, show (peers : List (Fin 15)) = List.finRange 15 from by decide]
  exact (Fin.sum_univ_def _).symm

theorem tally_swap (l : List St) : (∑ d : Dev nD, tallyL (dues d l)) = ∑ c : Dev nD, owedTo c l := by
  induction l with
  | nil => rfl
  | cons st l ih =>
    have h (d : Dev nD) : tallyL (dues d (st :: l)) = (∑ t ∈ Finset.univ.erase d, (due st d t).tally) + tallyL (dues d l) := by
      rw [dues_cons, TalkSites.tallyL_append, tally_peers]
    simp only [h, owedTo]
    rw [Finset.sum_add_distrib, Finset.sum_add_distrib, ih]
    congr 1
    refine Finset.sum_comm' fun d t => ?_
    simp only [Finset.mem_univ, Finset.mem_erase, true_and, and_true, ne_comm]

theorem owedTo_own (c : Dev nD) (l : List St) (g : GSem nD τ sig) (h : owedTo c l g ≠ 0) : g.1 = (c : Thread nD τ) := by
  by_contra hg
  refine h ?_
  induction l with
  | nil => rfl
  | cons st l ih =>
    unfold owedTo
    rw [Pi.add_apply, Finset.sum_apply]
    rw [Finset.sum_eq_zero fun d _ => tallyAt_ne_cell (fun e => hg (congrArg Prod.fst e)) _ _, zero_add]
    by_contra h'
    exact h' (ih h')

theorem launch_cred (c : Dev nD) (l : List St) : (Pipeline.launchCred (fun d => tallyL (dues d l)) c : sProp 𝕄) = cred (owedTo c l) :=
  Pipeline.launchCred_of_sum _ (fun d => owedTo d l) (tally_swap l) (fun d g h => owedTo_own d l g h) c

theorem cred_owed (c : Dev nD) (l : List St) : (cred (owedTo c l) : sProp 𝕄) = bigSepL l fun st => each c fun d => cred (due st d c).tally := by
  induction l with
  | nil => show cred 0 = _; rw [cred_zero, bigSepL_nil]; rfl
  | cons st l ih =>
    show cred (_ + owedTo c l) = _
    rw [cred_plus, ih, bigSepL_cons', cred_over, each_eq]

theorem cred_bar (c : Dev nD) : (each c fun d => cred (due .bar d c).tally : sProp 𝕄) = cred (tallyAt (cell c .bar) 1 15) := by
  rw [each_eq, ← cred_over]
  have h (n : ℕ) : n • (tallyAt (cell c .bar) 1 1 : CellTallies nD τ sig ℕ) = tallyAt (cell c .bar) 1 n := by
    induction n with
    | zero => rw [zero_nsmul, tallyAt_zero]
    | succ n ih => rw [succ_nsmul, ih, tallyAt_add]
  refine congrArg cred ?_
  refine (Finset.sum_const (tallyAt (cell c .bar) 1 1 : CellTallies nD τ sig ℕ)).trans ?_
  rw [Finset.card_erase_of_mem (Finset.mem_univ _)]
  exact h 15

theorem credR_zero (c : Dev nD) (ch : Fin 2) (s : Dev nD) : credR (F := F) c ch s 0 = iprop(cred (due (.rs 0 ch) s c).tally ∗ cred (due (.rs 1 ch) s c).tally ∗ cred (due (.rs 2 ch) s c).tally) := by
  unfold credR left
  exact bigSep_eq_bigSepL_of_eq (M := 𝕄) (S := Finset.Ico 0 3) [0, 1, 2] (by decide) (by decide) _
theorem credX_zero (c : Dev nD) (ch : Fin 2) (s : Dev nD) : credX (F := F) c ch s 0 = iprop(cred (due (.ag 0 ch) s c).tally ∗ cred (due (.ag 1 ch) s c).tally) := by
  unfold credX left
  exact bigSep_eq_bigSepL_of_eq (M := 𝕄) (S := Finset.Ico 0 2) [0, 1] (by decide) (by decide) _

/-- The credit that the launch gives a device, sorted. -/
theorem credits (c : Dev nD) : (Pipeline.launchCred (fun d => tallyL (dues d steps)) c : sProp 𝕄)
    ⊢ iprop(cred (tallyAt (cell c .bar) 1 15) ∗ ((each c fun s => credR (F := F) c 0 s 0) ∗ (each c fun s => credX (F := F) c 0 s 0))
      ∗ (each c fun s => credR (F := F) c 1 s 0) ∗ (each c fun s => credX (F := F) c 1 s 0)) := by
  rw [launch_cred, cred_owed]
  simp only [credR_zero, credX_zero, each_sep, bigSepL_cons', bigSepL_nil, cred_bar]
  iintro ⟨HB, H1, H2, H3, H4, H5, H6, H7, H8, H9, H10, -⟩
  isplitl [HB]; · iexact HB
  isplitl [H1 H3 H5 H7 H9]
  · isplitl [H1 H5 H9]
    · isplitl [H1]; · iexact H1
      isplitl [H5] <;> iassumption
    isplitl [H3] <;> iassumption
  isplitl [H2 H6 H10]
  · isplitl [H2]; · iexact H2
    isplitl [H6] <;> iassumption
  isplitl [H4] <;> iassumption

/-! ## The ghost state of the launch -/

variable (m : (ℓ : Loc nD τ sig) → Buf (Elt F) ℓ)

/-- What the launch's element deals a device: the records of its own cells, and its part. -/
def G (c : Dev nD) : sProp 𝕄 := iprop((bigSep Finset.univ fun k => roundState ER (sched m) (cell c k) 0) ∗ (bigSep Finset.univ fun k => pos (F := F) c k 0) ∗ bigSep Finset.univ fun k => given (F := F) c k)
/-- The same once the cells are shared. -/
def G' (c : Dev nD) : sProp 𝕄 := iprop(∃ K, allInv m K ∗ (each c fun t => reached ER (cell t .bar) 0) ∗ part₀ c)

theorem fund_all : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst := (Entails.of_eq (over_cells fun g => roundState ER (sched m) g 0)) $$ Hst
  ihave Hat := (Entails.of_eq (over_cells fun g => atPos ER g 0 ∅ 0)) $$ Hat
  ihave Hr := (Entails.of_eq (over_cells fun g => reached ER g 0)) $$ Hr
  ihave Htok := (over_toks (F := F)) $$ Htok
  unfold G pos
  simp only [bigSep_sep']
  isplitl [Hst]; · iexact Hst
  isplitl [Hat Hr]
  · isplitl [Hat] <;> iassumption
  iexact Htok

theorem share_cells : (bigSep Finset.univ fun c : Dev nD => iprop((bigSep Finset.univ fun k => semVal (cell c k) 0) ∗ bigSep Finset.univ fun k => roundState ER (sched m) (cell c k) 0))
    ⊢ |={Set.univ}=> iprop(∃ K, allInv m K) := by
  simp only [← bigSep_sep']
  rw [← bigSep_univ_prod (fun p : Dev nD × Kd => iprop(semVal (cell p.1 p.2) 0 ∗ roundState ER (sched m) (cell p.1 p.2) 0))]
  refine BIBase.Entails.trans (BIBase.Entails.trans (bigSep_weaken fun p _ => BIBase.Entails.trans (Rounds.body_intro ER (sched m) (cell p.1 p.2)) inv_alloc) (bigSep_fupd _ _)) (BI.fupd_mono ?_)
  exact BI.bigSep_exists_pi Finset.univ fun (p : Dev nD × Kd) (κ : ℕ) => (cellInv ER (sched m) κ (cell p.1 p.2) : sProp 𝕄)

theorem all_reached (c : Dev nD) : (bigSep Finset.univ fun d : Dev nD => bigSep Finset.univ fun k => (reached ER (cell d k) 0 : sProp 𝕄)) ⊢ each c fun t => reached ER (cell t .bar) 0 := by
  rw [each_eq]
  refine BIBase.Entails.trans (bigSep_weaken fun d _ => (bigSep_elim (Finset.mem_univ Kd.bar) : _ ⊢ (reached ER (cell d .bar) 0 : sProp 𝕄))) ?_
  exact bigSep_subset (Finset.erase_subset _ _)

theorem give (K : Dev nD × Kd → ℕ) (c : Dev nD) : iprop((allInv m K ∗ bigSep Finset.univ fun d : Dev nD => bigSep Finset.univ fun k => (reached ER (cell d k) 0 : sProp 𝕄))
    ∗ bigSep Finset.univ fun k => iprop(pos (F := F) c k 0 ∗ given (F := F) c k)) ⊢ G' m c := by
  unfold G'
  iintro ⟨⟨#HI, #HR⟩, H⟩
  iexists K
  isplitr; · iexact HI
  isplitr; · iapply (all_reached (F := F) c); iexact HR
  iapply (to_part (F := F) c) $$ H

theorem glob : (bigSep Finset.univ fun c : Dev nD => iprop((bigSep Finset.univ fun k => semVal (cell c k) 0) ∗ G m c)) ⊢ |={Set.univ}=> bigSep Finset.univ (G' m) := by
  unfold G
  simp only [bigSep_sep']
  iintro ⟨Hv, Hst, Hp, Ht⟩
  imod (share_cells m) $$ [Hv Hst] with ⟨%K, #HI⟩
  · rw [bigSep_sep']; isplitl [Hv] <;> iassumption
  imodintro
  unfold pos
  simp only [bigSep_sep']
  icases Hp with ⟨Ha, #HR⟩
  iapply (BI.bigSep_with_persistent (R := iprop(allInv m K ∗ bigSep Finset.univ fun d : Dev nD => bigSep Finset.univ fun k => (reached ER (cell d k) 0 : sProp 𝕄)))
    (Φ := fun c => bigSep Finset.univ fun k => iprop(pos (F := F) c k 0 ∗ given (F := F) c k)) fun c _ => give m K c)
  isplitr
  · isplitr; · iexact HI
    iexact HR
  unfold pos
  simp only [bigSep_sep']
  isplitl [Ha]
  · isplitl [Ha]; · iexact Ha
    iexact HR
  iexact Ht

/-- Everything that the body needs of the ghost state. -/
theorem ghost_start (c : Dev nD) : iprop((each c fun t => reached ER (cell t .bar) 0) ∗ part₀ (F := F) c ∗ Pipeline.launchCred (fun d => tallyL (dues d steps)) c)
    ⊢ iprop((slot₀ (F := F) c 0 ∗ slot₀ (F := F) c 1) ∗ entry (F := F) c
      ∗ ((rssI (F := F) c 0 0 ∗ recR (F := F) c 0 0 ∗ agsI (F := F) c 0 0 ∗ recX (F := F) c 0 0 ∗ idle (F := F) c (.lr 0) 0 ∗ idle (F := F) c (.lx 0) 0)
        ∗ (rssI (F := F) c 1 0 ∗ recR (F := F) c 1 0 ∗ agsI (F := F) c 1 0 ∗ recX (F := F) c 1 0 ∗ idle (F := F) c (.lr 1) 0 ∗ idle (F := F) c (.lx 1) 0))
      ∗ (unused (F := F) c 0 ∗ unused (F := F) c 1)) := by
  unfold part₀ chunk₀ entry recR recX
  simp only [each_sep]
  iintro ⟨HR, ⟨⟨HP, HT⟩, HS, ⟨⟨A1, A2, A3, A4, A5, A6⟩, B1, B2, B3, B4, B5, B6⟩, HU⟩, HC⟩
  ihave HC := (credits (F := F) c) $$ HC
  icases HC with ⟨HB, ⟨CA, CA'⟩, CB, CB'⟩
  isplitl [HS]; · iexact HS
  isplitl [HR HP HT HB]
  · isplitl [HR HT]
    · isplitl [HT] <;> iassumption
    isplitl [HP] <;> iassumption
  isplitr [HU]
  · isplitl [A1 A2 A3 A4 A5 A6 CA CA']
    · isplitl [A1]; · iexact A1
      isplitl [A2 CA]
      · isplitl [A2] <;> iassumption
      isplitl [A3]; · iexact A3
      isplitl [A4 CA']
      · isplitl [A4] <;> iassumption
      isplitl [A5] <;> iassumption
    isplitl [B1]; · iexact B1
    isplitl [B2 CB]
    · isplitl [B2] <;> iassumption
    isplitl [B3]; · iexact B3
    isplitl [B4 CB']
    · isplitl [B4] <;> iassumption
    isplitl [B5] <;> iassumption
  iexact HU

end Cert.KernelIdeal.Mlp

end
-- ==== Proof.Ends.lean ====
/-
  The two ends of the body: what the launch hands a device is what the body starts with, and what the body ends with closes every cell and gives the buffers back whole.
-/
module

public import proofs.«01_k».proof.Proof.Deal
public import proofs.«01_k».proof.Proof.Gen.KernelIdeal.Launch

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Kd → ℕ) (c : Dev nD)

/-! ## The buffers -/

/-- A buffer of device `c` that holds something. -/
abbrev any (b : Ref sig .tc) : sProp 𝕄 := iprop(∃ f : Buf (Elt F) ((c : Thread nD τ).loc b), ((c : Thread nD τ).loc b) ↦{fullShare} f)

/-- A chunk's places of the buffers. -/
def places (ch : Fin 2) : sProp 𝕄 := iprop(ours (F := F) c ch pM ∗ some' (F := F) c (blk pM ch c) ∗ ours (F := F) c ch rsM ∗ some' (F := F) c (blk rsM ch c) ∗ ours (F := F) c ch xbM ∗ some' (F := F) c (blk xbM ch c) ∗ some' (F := F) c (row rM ch))
def slots (s : Fin 2) : sProp 𝕄 := iprop(some' (F := F) c (wslot wM s) ∗ some' (F := F) c (oslot oM s))

theorem blocks_chunks (M : Memref sig .tc .vmem S16x4x1024 .f32) :
    allBlk (F := F) c M = iprop((some' (F := F) c (blk M 0 c) ∗ ours (F := F) c 0 M) ∗ (some' (F := F) c (blk M 1 c) ∗ ours (F := F) c 1 M)) := by
  unfold allBlk ours
  rw [bigSep_univ_prod, bigSep_univ_two, bigSep_univ_at _ c, bigSep_univ_at (fun t => some' (F := F) c (blk M 1 t)) c, each_eq, each_eq]

theorem scratch_eq : iprop(any (F := F) c cc0_scratch0 ∗ any (F := F) c cc0_scratch1 ∗ any (F := F) c cc0_scratch2 ∗ any (F := F) c cc0_scratch3 ∗ any (F := F) c cc0_scratch4 ∗ any (F := F) c cc0_scratch5)
    = iprop((slots (F := F) c 0 ∗ slots (F := F) c 1) ∗ (places (F := F) c 0 ∗ places (F := F) c 1)) := by
  unfold any
  rw [split_w, split_o, split_xb, split_p, split_r, split_rs, bigSep_univ_two, bigSep_univ_two, bigSep_univ_two, blocks_chunks, blocks_chunks, blocks_chunks]
  unfold slots places
  refine eq_of ?_ ?_
  · iintro ⟨⟨A0, A1⟩, ⟨B0, B1⟩, ⟨⟨C0, D0⟩, C1, D1⟩, ⟨⟨G0, H0⟩, G1, H1⟩, ⟨I0, I1⟩, ⟨J0, L0⟩, J1, L1⟩
    isplitl [A0 A1 B0 B1]
    · isplitl [A0 B0]
      · isplitl [A0] <;> iassumption
      isplitl [A1] <;> iassumption
    isplitl [C0 D0 G0 H0 I0 J0 L0]
    · isplitl [H0]; · iexact H0
      isplitl [G0]; · iexact G0
      isplitl [L0]; · iexact L0
      isplitl [J0]; · iexact J0
      isplitl [D0]; · iexact D0
      isplitl [C0] <;> iassumption
    isplitl [H1]; · iexact H1
    isplitl [G1]; · iexact G1
    isplitl [L1]; · iexact L1
    isplitl [J1]; · iexact J1
    isplitl [D1]; · iexact D1
    isplitl [C1] <;> iassumption
  · iintro ⟨⟨⟨A0, B0⟩, A1, B1⟩, ⟨H0, G0, L0, J0, D0, C0, I0⟩, H1, G1, L1, J1, D1, C1, I1⟩
    isplitl [A0 A1]
    · isplitl [A0] <;> iassumption
    isplitl [B0 B1]
    · isplitl [B0] <;> iassumption
    isplitl [C0 D0 C1 D1]
    · isplitl [C0 D0]
      · isplitl [C0] <;> iassumption
      isplitl [C1] <;> iassumption
    isplitl [G0 H0 G1 H1]
    · isplitl [G0 H0]
      · isplitl [G0] <;> iassumption
      isplitl [G1] <;> iassumption
    isplitl [I0 I1]
    · isplitl [I0] <;> iassumption
    isplitl [J0 L0]
    · isplitl [J0] <;> iassumption
    isplitl [J1] <;> iassumption

/-- A whole array as the launch leaves it. -/
theorem hold_arr (b : Ref sig .tc) (g : Buf (Elt F) ((c : Thread nD τ).loc b)) :
    (hold c (Memref.whole b) fullShare ((Memref.whole b).view.read (Elt F) g) : sProp 𝕄) = (((c : Thread nD τ).loc b) ↦{fullShare} g) := by
  rw [← hold_of_read c (Memref.whole b) fullShare _ g rfl]
  exact congrArg (fun S => (((c : Thread nD τ).loc b) ↦[S]{fullShare} g : sProp 𝕄)) (View.set_whole _)

/-- The weights are the arrays that are no window's. -/
theorem weights_eq : iprop(weights m c 0 ∗ weights m c 1 ∗ weights m c 2) = (Pipeline.unscopedRest cfg0.spec c (fun b => m ((c : Thread nD τ).loc b)) : sProp 𝕄) := by
  show _ = (Pipeline.unscopedRest spec0 c (fun b => m ((c : Thread nD τ).loc b)) : sProp 𝕄)
  rw [unscopedRest0_eq]
  unfold weights win wout
  rw [show (hold c (winM 0) fullShare ((winM 0).view.read (Elt F) (m ((winM 0).view.loc (c : Thread nD τ)))) : sProp 𝕄) = _ from hold_arr c main_arg1 _,
    show (hold c (winM 1) fullShare ((winM 1).view.read (Elt F) (m ((winM 1).view.loc (c : Thread nD τ)))) : sProp 𝕄) = _ from hold_arr c main_arg3 _,
    show (hold c (winM 2) fullShare ((winM 2).view.read (Elt F) (m ((winM 2).view.loc (c : Thread nD τ)))) : sProp 𝕄) = _ from hold_arr c main_arg5 _,
    show (hold c (woutM 0) fullShare ((woutM 0).view.read (Elt F) (m ((woutM 0).view.loc (c : Thread nD τ)))) : sProp 𝕄) = _ from hold_arr c main_arg2 _,
    show (hold c (woutM 1) fullShare ((woutM 1).view.read (Elt F) (m ((woutM 1).view.loc (c : Thread nD τ)))) : sProp 𝕄) = _ from hold_arr c main_arg4 _,
    show (hold c (woutM 2) fullShare ((woutM 2).view.read (Elt F) (m ((woutM 2).view.loc (c : Thread nD τ)))) : sProp 𝕄) = _ from hold_arr c main_arg6 _]
  refine eq_of ?_ ?_
  · iintro ⟨⟨A, B⟩, ⟨C, D⟩, H, J⟩
    isplitl [A]; · iexact A
    isplitl [B]; · iexact B
    isplitl [C]; · iexact C
    isplitl [D]; · iexact D
    isplitl [H] <;> iassumption
  · iintro ⟨A, B, C, D, H, J⟩
    isplitl [A B]
    · isplitl [A] <;> iassumption
    isplitl [C D]
    · isplitl [C] <;> iassumption
    isplitl [H] <;> iassumption

/-- Two chunks side by side. -/
def glue (X : Fin 2 → FVec F S4x512 .f32) : FVec F S4x1024 .f32 := fun i =>
  X (atRow i) fun a => match a with
    | ⟨0, _⟩ => i 0
    | ⟨1, _⟩ => ⟨(i 1).val % 512, Nat.mod_lt _ (by decide)⟩

theorem glue_row (X : Fin 2 → FVec F S4x512 .f32) (ch : Fin 2) : (row outM ch).view.read (Elt F) (glue X) = X ch := by
  funext j
  have h1 : (j 1).val < 512 := (j 1).isLt
  show glue X _ = X ch j
  unfold glue
  refine congrArg₂ X (Fin.ext ?_) (funext fun a => Fin.ext ?_)
  · show (512 * ch.val + 1 * (j 1).val) / 512 = ch.val; omega
  · fin_cases a
    · show 0 + 1 * (j 0).val = (j 0).val; omega
    · show (512 * ch.val + 1 * (j 1).val) % 512 = (j 1).val; omega

theorem out_any : any (F := F) c cc0_stg1_0 = iprop(some' (F := F) c (row outM 0) ∗ some' (F := F) c (row outM 1)) := by
  rw [← bigSep_univ_two fun ch => some' (F := F) c (row outM ch)]
  exact split_whole c cc0_stg1_0 _ rowR atRow mem_rowR fun ch => some_eq c (row outM ch)

theorem out_row (X : Fin 2 → FVec F S4x512 .f32) (ch : Fin 2) :
    (hold c (row outM ch) fullShare (X ch) : sProp 𝕄) = (((c : Thread nD τ).loc cc0_stg1_0) ↦[(rowR ch).set]{fullShare} glue X) := by
  rw [← hold_of_read c (row outM ch) fullShare (X ch) (glue X) (glue_row X ch)]
  exact congrArg (fun S => (((c : Thread nD τ).loc cc0_stg1_0) ↦[S]{fullShare} glue X : sProp 𝕄)) (View.set_slice_whole _ _)

theorem rows_disj (b b' : Fin 2) (hb : b ≠ b') : Disjoint (rowR b).set (rowR b').set :=
  Finset.disjoint_left.mpr fun i hi hi' => hb (((mem_rowR i b).mp hi).symm.trans ((mem_rowR i b').mp hi'))
theorem rows_all : Finset.univ.biUnion (fun ch => (rowR ch).set) = Finset.univ :=
  Finset.eq_univ_of_forall fun i => Finset.mem_biUnion.mpr ⟨atRow i, Finset.mem_univ _, (mem_rowR i _).mpr rfl⟩

theorem out_join (X : Fin 2 → FVec F S4x512 .f32) :
    iprop(hold c (row outM 0) fullShare (X 0) ∗ hold c (row outM 1) fullShare (X 1)) = (((c : Thread nD τ).loc cc0_stg1_0) ↦{fullShare} glue X : sProp 𝕄) := by
  rw [out_row, out_row]
  have h := Ring.pointsTo_blocks (Ix := ℕ) (Val := Elt F) (Name := ℕ) (U := UU) (Lvl := ℕ) (ℓ := (c : Thread nD τ).loc cc0_stg1_0) (q := fullShare) (fun ch : Fin 2 => ((rowR ch).set : Finset (Idx ((c : Thread nD τ).loc cc0_stg1_0)))) rows_disj rows_all (glue X)
  rw [bigSep_univ_two] at h
  exact h.symm

/-! ## The cells at the end -/

/-- A cell past its last round. -/
def over (k : Kd) : sProp 𝕄 := iprop(∃ R, ⌜rounds c k ≤ R⌝ ∗ atPos ER (cell c k) R ∅ 0)

theorem over_pos {k : Kd} {R : ℕ} (h : rounds c k ≤ R) : pos (F := F) c k R ⊢ over (F := F) c k := by
  unfold pos over
  iintro ⟨H, -⟩
  iexists R
  isplitr; · ipureintro; exact h
  iexact H

theorem over_idle {k : Kd} {R : ℕ} (h : rounds c k ≤ R) : idle (F := F) c k R ⊢ over (F := F) c k := by
  unfold idle
  iintro ⟨H, -⟩
  iapply (over_pos (F := F) c h) $$ H

theorem close_cell (k : Kd) : iprop(env m K ∗ over (F := F) c k) ⊢ |={Set.univ}=> (semVal (cell c k) 0 : sProp 𝕄) := by
  unfold over
  iintro ⟨HE, %R, %h, H⟩
  iapply (Rounds.cell_close ER (sched m) (κ := K (c, k)) (Es := Set.univ) (Set.mem_univ _) (fun h => h) (R := R) fun r hr => by
    rw [duties_cell]; exact payers_late c k (h.trans hr))
  isplitl [HE]; · iapply (env_inv m K c k) $$ HE
  iexact H

theorem close_all : iprop(env m K ∗ bigSep Finset.univ fun k => over (F := F) c k) ⊢ |={Set.univ}=> (bigSep Finset.univ fun k => semVal (cell c k) 0 : sProp 𝕄) :=
  BIBase.Entails.trans (BI.bigSep_with_persistent (R := env m K) fun k _ => close_cell m K c k) (bigSep_fupd _ _)

/-- A chunk's cells at the end. -/
def ends (ch : Fin 2) : sProp 𝕄 := iprop(rssI (F := F) c ch 3 ∗ recR (F := F) c ch 3 ∗ agsI (F := F) c ch 2 ∗ recX (F := F) c ch 2 ∗ idle (F := F) c (.lr ch) 3 ∗ idle (F := F) c (.lx ch) 2)

theorem over_chunk (ch : Fin 2) : iprop(ends (F := F) c ch ∗ unused (F := F) c ch) ⊢ ofChunk (fun k => over (F := F) c k) ch := by
  unfold ends unused ofChunk rssI recR agsI recX
  rw [bigSep_univ_at _ c, bigSep_univ_at (fun t => over (F := F) c (.rsr ch t)) c, bigSep_univ_at (fun t => over (F := F) c (.ags ch t)) c,
    bigSep_univ_at (fun t => over (F := F) c (.agr ch t)) c, ← each_eq, ← each_eq, ← each_eq, ← each_eq]
  simp only [each_sep]
  iintro ⟨⟨⟨H1, -⟩, ⟨H2, -⟩, ⟨H3, -⟩, ⟨H4, -⟩, H5, H6⟩, U1, U2, U3, U4⟩
  have z {k : Kd} (h : rounds c k = 0) : pos (F := F) c k 0 ⊢ over (F := F) c k := over_pos c h.le
  isplitl [H1 U1]
  · isplitl [U1]; · iapply (z (k := .rss ch c) (if_pos rfl)) $$ U1
    iapply (each_mono (F := F) c fun t _ => over_idle c (k := .rss ch t) (R := 3) (rounds_le c _)) $$ H1
  isplitl [H2 U2]
  · isplitl [U2]; · iapply (z (k := .rsr ch c) (if_pos rfl)) $$ U2
    iapply (each_mono (F := F) c fun t _ => over_pos c (k := .rsr ch t) (R := 3) (rounds_le c _)) $$ H2
  isplitl [H3 U3]
  · isplitl [U3]; · iapply (z (k := .ags ch c) (if_pos rfl)) $$ U3
    iapply (each_mono (F := F) c fun t _ => over_idle c (k := .ags ch t) (R := 2) (by simp only [rounds]; split <;> omega)) $$ H3
  isplitl [H4 U4]
  · isplitl [U4]; · iapply (z (k := .agr ch c) (if_pos rfl)) $$ U4
    iapply (each_mono (F := F) c fun t _ => over_pos c (k := .agr ch t) (R := 2) (by simp only [rounds]; split <;> omega)) $$ H4
  isplitl [H5]; · iapply (over_idle (F := F) c (k := .lr ch) (R := 3) (rounds_le c _)) $$ H5
  iapply (over_idle (F := F) c (k := .lx ch) (R := 2) (le_refl 2)) $$ H6

theorem over_all : iprop((slot (F := F) c 0 2 ∗ slot (F := F) c 1 1) ∗ pos (F := F) c .bar 1 ∗ (ends (F := F) c 0 ∗ ends (F := F) c 1) ∗ (unused (F := F) c 0 ∗ unused (F := F) c 1))
    ⊢ iprop((bigSep Finset.univ fun k => over (F := F) c k) ∗ slots (F := F) c 0 ∗ slots (F := F) c 1) := by
  rw [all_kd]
  unfold slot slots ofSlot
  iintro ⟨⟨⟨A, B, P, Q⟩, C, D, R, S⟩, HB, ⟨E0, E1⟩, U0, U1⟩
  isplitr [P Q R S]
  · isplitl [HB]; · iapply (over_pos (F := F) c (k := .bar) (R := 1) (le_refl 1)) $$ HB
    isplitl [A B C D]
    · isplitl [A B]
      · isplitl [A]; · iapply (over_idle (F := F) c (k := .w 0) (R := 2) (le_refl 2)) $$ A
        iapply (over_idle (F := F) c (k := .o 0) (R := 2) (le_refl 2)) $$ B
      isplitl [C]; · iapply (over_idle (F := F) c (k := .w 1) (R := 1) (le_refl 1)) $$ C
      iapply (over_idle (F := F) c (k := .o 1) (R := 1) (le_refl 1)) $$ D
    isplitl [E0 U0]
    · iapply (over_chunk (F := F) c 0); isplitl [E0] <;> iassumption
    iapply (over_chunk (F := F) c 1); isplitl [E1] <;> iassumption
  isplitl [P Q]
  · isplitl [P] <;> iassumption
  isplitl [R] <;> iassumption

/-- What a device's launch state is besides the cells' invariants. -/
def dealtTo : sProp 𝕄 := iprop((each c fun t => reached ER (cell t .bar) 0) ∗ part₀ (F := F) c ∗ Pipeline.launchCred (fun d => tallyL (dues d steps)) c)
/-- The buffers of the kernel's own. -/
def scratch : sProp 𝕄 := iprop((slots (F := F) c 0 ∗ slots (F := F) c 1) ∗ (places (F := F) c 0 ∗ places (F := F) c 1))

theorem to_slots (s : Fin 2) : iprop(slot₀ (F := F) c s ∗ slots (F := F) c s) ⊢ slot (F := F) c s 0 := by
  unfold slot₀ slots slot
  iintro ⟨⟨A, B⟩, C, D⟩
  isplitl [A]; · iexact A
  isplitl [B]; · iexact B
  isplitl [C] <;> iassumption

theorem to_Z (ch : Fin 2) : iprop((rssI (F := F) c ch 0 ∗ recR (F := F) c ch 0 ∗ agsI (F := F) c ch 0 ∗ recX (F := F) c ch 0 ∗ idle (F := F) c (.lr ch) 0 ∗ idle (F := F) c (.lx ch) 0) ∗ places (F := F) c ch)
    ⊢ Z₀ (F := F) c ch := by
  unfold places Z₀
  iintro ⟨⟨A, B, C, D, H, J⟩, P, Q, R, S, T, U, V⟩
  isplitl [A]; · iexact A
  isplitl [B]; · iexact B
  isplitl [C]; · iexact C
  isplitl [D]; · iexact D
  isplitl [P]; · iexact P
  isplitl [Q]; · iexact Q
  isplitl [R]; · iexact R
  isplitl [S]; · iexact S
  isplitl [T]; · iexact T
  isplitl [U]; · iexact U
  isplitl [V]; · iexact V
  isplitl [H] <;> iassumption

/-- The launch's hand is the body's start. -/
theorem begin_body : iprop(dealtTo (F := F) c ∗ (weights m c 0 ∗ weights m c 1 ∗ weights m c 2) ∗ scratch (F := F) c
      ∗ (((c : Thread nD τ).loc cc0_stg0_0) ↦{fullShare} xIn m c) ∗ any (F := F) c cc0_stg1_0 ∗ owe (F := F) c (dues c steps))
    ⊢ iprop(Start m c ∗ (unused (F := F) c 0 ∗ unused (F := F) c 1)) := by
  rw [out_any, ← hold_x]
  unfold dealtTo scratch Start
  iintro ⟨HD, HW, ⟨HSL, HP0, HP1⟩, Hx, Ho, HO⟩
  ihave HD := (ghost_start (F := F) c) $$ HD
  icases HD with ⟨HS, HE, ⟨HG0, HG1⟩, HU⟩
  isplitr [HU]
  · isplitl [Hx]; · iexact Hx
    isplitl [Ho]; · iexact Ho
    isplitl [HW]; · iexact HW
    isplitl [HS HSL]
    · icases HS with ⟨H0, H1⟩
      icases HSL with ⟨K0, K1⟩
      isplitl [H0 K0]
      · iapply (to_slots (F := F) c 0); isplitl [H0] <;> iassumption
      iapply (to_slots (F := F) c 1); isplitl [H1] <;> iassumption
    isplitl [HE]; · iexact HE
    isplitr [HO]
    · isplitl [HG0 HP0]
      · iapply (to_Z (F := F) c 0); isplitl [HG0] <;> iassumption
      iapply (to_Z (F := F) c 1); isplitl [HG1] <;> iassumption
    iexact HO
  iexact HU

/-- The body's end closes the cells and gives the buffers back. -/
theorem finish_body : iprop(env m K ∗ Done m c ∗ (unused (F := F) c 0 ∗ unused (F := F) c 1))
    ⊢ |={Set.univ}=> iprop((bigSep Finset.univ fun k => semVal (cell c k) 0) ∗ (weights m c 0 ∗ weights m c 1 ∗ weights m c 2) ∗ scratch (F := F) c
      ∗ (((c : Thread nD τ).loc cc0_stg0_0) ↦{fullShare} xIn m c) ∗ (((c : Thread nD τ).loc cc0_stg1_0) ↦{fullShare} glue fun ch => red m 2 ch c) ∗ owe (F := F) c []) := by
  rw [← out_join c fun ch => red m 2 ch c, ← hold_x]
  unfold Done E scratch places
  iintro ⟨HE, ⟨Hx, Ho, HW, HS, HB, ⟨⟨A1, A2, A3, A4, A5, A6, A7, A8, A9, A10, A11, A12, A13⟩, B1, B2, B3, B4, B5, B6, B7, B8, B9, B10, B11, B12, B13⟩, HO⟩, HU⟩
  ihave H := (over_all (F := F) c) $$ [HS HB A1 A2 A3 A4 A12 A13 B1 B2 B3 B4 B12 B13 HU]
  · unfold ends
    isplitl [HS]; · iexact HS
    isplitl [HB]; · iexact HB
    isplitr [HU]
    · isplitl [A1 A2 A3 A4 A12 A13]
      · isplitl [A1]; · iexact A1
        isplitl [A2]; · iexact A2
        isplitl [A3]; · iexact A3
        isplitl [A4]; · iexact A4
        isplitl [A12] <;> iassumption
      isplitl [B1]; · iexact B1
      isplitl [B2]; · iexact B2
      isplitl [B3]; · iexact B3
      isplitl [B4]; · iexact B4
      isplitl [B12] <;> iassumption
    iexact HU
  icases H with ⟨H, HS⟩
  imod (close_all m K c) $$ [HE H] with H
  · isplitl [HE] <;> iassumption
  imodintro
  isplitl [H]; · iexact H
  isplitl [HW]; · iexact HW
  isplitl [HS A5 A6 A7 A8 A9 A10 A11 B5 B6 B7 B8 B9 B10 B11]
  · isplitl [HS]; · iexact HS
    isplitl [A5 A6 A7 A8 A9 A10 A11]
    · isplitl [A5]; · iexact A5
      isplitl [A6]; · iexact A6
      isplitl [A7]; · iexact A7
      isplitl [A8]; · iexact A8
      isplitl [A9]; · iexact A9
      isplitl [A10] <;> iassumption
    isplitl [B5]; · iexact B5
    isplitl [B6]; · iexact B6
    isplitl [B7]; · iexact B7
    isplitl [B8]; · iexact B8
    isplitl [B9]; · iexact B9
    isplitl [B10] <;> iassumption
  isplitl [Hx]; · iexact Hx
  isplitl [Ho] <;> iassumption

end Cert.KernelIdeal.Mlp

end
-- ==== Proof.BodyEq.lean ====
/-
  The kernel's body is the program of `Body`: both are the same row of operations.
-/
module

public import proofs.«01_k».proof.Proof.Body
public import Idealize.ShloMosaic.Lib.Pipeline.Regions

@[expose] public section

noncomputable section

namespace Cert.KernelIdeal.Mlp

open Idealize.ShloMosaic Idealize.ShloMosaic.TcCoe Idealize.SL.Sem
open Cert.KernelIdeal Cert.KernelIdeal.Gen

variable {F : FTy → Type} [FloatOps F]

set_option maxRecDepth 100000 in
/-- The body's skeleton is the row of groups. -/
theorem body_eq (a : Args) :
    (cc0_body_skel a.x a.hx a.win0 a.hwin0 a.wout0 a.hwout0 a.win1 a.hwin1 a.wout1 a.hwout1 a.win2 a.hwin2 a.wout2 a.hwout2 a.out a.hout a.wbuf a.hwbuf a.obuf a.hobuf
      a.xbuf a.hxbuf a.p a.hp a.r a.hr a.rs a.hrs a.wsem a.osem a.lsem a.rss a.rsr a.ags a.agr : Pr F) = bodyS a := by
  chain_rfl

end Cert.KernelIdeal.Mlp

end
-- ==== Proof.Launch.lean ====
/-
  The launch: the run of all devices from any memory, and what it leaves.
-/
module

public import proofs.«01_k».proof.Proof.Ends
public import proofs.«01_k».proof.Proof.BodyEq
public import proofs.«01_k».proof.Proof.Gen.KernelIdeal.Points
public import Idealize.ShloMosaic.Lib.Pipeline.CollectiveSegs
public import Idealize.ShloMosaic.Lib.Pipeline.ValueKit

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds
open Idealize.ShloMosaic.SiteBlocks (L lv)
open Idealize.ShloMosaic.TalkSites (Pay tallyL)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (K : Dev nD × Kd → ℕ) (c : Dev nD)

/-! ## The semaphores -/

/-- The kernel's own semaphores: all but the handshake's. -/
abbrev osem (k : {k : Kd // k ≠ .bar}) : SemLoc sig := semOf k.1

theorem dma_scoped : ∀ x : DmaSem sig, (SemLoc.dma x : SemLoc sig).isScoped .tc = true := by decide +kernel
theorem stage_lt : ∀ (w : Fin 2) (s : Fin (spec0 w).nbuf), ((spec0 w).sem s).val < 2 := by decide
theorem two_le_num (k : Kd) (hk : k ≠ .bar) : 2 ≤ num k := by
  cases k
  case bar => exact absurd rfl hk
  all_goals (simp only [num]; omega)

theorem ownSemFacts : Pipeline.OwnSemFacts cfg0.spec osem where
  isScoped k := by
    obtain ⟨k, hk⟩ := k
    cases k
    case bar => exact absurd rfl hk
    all_goals exact dma_scoped _
  inj k k' h := Subtype.ext (semOf_inj h)
  disj k w s h := by
    have h1 := num_eq k.1
    rw [show semOf k.1 = _ from h] at h1
    exact absurd (h1 ▸ stage_lt w s) (Nat.not_lt.mpr (two_le_num k.1 k.2))

theorem unscoped_eq : (unscopedSems0 c : sProp 𝕄) = semVal (cell c .bar) 0 := by
  unfold unscopedSems0; rw [bigSep_eq_bigSepL_of_eq [semOf .bar] (by decide +kernel) (by decide)]; rfl

theorem sems_eq : iprop(Pipeline.ownSems0 (Ix := ℕ) (Name := ℕ) (U := UU) (Lvl := ℕ) (Val := Elt F) (τ := τ) osem c ∗ unscopedSems0 c)
    = (bigSep Finset.univ fun k => semVal (cell c k) 0 : sProp 𝕄) := by
  rw [unscoped_eq, bigSep_univ_at _ Kd.bar]
  unfold Pipeline.ownSems0
  rw [bigSep_subtype_ne Kd.bar fun k => (semVal (cell c k) 0 : sProp 𝕄)]
  refine eq_of ?_ ?_ <;> · iintro ⟨A, B⟩; isplitl [B] <;> iassumption

/-! ## The data of the pipeline -/

abbrev O₀ (d : Dev nD) : CellTallies nD τ sig ℕ := tallyL (dues d steps)
abbrev rest : sProp 𝕄 := Pipeline.unscopedRest cfg0.spec c (fun b => m ((c : Thread nD τ).loc b))

def start : sProp 𝕄 := iprop((∃ K, env m K ∗ dealtTo (F := F) c) ∗ rest m c)
def Φ₀ : sProp 𝕄 := iprop(start m c ∗ scratch (F := F) c)
def Φ₁ : sProp 𝕄 := iprop((bigSep Finset.univ fun k => semVal (cell c k) 0) ∗ rest m c ∗ scratch (F := F) c)
/-- The block that the device writes. -/
def outAt : FVec F S4x1024 .f32 := glue fun ch => red m 2 ch c

def dats (_ : Fin 1) (c : Dev nD) : Dat τ (Elt F) ℕ ℕ UU ℕ cfg0 c where
  A w := m ((cfg0.win w).arr.view.loc (c : Thread nD τ))
  after w _ := match w with
    | ⟨0, _⟩ => xIn m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (w : Fin cfg0.W) : (dats m 0 c).share w = fullShare := by unfold Dat.share; split <;> rfl

theorem whole_eq (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The input's one block is the array. -/
theorem read_in (t : Fin cfg0.N) : ((cfg0.win (0 : Fin 2)).blk t).view.read (Elt F) (m ((c : Thread nD τ).loc main_arg0)) = xIn m c := by
  funext i
  refine congrArg (m ((c : Thread nD τ).loc main_arg0)) (funext fun a => Fin.ext ?_)
  fin_cases a
  · show 0 + 1 * (i 0).val = (i 0).val; omega
  · show 0 + 1 * (i 1).val = (i 1).val; omega

/-! ## The body -/

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre : sProp 𝕄 := iprop(Φ₀ m c ∗ (dats m 0 c).owesAt 0 t0_0.castSucc
  ∗ (∃ d, stg c cc0_stg0_0 ((dats m 0 c).before (0 : Fin 2) t0_0 d)) ∗ (∃ d, stg c cc0_stg1_0 ((dats m 0 c).before (1 : Fin 2) t0_0 d)))
def bodyPost : sProp 𝕄 := iprop(Φ₁ m c ∗ (dats m 0 c).owesAt 0 t0_0.succ ∗ stg c cc0_stg0_0 (xIn m c) ∗ stg c cc0_stg1_0 (outAt m c))

/-- A run that ends with `Q` beside what it did not touch. -/
theorem run_with (p : Pr F) (Q R Q' : sProp 𝕄) (h : iprop(Q ∗ R) ⊢ Q') : iprop(run c p Q ∗ R) ⊢ run c p Q' :=
  BIBase.Entails.trans (wp_frame_r frame (wpE (defs₀ (F := F)) 𝒱₀ (c : Thread nD τ) none) Set.univ)
    (wp_mono frame (wpE (defs₀ (F := F)) 𝒱₀ (c : Thread nD τ) none) Set.univ fun _ => h)
theorem run_to (p : Pr F) (Q Q' : sProp 𝕄) (h : Q ⊢ Q') : run c p Q ⊢ run c p Q' :=
  wp_mono frame (wpE (defs₀ (F := F)) 𝒱₀ (c : Thread nD τ) none) Set.univ fun _ => h

/-- From the launch's hand to the end. -/
theorem run_all : iprop(env m K ∗ dealtTo (F := F) c ∗ (weights m c 0 ∗ weights m c 1 ∗ weights m c 2) ∗ scratch (F := F) c
      ∗ (((c : Thread nD τ).loc cc0_stg0_0) ↦{fullShare} xIn m c) ∗ any (F := F) c cc0_stg1_0 ∗ owe (F := F) c (dues c steps))
    ⊢ run c (bodyS args) iprop((bigSep Finset.univ fun k => semVal (cell c k) 0) ∗ (weights m c 0 ∗ weights m c 1 ∗ weights m c 2) ∗ scratch (F := F) c
      ∗ (((c : Thread nD τ).loc cc0_stg0_0) ↦{fullShare} xIn m c) ∗ (((c : Thread nD τ).loc cc0_stg1_0) ↦{fullShare} outAt m c) ∗ owe (F := F) c []) := by
  iintro ⟨#HE, H⟩
  ihave H := (begin_body m c) $$ H
  icases H with ⟨HS, HU⟩
  iapply (wp_fupd frame (wpE (defs₀ (F := F)) 𝒱₀ (c : Thread nD τ) none) Set.univ (bodyS args) _)
  iapply (run_with c (bodyS args) (Done m c) iprop(env m K ∗ (unused (F := F) c 0 ∗ unused (F := F) c 1)) _ (by
    refine BIBase.Entails.trans ?_ (finish_body m K c)
    iintro ⟨HD, HE, HU⟩
    isplitl [HE]; · iexact HE
    isplitl [HD] <;> iassumption))
  isplitl [HS]
  · iapply (run_body m K c); isplitr; · iexact HE
    iexact HS
  isplitr; · iexact HE
  iexact HU

theorem to_post : iprop((bigSep Finset.univ fun k => semVal (cell c k) 0) ∗ (weights m c 0 ∗ weights m c 1 ∗ weights m c 2) ∗ scratch (F := F) c
      ∗ (((c : Thread nD τ).loc cc0_stg0_0) ↦{fullShare} xIn m c) ∗ (((c : Thread nD τ).loc cc0_stg1_0) ↦{fullShare} outAt m c) ∗ owe (F := F) c []) ⊢ bodyPost m c := by
  unfold bodyPost Φ₁ owe Dat.owesAt Pipeline.owesWithin
  rw [show rest m c = iprop(weights m c 0 ∗ weights m c 1 ∗ weights m c 2) from (weights_eq m c).symm]
  iintro ⟨HV, HW, HS, Hx, Ho, %W, HO⟩
  isplitl [HV HW HS]
  · isplitl [HV]; · iexact HV
    isplitl [HW] <;> iassumption
  isplitl [HO]
  · iexists W; isplitr; · ipureintro; exact fun _ _ => Or.inl trivial
    iexact HO
  isplitl [Hx]
  · iexists _; isplitr; · (ipureintro; rfl)
    iexact Hx
  iexists _; isplitr; · (ipureintro; rfl)
  iexact Ho

theorem sound_body : bodyPre m c ⊢ run c (bodyS args) (bodyPost m c) := by
  unfold bodyPre Φ₀ start Dat.owesAt Pipeline.owesWithin
  rw [show rest m c = iprop(weights m c 0 ∗ weights m c 1 ∗ weights m c 2) from (weights_eq m c).symm]
  iintro ⟨⟨⟨⟨%K, HE, HD⟩, HR⟩, HS⟩, Ho, ⟨%d0, %g0, %hg0, Hx⟩, ⟨%d1, %g1, -, Hout⟩⟩
  have hx : g0 = xIn m c := by
    rw [hg0]; unfold Dat.before; rw [if_pos (fetch0_0 t0_0)]; exact read_in m c t0_0
  subst hx
  icases Ho with ⟨%W, -, HO⟩
  iapply (run_to c (bodyS args) _ _ (to_post m c))
  iapply (run_all m K c)
  isplitl [HE]; · iexact HE
  isplitl [HD]; · iexact HD
  isplitl [HR]; · iexact HR
  isplitl [HS]; · iexact HS
  isplitl [Hx]; · iexact Hx
  isplitl [Hout]; · iexists g1; iexact Hout
  unfold owe; iexists W; iexact HO

theorem body_at : (bodyAt0 t0_0 : Pr F) = bodyS args := by
  unfold bodyAt0
  rw [cc0_body_eq_skeleton]
  exact body_eq args

set_option maxRecDepth 100000 in
/-- What the pipeline asks of the body. -/
theorem body_obligation : BodyObligation (dats m 0 c) (defs₀ (F := F)) 𝒱₀ 0 Set.univ := fun t => by
  rw [fin_N0 t]
  rw [bigSep_W0, bigSep_W0]
  simp only [whole_eq]
  show bodyPre m c ⊢ wp frame (wpE (defs₀ (F := F)) 𝒱₀ c none) Set.univ (bodyAt0 t0_0) (fun _ => bodyPost m c)
  rw [body_at]
  exact sound_body m c

/-! ## The run -/

def u₀ : UU := (initOf (Pipeline.cells cfgs cellOf_inj) (Pipeline.launchToks cfgs cellOf_inj), initOf allCells allToks)

theorem waits : (levAts (L 16) lv : sProp 𝕄) ⊢ Pipeline.cellsWaits cfgs (dats m) 0 0 c :=
  Pipeline.cellsWaits_intro cfgs (dats m) 0 0 c fun w s t => by
    rcases t with ⟨_ | _, ht⟩
    · exact mayWait c _ 0 steps (by decide)
    · exact mayWait c _ 0 [] (fun _ h => absurd h List.not_mem_nil)

theorem glob_all : (bigSep Finset.univ fun c : Dev nD => iprop(Pipeline.ownSems0 (Ix := ℕ) (Name := ℕ) (U := UU) (Lvl := ℕ) (Val := Elt F) (τ := τ) osem c ∗ unscopedSems0 c ∗ G m c))
    ⊢ |={Set.univ}=> bigSep Finset.univ (G' m) := by
  refine BIBase.Entails.trans (bigSep_weaken fun c _ => ?_) (glob m)
  rw [← sems_eq]
  iintro ⟨A, B, C⟩
  isplitr [C]
  · isplitl [A] <;> iassumption
  iexact C

theorem start_intro : iprop(Pipeline.unscopedRestP Pipeline.Prefetch.none cfg0.spec c (fun b => m ((c : Thread nD τ).loc b)) ∗ levAts (L 16) lv
      ∗ Pipeline.launchCred O₀ c ∗ prngReg c (ρ c) ∗ G' m c)
    ⊢ |={Set.univ}=> iprop(start m c ∗ emp) := by
  rw [Pipeline.unscopedRestP_none]
  unfold G' start dealtTo env
  iintro ⟨HR, HL, HC, -, %K, HI, Hr, HP⟩
  imodintro
  isplitl
  · isplitr [HR]
    · iexists K
      isplitl [HI HL]
      · isplitl [HI] <;> iassumption
      isplitl [Hr]; · iexact Hr
      isplitl [HP] <;> iassumption
    iexact HR
  iempintro

theorem rest_scratch : (Pipeline.scopedRest cfg0.spec c : sProp 𝕄) = scratch (F := F) c := by
  show (Pipeline.scopedRest spec0 c : sProp 𝕄) = _
  rw [scopedRest0_eq]; exact scratch_eq c

theorem phi0_intro : iprop(start m c ∗ Pipeline.prefHeld Pipeline.Prefetch.none c (fun _ => fullShare.right) (fun k => k.elim0) ∗ Pipeline.scopedRest cfg0.spec c)
    ⊢ (dats m 0 c).Φ 0 := by
  rw [show (dats m 0 c).Φ 0 = Φ₀ m c from rfl, rest_scratch]
  unfold Φ₀
  iintro ⟨Hs, -, Hr⟩
  isplitl [Hs] <;> iassumption

theorem phi1_exit : (dats m 0 c).Φ (Fin.last cfg0.N) ⊢ iprop((unscopedSems0 c ∗ rest m c) ∗ Pipeline.ownSems0 osem c ∗ Pipeline.scopedRest cfg0.spec c) := by
  rw [show (dats m 0 c).Φ (Fin.last cfg0.N) = Φ₁ m c from rfl, rest_scratch]
  unfold Φ₁
  rw [← sems_eq]
  iintro ⟨⟨HO, HU⟩, HR, HS⟩
  isplitl [HU HR]
  · isplitl [HU] <;> iassumption
  isplitl [HO] <;> iassumption

/-- What the end's memory shows besides the windows' arrays. -/
def QY (s : MemSt nD τ sig (Elt F)) : Prop := (∀ sm : SemLoc sig, sm.isScoped .tc = false → s.sem ((c.tc : Thread nD τ), sm) = 0)
  ∧ ∀ b ∈ (Finset.univ.filter fun b : Ref sig .tc => ¬ b.isScoped) \ Finset.univ.image (Pipeline.arrRef cfg0.spec), s.mem ((c : Thread nD τ).loc b) = m ((c : Thread nD τ).loc b)

theorem read_end (s' : Phys nD τ sig (Elt F)) : iprop((unscopedSems0 c ∗ rest m c) ∗ emp ∗ SI s') ⊢ |={Set.univ}=> (iprop(⌜QY m c s'.mem⌝ ∗ SI s') : sProp 𝕄) := by
  unfold rest Pipeline.unscopedRest
  iintro ⟨⟨HU, HR⟩, -, HSI⟩
  imod (Pipeline.unscopedSems0_read (X := unscopedSems0 c) (c := c) fupd_intro s') $$ [HU HSI] with ⟨%h1, HSI⟩
  · isplitl [HU] <;> iassumption
  ihave H := (pointsTo_read_all _ (fun b => (c : Thread nD τ).loc b) (fun b => m ((c : Thread nD τ).loc b)) s') $$ [HR HSI]
  · isplitl [HR] <;> iassumption
  icases H with ⟨%h2, HSI⟩
  imodintro
  isplitr; · ipureintro; exact ⟨h1, h2⟩
  iexact HSI

def finalA (w : Fin cfg0.W) : Buf (Elt F) ((cfg0.win w).arr.view.loc (c : Thread nD τ)) := (dats m 0 c).arrAt w cfg0.N

set_option maxRecDepth 100000 in
/-- From any memory with all counters at zero every run of the sixteen devices ends, and then the windows' arrays are the computed ones, the weights what they were, the counters at zero. -/
theorem run_main : θ_run defs (onTc (τ := τ) (main (F := F))) ⟨m, fun _ => 0, ρ⟩
    (fun r => (∀ c : Dev nD, (∀ w : Fin cfg0.W, r.2.mem ((cfg0.win w).arr.view.loc (c : Thread nD τ)) = finalA m c w) ∧ QY m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L 16) (lv := lv) (hL := SiteBlocks.hL 16) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob_all m)
    (hA := fun _ _ => rfl) (hpf := fun _ k => k.elim0)
    (X := start m) (Y := fun c => iprop(unscopedSems0 c ∗ rest m c)) (Z := fun _ => iprop(emp))
    (hX := start_intro m ρ) (hin := phi0_intro m) (hout := phi1_exit m)
    (QY := QY m)
    (hY := read_end m)
    (hQ := fun _ h hs => ⟨fun c => ⟨(h c).1, (h c).2.2⟩, sem_eq_zero hs fun c => (h c).2.2.1⟩)

theorem rest_mem : main_arg1 ∈ (Finset.univ.filter fun b : Ref sig .tc => ¬ b.isScoped) \ Finset.univ.image (Pipeline.arrRef cfg0.spec)
    ∧ main_arg2 ∈ (Finset.univ.filter fun b : Ref sig .tc => ¬ b.isScoped) \ Finset.univ.image (Pipeline.arrRef cfg0.spec)
    ∧ main_arg3 ∈ (Finset.univ.filter fun b : Ref sig .tc => ¬ b.isScoped) \ Finset.univ.image (Pipeline.arrRef cfg0.spec)
    ∧ main_arg4 ∈ (Finset.univ.filter fun b : Ref sig .tc => ¬ b.isScoped) \ Finset.univ.image (Pipeline.arrRef cfg0.spec)
    ∧ main_arg5 ∈ (Finset.univ.filter fun b : Ref sig .tc => ¬ b.isScoped) \ Finset.univ.image (Pipeline.arrRef cfg0.spec)
    ∧ main_arg6 ∈ (Finset.univ.filter fun b : Ref sig .tc => ¬ b.isScoped) \ Finset.univ.image (Pipeline.arrRef cfg0.spec) := by decide

/-- The result's one block is the array. -/
theorem final_out : finalA m c (1 : Fin 2) = outAt m c :=
  (dats m 0 c).arrAt_eq_of_after_last (1 : Fin 2) t0_0 (by decide +kernel) (outAt m c) fun _ => rfl

/-- The arguments on `c` are in `s` what they are in `m`. -/
def Kept (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
  ∧ s.mem ((c : Thread nD τ).loc main_arg4) = m ((c : Thread nD τ).loc main_arg4) ∧ s.mem ((c : Thread nD τ).loc main_arg5) = m ((c : Thread nD τ).loc main_arg5)
  ∧ s.mem ((c : Thread nD τ).loc main_arg6) = m ((c : Thread nD τ).loc main_arg6)

/-- Every run ends with the result's blocks `outAt`, the arguments unchanged and the counters at zero. -/
theorem run_post : θ_run defs (onTc (τ := τ) (main (F := F))) ⟨m, fun _ => 0, ρ⟩
    (fun r => (∀ c : Dev nD, r.2.mem ((c : Thread nD τ).loc main_v1) = outAt m c ∧ Kept m c r.2) ∧ r.2.sem = fun _ => 0) :=
  (θ_run defs _ _).mono (fun _ h => ⟨fun c => by
    obtain ⟨hw, -, hr⟩ := h.1 c
    obtain ⟨h1, h2, h3, h4, h5, h6⟩ := rest_mem
    exact ⟨(hw 1).trans (final_out m c), (hw 0).trans ((dats m 0 c).arrAt_in (0 : Fin 2) rfl _), hr _ h1, hr _ h2, hr _ h3, hr _ h4, hr _ h5, hr _ h6⟩, h.2⟩) (run_main m ρ)

end Cert.KernelIdeal.Mlp

end
-- ==== Proof.Same.lean ====
/-
  The kernel and its idealization are one program: what is proved of the second for any floats is the first's run too.
-/
module

public import proofs.«01_k».proof.Defs
public import proofs.«01_k».proof.Proof.Launch
public import proofs.«01_k».proof.Proof.Gen.Kernel
public import proofs.«01_k».proof.Proof.Gen.Kernel.Skeleton
public import Idealize.ShloMosaic.Lib.Pipeline.Regions

@[expose] public section

noncomputable section

namespace Cert.Proof

open Idealize.ShloMosaic Idealize.ShloMosaic.TcCoe Idealize.SL.Sem

variable {F : FTy → Type} [FloatOps F]

set_option maxRecDepth 100000 in
/-- One body. -/
theorem body_same : (Cert.Kernel.cc0_body : type_of% (Cert.Kernel.cc0_body (F := F))) = Cert.KernelIdeal.cc0_body (F := F) := by
  chain_rfl

set_option maxRecDepth 100000 in
theorem table_same : (Cert.Kernel.defs₀ : type_of% (Cert.Kernel.defs₀ (F := F))) = Cert.KernelIdeal.defs₀ (F := F) := by
  chain_rfl

set_option maxRecDepth 100000 in
theorem defs_same : (Cert.Kernel.defs : type_of% (Cert.Kernel.defs (F := F))) = Cert.KernelIdeal.defs (F := F) := by
  chain_rfl

/-- A post of the one program is a post of the other. -/
theorem run_same (σ : MemSt Cert.KernelIdeal.nD Cert.KernelIdeal.τ Cert.KernelIdeal.sig (Elt F)) (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) σ Q) :
    θ_run (Cert.Kernel.defs (F := F)) (onTc (τ := Cert.Kernel.τ) (Cert.Kernel.main (F := F))) σ Q := by
  rw [defs_same]
  exact h

theorem frame_kernel : Cert.quiescent_Kernel := fun m ρ _ =>
  run_same _ _ ((θ_run Cert.KernelIdeal.defs _ _).mono (fun _ h => ⟨fun c => (h.1 c).2, h.2⟩) (Cert.KernelIdeal.Mlp.run_post (F := Bits) m ρ))

end Cert.Proof

end
-- ==== Proof.Value.lean ====
/-
  The value of the kernel over the extended reals: its hidden rows and sums are the parts of the reference's arrays that a device is to hold.

  Of an array of 32768 hidden columns device `c` computes the 2048 from `2048 c` on; of an array of 64 rows it sums up the 4 from `4 c` on, each by
  chunks of 512 columns. A layer of the reference is `up` (64×1024 to 64×32768: product, then the larger of it and zero) and `down` (the product back).
-/
module

public import proofs.«01_k».proof.Proof.Launch
public import proofs.«01_k».proof.Proof.Gen.ReferenceIdeal
public import Idealize.ShloMosaic.Lib.MatmulPlain
public import Idealize.ShloMosaic.Lib.StackMember
public import Idealize.ShloMosaic.Lib.KernelVsHost
public import Idealize.ShloMosaic.Lib.Layout

@[expose] public section

noncomputable section

namespace Cert.KernelIdeal.Mlp

open Idealize.ShloMosaic hiding ix2
open Idealize.ShloMosaic.ValueIdx Cert.KernelIdeal Cert.KernelIdeal.Gen

abbrev V (s : Shape) : Type := FVec Ideal s .f32

/-! ## Where the parts lie -/

/-- Hidden column `j` of device `c`. -/
def colAt (c : Fin 16) (j : Fin 2048) : Fin 32768 := ⟨c.val * 2048 + j.val, by omega⟩
/-- Row `i` of device `c`. -/
def rowOf (c : Fin 16) (i : Fin 4) : Fin 64 := ⟨c.val * 4 + i.val, by omega⟩
/-- Column `j` of chunk `ch`. -/
def chunkAt (ch : Fin 2) (j : Fin 512) : Fin 1024 := ⟨512 * ch.val + j.val, by omega⟩

/-- The hidden rows of all devices are the columns of `H`. -/
def Cols (H : V ReferenceIdeal.S64x32768) (h : Dev nD → V S64x2048) : Prop := ∀ c i j, h c (ix2 i j) = H (ix2 i (colAt c j))
/-- The first weights of all devices are the columns of `W`, the second the rows of `O`. -/
def ColsW (W : V ReferenceIdeal.S1024x32768) (w : Dev nD → V S1024x2048) : Prop := ∀ c i j, w c (ix2 i j) = W (ix2 i (colAt c j))
def RowsO (O : V ReferenceIdeal.S32768x1024) (o : Dev nD → V S2048x1024) : Prop := ∀ c i j, o c (ix2 i j) = O (ix2 (colAt c i) j)
/-- The sums of all devices and chunks are the pieces of `A`. -/
def Sums (A : V S64x1024) (r : Fin 2 → Dev nD → V S4x512) : Prop := ∀ ch c i j, r ch c (ix2 i j) = A (ix2 (rowOf c i) (chunkAt ch j))

/-! ## Sums in parts -/

theorem sum_devices (f : Fin 32768 → EReal) : ∑ c : Fin 16, ∑ j : Fin 2048, f (colAt c j) = ∑ K, f K := by
  rw [← Fintype.sum_prod_type' (f := fun c j => f (colAt c j))]
  refine (Finset.sum_congr rfl fun p _ => ?_).trans (Equiv.sum_comp (finProdFinEquiv (m := 16) (n := 2048)) f)
  refine congrArg f (Fin.ext ?_)
  show p.1.val * 2048 + p.2.val = p.2.val + 2048 * p.1.val
  omega

theorem sum_chunks (f : Fin 1024 → EReal) : ∑ j : Fin 512, f (chunkAt 0 j) + ∑ j : Fin 512, f (chunkAt 1 j) = ∑ k, f k := by
  refine Eq.trans (congrArg₂ (· + ·) ?_ ?_) (Fin.sum_univ_add (a := 512) (b := 512) f).symm
  · refine Finset.sum_congr rfl fun j _ => congrArg f (Fin.ext ?_)
    show 512 * 0 + j.val = j.val; omega
  · exact Finset.sum_congr rfl fun j _ => congrArg f (Fin.ext rfl)

theorem foldl_add_apply (l : List (V S4x512)) (v : V S4x512) (x : S4x512.Idx) : l.foldl addf v x = v x + (l.map (· x)).sum := by
  induction l generalizing v with
  | nil => exact (add_zero (v x : EReal)).symm
  | cons w l ih =>
    rw [List.foldl_cons, ih, List.map_cons, List.sum_cons, ← add_assoc]; rfl

theorem sumOf_blocks (f : Fin 16 → V S4x512) (x : S4x512.Idx) : sumOf (blocks.map f) x = ∑ s, f s x := by
  rw [Fin.sum_univ_def, show List.finRange 16 = blocks from rfl]
  show (List.map f _).foldl addf (f 0) x = _
  rw [foldl_add_apply, List.map_map]; rfl

/-! ## The products read at an index -/

theorem mul_apply {M K N : Nat} {d : DotDims ⟨2, ![M, K]⟩ ⟨2, ![K, N]⟩ ⟨2, ![M, N]⟩} (hd : d = DotDims.plain M K N)
    (a : V ⟨2, ![M, K]⟩) (b : V ⟨2, ![K, N]⟩) (i : Fin M) (j : Fin N) :
    matmul d none a b (constant ⟨2, ![M, N]⟩ .f32 0x00000000#32) (ix2 i j) = ∑ k : Fin K, a (ix2 i k) * b (ix2 k j) := by
  rw [matmul_zero_eq_dotGeneral, hd, StackMember.dotGeneral_plain_apply]

theorem chO_apply (o : V S2048x1024) (ch : Fin 2) (i : Fin 2048) (j : Fin 512) : chO o ch (ix2 i j) = o (ix2 i (chunkAt ch j)) :=
  extractStridedSlice_apply _ _ _ _ _ fun a => by
    match a with
    | ⟨0, _⟩ => exact (Nat.zero_add _).symm
    | ⟨1, _⟩ => rfl

theorem chW_apply (w : V S1024x2048) (ch : Fin 2) (i : Fin 512) (j : Fin 2048) : chW w ch (ix2 i j) = w (ix2 (chunkAt ch i) j) :=
  extractStridedSlice_apply _ _ _ _ _ fun a => by
    match a with
    | ⟨0, _⟩ => rfl
    | ⟨1, _⟩ => exact (Nat.zero_add _).symm

theorem piece_apply (p : V S64x512) (c : Fin 16) (i : Fin 4) (j : Fin 512) : piece p c (ix2 i j) = p (ix2 (rowOf c i) j) :=
  extractStridedSlice_apply _ _ _ _ _ fun a => by
    match a with
    | ⟨0, _⟩ => exact congrArg (· + i.val) (Nat.mul_comm c.val 4)
    | ⟨1, _⟩ => exact (Nat.zero_add _).symm

theorem mulO_apply (h : V S64x2048) (o : V S2048x512) (i : Fin 64) (j : Fin 512) :
    mulO h o (ix2 i j) = ∑ k : Fin 2048, h (ix2 i k) * o (ix2 k j) := mul_apply rfl h o i j

/-- Blocks of four rows on top of each other: row `4 n + i` is row `i` of the block at place `n` of the list. -/
theorem stackedAt (r : Fin 16 → V S4x512) (j : S64x512.Idx) (i : Fin 4) :
    ∀ (l : List (Fin 16)) (hs : ∀ s ∈ (l.map fun d => (⟨S4x512, r d⟩ : (s : Shape) × (s.Idx → Ideal .f32))).map (·.1), s.FitsOff S64x512 0)
      (n : Nat) (hn : n < l.length) (c : Nat) (hc : c < (axisSizes S64x512 0 (l.map fun d => (⟨S4x512, r d⟩ : (s : Shape) × (s.Idx → Ideal .f32)))).sum),
      c = n * 4 + i.val → concatenateAt S64x512 0 j (l.map fun d => ⟨S4x512, r d⟩) hs c hc = r l[n] (ix2 i (j 1))
  | [], _, _, hn, _, _, _ => absurd hn (Nat.not_lt_zero _)
  | [d], hs, n, hn, c, hc, e => by
    obtain rfl : n = 0 := by simpa using hn
    refine (concatenateAt_singleton (s := S4x512) 0 j (r d) hs c hc).trans ?_
    rw [Shape.Idx.norm_def]
    refine congrArg (r d) (funext fun a => Fin.ext ?_)
    match a with
    | ⟨0, _⟩ => show c = i.val; omega
    | ⟨1, _⟩ => rfl
  | d :: d' :: l, hs, n, hn, c, hc, e => by
    refine (concatenateAt_cons (s := S4x512) 0 j (r d) ⟨S4x512, r d'⟩ _ hs c hc).trans ?_
    match n with
    | 0 =>
      have h4 : c < 4 := by omega
      refine (dif_pos h4).trans ?_
      rw [Shape.Idx.norm_def]
      refine congrArg (r d) (funext fun a => Fin.ext ?_)
      match a with
      | ⟨0, _⟩ => show c = i.val; omega
      | ⟨1, _⟩ => rfl
    | n + 1 =>
      have h4 : ¬ c < 4 := by omega
      refine (dif_neg h4).trans ?_
      exact stackedAt r j i (d' :: l) (fun s h => hs s (List.mem_cons_of_mem _ h)) n (Nat.lt_of_succ_lt_succ hn) (c - 4) _ (by omega)

/-- The gathered rows times a chunk of the weights. -/
theorem mulW_apply (r : Fin 16 → V S4x512) (w : V S512x2048) (d : Fin 16) (i : Fin 4) (j : Fin 2048) :
    mulW r w (ix2 (rowOf d i) j) = ∑ k : Fin 512, r d (ix2 i k) * w (ix2 k j) := by
  refine (mul_apply rfl _ w (rowOf d i) j).trans (Finset.sum_congr rfl fun k _ => congrArg (· * w (ix2 k j)) ?_)
  refine (concatenate_apply S64x512 0 _ _ _).trans ((stackedAt r (ix2 (rowOf d i) k) i blocks _ d.val d.isLt _ _ rfl).trans ?_)
  refine congrArg (r · (ix2 i k)) ?_
  revert d; decide

/-! ## A layer -/

/-- Every row is a row of some device, every column one of some chunk. -/
theorem row_cases (i : Fin 64) : ∃ c i', i = rowOf c i' :=
  ⟨⟨i.val / 4, by omega⟩, ⟨i.val % 4, by omega⟩, Fin.ext (by show i.val = i.val / 4 * 4 + i.val % 4; omega)⟩

theorem col_cases (k : Fin 1024) : ∃ ch k', k = chunkAt ch k' :=
  ⟨⟨k.val / 512, by omega⟩, ⟨k.val % 512, by omega⟩, Fin.ext (Nat.div_add_mod k.val 512).symm⟩

theorem glue_apply (X : Fin 2 → V S4x512) (ch : Fin 2) (i : Fin 4) (k : Fin 512) : glue X (ix2 i (chunkAt ch k)) = X ch (ix2 i k) := by
  refine congrArg₂ X (Fin.ext ?_) (funext fun a => Fin.ext ?_)
  · show (512 * ch.val + k.val) / 512 = ch.val; omega
  · match a with
    | ⟨0, _⟩ => rfl
    | ⟨1, _⟩ => show (512 * ch.val + k.val) % 512 = k.val; omega

theorem relu_apply {M N : Nat} (a : V ⟨2, ![M, N]⟩) (x : Shape.Idx ⟨2, ![M, N]⟩) :
    maximumf a (broadcast ⟨2, ![M, N]⟩ (Scalar.ofBits .f32 0x00000000#32 : Ideal .f32)) x = max (a x) 0 := by
  show max (a x) (Ideal.ofBits .f32 0x00000000#32) = _
  rw [Ideal.ofBits_zero_f32]

/-- The two halves of a layer of the reference. -/
def up (A : V ReferenceIdeal.S64x1024) (W : V ReferenceIdeal.S1024x32768) : V ReferenceIdeal.S64x32768 :=
  maximumf (Host.dotGeneral ReferenceIdeal.dot_S64x1024_S1024x32768_S64x32768_1_0_0_1_n_n none A W)
    (broadcastInDim ReferenceIdeal.S64x32768 ![] ReferenceIdeal.Gen.bcast_S_S64x32768 (constant ReferenceIdeal.S_ .f32 0x00000000#32))
def down (H : V ReferenceIdeal.S64x32768) (O : V ReferenceIdeal.S32768x1024) : V ReferenceIdeal.S64x1024 :=
  Host.dotGeneral ReferenceIdeal.dot_S64x32768_S32768x1024_S64x1024_1_0_0_1_n_n none H O

theorem up_apply (A : V ReferenceIdeal.S64x1024) (W : V ReferenceIdeal.S1024x32768) (i : Fin 64) (j : Fin 32768) :
    up A W (ix2 i j) = max (∑ k : Fin 1024, A (ix2 i k) * W (ix2 k j)) 0 := by
  refine Eq.trans (b := max (Host.dotGeneral (F := Ideal) (DotDims.plain 64 1024 32768) none A W (ix2 i j)) (Ideal.ofBits .f32 0x00000000#32)) rfl ?_
  rw [Ideal.ofBits_zero_f32, StackMember.dotGeneral_plain_apply]

theorem down_apply (H : V ReferenceIdeal.S64x32768) (O : V ReferenceIdeal.S32768x1024) (i : Fin 64) (j : Fin 1024) :
    down H O (ix2 i j) = ∑ k : Fin 32768, H (ix2 i k) * O (ix2 k j) :=
  StackMember.dotGeneral_plain_apply none H O i j

theorem hidX_cols (A : V ReferenceIdeal.S64x1024) (W : V ReferenceIdeal.S1024x32768) (w : Dev nD → V S1024x2048) (hw : ColsW W w) :
    Cols (up A W) fun c => hidX A (w c) := fun c i j => by
  rw [up_apply]
  refine (relu_apply _ _).trans ?_
  rw [shapeCast_self]
  exact congrArg (max · 0) ((mul_apply rfl A (w c) i j).trans (Finset.sum_congr rfl fun k _ => congrArg (A (ix2 i k) * ·) (hw c k j)))

variable (m : (ℓ : Loc nD τ sig) → Buf (Elt Ideal) ℓ)

theorem red_sums (l : Fin 3) (H : V ReferenceIdeal.S64x32768) (O : V ReferenceIdeal.S32768x1024) (h : Dev nD → V S64x2048)
    (hh : Cols H h) (ho : RowsO O (wout m l)) : Sums (down H O) (redOf m h l) := fun ch c i j => by
  unfold redOf asRow
  rw [down_apply, shapeCast_self, sumOf_blocks, ← sum_devices]
  refine Finset.sum_congr rfl fun s _ => ?_
  unfold pieceOf
  rw [piece_apply, mulO_apply]
  refine Finset.sum_congr rfl fun k _ => ?_
  rw [chO_apply, hh, ho]

theorem next_cols (l l' : Fin 3) (A : V ReferenceIdeal.S64x1024) (W : V ReferenceIdeal.S1024x32768) (h : Dev nD → V S64x2048)
    (hr : Sums A (redOf m h l)) (hw : ColsW W (win m l')) : Cols (up A W) (nextOf m h l l') := fun c i j => by
  obtain ⟨d, i, rfl⟩ := row_cases i
  have half (ch : Fin 2) : mulW (redOf m h l ch) (chW (win m l' c) ch) (ix2 (rowOf d i) j)
      = ∑ k : Fin 512, A (ix2 (rowOf d i) (chunkAt ch k)) * W (ix2 (chunkAt ch k) (colAt c j)) := by
    rw [mulW_apply]
    refine Finset.sum_congr rfl fun k _ => ?_
    rw [chW_apply, hr, hw]
  rw [up_apply, ← sum_chunks fun k => A (ix2 (rowOf d i) k) * W (ix2 k (colAt c j)), ← half, ← half]
  unfold nextOf hidN
  exact relu_apply _ _

/-- The result of a device: its rows of the reference's. -/
theorem out_value (W₀ W₁ W₂ : V ReferenceIdeal.S1024x32768) (O₀ O₁ O₂ : V ReferenceIdeal.S32768x1024) (x : V ReferenceIdeal.S64x1024)
    (hx : ∀ c, xIn m c = x) (hw₀ : ColsW W₀ (win m 0)) (hw₁ : ColsW W₁ (win m 1)) (hw₂ : ColsW W₂ (win m 2))
    (ho₀ : RowsO O₀ (wout m 0)) (ho₁ : RowsO O₁ (wout m 1)) (ho₂ : RowsO O₂ (wout m 2)) (c : Dev nD) :
    outAt m c = Layout.block ⟨2, ![4, 1024]⟩ ⟨2, ![64, 1024]⟩ 0 16 c (down (up (down (up (down (up x W₀) O₀) W₁) O₁) W₂) O₂) := by
  have h0 : Cols (up x W₀) (hid m 0) := fun c i j => by
    refine Eq.trans ?_ (hidX_cols x W₀ (win m 0) hw₀ c i j)
    show hidX (xIn m c) (win m 0 c) _ = _
    rw [hx]
  have h1 : Cols _ (hid m 1) := next_cols m 0 1 _ W₁ _ (red_sums m 0 _ O₀ _ h0 ho₀) hw₁
  have h2 : Cols _ (hid m 2) := next_cols m 1 2 _ W₂ _ (red_sums m 1 _ O₁ _ h1 ho₁) hw₂
  have h3 := red_sums m 2 _ O₂ _ h2 ho₂
  funext x
  obtain ⟨i, k, rfl⟩ : ∃ a b, x = ix2 a b := ⟨_, _, ValueIdx.eq_ix2 x⟩
  obtain ⟨ch, k, rfl⟩ := col_cases k
  refine (glue_apply _ ch i k).trans ((h3 ch c i k).trans (congrArg _ (funext fun a => ?_)))
  match a with
  | ⟨0, _⟩ => rfl
  | ⟨1, _⟩ => rfl

/-- What a device holds of weights cut along the hidden columns, or along their rows. -/
theorem cols_block (W : V ReferenceIdeal.S1024x32768) (w : Dev nD → V S1024x2048)
    (h : ∀ c, w c = Layout.block ⟨2, ![1024, 2048]⟩ ⟨2, ![1024, 32768]⟩ 1 16 c W) : ColsW W w := fun c i j => by
  rw [h]
  refine congrArg W (funext fun a => ?_)
  match a with
  | ⟨0, _⟩ => rfl
  | ⟨1, _⟩ => rfl

theorem rows_block (O : V ReferenceIdeal.S32768x1024) (o : Dev nD → V S2048x1024)
    (h : ∀ c, o c = Layout.block ⟨2, ![2048, 1024]⟩ ⟨2, ![32768, 1024]⟩ 0 16 c O) : RowsO O o := fun c i j => by
  rw [h]
  refine congrArg O (funext fun a => ?_)
  match a with
  | ⟨0, _⟩ => rfl
  | ⟨1, _⟩ => rfl

end Cert.KernelIdeal.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ =>
  (θ_run Cert.KernelIdeal.defs _ _).mono (fun _ h => ⟨fun c => (h.1 c).2, h.2⟩) (Cert.KernelIdeal.Mlp.run_post (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- An argument of the reference, on its one device. -/
abbrev argAt (a : Ref Cert.ReferenceIdeal.sig .tc) : Loc Cert.ReferenceIdeal.nD Cert.ReferenceIdeal.τ Cert.ReferenceIdeal.sig :=
  ((0 : Dev Cert.ReferenceIdeal.nD).tc : Thread Cert.ReferenceIdeal.nD Cert.ReferenceIdeal.τ).loc a

open Cert.KernelIdeal.Mlp Cert.ReferenceIdeal in
theorem value : Cert.algebraic_KernelIdeal_ReferenceIdeal := fun m g m' g' _ h =>
  ⟨down (up (down (up (down (up (m' (argAt main_arg0)) (m' (argAt main_arg1))) (m' (argAt main_arg2))) (m' (argAt main_arg3))) (m' (argAt main_arg4)))
      (m' (argAt main_arg5))) (m' (argAt main_arg6)),
    (θ_run Cert.KernelIdeal.defs _ _).mono
      (fun _ hr c => ⟨(hr.1 c).1.trans (out_value m _ _ _ _ _ _ _ (fun c => (h c).1)
        (cols_block _ _ fun c => (h c).2.1) (cols_block _ _ fun c => (h c).2.2.2.1) (cols_block _ _ fun c => (h c).2.2.2.2.2.1)
        (rows_block _ _ fun c => (h c).2.2.1) (rows_block _ _ fun c => (h c).2.2.2.2.1) (rows_block _ _ fun c => (h c).2.2.2.2.2.2) c),
        (hr.1 c).2⟩)
      (run_post (F := Ideal) m g),
    (θ_run Cert.ReferenceIdeal.defs _ _).mono (fun _ hr => hr 0) (Cert.ReferenceIdeal.Value.run (F := Ideal) m' g')⟩

theorem claim : Cert.Claim := ⟨Cert.Kernel.Gen.facts, Cert.KernelIdeal.Gen.facts, Cert.ReferenceIdeal.Gen.facts, frame_kernel, frame_ideal, frame_reference, trivial, value⟩

end Cert.Proof

end
